-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal [hPre_finite_forward : Cert.Pre_finite_forward.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))) = (fun _ => 1#1)

def Pre_ForwardIdeal_none (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_forward [hPre_finite_forward : Cert.Pre_finite_forward.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_forward.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))) = (fun _ => 1#1)

def Pre_Blend (m : (ℓ : Loc Cert.Blend.nD Cert.Blend.τ Cert.Blend.sig) → Buf (Elt Bits) ℓ) : Prop :=
  True

def Pre_BlendIdeal (m : (ℓ : Loc Cert.BlendIdeal.nD Cert.BlendIdeal.τ Cert.BlendIdeal.sig) → Buf (Elt Ideal) ℓ) : Prop :=
  True

def Pre_BlendReferenceIdeal (m : (ℓ : Loc Cert.BlendReferenceIdeal.nD Cert.BlendReferenceIdeal.τ Cert.BlendReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxReferenceIdeal (m : (ℓ : Loc Cert.BranchDxReferenceIdeal.nD Cert.BranchDxReferenceIdeal.τ Cert.BranchDxReferenceIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_ODxReferenceIdeal (m : (ℓ : Loc Cert.ODxReferenceIdeal.nD Cert.ODxReferenceIdeal.τ Cert.ODxReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_OReferenceIdeal (m : (ℓ : Loc Cert.OReferenceIdeal.nD Cert.OReferenceIdeal.τ Cert.OReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_none [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_none m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_forward [hForwardReferenceIdeal : Cert.ForwardReferenceIdeal.Facts] [hPre_finite_forward : Cert.Pre_finite_forward.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_forward m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_Blend [hBlend : Cert.Blend.Facts] : Prop :=
  ∀ (m : (ℓ : Loc Cert.Blend.nD Cert.Blend.τ Cert.Blend.sig) → Buf (Elt Bits) ℓ) (g : Dev Cert.Blend.nD → PrngReg), Pre_Blend m →
    θ_run (Cert.Blend.defs (F := Bits)) (onTc (τ := Cert.Blend.τ) (Cert.Blend.main (F := Bits))) ⟨m, fun _ => 0, g⟩ (fun r => (∀ c : Dev Cert.Blend.nD,
      r.2.mem ((c.tc : Thread Cert.Blend.nD Cert.Blend.τ).loc Cert.Blend.main_arg0) = m ((c.tc : Thread Cert.Blend.nD Cert.Blend.τ).loc Cert.Blend.main_arg0)
      ∧ r.2.mem ((c.tc : Thread Cert.Blend.nD Cert.Blend.τ).loc Cert.Blend.main_arg1) = m ((c.tc : Thread Cert.Blend.nD Cert.Blend.τ).loc Cert.Blend.main_arg1)
      ∧ r.2.mem ((c.tc : Thread Cert.Blend.nD Cert.Blend.τ).loc Cert.Blend.main_arg2) = m ((c.tc : Thread Cert.Blend.nD Cert.Blend.τ).loc Cert.Blend.main_arg2)
      ∧ r.2.mem ((c.tc : Thread Cert.Blend.nD Cert.Blend.τ).loc Cert.Blend.main_arg3) = m ((c.tc : Thread Cert.Blend.nD Cert.Blend.τ).loc Cert.Blend.main_arg3)
      ∧ r.2.mem ((c.tc : Thread Cert.Blend.nD Cert.Blend.τ).loc Cert.Blend.main_arg4) = m ((c.tc : Thread Cert.Blend.nD Cert.Blend.τ).loc Cert.Blend.main_arg4))
      ∧ r.2.sem = fun _ => 0)

def quiescent_BlendIdeal [hBlendIdeal : Cert.BlendIdeal.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
      ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
      ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
      ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4))
      ∧ r.2.sem = fun _ => 0)

def quiescent_BlendReferenceIdeal [hBlendReferenceIdeal : Cert.BlendReferenceIdeal.Facts] : Prop :=
  ∀ (m : (ℓ : Loc Cert.BlendReferenceIdeal.nD Cert.BlendReferenceIdeal.τ Cert.BlendReferenceIdeal.sig) → Buf (Elt Ideal) ℓ) (g : Dev Cert.BlendReferenceIdeal.nD → PrngReg), Pre_BlendReferenceIdeal m →
    θ_run (Cert.BlendReferenceIdeal.defs (F := Ideal)) (onTc (τ := Cert.BlendReferenceIdeal.τ) (Cert.BlendReferenceIdeal.main (F := Ideal))) ⟨m, fun _ => 0, g⟩ (fun r => (∀ c : Dev Cert.BlendReferenceIdeal.nD,
      r.2.mem ((c.tc : Thread Cert.BlendReferenceIdeal.nD Cert.BlendReferenceIdeal.τ).loc Cert.BlendReferenceIdeal.main_arg0) = m ((c.tc : Thread Cert.BlendReferenceIdeal.nD Cert.BlendReferenceIdeal.τ).loc Cert.BlendReferenceIdeal.main_arg0)
      ∧ r.2.mem ((c.tc : Thread Cert.BlendReferenceIdeal.nD Cert.BlendReferenceIdeal.τ).loc Cert.BlendReferenceIdeal.main_arg1) = m ((c.tc : Thread Cert.BlendReferenceIdeal.nD Cert.BlendReferenceIdeal.τ).loc Cert.BlendReferenceIdeal.main_arg1)
      ∧ r.2.mem ((c.tc : Thread Cert.BlendReferenceIdeal.nD Cert.BlendReferenceIdeal.τ).loc Cert.BlendReferenceIdeal.main_arg2) = m ((c.tc : Thread Cert.BlendReferenceIdeal.nD Cert.BlendReferenceIdeal.τ).loc Cert.BlendReferenceIdeal.main_arg2)
      ∧ r.2.mem ((c.tc : Thread Cert.BlendReferenceIdeal.nD Cert.BlendReferenceIdeal.τ).loc Cert.BlendReferenceIdeal.main_arg3) = m ((c.tc : Thread Cert.BlendReferenceIdeal.nD Cert.BlendReferenceIdeal.τ).loc Cert.BlendReferenceIdeal.main_arg3)
      ∧ r.2.mem ((c.tc : Thread Cert.BlendReferenceIdeal.nD Cert.BlendReferenceIdeal.τ).loc Cert.BlendReferenceIdeal.main_arg4) = m ((c.tc : Thread Cert.BlendReferenceIdeal.nD Cert.BlendReferenceIdeal.τ).loc Cert.BlendReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxReferenceIdeal [hBranchDxReferenceIdeal : Cert.BranchDxReferenceIdeal.Facts] : Prop :=
  ∀ (m : (ℓ : Loc Cert.BranchDxReferenceIdeal.nD Cert.BranchDxReferenceIdeal.τ Cert.BranchDxReferenceIdeal.sig) → Buf (Elt Ideal) ℓ) (g : Dev Cert.BranchDxReferenceIdeal.nD → PrngReg), Pre_BranchDxReferenceIdeal m →
    θ_run (Cert.BranchDxReferenceIdeal.defs (F := Ideal)) (onTc (τ := Cert.BranchDxReferenceIdeal.τ) (Cert.BranchDxReferenceIdeal.main (F := Ideal))) ⟨m, fun _ => 0, g⟩ (fun r => (∀ c : Dev Cert.BranchDxReferenceIdeal.nD,
      r.2.mem ((c.tc : Thread Cert.BranchDxReferenceIdeal.nD Cert.BranchDxReferenceIdeal.τ).loc Cert.BranchDxReferenceIdeal.main_arg0) = m ((c.tc : Thread Cert.BranchDxReferenceIdeal.nD Cert.BranchDxReferenceIdeal.τ).loc Cert.BranchDxReferenceIdeal.main_arg0)
      ∧ r.2.mem ((c.tc : Thread Cert.BranchDxReferenceIdeal.nD Cert.BranchDxReferenceIdeal.τ).loc Cert.BranchDxReferenceIdeal.main_arg1) = m ((c.tc : Thread Cert.BranchDxReferenceIdeal.nD Cert.BranchDxReferenceIdeal.τ).loc Cert.BranchDxReferenceIdeal.main_arg1))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ r.2.sem = fun _ => 0)

def quiescent_ODxReferenceIdeal [hODxReferenceIdeal : Cert.ODxReferenceIdeal.Facts] : Prop :=
  ∀ (m : (ℓ : Loc Cert.ODxReferenceIdeal.nD Cert.ODxReferenceIdeal.τ Cert.ODxReferenceIdeal.sig) → Buf (Elt Ideal) ℓ) (g : Dev Cert.ODxReferenceIdeal.nD → PrngReg), Pre_ODxReferenceIdeal m →
    θ_run (Cert.ODxReferenceIdeal.defs (F := Ideal)) (onTc (τ := Cert.ODxReferenceIdeal.τ) (Cert.ODxReferenceIdeal.main (F := Ideal))) ⟨m, fun _ => 0, g⟩ (fun r => (∀ c : Dev Cert.ODxReferenceIdeal.nD,
      r.2.mem ((c.tc : Thread Cert.ODxReferenceIdeal.nD Cert.ODxReferenceIdeal.τ).loc Cert.ODxReferenceIdeal.main_arg0) = m ((c.tc : Thread Cert.ODxReferenceIdeal.nD Cert.ODxReferenceIdeal.τ).loc Cert.ODxReferenceIdeal.main_arg0)
      ∧ r.2.mem ((c.tc : Thread Cert.ODxReferenceIdeal.nD Cert.ODxReferenceIdeal.τ).loc Cert.ODxReferenceIdeal.main_arg1) = m ((c.tc : Thread Cert.ODxReferenceIdeal.nD Cert.ODxReferenceIdeal.τ).loc Cert.ODxReferenceIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1))
      ∧ r.2.sem = fun _ => 0)

def quiescent_OReferenceIdeal [hOReferenceIdeal : Cert.OReferenceIdeal.Facts] : Prop :=
  ∀ (m : (ℓ : Loc Cert.OReferenceIdeal.nD Cert.OReferenceIdeal.τ Cert.OReferenceIdeal.sig) → Buf (Elt Ideal) ℓ) (g : Dev Cert.OReferenceIdeal.nD → PrngReg), Pre_OReferenceIdeal m →
    θ_run (Cert.OReferenceIdeal.defs (F := Ideal)) (onTc (τ := Cert.OReferenceIdeal.τ) (Cert.OReferenceIdeal.main (F := Ideal))) ⟨m, fun _ => 0, g⟩ (fun r => (∀ c : Dev Cert.OReferenceIdeal.nD,
      r.2.mem ((c.tc : Thread Cert.OReferenceIdeal.nD Cert.OReferenceIdeal.τ).loc Cert.OReferenceIdeal.main_arg0) = m ((c.tc : Thread Cert.OReferenceIdeal.nD Cert.OReferenceIdeal.τ).loc Cert.OReferenceIdeal.main_arg0)
      ∧ r.2.mem ((c.tc : Thread Cert.OReferenceIdeal.nD Cert.OReferenceIdeal.τ).loc Cert.OReferenceIdeal.main_arg1) = m ((c.tc : Thread Cert.OReferenceIdeal.nD Cert.OReferenceIdeal.τ).loc Cert.OReferenceIdeal.main_arg1))
      ∧ r.2.sem = fun _ => 0)

def preserves_Kernel_KernelIdeal : Prop :=
  IdealRules.named_const.Statement Cert.KernelIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v47) = v0 c
          ∧ r.2.mem ((c.tc : Thread Cert.MergeReferenceIdeal.nD Cert.MergeReferenceIdeal.τ).loc Cert.MergeReferenceIdeal.main_v41) = v1 c
          ∧ r.2.mem ((c.tc : Thread Cert.MergeReferenceIdeal.nD Cert.MergeReferenceIdeal.τ).loc Cert.MergeReferenceIdeal.main_v36) = v2 c
          ∧ r.2.mem ((c.tc : Thread Cert.MergeReferenceIdeal.nD Cert.MergeReferenceIdeal.τ).loc Cert.MergeReferenceIdeal.main_v31) = v3 c
          ∧ r.2.mem ((c.tc : Thread Cert.MergeReferenceIdeal.nD Cert.MergeReferenceIdeal.τ).loc Cert.MergeReferenceIdeal.main_v27) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_Forward_ForwardIdeal : Prop :=
  IdealRules.named_const.Statement Cert.ForwardIdeal.κ "log2_e" .f32 0x3FB8AA3B#32 (((Real.log 2)⁻¹ : ℝ) : EReal)

def algebraic_ForwardIdeal_ForwardReferenceIdeal [hForwardIdeal : Cert.ForwardIdeal.Facts] [hForwardReferenceIdeal : Cert.ForwardReferenceIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v11)) (v1 : (c : Dev Cert.ForwardIdeal.nD) → Buf (Elt Ideal) ((c.tc : Thread Cert.ForwardIdeal.nD Cert.ForwardIdeal.τ).loc Cert.ForwardIdeal.main_v10_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v11) = v0 c
          ∧ r.2.mem ((c.tc : Thread Cert.ForwardIdeal.nD Cert.ForwardIdeal.τ).loc Cert.ForwardIdeal.main_v10_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v32) = v0 c
          ∧ r.2.mem ((c.tc : Thread Cert.ForwardReferenceIdeal.nD Cert.ForwardReferenceIdeal.τ).loc Cert.ForwardReferenceIdeal.main_v34) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_Blend_BlendIdeal : Prop :=
  True

def algebraic_BlendIdeal_BlendReferenceIdeal [hBlendIdeal : Cert.BlendIdeal.Facts] [hBlendReferenceIdeal : Cert.BlendReferenceIdeal.Facts] : Prop :=
  ∀ (m : (ℓ : Loc Cert.BlendIdeal.nD Cert.BlendIdeal.τ Cert.BlendIdeal.sig) → Buf (Elt Ideal) ℓ) (g : Dev Cert.BlendIdeal.nD → PrngReg)
    (m' : (ℓ : Loc Cert.BlendReferenceIdeal.nD Cert.BlendReferenceIdeal.τ Cert.BlendReferenceIdeal.sig) → Buf (Elt Ideal) ℓ) (g' : Dev Cert.BlendReferenceIdeal.nD → PrngReg), Pre_BlendIdeal m →
    (∀ c : Dev Cert.BlendIdeal.nD,
      m' ((c.tc : Thread Cert.BlendReferenceIdeal.nD Cert.BlendReferenceIdeal.τ).loc Cert.BlendReferenceIdeal.main_arg0) = m ((c.tc : Thread Cert.BlendIdeal.nD Cert.BlendIdeal.τ).loc Cert.BlendIdeal.main_arg0)
      ∧ m' ((c.tc : Thread Cert.BlendReferenceIdeal.nD Cert.BlendReferenceIdeal.τ).loc Cert.BlendReferenceIdeal.main_arg1) = m ((c.tc : Thread Cert.BlendIdeal.nD Cert.BlendIdeal.τ).loc Cert.BlendIdeal.main_arg1)
      ∧ m' ((c.tc : Thread Cert.BlendReferenceIdeal.nD Cert.BlendReferenceIdeal.τ).loc Cert.BlendReferenceIdeal.main_arg2) = m ((c.tc : Thread Cert.BlendIdeal.nD Cert.BlendIdeal.τ).loc Cert.BlendIdeal.main_arg2)
      ∧ m' ((c.tc : Thread Cert.BlendReferenceIdeal.nD Cert.BlendReferenceIdeal.τ).loc Cert.BlendReferenceIdeal.main_arg3) = m ((c.tc : Thread Cert.BlendIdeal.nD Cert.BlendIdeal.τ).loc Cert.BlendIdeal.main_arg3)
      ∧ m' ((c.tc : Thread Cert.BlendReferenceIdeal.nD Cert.BlendReferenceIdeal.τ).loc Cert.BlendReferenceIdeal.main_arg4) = m ((c.tc : Thread Cert.BlendIdeal.nD Cert.BlendIdeal.τ).loc Cert.BlendIdeal.main_arg4)) →
    ∃ (v0 : (c : Dev Cert.BlendIdeal.nD) → Buf (Elt Ideal) ((c.tc : Thread Cert.BlendIdeal.nD Cert.BlendIdeal.τ).loc Cert.BlendIdeal.main_v0)),
      θ_run (Cert.BlendIdeal.defs (F := Ideal)) (onTc (τ := Cert.BlendIdeal.τ) (Cert.BlendIdeal.main (F := Ideal))) ⟨m, fun _ => 0, g⟩ (fun r => ∀ c : Dev Cert.BlendIdeal.nD,
          r.2.mem ((c.tc : Thread Cert.BlendIdeal.nD Cert.BlendIdeal.τ).loc Cert.BlendIdeal.main_v0) = v0 c
          ∧ r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
          ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
          ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
          ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
          ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4))
      ∧ θ_run (Cert.BlendReferenceIdeal.defs (F := Ideal)) (onTc (τ := Cert.BlendReferenceIdeal.τ) (Cert.BlendReferenceIdeal.main (F := Ideal))) ⟨m', fun _ => 0, g'⟩ (fun r => ∀ c : Dev Cert.BlendReferenceIdeal.nD,
          r.2.mem ((c.tc : Thread Cert.BlendReferenceIdeal.nD Cert.BlendReferenceIdeal.τ).loc Cert.BlendReferenceIdeal.main_v21) = v0 c
          ∧ r.2.mem ((c.tc : Thread Cert.BlendReferenceIdeal.nD Cert.BlendReferenceIdeal.τ).loc Cert.BlendReferenceIdeal.main_arg0) = m' ((c.tc : Thread Cert.BlendReferenceIdeal.nD Cert.BlendReferenceIdeal.τ).loc Cert.BlendReferenceIdeal.main_arg0)
          ∧ r.2.mem ((c.tc : Thread Cert.BlendReferenceIdeal.nD Cert.BlendReferenceIdeal.τ).loc Cert.BlendReferenceIdeal.main_arg1) = m' ((c.tc : Thread Cert.BlendReferenceIdeal.nD Cert.BlendReferenceIdeal.τ).loc Cert.BlendReferenceIdeal.main_arg1)
          ∧ r.2.mem ((c.tc : Thread Cert.BlendReferenceIdeal.nD Cert.BlendReferenceIdeal.τ).loc Cert.BlendReferenceIdeal.main_arg2) = m' ((c.tc : Thread Cert.BlendReferenceIdeal.nD Cert.BlendReferenceIdeal.τ).loc Cert.BlendReferenceIdeal.main_arg2)
          ∧ r.2.mem ((c.tc : Thread Cert.BlendReferenceIdeal.nD Cert.BlendReferenceIdeal.τ).loc Cert.BlendReferenceIdeal.main_arg3) = m' ((c.tc : Thread Cert.BlendReferenceIdeal.nD Cert.BlendReferenceIdeal.τ).loc Cert.BlendReferenceIdeal.main_arg3)
          ∧ r.2.mem ((c.tc : Thread Cert.BlendReferenceIdeal.nD Cert.BlendReferenceIdeal.τ).loc Cert.BlendReferenceIdeal.main_arg4) = m' ((c.tc : Thread Cert.BlendReferenceIdeal.nD Cert.BlendReferenceIdeal.τ).loc Cert.BlendReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v4) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_BranchDx_BranchDxIdeal : Prop :=
  True

def algebraic_BranchDxIdeal_BranchDxReferenceIdeal [hBranchDxIdeal : Cert.BranchDxIdeal.Facts] [hBranchDxReferenceIdeal : Cert.BranchDxReferenceIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxReferenceIdeal.nD Cert.BranchDxReferenceIdeal.τ Cert.BranchDxReferenceIdeal.sig) → Buf (Elt Ideal) ℓ) (g' : Dev Cert.BranchDxReferenceIdeal.nD → PrngReg), Pre_BranchDxIdeal m →
    (∀ c : Dev Cert.BranchDxIdeal.nD,
      m' ((c.tc : Thread Cert.BranchDxReferenceIdeal.nD Cert.BranchDxReferenceIdeal.τ).loc Cert.BranchDxReferenceIdeal.main_arg0) = m ((c.tc : Thread Cert.BranchDxIdeal.nD Cert.BranchDxIdeal.τ).loc Cert.BranchDxIdeal.main_arg0)
      ∧ m' ((c.tc : Thread Cert.BranchDxReferenceIdeal.nD Cert.BranchDxReferenceIdeal.τ).loc Cert.BranchDxReferenceIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxReferenceIdeal.defs (F := Ideal)) (onTc (τ := Cert.BranchDxReferenceIdeal.τ) (Cert.BranchDxReferenceIdeal.main (F := Ideal))) ⟨m', fun _ => 0, g'⟩ (fun r => ∀ c : Dev Cert.BranchDxReferenceIdeal.nD,
          r.2.mem ((c.tc : Thread Cert.BranchDxReferenceIdeal.nD Cert.BranchDxReferenceIdeal.τ).loc Cert.BranchDxReferenceIdeal.main_v3) = v0 c
          ∧ r.2.mem ((c.tc : Thread Cert.BranchDxReferenceIdeal.nD Cert.BranchDxReferenceIdeal.τ).loc Cert.BranchDxReferenceIdeal.main_arg0) = m' ((c.tc : Thread Cert.BranchDxReferenceIdeal.nD Cert.BranchDxReferenceIdeal.τ).loc Cert.BranchDxReferenceIdeal.main_arg0)
          ∧ r.2.mem ((c.tc : Thread Cert.BranchDxReferenceIdeal.nD Cert.BranchDxReferenceIdeal.τ).loc Cert.BranchDxReferenceIdeal.main_arg1) = m' ((c.tc : Thread Cert.BranchDxReferenceIdeal.nD Cert.BranchDxReferenceIdeal.τ).loc Cert.BranchDxReferenceIdeal.main_arg1))

def preserves_ODx_ODxIdeal : Prop :=
  True

def algebraic_ODxIdeal_ODxReferenceIdeal [hODxIdeal : Cert.ODxIdeal.Facts] [hODxReferenceIdeal : Cert.ODxReferenceIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.ODxReferenceIdeal.nD Cert.ODxReferenceIdeal.τ Cert.ODxReferenceIdeal.sig) → Buf (Elt Ideal) ℓ) (g' : Dev Cert.ODxReferenceIdeal.nD → PrngReg), Pre_ODxIdeal m →
    (∀ c : Dev Cert.ODxIdeal.nD,
      m' ((c.tc : Thread Cert.ODxReferenceIdeal.nD Cert.ODxReferenceIdeal.τ).loc Cert.ODxReferenceIdeal.main_arg0) = m ((c.tc : Thread Cert.ODxIdeal.nD Cert.ODxIdeal.τ).loc Cert.ODxIdeal.main_arg0)
      ∧ m' ((c.tc : Thread Cert.ODxReferenceIdeal.nD Cert.ODxReferenceIdeal.τ).loc Cert.ODxReferenceIdeal.main_arg1) = m ((c.tc : Thread Cert.ODxIdeal.nD Cert.ODxIdeal.τ).loc Cert.ODxIdeal.main_arg1)) →
    ∃ (v0 : (c : Dev Cert.ODxIdeal.nD) → Buf (Elt Ideal) ((c.tc : Thread Cert.ODxIdeal.nD Cert.ODxIdeal.τ).loc Cert.ODxIdeal.main_v0)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v0) = v0 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ θ_run (Cert.ODxReferenceIdeal.defs (F := Ideal)) (onTc (τ := Cert.ODxReferenceIdeal.τ) (Cert.ODxReferenceIdeal.main (F := Ideal))) ⟨m', fun _ => 0, g'⟩ (fun r => ∀ c : Dev Cert.ODxReferenceIdeal.nD,
          r.2.mem ((c.tc : Thread Cert.ODxReferenceIdeal.nD Cert.ODxReferenceIdeal.τ).loc Cert.ODxReferenceIdeal.main_v3) = v0 c
          ∧ r.2.mem ((c.tc : Thread Cert.ODxReferenceIdeal.nD Cert.ODxReferenceIdeal.τ).loc Cert.ODxReferenceIdeal.main_arg0) = m' ((c.tc : Thread Cert.ODxReferenceIdeal.nD Cert.ODxReferenceIdeal.τ).loc Cert.ODxReferenceIdeal.main_arg0)
          ∧ r.2.mem ((c.tc : Thread Cert.ODxReferenceIdeal.nD Cert.ODxReferenceIdeal.τ).loc Cert.ODxReferenceIdeal.main_arg1) = m' ((c.tc : Thread Cert.ODxReferenceIdeal.nD Cert.ODxReferenceIdeal.τ).loc Cert.ODxReferenceIdeal.main_arg1))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v1) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_O_OIdeal : Prop :=
  True

def algebraic_OIdeal_OReferenceIdeal [hOIdeal : Cert.OIdeal.Facts] [hOReferenceIdeal : Cert.OReferenceIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.OReferenceIdeal.nD Cert.OReferenceIdeal.τ Cert.OReferenceIdeal.sig) → Buf (Elt Ideal) ℓ) (g' : Dev Cert.OReferenceIdeal.nD → PrngReg), Pre_OIdeal m →
    (∀ c : Dev Cert.OIdeal.nD,
      m' ((c.tc : Thread Cert.OReferenceIdeal.nD Cert.OReferenceIdeal.τ).loc Cert.OReferenceIdeal.main_arg0) = m ((c.tc : Thread Cert.OIdeal.nD Cert.OIdeal.τ).loc Cert.OIdeal.main_arg0)
      ∧ m' ((c.tc : Thread Cert.OReferenceIdeal.nD Cert.OReferenceIdeal.τ).loc Cert.OReferenceIdeal.main_arg1) = m ((c.tc : Thread Cert.OIdeal.nD Cert.OIdeal.τ).loc Cert.OIdeal.main_arg1)) →
    ∃ (v0 : (c : Dev Cert.OIdeal.nD) → Buf (Elt Ideal) ((c.tc : Thread Cert.OIdeal.nD Cert.OIdeal.τ).loc Cert.OIdeal.main_v0)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v0) = v0 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1))
      ∧ θ_run (Cert.OReferenceIdeal.defs (F := Ideal)) (onTc (τ := Cert.OReferenceIdeal.τ) (Cert.OReferenceIdeal.main (F := Ideal))) ⟨m', fun _ => 0, g'⟩ (fun r => ∀ c : Dev Cert.OReferenceIdeal.nD,
          r.2.mem ((c.tc : Thread Cert.OReferenceIdeal.nD Cert.OReferenceIdeal.τ).loc Cert.OReferenceIdeal.main_v1) = v0 c
          ∧ r.2.mem ((c.tc : Thread Cert.OReferenceIdeal.nD Cert.OReferenceIdeal.τ).loc Cert.OReferenceIdeal.main_arg0) = m' ((c.tc : Thread Cert.OReferenceIdeal.nD Cert.OReferenceIdeal.τ).loc Cert.OReferenceIdeal.main_arg0)
          ∧ r.2.mem ((c.tc : Thread Cert.OReferenceIdeal.nD Cert.OReferenceIdeal.τ).loc Cert.OReferenceIdeal.main_arg1) = m' ((c.tc : Thread Cert.OReferenceIdeal.nD Cert.OReferenceIdeal.τ).loc Cert.OReferenceIdeal.main_arg1))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hForward : Cert.Forward.Facts) (hForwardIdeal : Cert.ForwardIdeal.Facts) (hForwardReferenceIdeal : Cert.ForwardReferenceIdeal.Facts) (hBlend : Cert.Blend.Facts) (hBlendIdeal : Cert.BlendIdeal.Facts) (hBlendReferenceIdeal : Cert.BlendReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hProj : Cert.Proj.Facts) (hProjIdeal : Cert.ProjIdeal.Facts) (hProjReferenceIdeal : Cert.ProjReferenceIdeal.Facts) (hGates : Cert.Gates.Facts) (hGatesIdeal : Cert.GatesIdeal.Facts) (hGatesReferenceIdeal : Cert.GatesReferenceIdeal.Facts) (hBranchDx : Cert.BranchDx.Facts) (hBranchDxIdeal : Cert.BranchDxIdeal.Facts) (hBranchDxReferenceIdeal : Cert.BranchDxReferenceIdeal.Facts) (hODx : Cert.ODx.Facts) (hODxIdeal : Cert.ODxIdeal.Facts) (hODxReferenceIdeal : Cert.ODxReferenceIdeal.Facts) (hBranch : Cert.Branch.Facts) (hBranchIdeal : Cert.BranchIdeal.Facts) (hBranchReferenceIdeal : Cert.BranchReferenceIdeal.Facts) (hO : Cert.O.Facts) (hOIdeal : Cert.OIdeal.Facts) (hOReferenceIdeal : Cert.OReferenceIdeal.Facts) (hPre_finite : Cert.Pre_finite.Facts) (hPre_finite_forward : Cert.Pre_finite_forward.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Forward (hForward := hForward)
    ∧ quiescent_ForwardIdeal (hForwardIdeal := hForwardIdeal) (hPre_finite_forward := hPre_finite_forward)
    ∧ quiescent_ForwardIdeal_pre_none (hForwardIdeal := hForwardIdeal)
    ∧ quiescent_ForwardReferenceIdeal (hForwardReferenceIdeal := hForwardReferenceIdeal)
    ∧ quiescent_ForwardReferenceIdeal_pre_finite_forward (hForwardReferenceIdeal := hForwardReferenceIdeal) (hPre_finite_forward := hPre_finite_forward)
    ∧ quiescent_Blend (hBlend := hBlend)
    ∧ quiescent_BlendIdeal (hBlendIdeal := hBlendIdeal)
    ∧ quiescent_BlendReferenceIdeal (hBlendReferenceIdeal := hBlendReferenceIdeal)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_BranchDx (hBranchDx := hBranchDx)
    ∧ quiescent_BranchDxIdeal (hBranchDxIdeal := hBranchDxIdeal)
    ∧ quiescent_BranchDxReferenceIdeal (hBranchDxReferenceIdeal := hBranchDxReferenceIdeal)
    ∧ quiescent_ODx (hODx := hODx)
    ∧ quiescent_ODxIdeal (hODxIdeal := hODxIdeal)
    ∧ quiescent_ODxReferenceIdeal (hODxReferenceIdeal := hODxReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_O (hO := hO)
    ∧ quiescent_OIdeal (hOIdeal := hOIdeal)
    ∧ quiescent_OReferenceIdeal (hOReferenceIdeal := hOReferenceIdeal)
    ∧ preserves_Kernel_KernelIdeal
    ∧ algebraic_KernelIdeal_ReferenceIdeal (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Forward_ForwardIdeal
    ∧ algebraic_ForwardIdeal_ForwardReferenceIdeal (hForwardIdeal := hForwardIdeal) (hForwardReferenceIdeal := hForwardReferenceIdeal) (hPre_finite_forward := hPre_finite_forward)
    ∧ preserves_Blend_BlendIdeal
    ∧ algebraic_BlendIdeal_BlendReferenceIdeal (hBlendIdeal := hBlendIdeal) (hBlendReferenceIdeal := hBlendReferenceIdeal)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Proj_ProjIdeal
    ∧ algebraic_ProjIdeal_ProjReferenceIdeal (hProjIdeal := hProjIdeal) (hProjReferenceIdeal := hProjReferenceIdeal)
    ∧ preserves_Gates_GatesIdeal
    ∧ algebraic_GatesIdeal_GatesReferenceIdeal (hGatesIdeal := hGatesIdeal) (hGatesReferenceIdeal := hGatesReferenceIdeal)
    ∧ preserves_BranchDx_BranchDxIdeal
    ∧ algebraic_BranchDxIdeal_BranchDxReferenceIdeal (hBranchDxIdeal := hBranchDxIdeal) (hBranchDxReferenceIdeal := hBranchDxReferenceIdeal)
    ∧ preserves_ODx_ODxIdeal
    ∧ algebraic_ODxIdeal_ODxReferenceIdeal (hODxIdeal := hODxIdeal) (hODxReferenceIdeal := hODxReferenceIdeal)
    ∧ preserves_Branch_BranchIdeal
    ∧ algebraic_BranchIdeal_BranchReferenceIdeal (hBranchIdeal := hBranchIdeal) (hBranchReferenceIdeal := hBranchReferenceIdeal)
    ∧ preserves_O_OIdeal
    ∧ algebraic_OIdeal_OReferenceIdeal (hOIdeal := hOIdeal) (hOReferenceIdeal := hOReferenceIdeal)
-- ==== Pre_finite.lean ====
abbrev S8x16384x128 : Shape := ⟨3, ![8, 16384, 128]⟩
abbrev S_ : Shape := ⟨0, ![]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel

variable [Facts]

def fn_part1 {F : FTy → Type} [FloatOps F] (main_v13 : IVec S_ 1) (main_v16 : IVec S8x16384x128 1) : IVec S_ 1 :=
  let main_c_5 : IVec S_ 1 := constantI S_ 1 1#1
  let main_v17 : IVec S_ 1 := (fun x v => Host.reduce IntOp.andi x v reducesTo_S8x16384x128_S_d0_1_2 h_S_) main_v16 main_c_5
  let main_v18 : IVec S_ 1 := andi main_v13 main_v17
  main_v18

def fn {F : FTy → Type} [FloatOps F] (main_arg0 : FVec F S8x16384x128 .f32) (main_arg1 : FVec F S8x16384x128 .f32) (main_arg2 : FVec F S8x16384x128 .f32) (main_arg3 : FVec F S8x16384x128 .f32) : IVec S_ 1 :=
  let main_v0 : FVec F S8x16384x128 .f32 := Host.absf main_arg0
  let main_cst : FVec F S_ .f32 := constant S_ .f32 0x7F800000#32
  let main_v1 : FVec F S8x16384x128 .f32 := broadcastInDim S8x16384x128 ![] bcast_S_S8x16384x128 main_cst
  let main_v2 : IVec S8x16384x128 1 := cmpf .olt main_v0 main_v1
  let main_c : IVec S_ 1 := constantI S_ 1 1#1
  let main_v3 : IVec S_ 1 := (fun x v => Host.reduce IntOp.andi x v reducesTo_S8x16384x128_S_d0_1_2 h_S_) main_v2 main_c
  let main_v4 : FVec F S8x16384x128 .f32 := Host.absf main_arg1
  let main_cst_0 : FVec F S_ .f32 := constant S_ .f32 0x7F800000#32
  let main_v5 : FVec F S8x16384x128 .f32 := broadcastInDim S8x16384x128 ![] bcast_S_S8x16384x128 main_cst_0
  let main_v6 : IVec S8x16384x128 1 := cmpf .olt main_v4 main_v5
  let main_c_1 : IVec S_ 1 := constantI S_ 1 1#1
  let main_v7 : IVec S_ 1 := (fun x v => Host.reduce IntOp.andi x v reducesTo_S8x16384x128_S_d0_1_2 h_S_) main_v6 main_c_1
  let main_v8 : IVec S_ 1 := andi main_v3 main_v7
  let main_v9 : FVec F S8x16384x128 .f32 := Host.absf main_arg2
  let main_cst_2 : FVec F S_ .f32 := constant S_ .f32 0x7F800000#32
  let main_v10 : FVec F S8x16384x128 .f32 := broadcastInDim S8x16384x128 ![] bcast_S_S8x16384x128 main_cst_2
  let main_v11 : IVec S8x16384x128 1 := cmpf .olt main_v9 main_v10
  let main_c_3 : IVec S_ 1 := constantI S_ 1 1#1
  let main_v12 : IVec S_ 1 := (fun x v => Host.reduce IntOp.andi x v reducesTo_S8x16384x128_S_d0_1_2 h_S_) main_v11 main_c_3
  let main_v13 : IVec S_ 1 := andi main_v8 main_v12
  let main_v14 : FVec F S8x16384x128 .f32 := Host.absf main_arg3
  let main_cst_4 : FVec F S_ .f32 := constant S_ .f32 0x7F800000#32
  let main_v15 : FVec F S8x16384x128 .f32 := broadcastInDim S8x16384x128 ![] bcast_S_S8x16384x128 main_cst_4
  let main_v16 : IVec S8x16384x128 1 := cmpf .olt main_v14 main_v15
  fn_part1 (F := F) main_v13 main_v16
-- ==== Pre_finite_forward.lean ====
abbrev S8x16384x128 : Shape := ⟨3, ![8, 16384, 128]⟩
abbrev S8x16384x64 : Shape := ⟨3, ![8, 16384, 64]⟩
abbrev S_ : Shape := ⟨0, ![]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  bcast_S_S8x16384x64 : S_.BroadcastsInDim S8x16384x64 (![] : Fin 0 → Fin S8x16384x64.rank)
  reducesTo_S8x16384x64_S_d0_1_2 : S8x16384x64.ReducesTo [0, 1, 2] S_

variable [Facts]

def fn {F : FTy → Type} [FloatOps F] (main_arg0 : FVec F S8x16384x128 .f32) (main_arg1 : FVec F S8x16384x128 .f32) (main_arg2 : FVec F S8x16384x64 .f32) : IVec S_ 1 :=
  let main_v0 : FVec F S8x16384x128 .f32 := Host.absf main_arg0
  let main_cst : FVec F S_ .f32 := constant S_ .f32 0x7F800000#32
  let main_v1 : FVec F S8x16384x128 .f32 := broadcastInDim S8x16384x128 ![] bcast_S_S8x16384x128 main_cst
  let main_v2 : IVec S8x16384x128 1 := cmpf .olt main_v0 main_v1
  let main_c : IVec S_ 1 := constantI S_ 1 1#1
  let main_v3 : IVec S_ 1 := (fun x v => Host.reduce IntOp.andi x v reducesTo_S8x16384x128_S_d0_1_2 h_S_) main_v2 main_c
  let main_v4 : FVec F S8x16384x128 .f32 := Host.absf main_arg1
  let main_cst_0 : FVec F S_ .f32 := constant S_ .f32 0x7F800000#32
  let main_v5 : FVec F S8x16384x128 .f32 := broadcastInDim S8x16384x128 ![] bcast_S_S8x16384x128 main_cst_0
  let main_v6 : IVec S8x16384x128 1 := cmpf .olt main_v4 main_v5
  let main_c_1 : IVec S_ 1 := constantI S_ 1 1#1
  let main_v7 : IVec S_ 1 := (fun x v => Host.reduce IntOp.andi x v reducesTo_S8x16384x128_S_d0_1_2 h_S_) main_v6 main_c_1
  let main_v8 : IVec S_ 1 := andi main_v3 main_v7
  let main_v9 : FVec F S8x16384x64 .f32 := Host.absf main_arg2
  let main_cst_2 : FVec F S_ .f32 := constant S_ .f32 0x7F800000#32
  let main_v10 : FVec F S8x16384x64 .f32 := broadcastInDim S8x16384x64 ![] bcast_S_S8x16384x64 main_cst_2
  let main_v11 : IVec S8x16384x64 1 := cmpf .olt main_v9 main_v10
  let main_c_3 : IVec S_ 1 := constantI S_ 1 1#1
  let main_v12 : IVec S_ 1 := (fun x v => Host.reduce IntOp.andi x v reducesTo_S8x16384x64_S_d0_1_2 h_S_) main_v11 main_c_3
  let main_v13 : IVec S_ 1 := andi main_v8 main_v12
  main_v13
-- ==== Kernel.lean ====
abbrev S8x16384x128 : Shape := ⟨3, ![8, 16384, 128]⟩
abbrev S144 : Shape := ⟨1, ![144]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x16384 : Shape := ⟨3, ![8, 16384, 16384]⟩
abbrev S8x16384 : Shape := ⟨2, ![8, 16384]⟩
abbrev S8x16384x1 : Shape := ⟨3, ![8, 16384, 1]⟩
abbrev S1x512x128 : Shape := ⟨3, ![1, 512, 128]⟩
abbrev S1 : Shape := ⟨1, ![1]⟩
abbrev S1x2048x128 : Shape := ⟨3, ![1, 2048, 128]⟩
abbrev S1x16384x128 : Shape := ⟨3, ![1, 16384, 128]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 62
  | .vmem => 20
  | .smem => 2
  | _ => 0

abbrev bufTy : (tb : Table) → Fin (tcTables nBuf tb) → BufTy
  | .hbm, ⟨0, _⟩ => ⟨S8x16384x128, .f32⟩
  | .hbm, ⟨1, _⟩ => ⟨S8x16384x128, .f32⟩
  | .hbm, ⟨2, _⟩ => ⟨S8x16384x128, .f32⟩
  | .hbm, ⟨3, _⟩ => ⟨S8x16384x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x16384x128, .f32⟩
  | .hbm, ⟨9, _⟩ => ⟨S8x16384x128, .f32⟩
  | .hbm, ⟨10, _⟩ => ⟨S8x16384x128, .bf16⟩
  | .hbm, ⟨11, _⟩ => ⟨S8x16384x128, .bf16⟩
  | .hbm, ⟨12, _⟩ => ⟨S8x16384x128, .bf16⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S8x16384x16384, .f32⟩
  | .hbm, ⟨23, _⟩ => ⟨S_, .f32⟩
  | .hbm, ⟨24, _⟩ => ⟨S_, .f32⟩
  | .hbm, ⟨25, _⟩ => ⟨S8x16384x16384, .i1⟩
  | .hbm, ⟨26, _⟩ => ⟨S8x16384x16384, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S8x16384, .f32⟩
  | .hbm, ⟨37, _⟩ => ⟨S8x16384, .f32⟩
  | .hbm, ⟨38, _⟩ => ⟨S_, .f32⟩
  | .hbm, ⟨39, _⟩ => ⟨S_, .f32⟩
  | .hbm, ⟨40, _⟩ => ⟨S8x16384, .f32⟩
  | .hbm, ⟨41, _⟩ => ⟨S8x16384, .f32⟩
  | .hbm, ⟨42, _⟩ => ⟨S_, .f32⟩
  | .hbm, ⟨43, _⟩ => ⟨S8x16384, .f32⟩
  | .hbm, ⟨44, _⟩ => ⟨S_, .f32⟩
  | .hbm, ⟨45, _⟩ => ⟨S8x16384, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x128, .f32⟩
  | .hbm, ⟨57, _⟩ => ⟨S8x16384x1, .f32⟩
  | .hbm, ⟨58, _⟩ => ⟨S8x16384x128, .f32⟩
  | .hbm, ⟨59, _⟩ => ⟨S8x16384x128, .f32⟩
  | .hbm, ⟨60, _⟩ => ⟨S8x16384x128, .f32⟩
  | .hbm, ⟨61, _⟩ => ⟨S8x16384x128, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x16384x128, .f32⟩
  | .local _ .vmem, ⟨13, _⟩ => ⟨S1x16384x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S2048x128, .f32⟩
  | .local _ .vmem, ⟨19, _⟩ => ⟨S2048x128, .f32⟩
  | .local _ .smem, ⟨0, _⟩ => ⟨S144, .i32⟩
  | .local _ .smem, ⟨1, _⟩ => ⟨S144, .i32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 144], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32_43 : BitVec 32 := 512#32
  let v79 : BitVec 32 := Scalar.muli v1 c512_i32_43
  v79
def k0_cond3 (v1 : BitVec 32) (v3 : BitVec 32) : BitVec 1 :=
  let c2048_i32_7 : BitVec 32 := 2048#32
  let v28 : BitVec 32 := Scalar.muli v3 c2048_i32_7
  let c2048_i32_8 : BitVec 32 := 2048#32
  let v29 : BitVec 32 := Scalar.addi v28 c2048_i32_8
  let c1_i32_9 : BitVec 32 := 1#32
  let v30 : BitVec 32 := Scalar.subi v29 c1_i32_9
  let c512_i32_10 : BitVec 32 := 512#32
  let v31 : BitVec 32 := Scalar.muli v1 c512_i32_10
  let v32 : BitVec 1 := Scalar.cmpi .sgt v30 v31
  let v_true : BitVec 1 := 1#1
  let v33 : BitVec 1 := Scalar.xori v32 v_true
  let v34 : BitVec 32 := Scalar.extui v33
  let c0_i32_11 : BitVec 32 := 0#32
  let v35 : BitVec 1 := Scalar.cmpi .ne v34 c0_i32_11
  v35

def k0_off2 (v1 : BitVec 32) : Fin 3 → Nat :=
  let c0_44 : Index := 0#32
  let c512_i32_43 : BitVec 32 := 512#32
  let v79 : BitVec 32 := Scalar.muli v1 c512_i32_43
  let v80 : BitVec 32 := v79
  let v81 : Index := Scalar.indexCast v80
  let c0_45 : Index := 0#32
  ![0, v81.toNat, 0]
def k0_mult2 (v1 : BitVec 32) : BitVec 32 :=
  let c512_i32_46 : BitVec 32 := 512#32
  let v90 : BitVec 32 := Scalar.muli v1 c512_i32_46
  v90
def k0_cond4 (v1 : BitVec 32) (v3 : BitVec 32) : BitVec 1 :=
  let c2048_i32_7 : BitVec 32 := 2048#32
  let v28 : BitVec 32 := Scalar.muli v3 c2048_i32_7
  let c2048_i32_8 : BitVec 32 := 2048#32
  let v29 : BitVec 32 := Scalar.addi v28 c2048_i32_8
  let c1_i32_9 : BitVec 32 := 1#32
  let v30 : BitVec 32 := Scalar.subi v29 c1_i32_9
  let c512_i32_10 : BitVec 32 := 512#32
  let v31 : BitVec 32 := Scalar.muli v1 c512_i32_10
  let v32 : BitVec 1 := Scalar.cmpi .sgt v30 v31
  let v36 : BitVec 32 := Scalar.extui v32
  let c0_i32_12 : BitVec 32 := 0#32
  let v37 : BitVec 1 := Scalar.cmpi .ne v36 c0_i32_12
  v37

def k0_off3 (v1 : BitVec 32) : Fin 3 → Nat :=
  let c0_47 : Index := 0#32
  let c512_i32_46 : BitVec 32 := 512#32
  let v90 : BitVec 32 := Scalar.muli v1 c512_i32_46
  let v91 : BitVec 32 := v90
  let v92 : Index := Scalar.indexCast v91
  let c0_48 : Index := 0#32
  ![0, v92.toNat, 0]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S1x512x128.size a ≤ S1x16384x128.size a) ∧
  (∀ (k0_h4 : k0_cond4 v1 v3 = 1#1), 512 ∣ (k0_mult2 v1).toNat) ∧
  (∀ (k0_h4 : k0_cond4 v1 v3 = 1#1), ∀ a, (k0_off3 v1) a + S1x512x128.size a ≤ S1x16384x128.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x512x128.size a ≤ S1x16384x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1x512x128.size a ≤ S1x16384x128.size a := fun v1 v3 k0_hw1 k0_h4 => k0_hw1.2.2.2 k0_h4

def k0_cond1 (i : grid0.Coords) : BitVec 1 :=
  let arg1 : BitVec 32 := BitVec.ofNat 32 (i 1).val
  let c0_i32_4 : BitVec 32 := 0#32
  let v22 : BitVec 1 := Scalar.cmpi .eq arg1 c0_i32_4
  let v23 : BitVec 32 := Scalar.extui v22
  let c0_i32_5 : BitVec 32 := 0#32
  let v24 : BitVec 1 := Scalar.cmpi .ne v23 c0_i32_5
  v24

def k0_cond5 (v1 : BitVec 32) : BitVec 1 :=
  let c31_i32 : BitVec 32 := 31#32
  let v38 : BitVec 1 := Scalar.cmpi .eq v1 c31_i32
  let v39 : BitVec 32 := Scalar.extui v38
  let c0_i32_13 : BitVec 32 := 0#32
  let v40 : BitVec 1 := Scalar.cmpi .ne v39 c0_i32_13
  v40

def cc0_transform_0 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S144) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln_2" => some ((Real.log 2 : ℝ) : EReal)
  | _ => none
-- ==== ReferenceIdeal.lean ====
abbrev S8x16384x128 : Shape := ⟨3, ![8, 16384, 128]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩

abbrev nBuf : Space → Nat
  | .hbm => 85
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S8x16384x128, .f32⟩
  | .hbm, ⟨2, _⟩ => ⟨S8x16384x128, .f32⟩
  | .hbm, ⟨3, _⟩ => ⟨S8x16384x128, .f32⟩
  | .hbm, ⟨4, _⟩ => ⟨S16384, .i32⟩
  | .hbm, ⟨5, _⟩ => ⟨S1x16384, .i32⟩
  | .hbm, ⟨6, _⟩ => ⟨S16384x1, .i32⟩
  | .hbm, ⟨7, _⟩ => ⟨S16384x16384, .i32⟩
  | .hbm, ⟨8, _⟩ => ⟨S16384x16384, .i32⟩
  | .hbm, ⟨9, _⟩ => ⟨S16384x16384, .i1⟩
  | .hbm, ⟨10, _⟩ => ⟨S8x16384x16384, .f32⟩
  | .hbm, ⟨11, _⟩ => ⟨S_, .f32⟩
  | .hbm, ⟨12, _⟩ => ⟨S8x16384x16384, .f32⟩
  | .hbm, ⟨13, _⟩ => ⟨S8x16384x16384, .f32⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S8x16384, .i1⟩
  | .hbm, ⟨35, _⟩ => ⟨S_, .f32⟩
  | .hbm, ⟨36, _⟩ => ⟨S8x16384, .f32⟩
  | .hbm, ⟨37, _⟩ => ⟨S8x16384, .i1⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S_, .f32⟩
  | .hbm, ⟨43, _⟩ => ⟨S8x16384, .f32⟩
  | .hbm, ⟨44, _⟩ => ⟨S8x16384, .f32⟩
  | .hbm, ⟨45, _⟩ => ⟨S8x16384, .f32⟩
  | .hbm, ⟨46, _⟩ => ⟨S8x16384x1, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S_, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x1, .f32⟩
  | .hbm, ⟨56, _⟩ => ⟨S_, .f32⟩
  | .hbm, ⟨57, _⟩ => ⟨S8x16384x1, .f32⟩
  | .hbm, ⟨58, _⟩ => ⟨S8x16384x1, .f32⟩
  | .hbm, ⟨59, _⟩ => ⟨S8x16384x128, .f32⟩
  | .hbm, ⟨60, _⟩ => ⟨S8x128x16384, .f32⟩
  | .hbm, ⟨61, _⟩ => ⟨S8x16384x128, .f32⟩
  | .hbm, ⟨62, _⟩ => ⟨S8x16384x16384, .f32⟩
  | .hbm, ⟨63, _⟩ => ⟨S8x16384x16384, .f32⟩
  | .hbm, ⟨64, _⟩ => ⟨S8x16384x16384, .f32⟩
  | .hbm, ⟨65, _⟩ => ⟨S8x16384x16384, .f32⟩
  | .hbm, ⟨66, _⟩ => ⟨S_, .f32⟩
  | .hbm, ⟨67, _⟩ => ⟨S8x16384, .f32⟩
  | .hbm, ⟨68, _⟩ => ⟨S8x16384x1, .f32⟩
  | .hbm, ⟨69, _⟩ => ⟨S8x16384x1, .f32⟩
  | .hbm, ⟨70, _⟩ => ⟨S8x16384x16384, .f32⟩
  | .hbm, ⟨71, _⟩ => ⟨S8x16384x16384, .f32⟩
  | .hbm, ⟨72, _⟩ => ⟨S_, .f32⟩
  | .hbm, ⟨73, _⟩ => ⟨S8x16384, .f32⟩
  | .hbm, ⟨74, _⟩ => ⟨S8x16384x16384, .f32⟩
  | .hbm, ⟨75, _⟩ => ⟨S8x16384x16384, .f32⟩
  | .hbm, ⟨76, _⟩ => ⟨S8x16384x16384, .f32⟩
  | .hbm, ⟨77, _⟩ => ⟨S_, .f32⟩
  | .hbm, ⟨78, _⟩ => ⟨S8x16384x16384, .f32⟩
  | .hbm, ⟨79, _⟩ => ⟨S8x16384x16384, .f32⟩
  | .hbm, ⟨80, _⟩ => ⟨S_, .f32⟩
  | .hbm, ⟨81, _⟩ => ⟨S8x16384x16384, .f32⟩
  | .hbm, ⟨82, _⟩ => ⟨S8x16384x16384, .f32⟩
  | .hbm, ⟨83, _⟩ => ⟨S8x16384x128, .f32⟩
  | .hbm, ⟨84, _⟩ => ⟨S8x16384x128, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Merge.lean ====
abbrev S16384x4096 : Shape := ⟨2, ![16384, 4096]⟩
abbrev S16384x1024 : Shape := ⟨2, ![16384, 1024]⟩
abbrev S128x4096 : Shape := ⟨2, ![128, 4096]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x4096, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .local _ .vmem, ⟨0, _⟩ => ⟨S128x4096, .f32⟩
  | .local _ .vmem, ⟨1, _⟩ => ⟨S128x4096, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x4096, .f32⟩
  | .local _ .vmem, ⟨13, _⟩ => ⟨S128x4096, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S16384x4096 : Shape := ⟨2, ![16384, 4096]⟩
abbrev S16384x1024 : Shape := ⟨2, ![16384, 1024]⟩
abbrev S_ : Shape := ⟨0, ![]⟩
abbrev S16384x4x1024 : Shape := ⟨3, ![16384, 4, 1024]⟩
abbrev S16384x1x1024 : Shape := ⟨3, ![16384, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S16384x1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1x1024, .f32⟩
  | .hbm, ⟨39, _⟩ => ⟨S_, .f32⟩
  | .hbm, ⟨40, _⟩ => ⟨S16384x4x1024, .f32⟩
  | .hbm, ⟨41, _⟩ => ⟨S16384x1024, .f32⟩
  | .hbm, ⟨42, _⟩ => ⟨S16384x1024, .f32⟩
  | .hbm, ⟨43, _⟩ => ⟨S16384x1x1024, .f32⟩
  | .hbm, ⟨44, _⟩ => ⟨S_, .f32⟩
  | .hbm, ⟨45, _⟩ => ⟨S16384x4x1024, .f32⟩
  | .hbm, ⟨46, _⟩ => ⟨S16384x4x1024, .f32⟩
  | .hbm, ⟨47, _⟩ => ⟨S16384x1024, .f32⟩
  | .hbm, ⟨48, _⟩ => ⟨S16384x1024, .f32⟩
  | .hbm, ⟨49, _⟩ => ⟨S16384x1x1024, .f32⟩
  | .hbm, ⟨50, _⟩ => ⟨S_, .f32⟩
  | .hbm, ⟨51, _⟩ => ⟨S16384x4x1024, .f32⟩
  | .hbm, ⟨52, _⟩ => ⟨S16384x4x1024, .f32⟩
  | .hbm, ⟨53, _⟩ => ⟨S16384x1024, .f32⟩
  | .hbm, ⟨54, _⟩ => ⟨S16384x1024, .f32⟩
  | .hbm, ⟨55, _⟩ => ⟨S16384x1x1024, .f32⟩
  | .hbm, ⟨56, _⟩ => ⟨S_, .f32⟩
  | .hbm, ⟨57, _⟩ => ⟨S16384x4x1024, .f32⟩
  | .hbm, ⟨58, _⟩ => ⟨S16384x4x1024, .f32⟩
  | .hbm, ⟨59, _⟩ => ⟨S16384x4096, .f32⟩
  | .hbm, ⟨60, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Forward.lean ====
abbrev S8x16384x128 : Shape := ⟨3, ![8, 16384, 128]⟩
abbrev S8x16384x64 : Shape := ⟨3, ![8, 16384, 64]⟩
abbrev S144 : Shape := ⟨1, ![144]⟩
abbrev S_ : Shape := ⟨0, ![]⟩
abbrev S8x16384x1 : Shape := ⟨3, ![8, 16384, 1]⟩
abbrev S8x16384x63 : Shape := ⟨3, ![8, 16384, 63]⟩
abbrev S1x2048x128 : Shape := ⟨3, ![1, 2048, 128]⟩
abbrev S1 : Shape := ⟨1, ![1]⟩
abbrev S1x512x128 : Shape := ⟨3, ![1, 512, 128]⟩
abbrev S2048x128 : Shape := ⟨2, ![2048, 128]⟩
abbrev S512x128 : Shape := ⟨2, ![512, 128]⟩
abbrev S2048x512 : Shape := ⟨2, ![2048, 512]⟩
abbrev S2048 : Shape := ⟨1, ![2048]⟩
abbrev S2048x1 : Shape := ⟨2, ![2048, 1]⟩

abbrev nBuf : Space → Nat
  | .hbm => 20
  | .vmem => 12
  | .smem => 2
  | _ => 0

abbrev bufTy : (tb : Table) → Fin (tcTables nBuf tb) → BufTy
  | .hbm, ⟨0, _⟩ => ⟨S8x16384x128, .f32⟩
  | .hbm, ⟨1, _⟩ => ⟨S8x16384x128, .f32⟩
  | .hbm, ⟨2, _⟩ => ⟨S8x16384x64, .f32⟩
  | .hbm, ⟨3, _⟩ => ⟨S_, .f32⟩
  | .hbm, ⟨4, _⟩ => ⟨S8x16384x1, .f32⟩
  | .hbm, ⟨5, _⟩ => ⟨S_, .f32⟩
  | .hbm, ⟨6, _⟩ => ⟨S8x16384x63, .f32⟩
  | .hbm, ⟨7, _⟩ => ⟨S8x16384x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x16384x128, .f32⟩
  | .hbm, ⟨13, _⟩ => ⟨S8x16384x128, .f32⟩
  | .hbm, ⟨14, _⟩ => ⟨S8x16384x128, .bf16⟩
  | .hbm, ⟨15, _⟩ => ⟨S8x16384x128, .bf16⟩
  | .hbm, ⟨16, _⟩ => ⟨S8x16384x128, .bf16⟩
  | .hbm, ⟨17, _⟩ => ⟨S8x16384x128, .f32⟩
  | .hbm, ⟨18, _⟩ => ⟨S8x16384x128, .f32⟩
  | .hbm, ⟨19, _⟩ => ⟨S8x16384x64, .f32⟩
  | .local _ .vmem, ⟨0, _⟩ => ⟨S1x2048x128, .bf16⟩
  | .local _ .vmem, ⟨1, _⟩ => ⟨S1x2048x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S2048x128, .f32⟩
  | .local _ .vmem, ⟨11, _⟩ => ⟨S2048x128, .f32⟩
  | .local _ .smem, ⟨0, _⟩ => ⟨S144, .i32⟩
  | .local _ .smem, ⟨1, _⟩ => ⟨S144, .i32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_cst_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 144], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c2048_i32_4 : BitVec 32 := 2048#32
  let v17 : BitVec 32 := Scalar.muli v1 c2048_i32_4
  let c2048_i32_5 : BitVec 32 := 2048#32
  let v18 : BitVec 32 := Scalar.addi v17 c2048_i32_5
  let c1_i32_6 : BitVec 32 := 1#32
  let v19 : BitVec 32 := Scalar.subi v18 c1_i32_6
  let c0_i32_8 : BitVec 32 := 0#32
  let v21 : BitVec 1 := Scalar.cmpi .sgt v19 c0_i32_8
  let v22 : BitVec 32 := Scalar.extui v21
  let c0_i32_9 : BitVec 32 := 0#32
  let v23 : BitVec 1 := Scalar.cmpi .slt v19 c0_i32_9
  let v24 : BitVec 32 := Scalar.extui v23
  let v25 : BitVec 32 := Scalar.subi v22 v24
  let c512_i32_7 : BitVec 32 := 512#32
  let c0_i32_10 : BitVec 32 := 0#32
  let v26 : BitVec 1 := Scalar.cmpi .sgt c512_i32_7 c0_i32_10
  let v27 : BitVec 32 := Scalar.extui v26
  let c0_i32_11 : BitVec 32 := 0#32
  let v28 : BitVec 1 := Scalar.cmpi .slt c512_i32_7 c0_i32_11
  let v29 : BitVec 32 := Scalar.extui v28
  let v30 : BitVec 32 := Scalar.subi v27 v29
  let v31 : BitVec 1 := Scalar.cmpi .ne v25 v30
  let v32 : BitVec 32 := Scalar.remsi v19 c512_i32_7
  let c0_i32_12 : BitVec 32 := 0#32
  let v33 : BitVec 1 := Scalar.cmpi .ne v32 c0_i32_12
  let v34 : BitVec 1 := Scalar.andi v31 v33
  let v20 : BitVec 32 := Scalar.divsi v19 c512_i32_7
  let c1_i32_13 : BitVec 32 := 1#32
  let v35 : BitVec 32 := Scalar.subi v20 c1_i32_13
  let v36 : BitVec 32 := Scalar.select v34 v35 v20
  let v37 : BitVec 1 := Scalar.cmpi .eq v3 v36
  let v38 : BitVec 32 := Scalar.extui v37
  let c0_i32_14 : BitVec 32 := 0#32
  let v39 : BitVec 1 := Scalar.cmpi .ne v38 c0_i32_14
  v39

def cc0_transform_0 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S144) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S144) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardIdeal.lean ====
variable {F : FTy → Type} [FloatOps F] [Named F]
def κ : String → Option EReal := fun
  | "log2_e" => some (((Real.log 2)⁻¹ : ℝ) : EReal)
  | _ => none
-- ==== ForwardReferenceIdeal.lean ====
abbrev S8x16384x128 : Shape := ⟨3, ![8, 16384, 128]⟩
abbrev S8x16384x64 : Shape := ⟨3, ![8, 16384, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S8x16384x128, .f32⟩
  | .hbm, ⟨2, _⟩ => ⟨S8x16384x64, .f32⟩
  | .hbm, ⟨3, _⟩ => ⟨S16384, .i32⟩
  | .hbm, ⟨4, _⟩ => ⟨S1x16384, .i32⟩
  | .hbm, ⟨5, _⟩ => ⟨S16384x1, .i32⟩
  | .hbm, ⟨6, _⟩ => ⟨S16384x16384, .i32⟩
  | .hbm, ⟨7, _⟩ => ⟨S16384x16384, .i32⟩
  | .hbm, ⟨8, _⟩ => ⟨S16384x16384, .i1⟩
  | .hbm, ⟨9, _⟩ => ⟨S8x16384x16384, .f32⟩
  | .hbm, ⟨10, _⟩ => ⟨S_, .f32⟩
  | .hbm, ⟨11, _⟩ => ⟨S8x16384x16384, .f32⟩
  | .hbm, ⟨12, _⟩ => ⟨S8x16384x16384, .f32⟩
  | .hbm, ⟨13, _⟩ => ⟨S_, .f32⟩
  | .hbm, ⟨14, _⟩ => ⟨S_, .f32⟩
  | .hbm, ⟨15, _⟩ => ⟨S8x16384x16384, .i1⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384, .f32⟩
  | .hbm, ⟨27, _⟩ => ⟨S8x16384, .f32⟩
  | .hbm, ⟨28, _⟩ => ⟨S_, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S_, .f32⟩
  | .hbm, ⟨35, _⟩ => ⟨S8x16384, .f32⟩
  | .hbm, ⟨36, _⟩ => ⟨S8x16384, .f32⟩
  | .hbm, ⟨37, _⟩ => ⟨S8x16384x1, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S_, .f32⟩
  | .hbm, ⟨42, _⟩ => ⟨S8x16384, .f32⟩
  | .hbm, ⟨43, _⟩ => ⟨S8x16384x1, .f32⟩
  | .hbm, ⟨44, _⟩ => ⟨S8x16384x16384, .f32⟩
  | .hbm, ⟨45, _⟩ => ⟨S8x16384x16384, .f32⟩
  | .hbm, ⟨46, _⟩ => ⟨S8x16384x64, .f32⟩
  | .hbm, ⟨47, _⟩ => ⟨S8x16384x1, .f32⟩
  | .hbm, ⟨48, _⟩ => ⟨S8x16384x128, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Blend.lean ====
abbrev S16384x4096 : Shape := ⟨2, ![16384, 4096]⟩
abbrev S16384x1024 : Shape := ⟨2, ![16384, 1024]⟩
abbrev S128x4096 : Shape := ⟨2, ![128, 4096]⟩
abbrev S128x1024 : Shape := ⟨2, ![128, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .local _ .vmem, ⟨0, _⟩ => ⟨S128x4096, .f32⟩
  | .local _ .vmem, ⟨1, _⟩ => ⟨S128x4096, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BlendReferenceIdeal.lean ====
abbrev S16384x4096 : Shape := ⟨2, ![16384, 4096]⟩
abbrev S16384x1024 : Shape := ⟨2, ![16384, 1024]⟩
abbrev S_ : Shape := ⟨0, ![]⟩
abbrev S16384x4x1024 : Shape := ⟨3, ![16384, 4, 1024]⟩
abbrev S16384x1x1024 : Shape := ⟨3, ![16384, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4x1024, .f32⟩
  | .hbm, ⟨14, _⟩ => ⟨S16384x1x1024, .f32⟩
  | .hbm, ⟨15, _⟩ => ⟨S16384x1024, .f32⟩
  | .hbm, ⟨16, _⟩ => ⟨S16384x1024, .f32⟩
  | .hbm, ⟨17, _⟩ => ⟨S16384x1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Down.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2816, .bf16⟩
  | .hbm, ⟨2, _⟩ => ⟨S16384x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S16384x1024 : Shape := ⟨2, ![16384, 1024]⟩
abbrev S1024x2816 : Shape := ⟨2, ![1024, 2816]⟩
abbrev S16384x2816 : Shape := ⟨2, ![16384, 2816]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .bf16⟩
  | .hbm, ⟨2, _⟩ => ⟨S1024x2816, .f32⟩
  | .hbm, ⟨3, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proj.lean ====
abbrev S16384x1024 : Shape := ⟨2, ![16384, 1024]⟩
abbrev S1024x3584 : Shape := ⟨2, ![1024, 3584]⟩
abbrev S3584 : Shape := ⟨1, ![3584]⟩
abbrev S1x3584 : Shape := ⟨2, ![1, 3584]⟩
abbrev S16384x3584 : Shape := ⟨2, ![16384, 3584]⟩
abbrev S1024x1024 : Shape := ⟨2, ![1024, 1024]⟩
abbrev S1024x896 : Shape := ⟨2, ![1024, 896]⟩
abbrev S1x896 : Shape := ⟨2, ![1, 896]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x3584, .bf16⟩
  | .hbm, ⟨2, _⟩ => ⟨S3584, .f32⟩
  | .hbm, ⟨3, _⟩ => ⟨S1x3584, .f32⟩
  | .hbm, ⟨4, _⟩ => ⟨S16384x3584, .f32⟩
  | .local _ .vmem, ⟨0, _⟩ => ⟨S1024x1024, .f32⟩
  | .local _ .vmem, ⟨1, _⟩ => ⟨S1024x1024, .f32⟩
  | .local _ .vmem, ⟨2, _⟩ => ⟨S1024x896, .bf16⟩
  | .local _ .vmem, ⟨3, _⟩ => ⟨S1024x896, .bf16⟩
  | .local _ .vmem, ⟨4, _⟩ => ⟨S1x896, .f32⟩
  | .local _ .vmem, ⟨5, _⟩ => ⟨S1x896, .f32⟩
  | .local _ .vmem, ⟨6, _⟩ => ⟨S1024x896, .f32⟩
  | .local _ .vmem, ⟨7, _⟩ => ⟨S1024x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjReferenceIdeal.lean ====
abbrev S16384x1024 : Shape := ⟨2, ![16384, 1024]⟩
abbrev S1024x3584 : Shape := ⟨2, ![1024, 3584]⟩
abbrev S3584 : Shape := ⟨1, ![3584]⟩
abbrev S16384x3584 : Shape := ⟨2, ![16384, 3584]⟩
abbrev S1x3584 : Shape := ⟨2, ![1, 3584]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3584, .bf16⟩
  | .hbm, ⟨2, _⟩ => ⟨S3584, .f32⟩
  | .hbm, ⟨3, _⟩ => ⟨S1024x3584, .f32⟩
  | .hbm, ⟨4, _⟩ => ⟨S16384x3584, .f32⟩
  | .hbm, ⟨5, _⟩ => ⟨S1x3584, .f32⟩
  | .hbm, ⟨6, _⟩ => ⟨S16384x3584, .f32⟩
  | .hbm, ⟨7, _⟩ => ⟨S16384x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gates.lean ====
abbrev S16384x1024 : Shape := ⟨2, ![16384, 1024]⟩
abbrev S1024x4096 : Shape := ⟨2, ![1024, 4096]⟩
abbrev S4096 : Shape := ⟨1, ![4096]⟩
abbrev S1x4096 : Shape := ⟨2, ![1, 4096]⟩
abbrev S16384x4096 : Shape := ⟨2, ![16384, 4096]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .bf16⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesReferenceIdeal.lean ====
abbrev S16384x1024 : Shape := ⟨2, ![16384, 1024]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .bf16⟩
  | .hbm, ⟨2, _⟩ => ⟨S4096, .f32⟩
  | .hbm, ⟨3, _⟩ => ⟨S1024x4096, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDx.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxReferenceIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S_, .f32⟩
  | .hbm, ⟨3, _⟩ => ⟨S16384x512, .f32⟩
  | .hbm, ⟨4, _⟩ => ⟨S512x1024, .f32⟩
  | .hbm, ⟨5, _⟩ => ⟨S16384x1024, .f32⟩
  | .hbm, ⟨6, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ODx.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODxReferenceIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Branch.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S512x1024, .f32⟩
  | .hbm, ⟨3, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== O.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OReferenceIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Merge.Value.lean ====
/- The gradient of the gated merge: what the kernel leaves in each result array, index by index. -/
module

public import proofs.«01_k».proof.Proof.Gen.MergeIdeal.Frame
public import proofs.«01_k».proof.Proof.Gen.MergeIdeal.Value
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.MergeIdeal.Closed

open Cert.MergeIdeal Cert.MergeIdeal.Gen

variable (m : (ℓ : Loc nD τ sig) → Buf (Elt Ideal) ℓ)

/-- The gradient of branch `b`: the branch's gate times the merged array's gradient. -/
def DY (b : Fin 4) (X0 : FVec Ideal S16384x4096 .f32) (X5 : FVec Ideal S16384x1024 .f32) : FVec Ideal S16384x1024 .f32 :=
  fun i => Ideal.logistic (X0 (ix2 (i 0) (⟨b.val * 1024 + (i 1).val, by have := (i 1).isLt; have : (i 1).val < 1024 := this; omega⟩ : Fin 4096))) * X5 i

/-- The gradient of the gates on the columns of branch `b`, whose values are `Y`. -/
def DG (b : Fin 4) (X0 : FVec Ideal S16384x4096 .f32) (Y X5 : FVec Ideal S16384x1024 .f32) (i : S16384x1024.Idx) : EReal :=
  X5 i * Y i * Ideal.logistic (X0 (ix2 (i 0) (⟨b.val * 1024 + (i 1).val, by have := (i 1).isLt; have : (i 1).val < 1024 := this; omega⟩ : Fin 4096)))
    * (1 - Ideal.logistic (X0 (ix2 (i 0) (⟨b.val * 1024 + (i 1).val, by have := (i 1).isLt; have : (i 1).val < 1024 := this; omega⟩ : Fin 4096))))

/-- Every window's block index at point `t`: row block `t`, all columns. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem r00_emb (x : S128x1024.Idx) : r0_0.emb x = x := by
  funext a
  match a with
  | ⟨0, _⟩ => exact Fin.ext (by show 0 + 1 * (x 0).val = (x 0).val; omega)
  | ⟨1, _⟩ => exact Fin.ext (by show 0 + 1 * (x 1).val = (x 1).val; omega)

theorem read0 (c : Dev nD) (t : Fin cfg0.N) (x : S128x4096.Idx) :
    iblk m c 0 t x = m ((c : Thread nD τ).loc main_arg0) (ix2 (⟨t.val * 128 + (x 0).val, by
      have h0 : (x 0).val < 128 := (x 0).isLt; have h1 : t.val < 128 := t.isLt; omega⟩ : Fin 16384) (⟨(x 1).val, (x 1).isLt⟩ : Fin 4096)) := by
  blk_ext [iblk, V, idx t]

theorem read1 (c : Dev nD) (t : Fin cfg0.N) (x : S128x1024.Idx) :
    iblk m c 1 t x = m ((c : Thread nD τ).loc main_arg1) (ix2 (⟨t.val * 128 + (x 0).val, by
      have h0 : (x 0).val < 128 := (x 0).isLt; have h1 : t.val < 128 := t.isLt; omega⟩ : Fin 16384) (⟨(x 1).val, (x 1).isLt⟩ : Fin 1024)) := by
  blk_ext [iblk, V, idx t]

theorem read2 (c : Dev nD) (t : Fin cfg0.N) (x : S128x1024.Idx) :
    iblk m c 2 t x = m ((c : Thread nD τ).loc main_arg2) (ix2 (⟨t.val * 128 + (x 0).val, by
      have h0 : (x 0).val < 128 := (x 0).isLt; have h1 : t.val < 128 := t.isLt; omega⟩ : Fin 16384) (⟨(x 1).val, (x 1).isLt⟩ : Fin 1024)) := by
  blk_ext [iblk, V, idx t]

theorem read3 (c : Dev nD) (t : Fin cfg0.N) (x : S128x1024.Idx) :
    iblk m c 3 t x = m ((c : Thread nD τ).loc main_arg3) (ix2 (⟨t.val * 128 + (x 0).val, by
      have h0 : (x 0).val < 128 := (x 0).isLt; have h1 : t.val < 128 := t.isLt; omega⟩ : Fin 16384) (⟨(x 1).val, (x 1).isLt⟩ : Fin 1024)) := by
  blk_ext [iblk, V, idx t]

theorem read4 (c : Dev nD) (t : Fin cfg0.N) (x : S128x1024.Idx) :
    iblk m c 4 t x = m ((c : Thread nD τ).loc main_arg4) (ix2 (⟨t.val * 128 + (x 0).val, by
      have h0 : (x 0).val < 128 := (x 0).isLt; have h1 : t.val < 128 := t.isLt; omega⟩ : Fin 16384) (⟨(x 1).val, (x 1).isLt⟩ : Fin 1024)) := by
  blk_ext [iblk, V, idx t]

theorem read5 (c : Dev nD) (t : Fin cfg0.N) (x : S128x1024.Idx) :
    iblk m c 5 t x = m ((c : Thread nD τ).loc main_arg5) (ix2 (⟨t.val * 128 + (x 0).val, by
      have h0 : (x 0).val < 128 := (x 0).isLt; have h1 : t.val < 128 := t.isLt; omega⟩ : Fin 16384) (⟨(x 1).val, (x 1).isLt⟩ : Fin 1024)) := by
  blk_ext [iblk, V, idx t]

theorem emb6 (t : Fin cfg0.N) (y : S128x4096.Idx) :
    ((View.whole main_v0_0).slice (win0_6.rect t)).emb y = ix2 (⟨t.val * 128 + (y 0).val, by
      have h0 : (y 0).val < 128 := (y 0).isLt; have h1 : t.val < 128 := t.isLt; omega⟩ : Fin 16384) (⟨(y 1).val, (y 1).isLt⟩ : Fin 4096) := by
  blk_ext [idx t]

theorem emb7 (t : Fin cfg0.N) (y : S128x1024.Idx) :
    ((View.whole main_v0_1).slice (win0_7.rect t)).emb y = ix2 (⟨t.val * 128 + (y 0).val, by
      have h0 : (y 0).val < 128 := (y 0).isLt; have h1 : t.val < 128 := t.isLt; omega⟩ : Fin 16384) (⟨(y 1).val, (y 1).isLt⟩ : Fin 1024) := by
  blk_ext [idx t]

theorem emb8 (t : Fin cfg0.N) (y : S128x1024.Idx) :
    ((View.whole main_v0_2).slice (win0_8.rect t)).emb y = ix2 (⟨t.val * 128 + (y 0).val, by
      have h0 : (y 0).val < 128 := (y 0).isLt; have h1 : t.val < 128 := t.isLt; omega⟩ : Fin 16384) (⟨(y 1).val, (y 1).isLt⟩ : Fin 1024) := by
  blk_ext [idx t]

theorem emb9 (t : Fin cfg0.N) (y : S128x1024.Idx) :
    ((View.whole main_v0_3).slice (win0_9.rect t)).emb y = ix2 (⟨t.val * 128 + (y 0).val, by
      have h0 : (y 0).val < 128 := (y 0).isLt; have h1 : t.val < 128 := t.isLt; omega⟩ : Fin 16384) (⟨(y 1).val, (y 1).isLt⟩ : Fin 1024) := by
  blk_ext [idx t]

theorem emb10 (t : Fin cfg0.N) (y : S128x1024.Idx) :
    ((View.whole main_v0_4).slice (win0_10.rect t)).emb y = ix2 (⟨t.val * 128 + (y 0).val, by
      have h0 : (y 0).val < 128 := (y 0).isLt; have h1 : t.val < 128 := t.isLt; omega⟩ : Fin 16384) (⟨(y 1).val, (y 1).isLt⟩ : Fin 1024) := by
  blk_ext [idx t]

theorem final7 (c : Dev nD) : (dats m 0 c).arrAt 7 (cfgs 0).N
    = DY 0 (m ((c : Thread nD τ).loc main_arg0)) (m ((c : Thread nD τ).loc main_arg5)) := by
  refine (dats m 0 c).arrAt_eq_of_covers 7 _ (by decide +kernel) fun t _ y => ?_
  blk_simp
  rw [after0_7]; frame_out
  show Ideal.logistic (iblk m c 0 t (r0_1.emb y)) * iblk m c 5 t y = _
  rw [read0, read5, emb7]
  refine congrArg₂ (· * ·) (congrArg (fun i => Ideal.logistic (m ((c : Thread nD τ).loc main_arg0) i)) ?_) rfl
  refine congrArg₂ ix2 (Fin.ext ?_) (Fin.ext ?_)
  · show t.val * 128 + (0 + 1 * (y 0).val) = t.val * 128 + (y 0).val
    omega
  · show 0 + 1 * (y 1).val = 0 * 1024 + (y 1).val
    omega

theorem final8 (c : Dev nD) : (dats m 0 c).arrAt 8 (cfgs 0).N
    = DY 1 (m ((c : Thread nD τ).loc main_arg0)) (m ((c : Thread nD τ).loc main_arg5)) := by
  refine (dats m 0 c).arrAt_eq_of_covers 8 _ (by decide +kernel) fun t _ y => ?_
  blk_simp
  rw [after0_8]; frame_out
  show Ideal.logistic (iblk m c 0 t (r0_2.emb y)) * iblk m c 5 t y = _
  rw [read0, read5, emb8]
  refine congrArg₂ (· * ·) (congrArg (fun i => Ideal.logistic (m ((c : Thread nD τ).loc main_arg0) i)) ?_) rfl
  refine congrArg₂ ix2 (Fin.ext ?_) (Fin.ext ?_)
  · show t.val * 128 + (0 + 1 * (y 0).val) = t.val * 128 + (y 0).val
    omega
  · show 1024 + 1 * (y 1).val = 1 * 1024 + (y 1).val
    omega

theorem final9 (c : Dev nD) : (dats m 0 c).arrAt 9 (cfgs 0).N
    = DY 2 (m ((c : Thread nD τ).loc main_arg0)) (m ((c : Thread nD τ).loc main_arg5)) := by
  refine (dats m 0 c).arrAt_eq_of_covers 9 _ (by decide +kernel) fun t _ y => ?_
  blk_simp
  rw [after0_9]; frame_out
  show Ideal.logistic (iblk m c 0 t (r0_3.emb y)) * iblk m c 5 t y = _
  rw [read0, read5, emb9]
  refine congrArg₂ (· * ·) (congrArg (fun i => Ideal.logistic (m ((c : Thread nD τ).loc main_arg0) i)) ?_) rfl
  refine congrArg₂ ix2 (Fin.ext ?_) (Fin.ext ?_)
  · show t.val * 128 + (0 + 1 * (y 0).val) = t.val * 128 + (y 0).val
    omega
  · show 2048 + 1 * (y 1).val = 2 * 1024 + (y 1).val
    omega

theorem final10 (c : Dev nD) : (dats m 0 c).arrAt 10 (cfgs 0).N
    = DY 3 (m ((c : Thread nD τ).loc main_arg0)) (m ((c : Thread nD τ).loc main_arg5)) := by
  refine (dats m 0 c).arrAt_eq_of_covers 10 _ (by decide +kernel) fun t _ y => ?_
  blk_simp
  rw [after0_10]; frame_out
  show Ideal.logistic (iblk m c 0 t (r0_4.emb y)) * iblk m c 5 t y = _
  rw [read0, read5, emb10]
  refine congrArg₂ (· * ·) (congrArg (fun i => Ideal.logistic (m ((c : Thread nD τ).loc main_arg0) i)) ?_) rfl
  refine congrArg₂ ix2 (Fin.ext ?_) (Fin.ext ?_)
  · show t.val * 128 + (0 + 1 * (y 0).val) = t.val * 128 + (y 0).val
    omega
  · show 3072 + 1 * (y 1).val = 3 * 1024 + (y 1).val
    omega

/-- The gradient of the gates at an index: the branch is the column's thousand-and-twenty-four. -/
def GG (X0 : FVec Ideal S16384x4096 .f32) (Y0 Y1 Y2 Y3 X5 : FVec Ideal S16384x1024 .f32) : FVec Ideal S16384x4096 .f32 :=
  fun i =>
    let k : S16384x1024.Idx := ix2 (i 0) (⟨(i 1).val % 1024, Nat.mod_lt _ (by decide)⟩ : Fin 1024)
    let y : EReal := if (i 1).val / 1024 = 0 then Y0 k else if (i 1).val / 1024 = 1 then Y1 k else if (i 1).val / 1024 = 2 then Y2 k else Y3 k
    X5 k * y * Ideal.logistic (X0 i) * (1 - Ideal.logistic (X0 i))

theorem GG_at (b : Nat) (hb : b < 4) (X0 : FVec Ideal S16384x4096 .f32) (Y0 Y1 Y2 Y3 X5 : FVec Ideal S16384x1024 .f32)
    (i : S16384x4096.Idx) (k : S16384x1024.Idx) (h0 : (k 0).val = (i 0).val) (h1 : (i 1).val = b * 1024 + (k 1).val) :
    GG X0 Y0 Y1 Y2 Y3 X5 i = X5 k * (if b = 0 then Y0 k else if b = 1 then Y1 k else if b = 2 then Y2 k else Y3 k)
      * Ideal.logistic (X0 i) * (1 - Ideal.logistic (X0 i)) := by
  have hk : (k 1).val < 1024 := (k 1).isLt
  have e : (ix2 (i 0) (⟨(i 1).val % 1024, Nat.mod_lt _ (by decide)⟩ : Fin 1024) : S16384x1024.Idx) = k := by
    funext a
    match a with
    | ⟨0, _⟩ => exact Fin.ext h0.symm
    | ⟨1, _⟩ => exact Fin.ext (by show (i 1).val % 1024 = (k 1).val; omega)
  have hq : (i 1).val / 1024 = b := by omega
  unfold GG
  simp only [e, hq]

theorem final6 (c : Dev nD) : (dats m 0 c).arrAt 6 (cfgs 0).N
    = GG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, emb6]
  unfold out0_6
  refine View.canon_apply_of_pieces (Val := Elt Ideal) (fun z : S128x4096.Idx => GG (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (ix2 (⟨t.val * 128 + (z 0).val, by
      have h0 : (z 0).val < 128 := (z 0).isLt; have h1 : t.val < 128 := t.isLt; omega⟩ : Fin 16384) (⟨(z 1).val, (z 1).isLt⟩ : Fin 4096)))
    _ ?_ y (cover0_6 _ _ _ _ y)
  intro p hp
  simp only [List.mem_cons, List.not_mem_nil, or_false] at hp
  rcases hp with rfl | rfl | rfl | rfl
  · intro x
    refine Eq.trans ?_ (GG_at 3 (by decide) _ _ _ _ _ _ _ (ix2 (⟨t.val * 128 + (x 0).val, by
      have h0 : (x 0).val < 128 := (x 0).isLt; have h1 : t.val < 128 := t.isLt; omega⟩ : Fin 16384) (⟨(x 1).val, (x 1).isLt⟩ : Fin 1024))
      ?_ ?_).symm
    · show @HMul.hMul EReal EReal EReal _ (iblk m c 5 t (r0_0.emb x)) (iblk m c 4 t (r0_0.emb x)) * Ideal.logistic (iblk m c 0 t (r0_4.emb x))
        * (Ideal.ofBits .f32 0x3F800000#32 - Ideal.logistic (iblk m c 0 t (r0_4.emb x))) = _
      rw [r00_emb, Ideal.ofBits_one_f32, read0, read5, read4]
      rfl
    · show t.val * 128 + (x 0).val = t.val * 128 + (0 + 1 * (x 0).val)
      omega
    · show 3072 + 1 * (x 1).val = 3 * 1024 + (x 1).val
      omega
  · intro x
    refine Eq.trans ?_ (GG_at 2 (by decide) _ _ _ _ _ _ _ (ix2 (⟨t.val * 128 + (x 0).val, by
      have h0 : (x 0).val < 128 := (x 0).isLt; have h1 : t.val < 128 := t.isLt; omega⟩ : Fin 16384) (⟨(x 1).val, (x 1).isLt⟩ : Fin 1024))
      ?_ ?_).symm
    · show @HMul.hMul EReal EReal EReal _ (iblk m c 5 t (r0_0.emb x)) (iblk m c 3 t (r0_0.emb x)) * Ideal.logistic (iblk m c 0 t (r0_3.emb x))
        * (Ideal.ofBits .f32 0x3F800000#32 - Ideal.logistic (iblk m c 0 t (r0_3.emb x))) = _
      rw [r00_emb, Ideal.ofBits_one_f32, read0, read5, read3]
      rfl
    · show t.val * 128 + (x 0).val = t.val * 128 + (0 + 1 * (x 0).val)
      omega
    · show 2048 + 1 * (x 1).val = 2 * 1024 + (x 1).val
      omega
  · intro x
    refine Eq.trans ?_ (GG_at 1 (by decide) _ _ _ _ _ _ _ (ix2 (⟨t.val * 128 + (x 0).val, by
      have h0 : (x 0).val < 128 := (x 0).isLt; have h1 : t.val < 128 := t.isLt; omega⟩ : Fin 16384) (⟨(x 1).val, (x 1).isLt⟩ : Fin 1024))
      ?_ ?_).symm
    · show @HMul.hMul EReal EReal EReal _ (iblk m c 5 t (r0_0.emb x)) (iblk m c 2 t (r0_0.emb x)) * Ideal.logistic (iblk m c 0 t (r0_2.emb x))
        * (Ideal.ofBits .f32 0x3F800000#32 - Ideal.logistic (iblk m c 0 t (r0_2.emb x))) = _
      rw [r00_emb, Ideal.ofBits_one_f32, read0, read5, read2]
      rfl
    · show t.val * 128 + (x 0).val = t.val * 128 + (0 + 1 * (x 0).val)
      omega
    · show 1024 + 1 * (x 1).val = 1 * 1024 + (x 1).val
      omega
  · intro x
    refine Eq.trans ?_ (GG_at 0 (by decide) _ _ _ _ _ _ _ (ix2 (⟨t.val * 128 + (x 0).val, by
      have h0 : (x 0).val < 128 := (x 0).isLt; have h1 : t.val < 128 := t.isLt; omega⟩ : Fin 16384) (⟨(x 1).val, (x 1).isLt⟩ : Fin 1024))
      ?_ ?_).symm
    · show @HMul.hMul EReal EReal EReal _ (iblk m c 5 t (r0_0.emb x)) (iblk m c 1 t (r0_0.emb x)) * Ideal.logistic (iblk m c 0 t (r0_1.emb x))
        * (Ideal.ofBits .f32 0x3F800000#32 - Ideal.logistic (iblk m c 0 t (r0_1.emb x))) = _
      rw [r00_emb, Ideal.ofBits_one_f32, read0, read5, read1]
      rfl
    · show t.val * 128 + (x 0).val = t.val * 128 + (0 + 1 * (x 0).val)
      omega
    · show 0 + 1 * (x 1).val = 0 * 1024 + (x 1).val
      omega

end Cert.MergeIdeal.Closed

end
-- ==== Proof.Merge.Reference.lean ====
/- The gradient of the gated merge: what the reference computes, index by index. -/
module

public import proofs.«01_k».proof.Proof.Merge.Value
public import proofs.«01_k».proof.Proof.Gen.MergeReferenceIdeal.Read
public import Idealize.ShloMosaic.Lib.KernelVsHost

@[expose] public section

set_option maxRecDepth 16384

noncomputable section

open Idealize.ShloMosaic Idealize.ShloMosaic.TcCoe Idealize.SL.Sem

namespace Cert.MergeReferenceIdeal.Closed

open Cert.MergeReferenceIdeal Cert.MergeReferenceIdeal.Gen Cert.MergeReferenceIdeal.Read
open Cert.MergeIdeal.Closed (DY GG GG_at)

/-- The reference's gate, spelled out with an exponential, is the logistic function. -/
theorem gate_apply (X0 : FVec Ideal S16384x4096 .f32) (i : S16384x4096.Idx) :
    val_main_v5 (F := Ideal) X0 i = Ideal.logistic (X0 i) := by
  rw [val_main_v5_apply, val_main_v4_apply, val_main_v3_apply, val_main_v2_apply, val_main_v1_apply, val_main_v0_apply]
  show Ideal.div (Ideal.ofBits .f32 0x3F800000#32) (Ideal.ofBits .f32 0x3F800000#32 + Ideal.exp (-(X0 i))) = _
  rw [Ideal.ofBits_one_f32]
  rfl

theorem dy0 (X0 : FVec Ideal S16384x4096 .f32) (X5 : FVec Ideal S16384x1024 .f32) :
    val_main_v41 (F := Ideal) X0 X5 = DY 0 X0 X5 := by
  funext i
  have h0 : (i 0).val < 16384 := (i 0).isLt
  have h1 : (i 1).val < 1024 := (i 1).isLt
  rw [val_main_v41_apply, val_main_v11_apply, val_main_v10_apply, val_main_v9_apply, gate_apply, val_main_v25_apply]
  refine congrArg₂ (· * ·) (congrArg (fun k => Ideal.logistic (X0 k)) ?_) (congrArg X5 ?_)
  · funext a
    match a with
    | ⟨0, _⟩ => exact Fin.ext (by show ((((i 0).val * 1024 + (i 1).val) / 1024 * 4 + 0) * 1024 + ((i 0).val * 1024 + (i 1).val) % 1024) / 4096 = (i 0).val; omega)
    | ⟨1, _⟩ => exact Fin.ext (by show ((((i 0).val * 1024 + (i 1).val) / 1024 * 4 + 0) * 1024 + ((i 0).val * 1024 + (i 1).val) % 1024) % 4096 = 0 * 1024 + (i 1).val; omega)
  · funext a
    match a with
    | ⟨0, _⟩ => exact Fin.ext (by show ((i 0).val * 1024 + (i 1).val) / 1024 = (i 0).val; omega)
    | ⟨1, _⟩ => exact Fin.ext (by show ((i 0).val * 1024 + (i 1).val) % 1024 = (i 1).val; omega)

theorem dy1 (X0 : FVec Ideal S16384x4096 .f32) (X5 : FVec Ideal S16384x1024 .f32) :
    val_main_v36 (F := Ideal) X0 X5 = DY 1 X0 X5 := by
  funext i
  have h0 : (i 0).val < 16384 := (i 0).isLt
  have h1 : (i 1).val < 1024 := (i 1).isLt
  rw [val_main_v36_apply, val_main_v14_apply, val_main_v13_apply, val_main_v9_apply, gate_apply, val_main_v25_apply]
  refine congrArg₂ (· * ·) (congrArg (fun k => Ideal.logistic (X0 k)) ?_) (congrArg X5 ?_)
  · funext a
    match a with
    | ⟨0, _⟩ => exact Fin.ext (by show ((((i 0).val * 1024 + (i 1).val) / 1024 * 4 + (1 + 0)) * 1024 + ((i 0).val * 1024 + (i 1).val) % 1024) / 4096 = (i 0).val; omega)
    | ⟨1, _⟩ => exact Fin.ext (by show ((((i 0).val * 1024 + (i 1).val) / 1024 * 4 + (1 + 0)) * 1024 + ((i 0).val * 1024 + (i 1).val) % 1024) % 4096 = 1 * 1024 + (i 1).val; omega)
  · funext a
    match a with
    | ⟨0, _⟩ => exact Fin.ext (by show ((i 0).val * 1024 + (i 1).val) / 1024 = (i 0).val; omega)
    | ⟨1, _⟩ => exact Fin.ext (by show ((i 0).val * 1024 + (i 1).val) % 1024 = (i 1).val; omega)

theorem dy2 (X0 : FVec Ideal S16384x4096 .f32) (X5 : FVec Ideal S16384x1024 .f32) :
    val_main_v31 (F := Ideal) X0 X5 = DY 2 X0 X5 := by
  funext i
  have h0 : (i 0).val < 16384 := (i 0).isLt
  have h1 : (i 1).val < 1024 := (i 1).isLt
  rw [val_main_v31_apply, val_main_v18_apply, val_main_v17_apply, val_main_v9_apply, gate_apply, val_main_v25_apply]
  refine congrArg₂ (· * ·) (congrArg (fun k => Ideal.logistic (X0 k)) ?_) (congrArg X5 ?_)
  · funext a
    match a with
    | ⟨0, _⟩ => exact Fin.ext (by show ((((i 0).val * 1024 + (i 1).val) / 1024 * 4 + (2 + 0)) * 1024 + ((i 0).val * 1024 + (i 1).val) % 1024) / 4096 = (i 0).val; omega)
    | ⟨1, _⟩ => exact Fin.ext (by show ((((i 0).val * 1024 + (i 1).val) / 1024 * 4 + (2 + 0)) * 1024 + ((i 0).val * 1024 + (i 1).val) % 1024) % 4096 = 2 * 1024 + (i 1).val; omega)
  · funext a
    match a with
    | ⟨0, _⟩ => exact Fin.ext (by show ((i 0).val * 1024 + (i 1).val) / 1024 = (i 0).val; omega)
    | ⟨1, _⟩ => exact Fin.ext (by show ((i 0).val * 1024 + (i 1).val) % 1024 = (i 1).val; omega)

theorem dy3 (X0 : FVec Ideal S16384x4096 .f32) (X5 : FVec Ideal S16384x1024 .f32) :
    val_main_v27 (F := Ideal) X0 X5 = DY 3 X0 X5 := by
  funext i
  have h0 : (i 0).val < 16384 := (i 0).isLt
  have h1 : (i 1).val < 1024 := (i 1).isLt
  rw [val_main_v27_apply, val_main_v22_apply, val_main_v21_apply, val_main_v9_apply, gate_apply, val_main_v26_apply]
  refine congrArg₂ (· * ·) (congrArg (fun k => Ideal.logistic (X0 k)) ?_) (congrArg X5 ?_)
  · funext a
    match a with
    | ⟨0, _⟩ => exact Fin.ext (by show ((((i 0).val * 1024 + (i 1).val) / 1024 * 4 + (3 + 0)) * 1024 + ((i 0).val * 1024 + (i 1).val) % 1024) / 4096 = (i 0).val; omega)
    | ⟨1, _⟩ => exact Fin.ext (by show ((((i 0).val * 1024 + (i 1).val) / 1024 * 4 + (3 + 0)) * 1024 + ((i 0).val * 1024 + (i 1).val) % 1024) % 4096 = 3 * 1024 + (i 1).val; omega)
  · funext a
    match a with
    | ⟨0, _⟩ => exact Fin.ext (by show ((i 0).val * 1024 + (i 1).val) / 1024 = (i 0).val; omega)
    | ⟨1, _⟩ => exact Fin.ext (by show ((i 0).val * 1024 + (i 1).val) % 1024 = (i 1).val; omega)

/-- The padded product of branch 0: the product on that branch, zero on the others. -/
theorem pad0 (Y X5 : FVec Ideal S16384x1024 .f32) (j : S16384x4x1024.Idx) :
    val_main_v44 (F := Ideal) Y X5 j = if (j 1).val = 0 then X5 (ix2 (⟨(j 0).val, (j 0).isLt⟩ : Fin 16384) (⟨(j 2).val, (j 2).isLt⟩ : Fin 1024)) * Y (ix2 (⟨(j 0).val, (j 0).isLt⟩ : Fin 16384) (⟨(j 2).val, (j 2).isLt⟩ : Fin 1024)) else 0 := by
  have h0 : (j 0).val < 16384 := (j 0).isLt
  have h1 : (j 1).val < 4 := (j 1).isLt
  have h2 : (j 2).val < 1024 := (j 2).isLt
  unfold val_main_v44
  by_cases h : (j 1).val = 0
  · rw [if_pos h]
    refine (pad_apply_of_inside ![0, 0, 0] ![0, 3, 0] ![0, 0, 0] _ _ _ _ j
      (ix3 (⟨(j 0).val, (j 0).isLt⟩ : Fin 16384) (0 : Fin 1) (⟨(j 2).val, (j 2).isLt⟩ : Fin 1024)) (fun a => by
      match a with
      | ⟨0, _⟩ => show (j 0).val = 0 + (j 0).val * (0 + 1); omega
      | ⟨1, _⟩ => show (j 1).val = 0 + 0 * (0 + 1); omega
      | ⟨2, _⟩ => show (j 2).val = 0 + (j 2).val * (0 + 1); omega)).trans ?_
    rw [val_main_v43_apply, val_main_v42_apply, val_main_v25_apply]
    refine congrArg₂ (· * ·) (congrArg X5 ?_) (congrArg Y ?_)
    · funext a
      match a with
      | ⟨0, _⟩ => exact Fin.ext (by show ((j 0).val * 1024 + (j 2).val) / 1024 = (j 0).val; omega)
      | ⟨1, _⟩ => exact Fin.ext (by show ((j 0).val * 1024 + (j 2).val) % 1024 = (j 2).val; omega)
    · funext a
      match a with
      | ⟨0, _⟩ => rfl
      | ⟨1, _⟩ => rfl
  · rw [if_neg h]
    refine (pad_apply_of_not_inside (s := S16384x1x1024) ![0, 0, 0] ![0, 3, 0] ![0, 0, 0] _ _ _ _ j (1 : Fin 3) (fun hin => by
      have e1 : 0 ≤ (j 1).val := hin.1
      have e2 : ((j 1).val - 0) / (0 + 1) < 1 := hin.2.2
      omega)).trans ?_
    exact Ideal.ofBits_zero_f32

/-- The padded product of branch 1: the product on that branch, zero on the others. -/
theorem pad1 (Y X5 : FVec Ideal S16384x1024 .f32) (j : S16384x4x1024.Idx) :
    val_main_v39 (F := Ideal) Y X5 j = if (j 1).val = 1 then X5 (ix2 (⟨(j 0).val, (j 0).isLt⟩ : Fin 16384) (⟨(j 2).val, (j 2).isLt⟩ : Fin 1024)) * Y (ix2 (⟨(j 0).val, (j 0).isLt⟩ : Fin 16384) (⟨(j 2).val, (j 2).isLt⟩ : Fin 1024)) else 0 := by
  have h0 : (j 0).val < 16384 := (j 0).isLt
  have h1 : (j 1).val < 4 := (j 1).isLt
  have h2 : (j 2).val < 1024 := (j 2).isLt
  unfold val_main_v39
  by_cases h : (j 1).val = 1
  · rw [if_pos h]
    refine (pad_apply_of_inside ![0, 1, 0] ![0, 2, 0] ![0, 0, 0] _ _ _ _ j
      (ix3 (⟨(j 0).val, (j 0).isLt⟩ : Fin 16384) (0 : Fin 1) (⟨(j 2).val, (j 2).isLt⟩ : Fin 1024)) (fun a => by
      match a with
      | ⟨0, _⟩ => show (j 0).val = 0 + (j 0).val * (0 + 1); omega
      | ⟨1, _⟩ => show (j 1).val = 1 + 0 * (0 + 1); omega
      | ⟨2, _⟩ => show (j 2).val = 0 + (j 2).val * (0 + 1); omega)).trans ?_
    rw [val_main_v38_apply, val_main_v37_apply, val_main_v25_apply]
    refine congrArg₂ (· * ·) (congrArg X5 ?_) (congrArg Y ?_)
    · funext a
      match a with
      | ⟨0, _⟩ => exact Fin.ext (by show ((j 0).val * 1024 + (j 2).val) / 1024 = (j 0).val; omega)
      | ⟨1, _⟩ => exact Fin.ext (by show ((j 0).val * 1024 + (j 2).val) % 1024 = (j 2).val; omega)
    · funext a
      match a with
      | ⟨0, _⟩ => rfl
      | ⟨1, _⟩ => rfl
  · rw [if_neg h]
    refine (pad_apply_of_not_inside (s := S16384x1x1024) ![0, 1, 0] ![0, 2, 0] ![0, 0, 0] _ _ _ _ j (1 : Fin 3) (fun hin => by
      have e1 : 1 ≤ (j 1).val := hin.1
      have e2 : ((j 1).val - 1) / (0 + 1) < 1 := hin.2.2
      omega)).trans ?_
    exact Ideal.ofBits_zero_f32

/-- The padded product of branch 2: the product on that branch, zero on the others. -/
theorem pad2 (Y X5 : FVec Ideal S16384x1024 .f32) (j : S16384x4x1024.Idx) :
    val_main_v34 (F := Ideal) Y X5 j = if (j 1).val = 2 then X5 (ix2 (⟨(j 0).val, (j 0).isLt⟩ : Fin 16384) (⟨(j 2).val, (j 2).isLt⟩ : Fin 1024)) * Y (ix2 (⟨(j 0).val, (j 0).isLt⟩ : Fin 16384) (⟨(j 2).val, (j 2).isLt⟩ : Fin 1024)) else 0 := by
  have h0 : (j 0).val < 16384 := (j 0).isLt
  have h1 : (j 1).val < 4 := (j 1).isLt
  have h2 : (j 2).val < 1024 := (j 2).isLt
  unfold val_main_v34
  by_cases h : (j 1).val = 2
  · rw [if_pos h]
    refine (pad_apply_of_inside ![0, 2, 0] ![0, 1, 0] ![0, 0, 0] _ _ _ _ j
      (ix3 (⟨(j 0).val, (j 0).isLt⟩ : Fin 16384) (0 : Fin 1) (⟨(j 2).val, (j 2).isLt⟩ : Fin 1024)) (fun a => by
      match a with
      | ⟨0, _⟩ => show (j 0).val = 0 + (j 0).val * (0 + 1); omega
      | ⟨1, _⟩ => show (j 1).val = 2 + 0 * (0 + 1); omega
      | ⟨2, _⟩ => show (j 2).val = 0 + (j 2).val * (0 + 1); omega)).trans ?_
    rw [val_main_v33_apply, val_main_v32_apply, val_main_v25_apply]
    refine congrArg₂ (· * ·) (congrArg X5 ?_) (congrArg Y ?_)
    · funext a
      match a with
      | ⟨0, _⟩ => exact Fin.ext (by show ((j 0).val * 1024 + (j 2).val) / 1024 = (j 0).val; omega)
      | ⟨1, _⟩ => exact Fin.ext (by show ((j 0).val * 1024 + (j 2).val) % 1024 = (j 2).val; omega)
    · funext a
      match a with
      | ⟨0, _⟩ => rfl
      | ⟨1, _⟩ => rfl
  · rw [if_neg h]
    refine (pad_apply_of_not_inside (s := S16384x1x1024) ![0, 2, 0] ![0, 1, 0] ![0, 0, 0] _ _ _ _ j (1 : Fin 3) (fun hin => by
      have e1 : 2 ≤ (j 1).val := hin.1
      have e2 : ((j 1).val - 2) / (0 + 1) < 1 := hin.2.2
      omega)).trans ?_
    exact Ideal.ofBits_zero_f32

/-- The padded product of branch 3: the product on that branch, zero on the others. -/
theorem pad3 (Y X5 : FVec Ideal S16384x1024 .f32) (j : S16384x4x1024.Idx) :
    val_main_v30 (F := Ideal) Y X5 j = if (j 1).val = 3 then X5 (ix2 (⟨(j 0).val, (j 0).isLt⟩ : Fin 16384) (⟨(j 2).val, (j 2).isLt⟩ : Fin 1024)) * Y (ix2 (⟨(j 0).val, (j 0).isLt⟩ : Fin 16384) (⟨(j 2).val, (j 2).isLt⟩ : Fin 1024)) else 0 := by
  have h0 : (j 0).val < 16384 := (j 0).isLt
  have h1 : (j 1).val < 4 := (j 1).isLt
  have h2 : (j 2).val < 1024 := (j 2).isLt
  unfold val_main_v30
  by_cases h : (j 1).val = 3
  · rw [if_pos h]
    refine (pad_apply_of_inside ![0, 3, 0] ![0, 0, 0] ![0, 0, 0] _ _ _ _ j
      (ix3 (⟨(j 0).val, (j 0).isLt⟩ : Fin 16384) (0 : Fin 1) (⟨(j 2).val, (j 2).isLt⟩ : Fin 1024)) (fun a => by
      match a with
      | ⟨0, _⟩ => show (j 0).val = 0 + (j 0).val * (0 + 1); omega
      | ⟨1, _⟩ => show (j 1).val = 3 + 0 * (0 + 1); omega
      | ⟨2, _⟩ => show (j 2).val = 0 + (j 2).val * (0 + 1); omega)).trans ?_
    rw [val_main_v29_apply, val_main_v28_apply, val_main_v26_apply]
    refine congrArg₂ (· * ·) (congrArg X5 ?_) (congrArg Y ?_)
    · funext a
      match a with
      | ⟨0, _⟩ => exact Fin.ext (by show ((j 0).val * 1024 + (j 2).val) / 1024 = (j 0).val; omega)
      | ⟨1, _⟩ => exact Fin.ext (by show ((j 0).val * 1024 + (j 2).val) % 1024 = (j 2).val; omega)
    · funext a
      match a with
      | ⟨0, _⟩ => rfl
      | ⟨1, _⟩ => rfl
  · rw [if_neg h]
    refine (pad_apply_of_not_inside (s := S16384x1x1024) ![0, 3, 0] ![0, 0, 0] ![0, 0, 0] _ _ _ _ j (1 : Fin 3) (fun hin => by
      have e1 : 3 ≤ (j 1).val := hin.1
      have e2 : ((j 1).val - 3) / (0 + 1) < 1 := hin.2.2
      omega)).trans ?_
    exact Ideal.ofBits_zero_f32

theorem dg (X0 : FVec Ideal S16384x4096 .f32) (Y0 Y1 Y2 Y3 X5 : FVec Ideal S16384x1024 .f32) :
    val_main_v47 (F := Ideal) X0 Y0 Y1 Y2 Y3 X5 = GG X0 Y0 Y1 Y2 Y3 X5 := by
  funext i
  have h0 : (i 0).val < 16384 := (i 0).isLt
  have h1 : (i 1).val < 4096 := (i 1).isLt
  obtain ⟨k, hk⟩ : ∃ k : S16384x1024.Idx, k = ix2 (⟨(i 0).val, h0⟩ : Fin 16384) (⟨(i 1).val % 1024, by omega⟩ : Fin 1024) := ⟨_, rfl⟩
  have k0 : (k 0).val = (i 0).val := by rw [hk]; rfl
  have k1 : (k 1).val = (i 1).val % 1024 := by rw [hk]; rfl
  rw [GG_at ((i 1).val / 1024) (by omega) X0 Y0 Y1 Y2 Y3 X5 i k k0 (by rw [k1]; omega)]
  have ek : (ix2 (⟨(idx_main_v46 i 0).val, (idx_main_v46 i 0).isLt⟩ : Fin 16384)
      (⟨(idx_main_v46 i 2).val, (idx_main_v46 i 2).isLt⟩ : Fin 1024) : S16384x1024.Idx) = k := by
    funext a
    match a with
    | ⟨0, _⟩ => exact Fin.ext (by show ((i 0).val * 4096 + (i 1).val) / 4096 = (k 0).val; omega)
    | ⟨1, _⟩ => exact Fin.ext (by show ((i 0).val * 4096 + (i 1).val) % 1024 = (k 1).val; omega)
  have eb : (idx_main_v46 i 1).val = (i 1).val / 1024 := by
    show ((i 0).val * 4096 + (i 1).val) / 1024 % 4 = (i 1).val / 1024
    omega
  rw [val_main_v47_apply, val_main_v46_apply, val_main_v45_apply, val_main_v40_apply, val_main_v35_apply, pad0, pad1, pad2, pad3,
    val_main_v8_apply, gate_apply, val_main_v7_apply, gate_apply, val_main_v6_apply, ek, eb]
  have hb4 : (i 1).val / 1024 < 4 := by omega
  generalize (i 1).val / 1024 = b at hb4
  show (((if b = 3 then X5 k * Y3 k else 0) + (if b = 2 then X5 k * Y2 k else 0) + (if b = 1 then X5 k * Y1 k else 0)
      + (if b = 0 then X5 k * Y0 k else 0) : EReal)) * (Ideal.logistic (X0 i) * (Ideal.ofBits .f32 0x3F800000#32 - Ideal.logistic (X0 i))) = _
  rw [Ideal.ofBits_one_f32]
  interval_cases b <;> simp [mul_assoc]

end Cert.MergeReferenceIdeal.Closed

end
-- ==== Proof.Merge.Claim.lean ====
/- The gradient of the gated merge: the frames and the value claim. -/
module

public import proofs.«01_k».proof.Defs
public import proofs.«01_k».proof.Proof.Gen.Merge.Frame
public import proofs.«01_k».proof.Proof.Merge.Value
public import proofs.«01_k».proof.Proof.Merge.Reference
public import proofs.«01_k».proof.Proof.Gen.MergeReferenceIdeal.Run

@[expose] public section

noncomputable section

namespace Cert.MergeProof

open Idealize.ShloMosaic Idealize.SL.Sem

theorem frame_kernel : Cert.quiescent_Merge := fun m g _ => Cert.Merge.Gen.frame m g

theorem frame_kernelIdeal : Cert.quiescent_MergeIdeal := fun m g _ => Cert.MergeIdeal.Gen.frame m g

/-- The reference runs, its arguments are unchanged, and it has no semaphore. -/
theorem frame_reference : Cert.quiescent_MergeReferenceIdeal := fun m g _ =>
  (θ_run Cert.MergeReferenceIdeal.defs _ _).mono (fun r h => ⟨fun c => (h c).2.2.2.2.2, sem_eq_zero_of_no_sems (by decide) r.2⟩) (Cert.MergeReferenceIdeal.Value.run (F := Ideal) m g)

theorem algebraic : Cert.algebraic_MergeIdeal_MergeReferenceIdeal := fun m g m' g' _ hargs =>
  ⟨fun c => Cert.MergeReferenceIdeal.Read.val_main_v47 (F := Ideal) (m' ((c.tc : Thread _ _).loc Cert.MergeReferenceIdeal.main_arg0)) (m' ((c.tc : Thread _ _).loc Cert.MergeReferenceIdeal.main_arg1)) (m' ((c.tc : Thread _ _).loc Cert.MergeReferenceIdeal.main_arg2)) (m' ((c.tc : Thread _ _).loc Cert.MergeReferenceIdeal.main_arg3)) (m' ((c.tc : Thread _ _).loc Cert.MergeReferenceIdeal.main_arg4)) (m' ((c.tc : Thread _ _).loc Cert.MergeReferenceIdeal.main_arg5)),
   fun c => Cert.MergeReferenceIdeal.Read.val_main_v41 (F := Ideal) (m' ((c.tc : Thread _ _).loc Cert.MergeReferenceIdeal.main_arg0)) (m' ((c.tc : Thread _ _).loc Cert.MergeReferenceIdeal.main_arg5)),
   fun c => Cert.MergeReferenceIdeal.Read.val_main_v36 (F := Ideal) (m' ((c.tc : Thread _ _).loc Cert.MergeReferenceIdeal.main_arg0)) (m' ((c.tc : Thread _ _).loc Cert.MergeReferenceIdeal.main_arg5)),
   fun c => Cert.MergeReferenceIdeal.Read.val_main_v31 (F := Ideal) (m' ((c.tc : Thread _ _).loc Cert.MergeReferenceIdeal.main_arg0)) (m' ((c.tc : Thread _ _).loc Cert.MergeReferenceIdeal.main_arg5)),
   fun c => Cert.MergeReferenceIdeal.Read.val_main_v27 (F := Ideal) (m' ((c.tc : Thread _ _).loc Cert.MergeReferenceIdeal.main_arg0)) (m' ((c.tc : Thread _ _).loc Cert.MergeReferenceIdeal.main_arg5)),
   (θ_run Cert.MergeIdeal.defs _ _).mono (fun r h c => by
      obtain ⟨h0, h1, h2, h3, h4, hk⟩ := h c
      obtain ⟨a0, a1, a2, a3, a4, a5⟩ := hargs c
      refine ⟨h0.trans ?_, h1.trans ?_, h2.trans ?_, h3.trans ?_, h4.trans ?_, hk⟩
      · dsimp only
        rw [a0, a1, a2, a3, a4, a5]
        exact (Cert.MergeIdeal.Closed.final6 m c).trans (Cert.MergeReferenceIdeal.Closed.dg _ _ _ _ _ _).symm
      · dsimp only
        rw [a0, a5]
        exact (Cert.MergeIdeal.Closed.final7 m c).trans (Cert.MergeReferenceIdeal.Closed.dy0 _ _).symm
      · dsimp only
        rw [a0, a5]
        exact (Cert.MergeIdeal.Closed.final8 m c).trans (Cert.MergeReferenceIdeal.Closed.dy1 _ _).symm
      · dsimp only
        rw [a0, a5]
        exact (Cert.MergeIdeal.Closed.final9 m c).trans (Cert.MergeReferenceIdeal.Closed.dy2 _ _).symm
      · dsimp only
        rw [a0, a5]
        exact (Cert.MergeIdeal.Closed.final10 m c).trans (Cert.MergeReferenceIdeal.Closed.dy3 _ _).symm)
    (Cert.MergeIdeal.Value.run_blocks m g),
   Cert.MergeReferenceIdeal.Value.run (F := Ideal) m' g'⟩

end Cert.MergeProof

end
-- ==== Proof.Blend.lean ====
/- The gated merge: the frames and the value claim. The kernel walks over blocks of 128 rows; in each it adds, branch after
   branch, the branch's values times their gates. -/
module

public import proofs.«01_k».proof.Defs
public import proofs.«01_k».proof.Proof.Gen.Blend.Frame
public import proofs.«01_k».proof.Proof.Gen.BlendIdeal.Frame
public import proofs.«01_k».proof.Proof.Gen.BlendIdeal.Value
public import proofs.«01_k».proof.Proof.Gen.BlendReferenceIdeal.Run
public import proofs.«01_k».proof.Proof.Gen.BlendReferenceIdeal.Read
public import Idealize.ShloMosaic.Lib.Pipeline.ValueKit
public import Idealize.ShloMosaic.Lib.IdealHost
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.BlendIdeal.Closed

open Cert.BlendIdeal Cert.BlendIdeal.Gen

/-- Where branch `b`'s gate for an element stands: the same row, in the branch's thousand-and-twenty-four columns. -/
def gateIdx (b : Fin 4) (i : S16384x1024.Idx) : S16384x4096.Idx :=
  ix2 (⟨(i 0).val, (i 0).isLt⟩ : Fin 16384) (⟨b.val * 1024 + (i 1).val, by
    have h1 : (i 1).val < 1024 := (i 1).isLt; have := b.isLt; omega⟩ : Fin 4096)

/-- The merged array: the sum over the branches of gate times value. -/
def BL (X0 : FVec Ideal S16384x4096 .f32) (Y0 Y1 Y2 Y3 : FVec Ideal S16384x1024 .f32) : FVec Ideal S16384x1024 .f32 :=
  fun i => Ideal.logistic (X0 (gateIdx 0 i)) * Y0 i + Ideal.logistic (X0 (gateIdx 1 i)) * Y1 i
    + Ideal.logistic (X0 (gateIdx 2 i)) * Y2 i + Ideal.logistic (X0 (gateIdx 3 i)) * Y3 i

variable (m : (ℓ : Loc nD τ sig) → Buf (Elt Ideal) ℓ)

/-- Every window's block index at point `t`: row block `t`, all columns. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The element of the whole array at place `y` of the block of point `t`. -/
def at0 (t : Fin cfg0.N) (y : S128x1024.Idx) : S16384x1024.Idx :=
  ix2 (⟨t.val * 128 + (y 0).val, by
    have h0 : (y 0).val < 128 := (y 0).isLt; have h1 : t.val < 128 := t.isLt; omega⟩ : Fin 16384) (⟨(y 1).val, (y 1).isLt⟩ : Fin 1024)

theorem emb5 (t : Fin cfg0.N) (y : S128x1024.Idx) : ((View.whole main_v0).slice (win0_5.rect t)).emb y = at0 t y := by
  unfold at0
  blk_ext [idx t]

theorem read0 (c : Dev nD) (t : Fin cfg0.N) (x : S128x4096.Idx) :
    iblk m c 0 t x = m ((c : Thread nD τ).loc main_arg0) (ix2 (⟨t.val * 128 + (x 0).val, by
      have h0 : (x 0).val < 128 := (x 0).isLt; have h1 : t.val < 128 := t.isLt; omega⟩ : Fin 16384) (⟨(x 1).val, (x 1).isLt⟩ : Fin 4096)) := by
  blk_ext [iblk, V, idx t]

theorem read1 (c : Dev nD) (t : Fin cfg0.N) (y : S128x1024.Idx) : iblk m c 1 t y = m ((c : Thread nD τ).loc main_arg1) (at0 t y) := by
  unfold at0
  blk_ext [iblk, V, idx t]

theorem read2 (c : Dev nD) (t : Fin cfg0.N) (y : S128x1024.Idx) : iblk m c 2 t y = m ((c : Thread nD τ).loc main_arg2) (at0 t y) := by
  unfold at0
  blk_ext [iblk, V, idx t]

theorem read3 (c : Dev nD) (t : Fin cfg0.N) (y : S128x1024.Idx) : iblk m c 3 t y = m ((c : Thread nD τ).loc main_arg3) (at0 t y) := by
  unfold at0
  blk_ext [iblk, V, idx t]

theorem read4 (c : Dev nD) (t : Fin cfg0.N) (y : S128x1024.Idx) : iblk m c 4 t y = m ((c : Thread nD τ).loc main_arg4) (at0 t y) := by
  unfold at0
  blk_ext [iblk, V, idx t]

/-- A gate of branch `b`, read from the block, is the array's. -/
theorem gate (b : Fin 4) (c : Dev nD) (t : Fin cfg0.N) (y : S128x1024.Idx) (x : S128x4096.Idx) (h0 : (x 0).val = (y 0).val)
    (h1 : (x 1).val = b.val * 1024 + (y 1).val) : iblk m c 0 t x = m ((c : Thread nD τ).loc main_arg0) (gateIdx b (at0 t y)) := by
  rw [read0]
  refine congrArg (m ((c : Thread nD τ).loc main_arg0)) (congrArg₂ ix2 (Fin.ext ?_) (Fin.ext ?_))
  · show t.val * 128 + (x 0).val = t.val * 128 + (y 0).val
    rw [h0]
  · exact h1

theorem final5 (c : Dev nD) : (dats m 0 c).arrAt 5 (cfgs 0).N
    = BL (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  show (Ideal.logistic (iblk m c 0 t (r0_0.emb y)) * iblk m c 1 t y + Ideal.logistic (iblk m c 0 t (r0_2.emb y)) * iblk m c 2 t y
    + Ideal.logistic (iblk m c 0 t (r0_3.emb y)) * iblk m c 3 t y + Ideal.logistic (iblk m c 0 t (r0_4.emb y)) * iblk m c 4 t y : EReal) = _
  rw [read1, read2, read3, read4, emb5,
    gate m 0 c t y (r0_0.emb y) (by show 0 + 1 * (y 0).val = (y 0).val; omega) (by show 0 + 1 * (y 1).val = 0 * 1024 + (y 1).val; omega),
    gate m 1 c t y (r0_2.emb y) (by show 0 + 1 * (y 0).val = (y 0).val; omega) (by show 1024 + 1 * (y 1).val = 1 * 1024 + (y 1).val; omega),
    gate m 2 c t y (r0_3.emb y) (by show 0 + 1 * (y 0).val = (y 0).val; omega) (by show 2048 + 1 * (y 1).val = 2 * 1024 + (y 1).val; omega),
    gate m 3 c t y (r0_4.emb y) (by show 0 + 1 * (y 0).val = (y 0).val; omega) (by show 3072 + 1 * (y 1).val = 3 * 1024 + (y 1).val; omega)]
  rfl

end Cert.BlendIdeal.Closed

namespace Cert.BlendReferenceIdeal.Closed

open Cert.BlendReferenceIdeal Cert.BlendReferenceIdeal.Gen Cert.BlendReferenceIdeal.Read
open Cert.BlendIdeal.Closed (BL gateIdx)

/-- The reference's gate, spelled out with an exponential, is the logistic function. -/
theorem gate_apply (X0 : FVec Ideal S16384x4096 .f32) (i : S16384x4096.Idx) :
    val_main_v5 (F := Ideal) X0 i = Ideal.logistic (X0 i) := by
  rw [val_main_v5_apply, val_main_v4_apply, val_main_v3_apply, val_main_v2_apply, val_main_v1_apply, val_main_v0_apply]
  show Ideal.div (Ideal.ofBits .f32 0x3F800000#32) (Ideal.ofBits .f32 0x3F800000#32 + Ideal.exp (-(X0 i))) = _
  rw [Ideal.ofBits_one_f32]
  rfl

/-- Reshaping the gates to four branches of columns puts branch `b`'s gate at `gateIdx b`. -/
theorem split (b : Fin 4) (i : S16384x1024.Idx) (j : S16384x4x1024.Idx) (h0 : (j 0).val = ((i 0).val * 1024 + (i 1).val) / 1024)
    (h1 : (j 1).val = b.val) (h2 : (j 2).val = ((i 0).val * 1024 + (i 1).val) % 1024) : idx_main_v6 j = gateIdx b i := by
  have l0 : (i 0).val < 16384 := (i 0).isLt
  have l1 : (i 1).val < 1024 := (i 1).isLt
  have lb := b.isLt
  have e0 : (j 0).val = (i 0).val := by omega
  have e2 : (j 2).val = (i 1).val := by omega
  funext a
  match a with
  | ⟨0, _⟩ => exact Fin.ext (by show (((j 0).val * 4 + (j 1).val) * 1024 + (j 2).val) / 4096 = (i 0).val; omega)
  | ⟨1, _⟩ => exact Fin.ext (by show (((j 0).val * 4 + (j 1).val) * 1024 + (j 2).val) % 4096 = b.val * 1024 + (i 1).val; omega)

theorem result (X0 : FVec Ideal S16384x4096 .f32) (Y0 Y1 Y2 Y3 : FVec Ideal S16384x1024 .f32) :
    val_main_v21 (F := Ideal) X0 Y0 Y1 Y2 Y3 = BL X0 Y0 Y1 Y2 Y3 := by
  funext i
  rw [val_main_v21_apply, val_main_v17_apply, val_main_v13_apply, val_main_v9_apply, val_main_v12_apply, val_main_v16_apply,
    val_main_v20_apply, val_main_v8_apply, val_main_v11_apply, val_main_v15_apply, val_main_v19_apply, val_main_v7_apply,
    val_main_v10_apply, val_main_v14_apply, val_main_v18_apply]
  simp only [val_main_v6_apply, gate_apply]
  rw [split 0 i (idx_main_v7 (idx_main_v8 i)) rfl rfl rfl, split 1 i (idx_main_v10 (idx_main_v11 i)) rfl rfl rfl,
    split 2 i (idx_main_v14 (idx_main_v15 i)) rfl rfl rfl, split 3 i (idx_main_v18 (idx_main_v19 i)) rfl rfl rfl]
  rfl

end Cert.BlendReferenceIdeal.Closed

namespace Cert.BlendProof

theorem frame_kernel : Cert.quiescent_Blend := fun m g _ => Cert.Blend.Gen.frame m g

theorem frame_kernelIdeal : Cert.quiescent_BlendIdeal := fun m g _ => Cert.BlendIdeal.Gen.frame m g

/-- The reference runs, its arguments are unchanged, and it has no semaphore. -/
theorem frame_reference : Cert.quiescent_BlendReferenceIdeal := fun m g _ =>
  (θ_run Cert.BlendReferenceIdeal.defs _ _).mono (fun r h => ⟨fun c => (h c).2, sem_eq_zero_of_no_sems (by decide) r.2⟩)
    (Cert.BlendReferenceIdeal.Value.run (F := Ideal) m g)

theorem algebraic : Cert.algebraic_BlendIdeal_BlendReferenceIdeal := fun m g m' g' _ hargs =>
  ⟨fun c => Cert.BlendReferenceIdeal.Read.val_main_v21 (F := Ideal) (m' ((c.tc : Thread _ _).loc Cert.BlendReferenceIdeal.main_arg0)) (m' ((c.tc : Thread _ _).loc Cert.BlendReferenceIdeal.main_arg1)) (m' ((c.tc : Thread _ _).loc Cert.BlendReferenceIdeal.main_arg2)) (m' ((c.tc : Thread _ _).loc Cert.BlendReferenceIdeal.main_arg3)) (m' ((c.tc : Thread _ _).loc Cert.BlendReferenceIdeal.main_arg4)),
   (θ_run Cert.BlendIdeal.defs _ _).mono (fun r h c => by
      obtain ⟨h0, hk⟩ := h c
      obtain ⟨a0, a1, a2, a3, a4⟩ := hargs c
      refine ⟨h0.trans ?_, hk⟩
      dsimp only
      rw [a0, a1, a2, a3, a4]
      exact (Cert.BlendIdeal.Closed.final5 m c).trans (Cert.BlendReferenceIdeal.Closed.result _ _ _ _ _).symm)
    (Cert.BlendIdeal.Value.run_blocks m g),
   Cert.BlendReferenceIdeal.Value.run (F := Ideal) m' g'⟩

end Cert.BlendProof

end
-- ==== Proof.Up.lean ====
/- The feed-forward's first projection: the frames and the value claim. Each grid point multiplies one block of 1024 rows with
   one block of 1408 columns of the weights, over the whole contracted dimension. -/
module

public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal.Run
public import proofs.«01_k».proof.Proof.Gen.UpReferenceIdeal.Read
public import Idealize.ShloMosaic.Lib.Pipeline.ValueKit
public import Idealize.ShloMosaic.Lib.IdealHost
public import Idealize.ShloMosaic.Lib.KernelVsHost

@[expose] public section

set_option maxRecDepth 16384

noncomputable section

open Idealize.ShloMosaic Idealize.ShloMosaic.TcCoe Idealize.SL.Sem

namespace Cert.UpIdeal.Closed

open Cert.UpIdeal Cert.UpIdeal.Gen

/-- The product, entry by entry. -/
def product (X : FVec Ideal S16384x1024 .f32) (W : FVec Ideal S1024x2816 .bf16) : FVec Ideal S16384x2816 .f32 :=
  fun i => ∑ k : Fin 1024, X (ix2 (i 0) k) * W (ix2 k (i 1))

variable (m : (ℓ : Loc nD τ sig) → Buf (Elt Ideal) ℓ)

/-- Grid point `t` takes row block `t / 2` and column block `t % 2`. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- A row of row block `t / 2`, and a column of column block `t % 2`. -/
def row (t : Fin cfg0.N) (r : Fin 1024) : Fin 16384 := ⟨t.val / 2 * 1024 + r.val, by have h : t.val < 32 := t.isLt; omega⟩
def col (t : Fin cfg0.N) (x : Fin 1408) : Fin 2816 := ⟨t.val % 2 * 1408 + x.val, by omega⟩

theorem read0 (c : Dev nD) (t : Fin cfg0.N) (r k : Fin 1024) :
    iblk m c 0 t (ix2 r k) = m ((c : Thread nD τ).loc main_arg0) (ix2 (row t r) k) := by
  unfold row
  blk_ext [iblk, V, idx t]

theorem read1 (c : Dev nD) (t : Fin cfg0.N) (x : Fin 1408) (k : Fin 1024) :
    iblk m c 1 t (ix2 k x) = m ((c : Thread nD τ).loc main_arg1) (ix2 k (col t x)) := by
  unfold col
  blk_ext [iblk, V, idx t]

theorem emb2 (t : Fin cfg0.N) (r : Fin 1024) (x : Fin 1408) :
    ((View.whole main_v0).slice (win0_2.rect t)).emb (ix2 r x : S1024x1408.Idx) = ix2 (row t r) (col t x) := by
  unfold row col
  blk_ext [idx t]

/-- What one grid point computes. -/
theorem tile (a : FVec Ideal S1024x1024 .f32) (b : FVec Ideal S1024x1408 .bf16) (r : Fin 1024) (x : Fin 1408) :
    k0_pay1 (F := Ideal) a b (ix2 r x) = ∑ k : Fin 1024, a (ix2 r k) * b (ix2 k x) := by
  pointwise [k0_pay1]

theorem final2 (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  obtain ⟨r, x, rfl⟩ : ∃ (r : Fin 1024) (x : Fin 1408), y = (ix2 r x : S1024x1408.Idx) := ⟨y 0, y 1, by
    funext a
    match a with
    | ⟨0, _⟩ => rfl
    | ⟨1, _⟩ => rfl⟩
  blk_simp
  rw [after0_2]; frame_out
  rw [emb2]
  refine (tile (iblk m c 0 t) (iblk m c 1 t) r x).trans (Finset.sum_congr rfl fun k _ => ?_)
  rw [read0, read1]
  rfl

end Cert.UpIdeal.Closed

namespace Cert.UpReferenceIdeal.Closed

open Cert.UpReferenceIdeal Cert.UpReferenceIdeal.Gen Cert.UpReferenceIdeal.Read
open Cert.UpIdeal.Closed (product)

theorem result (X : FVec Ideal S16384x1024 .f32) (W : FVec Ideal S1024x2816 .bf16) : val_main_v1 (F := Ideal) X W = product X W := by
  funext i
  rw [val_main_v1_apply]
  refine Finset.sum_congr rfl fun k _ => congrArg₂ (· * ·) (congrArg X ?_) (congrArg W ?_) <;>
  · funext a
    match a with
    | ⟨0, _⟩ => rfl
    | ⟨1, _⟩ => rfl

end Cert.UpReferenceIdeal.Closed

namespace Cert.UpProof

theorem frame_kernel : Cert.quiescent_Up := fun m g _ => Cert.Up.Gen.frame m g

theorem frame_kernelIdeal : Cert.quiescent_UpIdeal := fun m g _ => Cert.UpIdeal.Gen.frame m g

/-- The reference runs, its arguments are unchanged, and it has no semaphore. -/
theorem frame_reference : Cert.quiescent_UpReferenceIdeal := fun m g _ =>
  (θ_run Cert.UpReferenceIdeal.defs _ _).mono (fun r h => ⟨fun c => (h c).2, sem_eq_zero_of_no_sems (by decide) r.2⟩)
    (Cert.UpReferenceIdeal.Value.run (F := Ideal) m g)

theorem algebraic : Cert.algebraic_UpIdeal_UpReferenceIdeal := fun m g m' g' _ hargs =>
  ⟨fun c => Cert.UpReferenceIdeal.Read.val_main_v1 (F := Ideal) (m' ((c.tc : Thread _ _).loc Cert.UpReferenceIdeal.main_arg0)) (m' ((c.tc : Thread _ _).loc Cert.UpReferenceIdeal.main_arg1)),
   (θ_run Cert.UpIdeal.defs _ _).mono (fun r h c => by
      obtain ⟨h0, hk⟩ := h c
      obtain ⟨a0, a1⟩ := hargs c
      refine ⟨h0.trans ?_, hk⟩
      dsimp only
      rw [a0, a1]
      exact (Cert.UpIdeal.Closed.final2 m c).trans (Cert.UpReferenceIdeal.Closed.result _ _).symm)
    (Cert.UpIdeal.Value.run_blocks m g),
   Cert.UpReferenceIdeal.Value.run (F := Ideal) m' g'⟩

end Cert.UpProof

end
-- ==== Proof.Input.lean ====
/- The first projection of a layer, the branches' columns and the gates' columns: the frames and the value claims. Each grid
   point multiplies one block of 1024 rows with one block of the weights' columns and adds the bias of these columns. -/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.GatesReferenceIdeal.Read
public import Idealize.ShloMosaic.Lib.Pipeline.ValueKit
public import Idealize.ShloMosaic.Lib.IdealHost
public import Idealize.ShloMosaic.Lib.KernelVsHost

@[expose] public section

set_option maxRecDepth 65536

noncomputable section

open Idealize.ShloMosaic Idealize.ShloMosaic.TcCoe Idealize.SL.Sem

namespace Cert.ProjIdeal.Closed

open Cert.ProjIdeal Cert.ProjIdeal.Gen

/-- The product plus the bias, entry by entry. -/
def affine (X : FVec Ideal S16384x1024 .f32) (W : FVec Ideal S1024x3584 .bf16) (b : FVec Ideal S3584 .f32) :
    FVec Ideal S16384x3584 .f32 :=
  fun i => (∑ k : Fin 1024, X (ix2 (i 0) k) * W (ix2 k (i 1))) + b (ix1 (i 1))

variable (m : (ℓ : Loc nD τ sig) → Buf (Elt Ideal) ℓ)

/-- Grid point `t` takes row block `t / 4` and column block `t % 4`. -/
theorem idx : ∀ t : Fin cfg0.N, win0_0.index t = ![t.val / 4, 0] ∧ win0_1.index t = ![0, t.val % 4]
    ∧ win0_2.index t = ![0, t.val % 4] ∧ win0_3.index t = ![t.val / 4, t.val % 4] :=
  (by decide +kernel : ∀ t : Fin grid0.N, _)

/-- A row of row block `t / 4`, and a column of column block `t % 4`. -/
def row (t : Fin cfg0.N) (r : Fin 1024) : Fin 16384 := ⟨t.val / 4 * 1024 + r.val, by have h : t.val < 64 := t.isLt; omega⟩
def col (t : Fin cfg0.N) (x : Fin 896) : Fin 3584 := ⟨t.val % 4 * 896 + x.val, by omega⟩

theorem read0 (c : Dev nD) (t : Fin cfg0.N) (r k : Fin 1024) :
    iblk m c 0 t (ix2 r k) = m ((c : Thread nD τ).loc main_arg0) (ix2 (row t r) k) := by
  unfold row
  blk_ext [iblk, V, idx t]

theorem read1 (c : Dev nD) (t : Fin cfg0.N) (x : Fin 896) (k : Fin 1024) :
    iblk m c 1 t (ix2 k x) = m ((c : Thread nD τ).loc main_arg1) (ix2 k (col t x)) := by
  unfold col
  blk_ext [iblk, V, idx t]

/-- The bias as one row. -/
theorem bias (c : Dev nD) : V (F := Ideal) m c main_v0
    = shapeCast S1x3584 (m ((c : Thread nD τ).loc main_arg2) : FVec Ideal S3584 .f32) shapeCasts_S3584_S1x3584 := by
  unfold V
  after_results
  rfl

theorem read2 (c : Dev nD) (t : Fin cfg0.N) (x : Fin 896) :
    iblk m c 2 t (ix2 0 x) = m ((c : Thread nD τ).loc main_arg2) (ix1 (col t x)) := by
  have e : iblk m c 2 t (ix2 0 x) = V (F := Ideal) m c main_v0 (ix2 0 (col t x) : S1x3584.Idx) := by
    unfold col
    blk_ext [iblk, idx t]
  rw [e, bias]
  pointwise []

theorem emb3 (t : Fin cfg0.N) (r : Fin 1024) (x : Fin 896) :
    ((View.whole main_v1).slice (win0_3.rect t)).emb (ix2 r x : S1024x896.Idx) = ix2 (row t r) (col t x) := by
  unfold row col
  blk_ext [idx t]

/-- What one grid point computes. -/
theorem tile (a : FVec Ideal S1024x1024 .f32) (w : FVec Ideal S1024x896 .bf16) (b : FVec Ideal S1x896 .f32)
    (r : Fin 1024) (x : Fin 896) :
    k0_pay1 (F := Ideal) a w b (ix2 r x) = (∑ k : Fin 1024, a (ix2 r k) * w (ix2 k x)) + b (ix2 0 x) := by
  pointwise [k0_pay1]

theorem final3 (c : Dev nD) : (dats m 0 c).arrAt 3 (cfgs 0).N = affine (m ((c : Thread nD τ).loc main_arg0))
    (m ((c : Thread nD τ).loc main_arg1)) (m ((c : Thread nD τ).loc main_arg2)) := by
  refine (dats m 0 c).arrAt_eq_of_covers 3 _ (by decide +kernel) fun t _ y => ?_
  obtain ⟨r, x, rfl⟩ : ∃ (r : Fin 1024) (x : Fin 896), y = (ix2 r x : S1024x896.Idx) := ⟨y 0, y 1, by
    funext a
    match a with
    | ⟨0, _⟩ => rfl
    | ⟨1, _⟩ => rfl⟩
  blk_simp
  rw [after0_3]; frame_out
  rw [emb3]
  refine (tile (iblk m c 0 t) (iblk m c 1 t) (iblk m c 2 t) r x).trans
    (congrArg₂ (· + ·) (Finset.sum_congr rfl fun k _ => ?_) (read2 m c t x))
  rw [read0, read1]
  rfl

end Cert.ProjIdeal.Closed

namespace Cert.ProjReferenceIdeal.Closed

open Cert.ProjReferenceIdeal Cert.ProjReferenceIdeal.Gen Cert.ProjReferenceIdeal.Read
open Cert.ProjIdeal.Closed (affine)

theorem result (X : FVec Ideal S16384x1024 .f32) (W : FVec Ideal S1024x3584 .bf16) (b : FVec Ideal S3584 .f32) :
    val_main_v4 (F := Ideal) X W b = affine X W b := by
  funext i
  rw [val_main_v4_apply]
  refine congrArg₂ (· + ·) ((val_main_v1_apply X W i).trans (Finset.sum_congr rfl fun k _ =>
    congrArg₂ (· * ·) (congrArg X ?_) (congrArg W ?_)))
    ((val_main_v3_apply (F := Ideal) b i).trans ((val_main_v2_apply (F := Ideal) b _).trans (congrArg b ?_))) <;>
  · funext a
    fin_cases a <;> rfl

end Cert.ProjReferenceIdeal.Closed

namespace Cert.ProjProof

theorem frame_kernel : Cert.quiescent_Proj := fun m g _ => Cert.Proj.Gen.frame m g

theorem frame_kernelIdeal : Cert.quiescent_ProjIdeal := fun m g _ => Cert.ProjIdeal.Gen.frame m g

/-- The reference runs, its arguments are unchanged, and it has no semaphore. -/
theorem frame_reference : Cert.quiescent_ProjReferenceIdeal := fun m g _ =>
  (θ_run Cert.ProjReferenceIdeal.defs _ _).mono (fun r h => ⟨fun c => (h c).2, sem_eq_zero_of_no_sems (by decide) r.2⟩)
    (Cert.ProjReferenceIdeal.Value.run (F := Ideal) m g)

theorem algebraic : Cert.algebraic_ProjIdeal_ProjReferenceIdeal := fun m g m' g' _ hargs =>
  ⟨fun c => Cert.ProjReferenceIdeal.Read.val_main_v4 (F := Ideal) (m' ((c.tc : Thread _ _).loc Cert.ProjReferenceIdeal.main_arg0))
      (m' ((c.tc : Thread _ _).loc Cert.ProjReferenceIdeal.main_arg1)) (m' ((c.tc : Thread _ _).loc Cert.ProjReferenceIdeal.main_arg2)),
   (θ_run Cert.ProjIdeal.defs _ _).mono (fun r h c => by
      obtain ⟨h0, hk⟩ := h c
      obtain ⟨a0, a1, a2⟩ := hargs c
      refine ⟨h0.trans ?_, hk⟩
      dsimp only
      rw [a0, a1, a2]
      exact (Cert.ProjIdeal.Closed.final3 m c).trans (Cert.ProjReferenceIdeal.Closed.result _ _ _).symm)
    (Cert.ProjIdeal.Value.run_blocks m g),
   Cert.ProjReferenceIdeal.Value.run (F := Ideal) m' g'⟩

end Cert.ProjProof

namespace Cert.GatesIdeal.Closed

open Cert.GatesIdeal Cert.GatesIdeal.Gen

/-- The product plus the bias, entry by entry. -/
def affine (X : FVec Ideal S16384x1024 .f32) (W : FVec Ideal S1024x4096 .bf16) (b : FVec Ideal S4096 .f32) :
    FVec Ideal S16384x4096 .f32 :=
  fun i => (∑ k : Fin 1024, X (ix2 (i 0) k) * W (ix2 k (i 1))) + b (ix1 (i 1))

variable (m : (ℓ : Loc nD τ sig) → Buf (Elt Ideal) ℓ)

/-- Grid point `t` takes row block `t / 4` and column block `t % 4`. -/
theorem idx : ∀ t : Fin cfg0.N, win0_0.index t = ![t.val / 4, 0] ∧ win0_1.index t = ![0, t.val % 4]
    ∧ win0_2.index t = ![0, t.val % 4] ∧ win0_3.index t = ![t.val / 4, t.val % 4] :=
  (by decide +kernel : ∀ t : Fin grid0.N, _)

/-- A row of row block `t / 4`, and a column of column block `t % 4`. -/
def row (t : Fin cfg0.N) (r : Fin 1024) : Fin 16384 := ⟨t.val / 4 * 1024 + r.val, by have h : t.val < 64 := t.isLt; omega⟩
def col (t : Fin cfg0.N) (x : Fin 1024) : Fin 4096 := ⟨t.val % 4 * 1024 + x.val, by omega⟩

theorem read0 (c : Dev nD) (t : Fin cfg0.N) (r k : Fin 1024) :
    iblk m c 0 t (ix2 r k) = m ((c : Thread nD τ).loc main_arg0) (ix2 (row t r) k) := by
  unfold row
  blk_ext [iblk, V, idx t]

theorem read1 (c : Dev nD) (t : Fin cfg0.N) (x : Fin 1024) (k : Fin 1024) :
    iblk m c 1 t (ix2 k x) = m ((c : Thread nD τ).loc main_arg1) (ix2 k (col t x)) := by
  unfold col
  blk_ext [iblk, V, idx t]

/-- The bias as one row. -/
theorem bias (c : Dev nD) : V (F := Ideal) m c main_v0
    = shapeCast S1x4096 (m ((c : Thread nD τ).loc main_arg2) : FVec Ideal S4096 .f32) shapeCasts_S4096_S1x4096 := by
  unfold V
  after_results
  rfl

theorem read2 (c : Dev nD) (t : Fin cfg0.N) (x : Fin 1024) :
    iblk m c 2 t (ix2 0 x) = m ((c : Thread nD τ).loc main_arg2) (ix1 (col t x)) := by
  have e : iblk m c 2 t (ix2 0 x) = V (F := Ideal) m c main_v0 (ix2 0 (col t x) : S1x4096.Idx) := by
    unfold col
    blk_ext [iblk, idx t]
  rw [e, bias]
  pointwise []

theorem emb3 (t : Fin cfg0.N) (r : Fin 1024) (x : Fin 1024) :
    ((View.whole main_v1).slice (win0_3.rect t)).emb (ix2 r x : S1024x1024.Idx) = ix2 (row t r) (col t x) := by
  unfold row col
  blk_ext [idx t]

/-- What one grid point computes. -/
theorem tile (a : FVec Ideal S1024x1024 .f32) (w : FVec Ideal S1024x1024 .bf16) (b : FVec Ideal S1x1024 .f32)
    (r : Fin 1024) (x : Fin 1024) :
    k0_pay1 (F := Ideal) a w b (ix2 r x) = (∑ k : Fin 1024, a (ix2 r k) * w (ix2 k x)) + b (ix2 0 x) := by
  pointwise [k0_pay1]

theorem final3 (c : Dev nD) : (dats m 0 c).arrAt 3 (cfgs 0).N = affine (m ((c : Thread nD τ).loc main_arg0))
    (m ((c : Thread nD τ).loc main_arg1)) (m ((c : Thread nD τ).loc main_arg2)) := by
  refine (dats m 0 c).arrAt_eq_of_covers 3 _ (by decide +kernel) fun t _ y => ?_
  obtain ⟨r, x, rfl⟩ : ∃ (r : Fin 1024) (x : Fin 1024), y = (ix2 r x : S1024x1024.Idx) := ⟨y 0, y 1, by
    funext a
    match a with
    | ⟨0, _⟩ => rfl
    | ⟨1, _⟩ => rfl⟩
  blk_simp
  rw [after0_3]; frame_out
  rw [emb3]
  refine (tile (iblk m c 0 t) (iblk m c 1 t) (iblk m c 2 t) r x).trans
    (congrArg₂ (· + ·) (Finset.sum_congr rfl fun k _ => ?_) (read2 m c t x))
  rw [read0, read1]
  rfl

end Cert.GatesIdeal.Closed

namespace Cert.GatesReferenceIdeal.Closed

open Cert.GatesReferenceIdeal Cert.GatesReferenceIdeal.Gen Cert.GatesReferenceIdeal.Read
open Cert.GatesIdeal.Closed (affine)

theorem result (X : FVec Ideal S16384x1024 .f32) (W : FVec Ideal S1024x4096 .bf16) (b : FVec Ideal S4096 .f32) :
    val_main_v4 (F := Ideal) X W b = affine X W b := by
  funext i
  rw [val_main_v4_apply]
  refine congrArg₂ (· + ·) ((val_main_v1_apply X W i).trans (Finset.sum_congr rfl fun k _ =>
    congrArg₂ (· * ·) (congrArg X ?_) (congrArg W ?_)))
    ((val_main_v3_apply (F := Ideal) b i).trans ((val_main_v2_apply (F := Ideal) b _).trans (congrArg b ?_))) <;>
  · funext a
    fin_cases a <;> rfl

end Cert.GatesReferenceIdeal.Closed

namespace Cert.GatesProof

theorem frame_kernel : Cert.quiescent_Gates := fun m g _ => Cert.Gates.Gen.frame m g

theorem frame_kernelIdeal : Cert.quiescent_GatesIdeal := fun m g _ => Cert.GatesIdeal.Gen.frame m g

/-- The reference runs, its arguments are unchanged, and it has no semaphore. -/
theorem frame_reference : Cert.quiescent_GatesReferenceIdeal := fun m g _ =>
  (θ_run Cert.GatesReferenceIdeal.defs _ _).mono (fun r h => ⟨fun c => (h c).2, sem_eq_zero_of_no_sems (by decide) r.2⟩)
    (Cert.GatesReferenceIdeal.Value.run (F := Ideal) m g)

theorem algebraic : Cert.algebraic_GatesIdeal_GatesReferenceIdeal := fun m g m' g' _ hargs =>
  ⟨fun c => Cert.GatesReferenceIdeal.Read.val_main_v4 (F := Ideal) (m' ((c.tc : Thread _ _).loc Cert.GatesReferenceIdeal.main_arg0))
      (m' ((c.tc : Thread _ _).loc Cert.GatesReferenceIdeal.main_arg1)) (m' ((c.tc : Thread _ _).loc Cert.GatesReferenceIdeal.main_arg2)),
   (θ_run Cert.GatesIdeal.defs _ _).mono (fun r h c => by
      obtain ⟨h0, hk⟩ := h c
      obtain ⟨a0, a1, a2⟩ := hargs c
      refine ⟨h0.trans ?_, hk⟩
      dsimp only
      rw [a0, a1, a2]
      exact (Cert.GatesIdeal.Closed.final3 m c).trans (Cert.GatesReferenceIdeal.Closed.result _ _ _).symm)
    (Cert.GatesIdeal.Value.run_blocks m g),
   Cert.GatesReferenceIdeal.Value.run (F := Ideal) m' g'⟩

end Cert.GatesProof

end
-- ==== Proof.Output.lean ====
/- The branches' output projections and the layer's, and their gradients: the frames and the value claims. Each grid point
   multiplies one block of 1024 rows with the whole of the weights. -/
module

public import proofs.«01_k».proof.Defs
public import proofs.«01_k».proof.Proof.Gen.BranchDx.Frame
public import proofs.«01_k».proof.Proof.Gen.BranchDxIdeal.Frame
public import proofs.«01_k».proof.Proof.Gen.BranchDxIdeal.Value
public import proofs.«01_k».proof.Proof.Gen.BranchDxReferenceIdeal.Run
public import proofs.«01_k».proof.Proof.Gen.BranchDxReferenceIdeal.Read
public import proofs.«01_k».proof.Proof.Gen.ODx.Frame
public import proofs.«01_k».proof.Proof.Gen.ODxIdeal.Frame
public import proofs.«01_k».proof.Proof.Gen.ODxIdeal.Value
public import proofs.«01_k».proof.Proof.Gen.ODxReferenceIdeal.Run
public import proofs.«01_k».proof.Proof.Gen.ODxReferenceIdeal.Read
public import proofs.«01_k».proof.Proof.Gen.Branch.Frame
public import proofs.«01_k».proof.Proof.Gen.BranchIdeal.Frame
public import proofs.«01_k».proof.Proof.Gen.BranchIdeal.Value
public import proofs.«01_k».proof.Proof.Gen.BranchReferenceIdeal.Run
public import proofs.«01_k».proof.Proof.Gen.BranchReferenceIdeal.Read
public import proofs.«01_k».proof.Proof.Gen.O.Frame
public import proofs.«01_k».proof.Proof.Gen.OIdeal.Frame
public import proofs.«01_k».proof.Proof.Gen.OIdeal.Value
public import proofs.«01_k».proof.Proof.Gen.OReferenceIdeal.Run
public import proofs.«01_k».proof.Proof.Gen.OReferenceIdeal.Read
public import Idealize.ShloMosaic.Lib.Pipeline.ValueKit
public import Idealize.ShloMosaic.Lib.IdealHost
public import Idealize.ShloMosaic.Lib.KernelVsHost

@[expose] public section

set_option maxRecDepth 65536

noncomputable section

open Idealize.ShloMosaic Idealize.ShloMosaic.TcCoe Idealize.SL.Sem

namespace Cert.BranchDxIdeal.Closed

open Cert.BranchDxIdeal Cert.BranchDxIdeal.Gen

/-- The product, entry by entry. -/
def product (X : FVec Ideal S16384x1024 .f32) (W : FVec Ideal S512x1024 .bf16) : FVec Ideal S16384x512 .f32 :=
  fun i => ∑ k : Fin 1024, X (ix2 (i 0) k) * W (ix2 (i 1) k)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- A row of row block `t`. -/
def row (t : Fin cfg0.N) (r : Fin 1024) : Fin 16384 := ⟨t.val * 1024 + r.val, by have h : t.val < 16 := t.isLt; omega⟩

theorem read0 (c : Dev nD) (t : Fin cfg0.N) (r : Fin 1024) (k : Fin 1024) :
    iblk m c 0 t (ix2 r k) = m ((c : Thread nD τ).loc main_arg0) (ix2 (row t r) k) := by
  unfold row
  blk_ext [iblk, V, idx t]

theorem read1 (c : Dev nD) (t : Fin cfg0.N) (x : Fin 512) (k : Fin 1024) :
    iblk m c 1 t (ix2 x k) = m ((c : Thread nD τ).loc main_arg1) (ix2 x k) := by
  blk_ext [iblk, V, idx t]

theorem emb2 (t : Fin cfg0.N) (r : Fin 1024) (x : Fin 512) :
    ((View.whole main_v0).slice (win0_2.rect t)).emb (ix2 r x : S1024x512.Idx) = ix2 (row t r) x := by
  unfold row
  blk_ext [idx t]

/-- What one grid point computes. -/
theorem tile (a : FVec Ideal S1024x1024 .f32) (b : FVec Ideal S512x1024 .bf16) (r : Fin 1024) (x : Fin 512) :
    k0_pay1 (F := Ideal) a b (ix2 r x) = ∑ k : Fin 1024, a (ix2 r k) * b (ix2 x k) := by
  pointwise [k0_pay1]

theorem final2 (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  obtain ⟨r, x, rfl⟩ : ∃ (r : Fin 1024) (x : Fin 512), y = (ix2 r x : S1024x512.Idx) := ⟨y 0, y 1, by
    funext a
    fin_cases a <;> rfl⟩
  blk_simp
  rw [after0_2]; frame_out
  rw [emb2]
  refine (tile (iblk m c 0 t) (iblk m c 1 t) r x).trans (Finset.sum_congr rfl fun k _ => ?_)
  rw [read0, read1]
  rfl

end Cert.BranchDxIdeal.Closed

namespace Cert.BranchDxProof

open Cert.BranchDxReferenceIdeal Cert.BranchDxReferenceIdeal.Read
open Cert.BranchDxIdeal.Closed (product)

theorem result (X : FVec Ideal S16384x1024 .f32) (W : FVec Ideal S512x1024 .bf16) : val_main_v3 (F := Ideal) X W = product X W := by
  funext i
  rw [val_main_v3_apply]
  refine Finset.sum_congr rfl fun k _ => congrArg₂ (· * ·) (congrArg X ?_) (congrArg W ?_) <;>
  · funext a
    fin_cases a <;> rfl

theorem frame_kernel : Cert.quiescent_BranchDx := fun m g _ => Cert.BranchDx.Gen.frame m g

theorem frame_kernelIdeal : Cert.quiescent_BranchDxIdeal := fun m g _ => Cert.BranchDxIdeal.Gen.frame m g

/-- The reference runs, its arguments are unchanged, and it has no semaphore. -/
theorem frame_reference : Cert.quiescent_BranchDxReferenceIdeal := fun m g _ =>
  (θ_run defs _ _).mono (fun r h => ⟨fun c => (h c).2, sem_eq_zero_of_no_sems (by decide) r.2⟩) (Value.run (F := Ideal) m g)

theorem algebraic : Cert.algebraic_BranchDxIdeal_BranchDxReferenceIdeal := fun m g m' g' _ hargs =>
  ⟨fun c => val_main_v3 (F := Ideal) (m' ((c.tc : Thread _ _).loc main_arg0)) (m' ((c.tc : Thread _ _).loc main_arg1)),
   (θ_run Cert.BranchDxIdeal.defs _ _).mono (fun r h c => by
      obtain ⟨h0, hk⟩ := h c
      obtain ⟨a0, a1⟩ := hargs c
      refine ⟨h0.trans ?_, hk⟩
      dsimp only
      rw [a0, a1]
      exact (Cert.BranchDxIdeal.Closed.final2 m c).trans (result _ _).symm)
    (Cert.BranchDxIdeal.Value.run_blocks m g),
   Value.run (F := Ideal) m' g'⟩

end Cert.BranchDxProof

namespace Cert.ODxIdeal.Closed

open Cert.ODxIdeal Cert.ODxIdeal.Gen

/-- The product, entry by entry. -/
def product (X : FVec Ideal S16384x1024 .f32) (W : FVec Ideal S1024x1024 .bf16) : FVec Ideal S16384x1024 .f32 :=
  fun i => ∑ k : Fin 1024, X (ix2 (i 0) k) * W (ix2 (i 1) k)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- A row of row block `t`. -/
def row (t : Fin cfg0.N) (r : Fin 1024) : Fin 16384 := ⟨t.val * 1024 + r.val, by have h : t.val < 16 := t.isLt; omega⟩

theorem read0 (c : Dev nD) (t : Fin cfg0.N) (r : Fin 1024) (k : Fin 1024) :
    iblk m c 0 t (ix2 r k) = m ((c : Thread nD τ).loc main_arg0) (ix2 (row t r) k) := by
  unfold row
  blk_ext [iblk, V, idx t]

theorem read1 (c : Dev nD) (t : Fin cfg0.N) (x : Fin 1024) (k : Fin 1024) :
    iblk m c 1 t (ix2 x k) = m ((c : Thread nD τ).loc main_arg1) (ix2 x k) := by
  blk_ext [iblk, V, idx t]

theorem emb2 (t : Fin cfg0.N) (r : Fin 1024) (x : Fin 1024) :
    ((View.whole main_v0).slice (win0_2.rect t)).emb (ix2 r x : S1024x1024.Idx) = ix2 (row t r) x := by
  unfold row
  blk_ext [idx t]

/-- What one grid point computes. -/
theorem tile (a : FVec Ideal S1024x1024 .f32) (b : FVec Ideal S1024x1024 .bf16) (r : Fin 1024) (x : Fin 1024) :
    k0_pay1 (F := Ideal) a b (ix2 r x) = ∑ k : Fin 1024, a (ix2 r k) * b (ix2 x k) := by
  pointwise [k0_pay1]

theorem final2 (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  obtain ⟨r, x, rfl⟩ : ∃ (r : Fin 1024) (x : Fin 1024), y = (ix2 r x : S1024x1024.Idx) := ⟨y 0, y 1, by
    funext a
    fin_cases a <;> rfl⟩
  blk_simp
  rw [after0_2]; frame_out
  rw [emb2]
  refine (tile (iblk m c 0 t) (iblk m c 1 t) r x).trans (Finset.sum_congr rfl fun k _ => ?_)
  rw [read0, read1]
  rfl

end Cert.ODxIdeal.Closed

namespace Cert.ODxProof

open Cert.ODxReferenceIdeal Cert.ODxReferenceIdeal.Read
open Cert.ODxIdeal.Closed (product)

theorem result (X : FVec Ideal S16384x1024 .f32) (W : FVec Ideal S1024x1024 .bf16) : val_main_v3 (F := Ideal) X W = product X W := by
  funext i
  rw [val_main_v3_apply]
  refine Finset.sum_congr rfl fun k _ => congrArg₂ (· * ·) (congrArg X ?_) (congrArg W ?_) <;>
  · funext a
    fin_cases a <;> rfl

theorem frame_kernel : Cert.quiescent_ODx := fun m g _ => Cert.ODx.Gen.frame m g

theorem frame_kernelIdeal : Cert.quiescent_ODxIdeal := fun m g _ => Cert.ODxIdeal.Gen.frame m g

/-- The reference runs, its arguments are unchanged, and it has no semaphore. -/
theorem frame_reference : Cert.quiescent_ODxReferenceIdeal := fun m g _ =>
  (θ_run defs _ _).mono (fun r h => ⟨fun c => (h c).2, sem_eq_zero_of_no_sems (by decide) r.2⟩) (Value.run (F := Ideal) m g)

theorem algebraic : Cert.algebraic_ODxIdeal_ODxReferenceIdeal := fun m g m' g' _ hargs =>
  ⟨fun c => val_main_v3 (F := Ideal) (m' ((c.tc : Thread _ _).loc main_arg0)) (m' ((c.tc : Thread _ _).loc main_arg1)),
   (θ_run Cert.ODxIdeal.defs _ _).mono (fun r h c => by
      obtain ⟨h0, hk⟩ := h c
      obtain ⟨a0, a1⟩ := hargs c
      refine ⟨h0.trans ?_, hk⟩
      dsimp only
      rw [a0, a1]
      exact (Cert.ODxIdeal.Closed.final2 m c).trans (result _ _).symm)
    (Cert.ODxIdeal.Value.run_blocks m g),
   Value.run (F := Ideal) m' g'⟩

end Cert.ODxProof

namespace Cert.BranchIdeal.Closed

open Cert.BranchIdeal Cert.BranchIdeal.Gen

/-- The product, entry by entry. -/
def product (X : FVec Ideal S16384x512 .f32) (W : FVec Ideal S512x1024 .bf16) : FVec Ideal S16384x1024 .f32 :=
  fun i => ∑ k : Fin 512, X (ix2 (i 0) k) * W (ix2 k (i 1))

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- A row of row block `t`. -/
def row (t : Fin cfg0.N) (r : Fin 1024) : Fin 16384 := ⟨t.val * 1024 + r.val, by have h : t.val < 16 := t.isLt; omega⟩

theorem read0 (c : Dev nD) (t : Fin cfg0.N) (r : Fin 1024) (k : Fin 512) :
    iblk m c 0 t (ix2 r k) = m ((c : Thread nD τ).loc main_arg0) (ix2 (row t r) k) := by
  unfold row
  blk_ext [iblk, V, idx t]

theorem read1 (c : Dev nD) (t : Fin cfg0.N) (x : Fin 1024) (k : Fin 512) :
    iblk m c 1 t (ix2 k x) = m ((c : Thread nD τ).loc main_arg1) (ix2 k x) := by
  blk_ext [iblk, V, idx t]

theorem emb2 (t : Fin cfg0.N) (r : Fin 1024) (x : Fin 1024) :
    ((View.whole main_v0).slice (win0_2.rect t)).emb (ix2 r x : S1024x1024.Idx) = ix2 (row t r) x := by
  unfold row
  blk_ext [idx t]

/-- What one grid point computes. -/
theorem tile (a : FVec Ideal S1024x512 .f32) (b : FVec Ideal S512x1024 .bf16) (r : Fin 1024) (x : Fin 1024) :
    k0_pay1 (F := Ideal) a b (ix2 r x) = ∑ k : Fin 512, a (ix2 r k) * b (ix2 k x) := by
  pointwise [k0_pay1]

theorem final2 (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  obtain ⟨r, x, rfl⟩ : ∃ (r : Fin 1024) (x : Fin 1024), y = (ix2 r x : S1024x1024.Idx) := ⟨y 0, y 1, by
    funext a
    fin_cases a <;> rfl⟩
  blk_simp
  rw [after0_2]; frame_out
  rw [emb2]
  refine (tile (iblk m c 0 t) (iblk m c 1 t) r x).trans (Finset.sum_congr rfl fun k _ => ?_)
  rw [read0, read1]
  rfl

end Cert.BranchIdeal.Closed

namespace Cert.BranchProof

open Cert.BranchReferenceIdeal Cert.BranchReferenceIdeal.Read
open Cert.BranchIdeal.Closed (product)

theorem result (X : FVec Ideal S16384x512 .f32) (W : FVec Ideal S512x1024 .bf16) : val_main_v1 (F := Ideal) X W = product X W := by
  funext i
  rw [val_main_v1_apply]
  refine Finset.sum_congr rfl fun k _ => congrArg₂ (· * ·) (congrArg X ?_) (congrArg W ?_) <;>
  · funext a
    fin_cases a <;> rfl

theorem frame_kernel : Cert.quiescent_Branch := fun m g _ => Cert.Branch.Gen.frame m g

theorem frame_kernelIdeal : Cert.quiescent_BranchIdeal := fun m g _ => Cert.BranchIdeal.Gen.frame m g

/-- The reference runs, its arguments are unchanged, and it has no semaphore. -/
theorem frame_reference : Cert.quiescent_BranchReferenceIdeal := fun m g _ =>
  (θ_run defs _ _).mono (fun r h => ⟨fun c => (h c).2, sem_eq_zero_of_no_sems (by decide) r.2⟩) (Value.run (F := Ideal) m g)

theorem algebraic : Cert.algebraic_BranchIdeal_BranchReferenceIdeal := fun m g m' g' _ hargs =>
  ⟨fun c => val_main_v1 (F := Ideal) (m' ((c.tc : Thread _ _).loc main_arg0)) (m' ((c.tc : Thread _ _).loc main_arg1)),
   (θ_run Cert.BranchIdeal.defs _ _).mono (fun r h c => by
      obtain ⟨h0, hk⟩ := h c
      obtain ⟨a0, a1⟩ := hargs c
      refine ⟨h0.trans ?_, hk⟩
      dsimp only
      rw [a0, a1]
      exact (Cert.BranchIdeal.Closed.final2 m c).trans (result _ _).symm)
    (Cert.BranchIdeal.Value.run_blocks m g),
   Value.run (F := Ideal) m' g'⟩

end Cert.BranchProof

namespace Cert.OIdeal.Closed

open Cert.OIdeal Cert.OIdeal.Gen

/-- The product, entry by entry. -/
def product (X : FVec Ideal S16384x1024 .f32) (W : FVec Ideal S1024x1024 .bf16) : FVec Ideal S16384x1024 .f32 :=
  fun i => ∑ k : Fin 1024, X (ix2 (i 0) k) * W (ix2 k (i 1))

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- A row of row block `t`. -/
def row (t : Fin cfg0.N) (r : Fin 1024) : Fin 16384 := ⟨t.val * 1024 + r.val, by have h : t.val < 16 := t.isLt; omega⟩

theorem read0 (c : Dev nD) (t : Fin cfg0.N) (r : Fin 1024) (k : Fin 1024) :
    iblk m c 0 t (ix2 r k) = m ((c : Thread nD τ).loc main_arg0) (ix2 (row t r) k) := by
  unfold row
  blk_ext [iblk, V, idx t]

theorem read1 (c : Dev nD) (t : Fin cfg0.N) (x : Fin 1024) (k : Fin 1024) :
    iblk m c 1 t (ix2 k x) = m ((c : Thread nD τ).loc main_arg1) (ix2 k x) := by
  blk_ext [iblk, V, idx t]

theorem emb2 (t : Fin cfg0.N) (r : Fin 1024) (x : Fin 1024) :
    ((View.whole main_v0).slice (win0_2.rect t)).emb (ix2 r x : S1024x1024.Idx) = ix2 (row t r) x := by
  unfold row
  blk_ext [idx t]

/-- What one grid point computes. -/
theorem tile (a : FVec Ideal S1024x1024 .f32) (b : FVec Ideal S1024x1024 .bf16) (r : Fin 1024) (x : Fin 1024) :
    k0_pay1 (F := Ideal) a b (ix2 r x) = ∑ k : Fin 1024, a (ix2 r k) * b (ix2 k x) := by
  pointwise [k0_pay1]

theorem final2 (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  obtain ⟨r, x, rfl⟩ : ∃ (r : Fin 1024) (x : Fin 1024), y = (ix2 r x : S1024x1024.Idx) := ⟨y 0, y 1, by
    funext a
    fin_cases a <;> rfl⟩
  blk_simp
  rw [after0_2]; frame_out
  rw [emb2]
  refine (tile (iblk m c 0 t) (iblk m c 1 t) r x).trans (Finset.sum_congr rfl fun k _ => ?_)
  rw [read0, read1]
  rfl

end Cert.OIdeal.Closed

namespace Cert.OProof

open Cert.OReferenceIdeal Cert.OReferenceIdeal.Read
open Cert.OIdeal.Closed (product)

theorem result (X : FVec Ideal S16384x1024 .f32) (W : FVec Ideal S1024x1024 .bf16) : val_main_v1 (F := Ideal) X W = product X W := by
  funext i
  rw [val_main_v1_apply]
  refine Finset.sum_congr rfl fun k _ => congrArg₂ (· * ·) (congrArg X ?_) (congrArg W ?_) <;>
  · funext a
    fin_cases a <;> rfl

theorem frame_kernel : Cert.quiescent_O := fun m g _ => Cert.O.Gen.frame m g

theorem frame_kernelIdeal : Cert.quiescent_OIdeal := fun m g _ => Cert.OIdeal.Gen.frame m g

/-- The reference runs, its arguments are unchanged, and it has no semaphore. -/
theorem frame_reference : Cert.quiescent_OReferenceIdeal := fun m g _ =>
  (θ_run defs _ _).mono (fun r h => ⟨fun c => (h c).2, sem_eq_zero_of_no_sems (by decide) r.2⟩) (Value.run (F := Ideal) m g)

theorem algebraic : Cert.algebraic_OIdeal_OReferenceIdeal := fun m g m' g' _ hargs =>
  ⟨fun c => val_main_v1 (F := Ideal) (m' ((c.tc : Thread _ _).loc main_arg0)) (m' ((c.tc : Thread _ _).loc main_arg1)),
   (θ_run Cert.OIdeal.defs _ _).mono (fun r h c => by
      obtain ⟨h0, hk⟩ := h c
      obtain ⟨a0, a1⟩ := hargs c
      refine ⟨h0.trans ?_, hk⟩
      dsimp only
      rw [a0, a1]
      exact (Cert.OIdeal.Closed.final2 m c).trans (result _ _).symm)
    (Cert.OIdeal.Value.run_blocks m g),
   Value.run (F := Ideal) m' g'⟩

end Cert.OProof

end
-- ==== Proof.Down.lean ====
/- The gradient of the last projection's input: the frames and the value claim. Each grid point multiplies one block of
   1024 rows with one block of 1408 rows of the weights, over the whole contracted dimension. -/
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import Idealize.ShloMosaic.Lib.Pipeline.ValueKit
public import Idealize.ShloMosaic.Lib.IdealHost
public import Idealize.ShloMosaic.Lib.KernelVsHost

@[expose] public section

set_option maxRecDepth 16384

noncomputable section

open Idealize.ShloMosaic Idealize.ShloMosaic.TcCoe Idealize.SL.Sem

namespace Cert.DownIdeal.Closed

open Cert.DownIdeal Cert.DownIdeal.Gen

/-- The product, entry by entry. -/
def product (X : FVec Ideal S16384x1024 .f32) (W : FVec Ideal S2816x1024 .bf16) : FVec Ideal S16384x2816 .f32 :=
  fun i => ∑ k : Fin 1024, X (ix2 (i 0) k) * W (ix2 (i 1) k)

variable (m : (ℓ : Loc nD τ sig) → Buf (Elt Ideal) ℓ)

/-- Grid point `t` takes row block `t / 2` and column block `t % 2`. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- A row of row block `t / 2`, and a column of column block `t % 2`. -/
def row (t : Fin cfg0.N) (r : Fin 1024) : Fin 16384 := ⟨t.val / 2 * 1024 + r.val, by have h : t.val < 32 := t.isLt; omega⟩
def col (t : Fin cfg0.N) (x : Fin 1408) : Fin 2816 := ⟨t.val % 2 * 1408 + x.val, by omega⟩

theorem read0 (c : Dev nD) (t : Fin cfg0.N) (r k : Fin 1024) :
    iblk m c 0 t (ix2 r k) = m ((c : Thread nD τ).loc main_arg0) (ix2 (row t r) k) := by
  unfold row
  blk_ext [iblk, V, idx t]

theorem read1 (c : Dev nD) (t : Fin cfg0.N) (x : Fin 1408) (k : Fin 1024) :
    iblk m c 1 t (ix2 x k) = m ((c : Thread nD τ).loc main_arg1) (ix2 (col t x) k) := by
  unfold col
  blk_ext [iblk, V, idx t]

theorem emb2 (t : Fin cfg0.N) (r : Fin 1024) (x : Fin 1408) :
    ((View.whole main_v0).slice (win0_2.rect t)).emb (ix2 r x : S1024x1408.Idx) = ix2 (row t r) (col t x) := by
  unfold row col
  blk_ext [idx t]

/-- What one grid point computes. -/
theorem tile (a : FVec Ideal S1024x1024 .f32) (b : FVec Ideal S1408x1024 .bf16) (r : Fin 1024) (x : Fin 1408) :
    k0_pay1 (F := Ideal) a b (ix2 r x) = ∑ k : Fin 1024, a (ix2 r k) * b (ix2 x k) := by
  pointwise [k0_pay1]

theorem final2 (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  obtain ⟨r, x, rfl⟩ : ∃ (r : Fin 1024) (x : Fin 1408), y = (ix2 r x : S1024x1408.Idx) := ⟨y 0, y 1, by
    funext a
    match a with
    | ⟨0, _⟩ => rfl
    | ⟨1, _⟩ => rfl⟩
  blk_simp
  rw [after0_2]; frame_out
  rw [emb2]
  refine (tile (iblk m c 0 t) (iblk m c 1 t) r x).trans (Finset.sum_congr rfl fun k _ => ?_)
  rw [read0, read1]
  rfl

end Cert.DownIdeal.Closed

namespace Cert.DownReferenceIdeal.Closed

open Cert.DownReferenceIdeal Cert.DownReferenceIdeal.Gen Cert.DownReferenceIdeal.Read
open Cert.DownIdeal.Closed (product)

theorem result (X : FVec Ideal S16384x1024 .f32) (W : FVec Ideal S2816x1024 .bf16) : val_main_v3 (F := Ideal) X W = product X W := by
  funext i
  rw [val_main_v3_apply]
  refine Finset.sum_congr rfl fun k _ => congrArg₂ (· * ·) (congrArg X ?_) (congrArg W ?_) <;>
  · funext a
    match a with
    | ⟨0, _⟩ => rfl
    | ⟨1, _⟩ => rfl

end Cert.DownReferenceIdeal.Closed

namespace Cert.DownProof

theorem frame_kernel : Cert.quiescent_Down := fun m g _ => Cert.Down.Gen.frame m g

theorem frame_kernelIdeal : Cert.quiescent_DownIdeal := fun m g _ => Cert.DownIdeal.Gen.frame m g

/-- The reference runs, its arguments are unchanged, and it has no semaphore. -/
theorem frame_reference : Cert.quiescent_DownReferenceIdeal := fun m g _ =>
  (θ_run Cert.DownReferenceIdeal.defs _ _).mono (fun r h => ⟨fun c => (h c).2, sem_eq_zero_of_no_sems (by decide) r.2⟩)
    (Cert.DownReferenceIdeal.Value.run (F := Ideal) m g)

theorem algebraic : Cert.algebraic_DownIdeal_DownReferenceIdeal := fun m g m' g' _ hargs =>
  ⟨fun c => Cert.DownReferenceIdeal.Read.val_main_v3 (F := Ideal) (m' ((c.tc : Thread _ _).loc Cert.DownReferenceIdeal.main_arg0)) (m' ((c.tc : Thread _ _).loc Cert.DownReferenceIdeal.main_arg1)),
   (θ_run Cert.DownIdeal.defs _ _).mono (fun r h c => by
      obtain ⟨h0, hk⟩ := h c
      obtain ⟨a0, a1⟩ := hargs c
      refine ⟨h0.trans ?_, hk⟩
      dsimp only
      rw [a0, a1]
      exact (Cert.DownIdeal.Closed.final2 m c).trans (Cert.DownReferenceIdeal.Closed.result _ _).symm)
    (Cert.DownIdeal.Value.run_blocks m g),
   Cert.DownReferenceIdeal.Value.run (F := Ideal) m' g'⟩

end Cert.DownProof

end
-- ==== Proof.Attn.Step.lean ====
/-
  One grid point of the attention backward kernel as a function of arrays.

  The kernel walks a list of pairs (i, j): rows `512 * i …` of the queries against rows `2048 * j …` of the keys. It keeps
  three arrays from point to point: the gradient of the head's queries (`dq`, the whole head), and the gradients of the
  current keys and values (`dk`, `dv`, one block). `Acc` is the three together, and `stepAt` is what one point makes of them.
-/
module

public import proofs.«01_k».proof.Proof.Gen.KernelIdeal.Skeleton
public import Idealize.ShloMosaic.Lib.VecWindow
public import Idealize.ShloMosaic.PureOps.Ideal

@[expose] public section

noncomputable section

namespace Cert.KernelIdeal.Attn

open Cert.KernelIdeal Cert.KernelIdeal.Gen
open Idealize.ShloMosaic

/-- The table memrefs and the two scratch buffers, as the pipeline passes them. -/
abbrev tabI : Memref sig .tc .smem S144 .i32 := Memref.whole main_c
abbrev tabJ : Memref sig .tc .smem S144 .i32 := Memref.whole main_c_0
abbrev scK : Memref sig .tc .vmem S2048x128 .f32 := Memref.whole cc0_scratch0
abbrev scV : Memref sig .tc .vmem S2048x128 .f32 := Memref.whole cc0_scratch1

/-- The word of the table of query blocks that the point with coordinates `i` reads. -/
abbrev wordI (T : S144.Idx → Elt Ideal .i32) (i : grid0.Coords) : Elt Ideal .i32 :=
  View.readAt (Elt Ideal) tabI.view (Rect.unit (s := S144) (k0_off1 i) S1.size (k0_off1_inb i)).toLoadRect T (Shape.Idx.first (numel1_S1.symm ▸ Nat.one_pos))
/-- The word of the table of key blocks that the point with coordinates `i` reads. -/
abbrev wordJ (T : S144.Idx → Elt Ideal .i32) (i : grid0.Coords) : Elt Ideal .i32 :=
  View.readAt (Elt Ideal) tabJ.view (Rect.unit (s := S144) (k0_off1 i) S1.size (k0_off1_inb i)).toLoadRect T (Shape.Idx.first (numel1_S1.symm ▸ Nat.one_pos))

/-- The first query block that meets key block `j`, as the kernel computes it. -/
abbrev firstOf (j : BitVec 32) : BitVec 32 :=
  Scalar.select (Scalar.andi (Scalar.cmpi .ne (Scalar.subi (Scalar.extui (Scalar.cmpi .sgt (Scalar.muli j 2048#32) 0#32)) (Scalar.extui (Scalar.cmpi .slt (Scalar.muli j 2048#32) 0#32)))
      (Scalar.subi (Scalar.extui (Scalar.cmpi .sgt 512#32 0#32)) (Scalar.extui (Scalar.cmpi .slt 512#32 0#32)))) (Scalar.cmpi .ne (Scalar.remsi (Scalar.muli j 2048#32) 512#32) 0#32))
    (Scalar.subi (Scalar.divsi (Scalar.muli j 2048#32) 512#32) 1#32) (Scalar.divsi (Scalar.muli j 2048#32) 512#32)

/-- Whether query block `i` is the first that meets key block `j`. -/
abbrev condF (i j : BitVec 32) : BitVec 1 := Scalar.cmpi .ne (Scalar.extui (Scalar.cmpi .eq i (firstOf j))) 0#32

/-- The three accumulators. -/
structure Acc where
  dq : S1x16384x128.Idx → Elt Ideal .f32
  dk : S2048x128.Idx → Elt Ideal .f32
  dv : S2048x128.Idx → Elt Ideal .f32

/-- The six input blocks of a point: queries, keys, values, output, row normalisers, cotangent. -/
structure Blk where
  q : S1x512x128.Idx → Elt Ideal .bf16
  k : S1x2048x128.Idx → Elt Ideal .bf16
  v : S1x2048x128.Idx → Elt Ideal .bf16
  o : S1x512x128.Idx → Elt Ideal .f32
  l : S1x512x128.Idx → Elt Ideal .f32
  g : S1x512x128.Idx → Elt Ideal .f32

/-- What a pair below the diagonal adds. -/
def addFull (i : BitVec 32) (inb : ∀ a, k0_off2 i a + S1x512x128.size a ≤ S1x16384x128.size a) (b : Blk) (s : Acc) : Acc where
  dq := VecWindow.put s.dq (k0_off2 i) S1x512x128.size
    (k0_pay23 (k0_pay7 b.k) (k0_pay11 b.q b.k b.g b.l b.v b.o) (VecWindow.window s.dq (k0_off2 i) S1x512x128.size inb))
  dk := k0_pay22 (k0_pay6 b.q) (k0_pay11 b.q b.k b.g b.l b.v b.o) s.dk
  dv := k0_pay12 b.q b.k b.g b.l s.dv

/-- What a pair on the diagonal adds. -/
def addMasked (i j : BitVec 32) (inb : ∀ a, k0_off3 i a + S1x512x128.size a ≤ S1x16384x128.size a) (b : Blk) (s : Acc) : Acc where
  dq := VecWindow.put s.dq (k0_off3 i) S1x512x128.size
    (k0_pay3 (k0_pay14 b.k) (k0_pay18 i j b.q b.k b.g b.l b.v b.o) (VecWindow.window s.dq (k0_off3 i) S1x512x128.size inb))
  dk := k0_pay2 (k0_pay13 b.q) (k0_pay18 i j b.q b.k b.g b.l b.v b.o) s.dk
  dv := k0_pay1 (k0_pay16 b.g) (k0_pay17 i j b.q b.k b.l) s.dv

end Cert.KernelIdeal.Attn

end
-- ==== Proof.Attn.Tile.lean ====
/-
  What one tile adds, at an index and over the reals.
-/
module

public import proofs.«01_k».proof.Proof.Attn.Step
public import Idealize.ShloMosaic.Lib.Pointwise
public import Idealize.ShloMosaic.Lib.IdealHost

@[expose] public section

set_option maxRecDepth 16384
set_option Elab.async false

noncomputable section

namespace Cert.KernelIdeal.Attn

open Cert.KernelIdeal Cert.KernelIdeal.Gen
open Idealize.ShloMosaic
open Idealize.ShloMosaic.TcCoe

/-- A finite sum of reals, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A sum of products of reals, taken in the extended reals. -/
theorem coe_dot {ι : Type} (s : Finset ι) (f g : ι → ℝ) :
    (∑ i ∈ s, @HMul.hMul EReal EReal EReal _ ((f i : ℝ) : EReal) ((g i : ℝ) : EReal)) = ((∑ i ∈ s, f i * g i : ℝ) : EReal) := by
  rw [← coe_sum]; exact Finset.sum_congr rfl fun i _ => (EReal.coe_mul _ _).symm

/-- The six blocks of a point as reals; the log-sum is the same on every lane. -/
structure RBlk where
  q : Fin 512 → Fin 128 → ℝ
  k : Fin 2048 → Fin 128 → ℝ
  v : Fin 2048 → Fin 128 → ℝ
  o : Fin 512 → Fin 128 → ℝ
  l : Fin 512 → ℝ
  g : Fin 512 → Fin 128 → ℝ

/-- The blocks `b` hold the reals `R`. -/
structure Holds (b : Blk) (R : RBlk) : Prop where
  q : ∀ (r : Fin 512) (d : Fin 128), b.q (ix3 0 r d : S1x512x128.Idx) = ((R.q r d : ℝ) : EReal)
  k : ∀ (x : Fin 2048) (d : Fin 128), b.k (ix3 0 x d : S1x2048x128.Idx) = ((R.k x d : ℝ) : EReal)
  v : ∀ (x : Fin 2048) (d : Fin 128), b.v (ix3 0 x d : S1x2048x128.Idx) = ((R.v x d : ℝ) : EReal)
  o : ∀ (r : Fin 512) (d : Fin 128), b.o (ix3 0 r d : S1x512x128.Idx) = ((R.o r d : ℝ) : EReal)
  l : ∀ (r : Fin 512) (d : Fin 128), b.l (ix3 0 r d : S1x512x128.Idx) = ((R.l r : ℝ) : EReal)
  g : ∀ (r : Fin 512) (d : Fin 128), b.g (ix3 0 r d : S1x512x128.Idx) = ((R.g r d : ℝ) : EReal)

/-- The weight of key `x` for query `r`, before the mask. -/
def RBlk.w (R : RBlk) (r : Fin 512) (x : Fin 2048) : ℝ := Real.rpow 2 ((∑ d, R.q r d * R.k x d) - R.l r)

/-- The gradient of the weight less the row's mean. -/
def RBlk.e (R : RBlk) (r : Fin 512) (x : Fin 2048) : ℝ := (∑ d, R.g r d * R.v x d) - ∑ d, R.g r d * R.o r d

theorem lanes (y : FVec Ideal S512x128 .f32) (a : EReal) (r : Fin 512) (h : ∀ d, y (ix2 r d) = a) (x : Fin 2048) (hc) :
    concatenate S512x2048 1 (List.ofFn fun _ : Fin 16 => (⟨S512x128, y⟩ : (s : Shape) × (s.Idx → EReal))) hc (ix2 r x : S512x2048.Idx) = a :=
  (concatenate_ofFn_apply (t := S512x2048) (s₁ := S512x128) (1 : Fin 2) (fun _ : Fin 16 => y) hc rfl 128 rfl (ix2 r x : S512x2048.Idx) ⟨x.val / 128, by omega⟩ rfl
    (ix2 r ⟨x.val % 128, by omega⟩ : S512x128.Idx) rfl (fun b hb => by
      match b with
      | ⟨0, _⟩ => rfl
      | ⟨1, _⟩ => exact absurd rfl hb)).trans (h _)

/-- The scores of a tile. -/
theorem scores (b : Blk) (R : RBlk) (H : Holds b R) (r : Fin 512) (x : Fin 2048) :
    matmul dot_S512x128_S2048x128_S512x2048_1_1_0_0_n_n none (k0_pay6 (F := Ideal) b.q) (k0_pay7 (F := Ideal) b.k)
      (constant S512x2048 .f32 0x00000000#32) (ix2 r x) = ((∑ d, R.q r d * R.k x d : ℝ) : EReal) := by
  pointwise [k0_pay6, k0_pay7, H.q, H.k]
  exact coe_dot _ _ _

theorem cast_l (b : Blk) (R : RBlk) (H : Holds b R) (r : Fin 512) (d : Fin 128) :
    shapeCast S512x128 b.l shapeCasts_S1x512x128_S512x128 (ix2 r d) = ((R.l r : ℝ) : EReal) := by
  pointwise [H.l]

theorem weight (b : Blk) (R : RBlk) (H : Holds b R) (r : Fin 512) (x : Fin 2048) :
    k0_pay10 (F := Ideal) b.q b.k b.l (ix2 r x) = ((R.w r x : ℝ) : EReal) :=
  (congrArg Ideal.exp2 (congrArg₂ (fun a b : EReal => a - b) (scores b R H r x) (lanes _ _ r (cast_l b R H r) x _))).trans
    (by rw [← EReal.coe_sub, Ideal.exp2_coe]; rfl)

theorem ds_full (b : Blk) (R : RBlk) (H : Holds b R) (r : Fin 512) (x : Fin 2048) :
    k0_pay11 (F := Ideal) b.q b.k b.g b.l b.v b.o (ix2 r x) = ((R.w r x * R.e r x : ℝ) : EReal) := by
  pointwise [k0_pay11, k0_pay9, k0_pay8, weight b R H, H.g, H.v, H.o]
  rw [coe_dot, coe_dot, ← EReal.coe_sub, ← EReal.coe_mul]; rfl

def maskW (w1 w3 : BitVec 32) (r : Fin 512) (x : Fin 2048) : BitVec 1 :=
  IntOp.cmpi .sle (IntOp.addi (Scalar.muli w3 2048#32) (BitVec.ofNat 32 x.val)) (IntOp.addi (Scalar.muli w1 512#32) (BitVec.ofNat 32 r.val))

theorem mask_at (w1 w3 : BitVec 32) (r : Fin 512) (x : Fin 2048) :
    cmpi .sle (addi (broadcast S512x2048 (Scalar.muli w3 2048#32)) (iota .tc S512x2048 32 [1] iota_S512x2048_d1_w32))
      (addi (broadcast S512x2048 (Scalar.muli w1 512#32)) (iota .tc S512x2048 32 [0] iota_S512x2048_d0_w32)) (ix2 r x) = maskW w1 w3 r x := by
  pointwise [maskW]

theorem ofBits_bot : Ideal.ofBits .f32 0xFF800000#32 = ⊥ := by
  simp [Ideal.ofBits, Ideal.ieee]

theorem weight_masked (w1 w3 : BitVec 32) (b : Blk) (R : RBlk) (H : Holds b R) (r : Fin 512) (x : Fin 2048) :
    k0_pay17 (F := Ideal) w1 w3 b.q b.k b.l (ix2 r x) = (((if maskW w1 w3 r x = 1#1 then R.w r x else 0) : ℝ) : EReal) := by
  have h : k0_pay17 (F := Ideal) w1 w3 b.q b.k b.l (ix2 r x) =
      Ideal.exp2 ((Scalar.select (maskW w1 w3 r x) ((∑ d, R.q r d * R.k x d : ℝ) : EReal) ⊥ : EReal) - ((R.l r : ℝ) : EReal)) := by
    rw [← ofBits_bot, ← scores b R H r x, ← mask_at]
    exact congrArg Ideal.exp2 (congrArg₂ (fun a b : EReal => a - b) rfl (lanes _ _ r (cast_l b R H r) x _))
  rw [h]
  by_cases hm : maskW w1 w3 r x = 1#1
  · rw [if_pos hm, hm]
    exact congrArg Ideal.exp2 (EReal.coe_sub _ _).symm
  · rw [if_neg hm, show (Scalar.select (maskW w1 w3 r x) ((∑ d, R.q r d * R.k x d : ℝ) : EReal) ⊥ : EReal) = ⊥ from if_neg hm]
    rw [EReal.bot_sub, Ideal.exp2_bot]; rfl

theorem ds_masked (w1 w3 : BitVec 32) (b : Blk) (R : RBlk) (H : Holds b R) (r : Fin 512) (x : Fin 2048) :
    k0_pay18 (F := Ideal) w1 w3 b.q b.k b.g b.l b.v b.o (ix2 r x)
      = (((if maskW w1 w3 r x = 1#1 then R.w r x else 0) * R.e r x : ℝ) : EReal) := by
  pointwise [k0_pay18, k0_pay16, k0_pay15, weight_masked w1 w3 b R H, H.g, H.v, H.o]
  rw [coe_dot, coe_dot, ← EReal.coe_sub, ← EReal.coe_mul]; rfl

/-- The mask's word: the key is not after the query. -/
theorem maskW_iff (i j : ℕ) (hi : i < 32) (hj : j < 8) (r : Fin 512) (x : Fin 2048) :
    maskW (BitVec.ofNat 32 i) (BitVec.ofNat 32 j) r x = 1#1 ↔ 2048 * j + x.val ≤ 512 * i + r.val := by
  have e : ∀ a b : ℕ, a < 16384 → b < 16384 → (IntOp.cmpi .sle (BitVec.ofNat 32 a) (BitVec.ofNat 32 b) = 1#1 ↔ a ≤ b) := by
    intro a b ha hb
    have ta : (BitVec.ofNat 32 a).toInt = a := by
      rw [BitVec.toInt_eq_toNat_of_lt] <;> rw [BitVec.toNat_ofNat] <;> omega
    have tb : (BitVec.ofNat 32 b).toInt = b := by
      rw [BitVec.toInt_eq_toNat_of_lt] <;> rw [BitVec.toNat_ofNat] <;> omega
    show BitVec.ofBool (BitVec.sle _ _) = 1#1 ↔ _
    rw [BitVec.sle, ta, tb]
    by_cases h : a ≤ b
    · simp [h]
    · simp [h]
  have ej : IntOp.addi (Scalar.muli (BitVec.ofNat 32 j) 2048#32) (BitVec.ofNat 32 x.val) = BitVec.ofNat 32 (j * 2048 + x.val) := by
    show BitVec.ofNat 32 j * BitVec.ofNat 32 2048 + BitVec.ofNat 32 x.val = _
    rw [BitVec.ofNat_add, BitVec.ofNat_mul]
  have ei : IntOp.addi (Scalar.muli (BitVec.ofNat 32 i) 512#32) (BitVec.ofNat 32 r.val) = BitVec.ofNat 32 (i * 512 + r.val) := by
    show BitVec.ofNat 32 i * BitVec.ofNat 32 512 + BitVec.ofNat 32 r.val = _
    rw [BitVec.ofNat_add, BitVec.ofNat_mul]
  rw [maskW, ej, ei, e _ _ (by omega) (by omega)]
  omega

/-- The reals a tile adds, with the weights `p`. -/
theorem add_dv (p : FVec Ideal S512x2048 .f32) (P : Fin 512 → Fin 2048 → ℝ) (hp : ∀ r x, p (ix2 r x) = ((P r x : ℝ) : EReal))
    (b : Blk) (R : RBlk) (H : Holds b R) (a : FVec Ideal S2048x128 .f32) (y : ℝ) (x : Fin 2048) (d : Fin 128) (ha : a (ix2 x d) = (y : EReal)) :
    k0_pay1 (F := Ideal) (k0_pay16 b.g) p a (ix2 x d) = ((y + ∑ r, P r x * R.g r d : ℝ) : EReal) := by
  pointwise [k0_pay1, k0_pay16, k0_pay15, hp, H.g, ha]
  rw [coe_dot, ← EReal.coe_add]

theorem add_dk (p : FVec Ideal S512x2048 .bf16) (P : Fin 512 → Fin 2048 → ℝ) (hp : ∀ r x, p (ix2 r x) = ((P r x : ℝ) : EReal))
    (b : Blk) (R : RBlk) (H : Holds b R) (a : FVec Ideal S2048x128 .f32) (y : ℝ) (x : Fin 2048) (d : Fin 128) (ha : a (ix2 x d) = (y : EReal)) :
    k0_pay2 (F := Ideal) (k0_pay13 b.q) p a (ix2 x d) = ((y + ∑ r, P r x * R.q r d : ℝ) : EReal) := by
  pointwise [k0_pay2, k0_pay13, hp, H.q, ha]
  rw [coe_dot, ← EReal.coe_add]

theorem add_dq (p : FVec Ideal S512x2048 .bf16) (P : Fin 512 → Fin 2048 → ℝ) (hp : ∀ r x, p (ix2 r x) = ((P r x : ℝ) : EReal))
    (b : Blk) (R : RBlk) (H : Holds b R) (σ : ℝ) (hσ : Ideal.ofBits .f32 0x3DD105EC#32 = ((σ : ℝ) : EReal))
    (a : FVec Ideal S1x512x128 .f32) (y : ℝ) (r : Fin 512) (d : Fin 128) (ha : a (ix3 0 r d) = (y : EReal)) :
    k0_pay3 (F := Ideal) (k0_pay14 b.k) p a (ix3 0 r d) = ((y + (∑ x, P r x * R.k x d) * σ : ℝ) : EReal) := by
  pointwise [k0_pay3, k0_pay14, hp, H.k, ha, hσ]
  rw [coe_dot, ← EReal.coe_mul, ← EReal.coe_add]

theorem pay12_eq (b : Blk) (a : FVec Ideal S2048x128 .f32) :
    k0_pay12 (F := Ideal) b.q b.k b.g b.l a = k0_pay1 (k0_pay16 b.g) (k0_pay10 b.q b.k b.l) a := rfl
theorem pay22_eq (b : Blk) (p : FVec Ideal S512x2048 .bf16) (a : FVec Ideal S2048x128 .f32) :
    k0_pay22 (F := Ideal) (k0_pay6 b.q) p a = k0_pay2 (k0_pay13 b.q) p a := rfl
theorem pay23_eq (b : Blk) (p : FVec Ideal S512x2048 .bf16) (a : FVec Ideal S1x512x128 .f32) :
    k0_pay23 (F := Ideal) (k0_pay7 b.k) p a = k0_pay3 (k0_pay14 b.k) p a := rfl

theorem pay4_at (a : FVec Ideal S2048x128 .f32) (y : ℝ) (x : Fin 2048) (d : Fin 128) (ha : a (ix2 x d) = (y : EReal)) :
    k0_pay4 (F := Ideal) a (ix3 0 x d) = ((y * Real.log 2 : ℝ) : EReal) := by
  pointwise [k0_pay4, ha]
  rw [IdealRules.named_const.ideal_named_scalar _ _ _ _ rfl, ← EReal.coe_mul]

theorem pay5_at (a : FVec Ideal S2048x128 .f32) (x : Fin 2048) (d : Fin 128) :
    k0_pay5 (F := Ideal) a (ix3 0 x d) = a (ix2 x d) := by
  pointwise [k0_pay5]

end Cert.KernelIdeal.Attn

end
-- ==== Proof.Attn.Sum.lean ====
/-
  The order in which a head's tiles are visited, and sums over it: key block by key block, and of a key block every query
  block from the one its first key lies in.
-/
module

public import proofs.«01_k».proof.Proof.Attn.Tile

@[expose] public section

set_option Elab.async false

noncomputable section

namespace Cert.KernelIdeal.Attn

/-- The key block of a head's point `s`. -/
def nJ (s : ℕ) : ℕ :=
  if s < 32 then 0 else if s < 60 then 1 else if s < 84 then 2 else if s < 104 then 3 else if s < 120 then 4 else if s < 132 then 5
    else if s < 140 then 6 else 7

/-- The query block of a head's point `s`. -/
def nI (s : ℕ) : ℕ :=
  if s < 32 then s else if s < 60 then s - 28 else if s < 84 then s - 52 else if s < 104 then s - 72 else if s < 120 then s - 88
    else if s < 132 then s - 100 else if s < 140 then s - 108 else s - 112

theorem nI_lt (s : ℕ) (h : s < 144) : nI s < 32 := by unfold nI; split_ifs <;> omega
theorem nJ_lt (s : ℕ) : nJ s < 8 := by unfold nJ; split_ifs <;> omega

/-- A query block begins a key block exactly where no earlier point had that key block. -/
theorem first_iff : ∀ s : Fin 144, (nI s = 4 * nJ s → ∀ p : Fin 144, p < s → nJ p ≠ nJ s) ∧ (nI s ≠ 4 * nJ s → 0 < s.val ∧ nJ (s.val - 1) = nJ s) := by
  decide +kernel

theorem pairs_all : ∀ b : Fin 32, ∀ j : Fin 8, ((Finset.range 144).filter fun p => nI p = b ∧ nJ p = j).card = if 4 * j.val ≤ b.val then 1 else 0 := by
  decide +kernel

/-- The last point of key block `j`. -/
def lastOf (j : ℕ) : ℕ := if j = 0 then 31 else if j = 1 then 59 else if j = 2 then 83 else if j = 3 then 103 else if j = 4 then 119
  else if j = 5 then 131 else if j = 6 then 139 else 143

theorem lastOf_spec : ∀ j : Fin 8, lastOf j < 144 ∧ nJ (lastOf j) = j ∧ nI (lastOf j) = 31 := by decide +kernel

theorem pairs_upto : ∀ j : Fin 8, ∀ i : Fin 32,
    ((Finset.range (lastOf j + 1)).filter fun p => nJ p = j ∧ nI p = i).card = if 4 * j.val ≤ i.val then 1 else 0 := by
  decide +kernel

theorem last_unique : ∀ s : Fin 144, nI s = 31 → s.val = lastOf (nJ s) := by decide +kernel

/-- A sum over points regrouped by a key, each key taken at most once. -/
theorem regroup (S : Finset ℕ) (P : ℕ → Prop) [DecidablePred P] (key : ℕ → ℕ) (n : ℕ) (hk : ∀ p ∈ S, P p → key p < n)
    (good : ℕ → Prop) [DecidablePred good]
    (hc : ∀ k, k < n → (S.filter fun p => P p ∧ key p = k).card = if good k then 1 else 0) (f : ℕ → ℝ) :
    (∑ p ∈ S, if P p then f (key p) else 0) = ∑ k ∈ Finset.range n, if good k then f k else 0 := by
  have h1 : ∀ p ∈ S, (if P p then f (key p) else 0) = ∑ k ∈ Finset.range n, if P p ∧ key p = k then f k else 0 := by
    intro p hp
    by_cases h : P p
    · rw [if_pos h, Finset.sum_eq_single (key p)]
      · rw [if_pos ⟨h, rfl⟩]
      · intro k _ hne; rw [if_neg fun q => hne q.2.symm]
      · intro hn; exact absurd (Finset.mem_range.2 (hk p hp h)) hn
    · rw [if_neg h]
      exact (Finset.sum_eq_zero fun k _ => if_neg fun q => h q.1).symm
  rw [Finset.sum_congr rfl h1, Finset.sum_comm]
  refine Finset.sum_congr rfl fun k hk' => ?_
  rw [← Finset.sum_filter, Finset.sum_const, hc k (Finset.mem_range.1 hk')]
  by_cases g : good k
  · rw [if_pos g, if_pos g, one_smul]
  · rw [if_neg g, if_neg g, zero_smul]

/-- All the key blocks a query block meets. -/
theorem sum_queries (b : ℕ) (hb : b < 32) (f : ℕ → ℝ) :
    (∑ p ∈ Finset.range 144, if nI p = b then f (nJ p) else 0) = ∑ j ∈ Finset.range 8, if 4 * j ≤ b then f j else 0 :=
  regroup _ (fun p => nI p = b) nJ 8 (fun p _ _ => nJ_lt p) (fun j => 4 * j ≤ b) (fun j hj => pairs_all ⟨b, hb⟩ ⟨j, hj⟩) f

/-- All the query blocks a key block meets. -/
theorem sum_keys (j : ℕ) (hj : j < 8) (f : ℕ → ℝ) :
    (∑ p ∈ Finset.range (lastOf j + 1), if nJ p = j then f (nI p) else 0) = ∑ i ∈ Finset.range 32, if 4 * j ≤ i then f i else 0 :=
  regroup _ (fun p => nJ p = j) nI 32
    (fun p hp _ => nI_lt p (by have := (lastOf_spec ⟨j, hj⟩).1; have := Finset.mem_range.1 hp; simp only at *; omega))
    (fun i => 4 * j ≤ i) (fun i hi => pairs_upto ⟨j, hj⟩ ⟨i, hi⟩) f

/-- A row's position. -/
def row (n : ℕ) : Fin 16384 := ⟨n % 16384, Nat.mod_lt _ (by decide)⟩

theorem row_val (n : ℕ) (h : n < 16384) : (row n).val = n := Nat.mod_eq_of_lt h
theorem row_self (i : Fin 16384) : row i.val = i := Fin.ext (row_val _ i.isLt)

/-- A sum over the rows, block by block. -/
theorem sum_tiles (J T : ℕ) (h : J * T = 16384) (f : Fin 16384 → ℝ) :
    (∑ i, f i) = ∑ j ∈ Finset.range J, ∑ t : Fin T, f (row (T * j + t.val)) := by
  have e : (∑ i : Fin 16384, f i) = ∑ i : Fin (J * T), f (row i.val) := by
    subst_vars
    rw [← Fin.sum_congr' (fun i : Fin 16384 => f i) h]
    exact Finset.sum_congr rfl fun i _ => congrArg f (Fin.ext (row_val _ (by have := i.isLt; omega)).symm)
  rw [e, ← (finProdFinEquiv (m := J) (n := T)).sum_comp, Fintype.sum_prod_type, Finset.sum_range]
  refine Finset.sum_congr rfl fun j _ => Finset.sum_congr rfl fun t _ => ?_
  exact congrArg (fun n => f (row n)) (by simp only [finProdFinEquiv_apply_val]; omega)

end Cert.KernelIdeal.Attn

end
-- ==== Proof.Attn.Tables.lean ====
/-
  The two tables of the attention backward kernel, and what is decided of them: every block lies inside its array, and at
  each of the 1152 points which of the kernel's branches are taken.
-/
module

public import proofs.«01_k».proof.Proof.Attn.Step
public import proofs.«01_k».proof.Proof.Gen.KernelIdeal.Launch
public import Idealize.ShloMosaic.Lib.Pipeline.Kit
public import Idealize.ShloMosaic.Lib.Pipeline.TableIdle
public import Idealize.ShloMosaic.Lib.Affine

@[expose] public section

set_option maxRecDepth 16384
set_option Elab.async false

noncomputable section

namespace Cert.KernelIdeal.Attn

open Cert.KernelIdeal Cert.KernelIdeal.Gen
open Idealize.ShloMosaic

/-- The table of query blocks and the table of key blocks, as the host writes them. -/
def tblI : S144.Idx → BitVec 32 := fun i => lit0 (S144.rowMajor i)
def tblJ : S144.Idx → BitVec 32 := fun i => lit1 (S144.rowMajor i)

set_option backward.proofsInPublic true in
/-- Both tables, as the pipeline takes them. -/
def tbl : pre0.Contents (Elt Ideal) := fun | ⟨0, _⟩ => tblI | ⟨1, _⟩ => tblJ | ⟨_ + 2, h⟩ => absurd h (by simp)

/-! ## Every block lies inside its array -/

theorem inside0 : ∀ i : grid0.Coords, ∀ a, (cc0_transform_0 k0_off1_inb numel1_S1 tbl i a + 1) * S1x512x128.size a ≤ S8x16384x128.size a := by decide +kernel
theorem inside1 : ∀ i : grid0.Coords, ∀ a, (cc0_transform_1 k0_off1_inb numel1_S1 tbl i a + 1) * S1x2048x128.size a ≤ S8x16384x128.size a := by decide +kernel
theorem inside2 : ∀ i : grid0.Coords, ∀ a, (cc0_transform_2 k0_off1_inb numel1_S1 tbl i a + 1) * S1x2048x128.size a ≤ S8x16384x128.size a := by decide +kernel
theorem inside3 : ∀ i : grid0.Coords, ∀ a, (cc0_transform_3 k0_off1_inb numel1_S1 tbl i a + 1) * S1x512x128.size a ≤ S8x16384x128.size a := by decide +kernel
theorem inside4 : ∀ i : grid0.Coords, ∀ a, (cc0_transform_4 k0_off1_inb numel1_S1 tbl i a + 1) * S1x512x128.size a ≤ S8x16384x128.size a := by decide +kernel
theorem inside5 : ∀ i : grid0.Coords, ∀ a, (cc0_transform_5 k0_off1_inb numel1_S1 tbl i a + 1) * S1x512x128.size a ≤ S8x16384x128.size a := by decide +kernel
theorem inside7 : ∀ i : grid0.Coords, ∀ a, (cc0_transform_7 k0_off1_inb numel1_S1 tbl i a + 1) * S1x2048x128.size a ≤ S8x16384x128.size a := by decide +kernel
theorem inside8 : ∀ i : grid0.Coords, ∀ a, (cc0_transform_8 k0_off1_inb numel1_S1 tbl i a + 1) * S1x2048x128.size a ≤ S8x16384x128.size a := by decide +kernel

/-- The side condition of the pipeline holds at the tables. -/
theorem tbl_ok : ok0 (F := Ideal) tbl :=
  ⟨fun i => ⟨inside0 i, .inr (Affine.block_words_dvd (s := S8x16384x128) (p := EltTy.packing .bf16) (by decide) (by decide))⟩,
   fun i => ⟨inside1 i, .inr (Affine.block_words_dvd (s := S8x16384x128) (p := EltTy.packing .bf16) (by decide) (by decide))⟩,
   fun i => ⟨inside2 i, .inr (Affine.block_words_dvd (s := S8x16384x128) (p := EltTy.packing .bf16) (by decide) (by decide))⟩,
   fun i => ⟨inside3 i, .inl rfl⟩,
   fun i => ⟨inside4 i, .inl rfl⟩,
   fun i => ⟨inside5 i, .inl rfl⟩,
   fun i => ⟨inside7 i, .inl rfl⟩,
   fun i => ⟨inside8 i, .inl rfl⟩⟩

/-! ## The pipeline at the tables -/

def adm : (pcfg0 (F := Ideal)).Adm := ⟨tbl, tbl_ok⟩
abbrev cfgA : Pipeline.Cfg sig Λ₀ := cfg0 (F := Ideal) adm
abbrev pcs : Fin 1 → Pipeline.Cfg sig Λ₀ := Pipeline.pin (pcfgs (F := Ideal)) fun _ => adm

/-- Point `t`'s coordinates, and the two words it reads. -/
abbrev crd (t : Fin cfgA.N) : cfgA.grid.Coords := cfgA.grid.coords t
abbrev wI (t : Fin cfgA.N) : BitVec 32 := wordI tblI (crd t)
abbrev wJ (t : Fin cfgA.N) : BitVec 32 := wordJ tblJ (crd t)

/-- Each window's staging buffer at point `t`. -/
abbrev ms0 (t : Fin cfgA.N) : Memref sig .tc .vmem S1x512x128 .bf16 := spec0_0.stage (cfgA.slots t (0 : Fin 9))
abbrev hs0 (t : Fin cfgA.N) : (ms0 t).IsWhole := hstage0_0 ((cfgA.slots t (0 : Fin 9)).cast nbuf0_0)
abbrev ms1 (t : Fin cfgA.N) : Memref sig .tc .vmem S1x2048x128 .bf16 := spec0_1.stage (cfgA.slots t (1 : Fin 9))
abbrev hs1 (t : Fin cfgA.N) : (ms1 t).IsWhole := hstage0_1 ((cfgA.slots t (1 : Fin 9)).cast nbuf0_1)
abbrev ms2 (t : Fin cfgA.N) : Memref sig .tc .vmem S1x2048x128 .bf16 := spec0_2.stage (cfgA.slots t (2 : Fin 9))
abbrev hs2 (t : Fin cfgA.N) : (ms2 t).IsWhole := hstage0_2 ((cfgA.slots t (2 : Fin 9)).cast nbuf0_2)
abbrev ms3 (t : Fin cfgA.N) : Memref sig .tc .vmem S1x512x128 .f32 := spec0_3.stage (cfgA.slots t (3 : Fin 9))
abbrev hs3 (t : Fin cfgA.N) : (ms3 t).IsWhole := hstage0_3 ((cfgA.slots t (3 : Fin 9)).cast nbuf0_3)
abbrev ms4 (t : Fin cfgA.N) : Memref sig .tc .vmem S1x512x128 .f32 := spec0_4.stage (cfgA.slots t (4 : Fin 9))
abbrev hs4 (t : Fin cfgA.N) : (ms4 t).IsWhole := hstage0_4 ((cfgA.slots t (4 : Fin 9)).cast nbuf0_4)
abbrev ms5 (t : Fin cfgA.N) : Memref sig .tc .vmem S1x512x128 .f32 := spec0_5.stage (cfgA.slots t (5 : Fin 9))
abbrev hs5 (t : Fin cfgA.N) : (ms5 t).IsWhole := hstage0_5 ((cfgA.slots t (5 : Fin 9)).cast nbuf0_5)
abbrev ms6 (t : Fin cfgA.N) : Memref sig .tc .vmem S1x16384x128 .f32 := spec0_6.stage (cfgA.slots t (6 : Fin 9))
abbrev hs6 (t : Fin cfgA.N) : (ms6 t).IsWhole := hstage0_6 ((cfgA.slots t (6 : Fin 9)).cast nbuf0_6)
abbrev ms7 (t : Fin cfgA.N) : Memref sig .tc .vmem S1x2048x128 .f32 := spec0_7.stage (cfgA.slots t (7 : Fin 9))
abbrev hs7 (t : Fin cfgA.N) : (ms7 t).IsWhole := hstage0_7 ((cfgA.slots t (7 : Fin 9)).cast nbuf0_7)
abbrev ms8 (t : Fin cfgA.N) : Memref sig .tc .vmem S1x2048x128 .f32 := spec0_8.stage (cfgA.slots t (8 : Fin 9))
abbrev hs8 (t : Fin cfgA.N) : (ms8 t).IsWhole := hstage0_8 ((cfgA.slots t (8 : Fin 9)).cast nbuf0_8)

/-! ## What is decided at each point -/

/-- The branches at a point: a head's first point is the first of its key block, the first point of a key block is on the
    diagonal and not the last, and a point is on the diagonal or below it. -/
abbrev Branches (t : Fin cfgA.N) : Prop :=
  k0_chk1 (wI t) (wJ t)
    ∧ (k0_cond1 (crd t) = 1#1 → condF (wI t) (wJ t) = 1#1)
    ∧ (condF (wI t) (wJ t) = 1#1 → k0_cond4 (wI t) (wJ t) = 1#1 ∧ ¬ k0_cond5 (wI t) = 1#1)
    ∧ (k0_cond3 (wI t) (wJ t) = 1#1 ↔ ¬ k0_cond4 (wI t) (wJ t) = 1#1)
    ∧ (k0_cond1 (crd t) = 1#1 ↔ t.val % 144 = 0)

set_option synthInstance.maxSize 65536 in
instance (t : Fin cfgA.N) : Decidable (Branches t) :=
  @instDecidableAnd _ _ (k0_chk1.dec _ _) inferInstance

/-- Which outputs a point stores, and where a block is written back. -/
abbrev Stores (t : Fin cfgA.N) : Prop :=
  cfgA.idle 6 (crd t) = false
    ∧ cfgA.idle 7 (crd t) = !(k0_cond5 (wI t) == 1#1)
    ∧ cfgA.idle 8 (crd t) = !(k0_cond5 (wI t) == 1#1)
    ∧ (¬ k0_cond5 (wI t) = 1#1 → (cfgA.win 7).flushF t = false ∧ (cfgA.win 8).flushF t = false)
    ∧ (decide ((t.val + 1) % 144 = 0) = (cfgA.win 6).flushF t)

theorem branches0 : ∀ t : Fin cfgA.N, 0 ≤ t.val → t.val < 144 → Branches t := by decide +kernel
theorem branches1 : ∀ t : Fin cfgA.N, 144 ≤ t.val → t.val < 288 → Branches t := by decide +kernel
theorem branches2 : ∀ t : Fin cfgA.N, 288 ≤ t.val → t.val < 432 → Branches t := by decide +kernel
theorem branches3 : ∀ t : Fin cfgA.N, 432 ≤ t.val → t.val < 576 → Branches t := by decide +kernel
theorem branches4 : ∀ t : Fin cfgA.N, 576 ≤ t.val → t.val < 720 → Branches t := by decide +kernel
theorem branches5 : ∀ t : Fin cfgA.N, 720 ≤ t.val → t.val < 864 → Branches t := by decide +kernel
theorem branches6 : ∀ t : Fin cfgA.N, 864 ≤ t.val → t.val < 1008 → Branches t := by decide +kernel
theorem branches7 : ∀ t : Fin cfgA.N, 1008 ≤ t.val → t.val < 1152 → Branches t := by decide +kernel
theorem stores0 : ∀ t : Fin cfgA.N, 0 ≤ t.val → t.val < 144 → Stores t := by decide +kernel
theorem stores1 : ∀ t : Fin cfgA.N, 144 ≤ t.val → t.val < 288 → Stores t := by decide +kernel
theorem stores2 : ∀ t : Fin cfgA.N, 288 ≤ t.val → t.val < 432 → Stores t := by decide +kernel
theorem stores3 : ∀ t : Fin cfgA.N, 432 ≤ t.val → t.val < 576 → Stores t := by decide +kernel
theorem stores4 : ∀ t : Fin cfgA.N, 576 ≤ t.val → t.val < 720 → Stores t := by decide +kernel
theorem stores5 : ∀ t : Fin cfgA.N, 720 ≤ t.val → t.val < 864 → Stores t := by decide +kernel
theorem stores6 : ∀ t : Fin cfgA.N, 864 ≤ t.val → t.val < 1008 → Stores t := by decide +kernel
theorem stores7 : ∀ t : Fin cfgA.N, 1008 ≤ t.val → t.val < 1152 → Stores t := by decide +kernel

theorem branches (t : Fin cfgA.N) : Branches t := by
  rcases Nat.lt_or_ge t.val 144 with h1 | h1
  · exact branches0 t (Nat.zero_le _) h1
  rcases Nat.lt_or_ge t.val 288 with h2 | h2
  · exact branches1 t h1 h2
  rcases Nat.lt_or_ge t.val 432 with h3 | h3
  · exact branches2 t h2 h3
  rcases Nat.lt_or_ge t.val 576 with h4 | h4
  · exact branches3 t h3 h4
  rcases Nat.lt_or_ge t.val 720 with h5 | h5
  · exact branches4 t h4 h5
  rcases Nat.lt_or_ge t.val 864 with h6 | h6
  · exact branches5 t h5 h6
  rcases Nat.lt_or_ge t.val 1008 with h7 | h7
  · exact branches6 t h6 h7
  exact branches7 t h7 (show t.val < 1152 from lt_of_lt_of_eq t.isLt N_0)

theorem stores (t : Fin cfgA.N) : Stores t := by
  rcases Nat.lt_or_ge t.val 144 with h1 | h1
  · exact stores0 t (Nat.zero_le _) h1
  rcases Nat.lt_or_ge t.val 288 with h2 | h2
  · exact stores1 t h1 h2
  rcases Nat.lt_or_ge t.val 432 with h3 | h3
  · exact stores2 t h2 h3
  rcases Nat.lt_or_ge t.val 576 with h4 | h4
  · exact stores3 t h3 h4
  rcases Nat.lt_or_ge t.val 720 with h5 | h5
  · exact stores4 t h4 h5
  rcases Nat.lt_or_ge t.val 864 with h6 | h6
  · exact stores5 t h5 h6
  rcases Nat.lt_or_ge t.val 1008 with h7 | h7
  · exact stores6 t h6 h7
  exact stores7 t h7 (show t.val < 1152 from lt_of_lt_of_eq t.isLt N_0)

end Cert.KernelIdeal.Attn

end
-- ==== Proof.Attn.Traj.lean ====
/-
  What the attention backward kernel holds from point to point: the three accumulators after each point (`st`), the
  contents of every staging buffer, and the invariant between two points.
-/
module

public import proofs.«01_k».proof.Proof.Attn.Tables
public import Idealize.ShloMosaic.Lib.Pipeline.FrameBody
public import Idealize.ShloMosaic.Lib.Pipeline.TableIdle
public import Idealize.ShloMosaic.Lib.Exec
public import Idealize.ShloMosaic.Lib.Tactic

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/- The buffers when the kernel is entered, one valuation per device. -/
variable (V : Dev nD → Valuation τ sig (Elt Ideal))

/-- Window `w`'s block at point `t`, read off its array. -/
def iblk (c : Dev nD) (w : Fin cfgA.W) (t : Fin cfgA.N) : ((cfgA.win w).xblock (crd t)).Idx → Elt Ideal (cfgA.win w).elt :=
  ((cfgA.win w).blk t).view.read (Elt Ideal) (V c (Proc.devRef .tc (Pipeline.arrRef spec0 w)))

/-- The six input blocks at point `t`. -/
def blkAt (c : Dev nD) (t : Fin cfgA.N) : Blk where
  q := iblk V c (0 : Fin 9) t
  k := iblk V c (1 : Fin 9) t
  v := iblk V c (2 : Fin 9) t
  o := iblk V c (3 : Fin 9) t
  l := iblk V c (4 : Fin 9) t
  g := iblk V c (5 : Fin 9) t

/-- The accumulators as a point resets them: the head's at its first point, the block's at its first. -/
def reset (t : Fin cfgA.N) (s : Acc) : Acc where
  dq := if k0_cond1 (crd t) = 1#1 then k0_pay19 (F := Ideal) else s.dq
  dk := if condF (wI t) (wJ t) = 1#1 then k0_pay20 (F := Ideal) else s.dk
  dv := if condF (wI t) (wJ t) = 1#1 then k0_pay21 (F := Ideal) else s.dv

/-- A point that is not below the diagonal is on it. -/
theorem on_diagonal (t : Fin cfgA.N) (h : ¬ k0_cond3 (wI t) (wJ t) = 1#1) : k0_cond4 (wI t) (wJ t) = 1#1 :=
  not_not.mp fun h4 => h ((branches t).2.2.2.1.mpr h4)

/-- One point. -/
def stepAt (c : Dev nD) (t : Fin cfgA.N) (s : Acc) : Acc :=
  if h : k0_cond3 (wI t) (wJ t) = 1#1 then addFull (wI t) ((branches t).1.2.1 h) (blkAt V c t) (reset t s)
  else addMasked (wI t) (wJ t) ((branches t).1.2.2.2 (on_diagonal t h)) (blkAt V c t) (reset t s)

/-- The accumulators after `n` points. -/
def st (c : Dev nD) : ℕ → Acc
  | 0 => ⟨k0_pay19 (F := Ideal), k0_pay20 (F := Ideal), k0_pay21 (F := Ideal)⟩
  | n + 1 => if h : n < cfgA.N then stepAt V c ⟨n, h⟩ (st c n) else st c n

theorem st_succ (c : Dev nD) (t : Fin cfgA.N) : st V c (t.val + 1) = stepAt V c t (st V c t.val) := by
  rw [st, dif_pos t.isLt]

/-- The invariant before point `t`: the two scratch buffers hold the block's accumulators once a point has run, and the
    tables are held. -/
def Phi (c : Dev nD) (t : Fin (cfgA.N + 1)) : sProp 𝕄 :=
  iprop((∃ a, ⌜t.val ≠ 0 → a = (st V c t.val).dk⌝ ∗ owns (c : Thread nD τ) scK fullShare a)
    ∗ (∃ a, ⌜t.val ≠ 0 → a = (st V c t.val).dv⌝ ∗ owns (c : Thread nD τ) scV fullShare a)
    ∗ (tabI.view.loc (c : Thread nD τ) ↦{fullShare} tblI) ∗ (tabJ.view.loc (c : Thread nD τ) ↦{fullShare} tblJ))

/-- The pipeline's data on core `c`. -/
def dats (_ : Fin 1) (c : Dev nD) : Dat τ (Elt Ideal) Unit ℕ (UR sig nD τ) ℕ cfgA c where
  A w := V c (Proc.devRef .tc (Pipeline.arrRef spec0 w))
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (st V c (t.val + 1)).dq
    | ⟨7, _⟩ => k0_pay4 (st V c (t.val + 1)).dk
    | ⟨8, _⟩ => k0_pay5 (st V c (t.val + 1)).dv
  Φ t := Phi V c t
  q _ := fullShare
  owed _ := 0

theorem after0 (c : Dev nD) (t : Fin cfgA.N) : (dats V 0 c).after (0 : Fin 9) t = iblk V c (0 : Fin 9) t := rfl
theorem after1 (c : Dev nD) (t : Fin cfgA.N) : (dats V 0 c).after (1 : Fin 9) t = iblk V c (1 : Fin 9) t := rfl
theorem after2 (c : Dev nD) (t : Fin cfgA.N) : (dats V 0 c).after (2 : Fin 9) t = iblk V c (2 : Fin 9) t := rfl
theorem after3 (c : Dev nD) (t : Fin cfgA.N) : (dats V 0 c).after (3 : Fin 9) t = iblk V c (3 : Fin 9) t := rfl
theorem after4 (c : Dev nD) (t : Fin cfgA.N) : (dats V 0 c).after (4 : Fin 9) t = iblk V c (4 : Fin 9) t := rfl
theorem after5 (c : Dev nD) (t : Fin cfgA.N) : (dats V 0 c).after (5 : Fin 9) t = iblk V c (5 : Fin 9) t := rfl
theorem after6 (c : Dev nD) (t : Fin cfgA.N) : (dats V 0 c).after (6 : Fin 9) t = (st V c (t.val + 1)).dq := rfl
theorem after7 (c : Dev nD) (t : Fin cfgA.N) : (dats V 0 c).after (7 : Fin 9) t = k0_pay4 (st V c (t.val + 1)).dk := rfl
theorem after8 (c : Dev nD) (t : Fin cfgA.N) : (dats V 0 c).after (8 : Fin 9) t = k0_pay5 (st V c (t.val + 1)).dv := rfl

theorem before0 (c : Dev nD) (t : Fin cfgA.N) (d) : (dats V 0 c).before (0 : Fin 9) t d = iblk V c (0 : Fin 9) t :=
  ((dats V 0 c).before_in_eq_fetched (0 : Fin 9) rfl (fun _ => rfl) (fun _ _ _ => rfl) (fun t => by rw [after0]; unfold Dat.blockOf iblk; rfl) t d).trans
    (by unfold Dat.fetched Dat.blockOf iblk; rfl)
theorem before1 (c : Dev nD) (t : Fin cfgA.N) (d) : (dats V 0 c).before (1 : Fin 9) t d = iblk V c (1 : Fin 9) t :=
  ((dats V 0 c).before_in_eq_fetched (1 : Fin 9) rfl (fun _ => rfl) (fun _ _ _ => rfl) (fun t => by rw [after1]; unfold Dat.blockOf iblk; rfl) t d).trans
    (by unfold Dat.fetched Dat.blockOf iblk; rfl)
theorem before2 (c : Dev nD) (t : Fin cfgA.N) (d) : (dats V 0 c).before (2 : Fin 9) t d = iblk V c (2 : Fin 9) t :=
  ((dats V 0 c).before_in_eq_fetched (2 : Fin 9) rfl (fun _ => rfl) (fun _ _ _ => rfl) (fun t => by rw [after2]; unfold Dat.blockOf iblk; rfl) t d).trans
    (by unfold Dat.fetched Dat.blockOf iblk; rfl)
theorem before3 (c : Dev nD) (t : Fin cfgA.N) (d) : (dats V 0 c).before (3 : Fin 9) t d = iblk V c (3 : Fin 9) t :=
  ((dats V 0 c).before_in_eq_fetched (3 : Fin 9) rfl (fun _ => rfl) (fun _ _ _ => rfl) (fun t => by rw [after3]; unfold Dat.blockOf iblk; rfl) t d).trans
    (by unfold Dat.fetched Dat.blockOf iblk; rfl)
theorem before4 (c : Dev nD) (t : Fin cfgA.N) (d) : (dats V 0 c).before (4 : Fin 9) t d = iblk V c (4 : Fin 9) t :=
  ((dats V 0 c).before_in_eq_fetched (4 : Fin 9) rfl (fun _ => rfl) (fun _ _ _ => rfl) (fun t => by rw [after4]; unfold Dat.blockOf iblk; rfl) t d).trans
    (by unfold Dat.fetched Dat.blockOf iblk; rfl)
theorem before5 (c : Dev nD) (t : Fin cfgA.N) (d) : (dats V 0 c).before (5 : Fin 9) t d = iblk V c (5 : Fin 9) t :=
  ((dats V 0 c).before_in_eq_fetched (5 : Fin 9) rfl (fun _ => rfl) (fun _ _ _ => rfl) (fun t => by rw [after5]; unfold Dat.blockOf iblk; rfl) t d).trans
    (by unfold Dat.fetched Dat.blockOf iblk; rfl)

/-- Away from a head's first point the window of the head's queries was not just written back. -/
theorem not_fresh (t : Fin cfgA.N) (h1 : ¬ k0_cond1 (crd t) = 1#1) : cfgA.fresh (6 : Fin 9) t.val = false := by
  have hm : ¬ t.val % 144 = 0 := fun h => h1 ((branches t).2.2.2.2.mpr h)
  obtain ⟨n, hn⟩ := t
  cases n with
  | zero => exact absurd rfl hm
  | succ n =>
    have hl : n < cfgA.N := Nat.lt_of_succ_lt hn
    obtain ⟨i6, -, -, -, f6⟩ := stores ⟨n, hl⟩
    rw [Pipeline.Cfg.fresh_succ cfgA (6 : Fin 9) n hl, Pipeline.Window.flush_eq_flushF, ← f6, i6, Bool.false_and, Bool.or_false]
    exact decide_eq_false hm

/-- There the window holds the head's accumulator. -/
theorem before6 (c : Dev nD) (t : Fin cfgA.N) (d) (h1 : ¬ k0_cond1 (crd t) = 1#1) :
    (dats V 0 c).before (6 : Fin 9) t d = (st V c t.val).dq := by
  rw [(dats V 0 c).before_out_traj (6 : Fin 9) rfl (fun _ _ => rfl)
    (fun t _ hi _ => absurd (hi.symm.trans (stores t).1) (by decide)) t.val t rfl d, not_fresh t h1, if_neg Bool.false_ne_true, after6]
  have h0 : t.val ≠ 0 := fun h => h1 ((branches t).2.2.2.2.mpr (by rw [h]))
  exact congrArg (fun n => (st V c n).dq) (Nat.succ_pred_eq_of_ne_zero h0)

/-- The result of a point does not depend on what it resets. -/
theorem reset_of (c : Dev nD) (t : Fin cfgA.N) (a0 a1 : S2048x128.Idx → Elt Ideal .f32) (d)
    (h0 : t.val ≠ 0 → a0 = (st V c t.val).dk) (h1 : t.val ≠ 0 → a1 = (st V c t.val).dv) :
    reset t ⟨(dats V 0 c).before (6 : Fin 9) t d, a0, a1⟩ = reset t (st V c t.val) := by
  have hF : t.val = 0 → condF (wI t) (wJ t) = 1#1 := fun h => (branches t).2.1 ((branches t).2.2.2.2.mpr (by rw [h]))
  unfold reset
  congr 1
  · by_cases q : k0_cond1 (crd t) = 1#1
    · rw [if_pos q, if_pos q]
    · rw [if_neg q, if_neg q]; exact before6 V c t d q
  · by_cases q : condF (wI t) (wJ t) = 1#1
    · rw [if_pos q, if_pos q]
    · rw [if_neg q, if_neg q]; exact h0 fun h => q (hF h)
  · by_cases q : condF (wI t) (wJ t) = 1#1
    · rw [if_pos q, if_pos q]
    · rw [if_neg q, if_neg q]; exact h1 fun h => q (hF h)

end Cert.KernelIdeal.Attn

end
-- ==== Proof.Attn.Index.lean ====
/-
  The points of the grid: the blocks each reads, as numbers, and the branches it takes.
-/
module

public import proofs.«01_k».proof.Proof.Attn.Sum
public import proofs.«01_k».proof.Proof.Attn.Traj

@[expose] public section

set_option maxRecDepth 16384
set_option Elab.async false

noncomputable section

namespace Cert.KernelIdeal.Attn

open Cert.KernelIdeal Cert.KernelIdeal.Gen
open Idealize.ShloMosaic
open Idealize.ShloMosaic.TcCoe

/-- The grid's coordinates of a point. -/
theorem coords_at : ∀ t : Fin cfgA.N, (crd t 0).val = t.val / 144 ∧ (crd t 1).val = t.val % 144 := by decide +kernel

/-- The two words a point reads. -/
theorem words : ∀ t : Fin cfgA.N, wI t = BitVec.ofNat 32 (nI (t.val % 144)) ∧ wJ t = BitVec.ofNat 32 (nJ (t.val % 144)) := by decide +kernel

/-- The block of each window at a point. -/
theorem idxQ : ∀ t : Fin cfgA.N, (cfgA.win 0).index t = ![t.val / 144, nI (t.val % 144), 0] := by decide +kernel
theorem idxK : ∀ t : Fin cfgA.N, (cfgA.win 1).index t = ![t.val / 144, nJ (t.val % 144), 0] := by decide +kernel
theorem idxV : ∀ t : Fin cfgA.N, (cfgA.win 2).index t = ![t.val / 144, nJ (t.val % 144), 0] := by decide +kernel
theorem idxO : ∀ t : Fin cfgA.N, (cfgA.win 3).index t = ![t.val / 144, nI (t.val % 144), 0] := by decide +kernel
theorem idxL : ∀ t : Fin cfgA.N, (cfgA.win 4).index t = ![t.val / 144, nI (t.val % 144), 0] := by decide +kernel
theorem idxG : ∀ t : Fin cfgA.N, (cfgA.win 5).index t = ![t.val / 144, nI (t.val % 144), 0] := by decide +kernel
theorem idxDq : ∀ t : Fin cfgA.N, (cfgA.win 6).index t = ![t.val / 144, 0, 0] := by decide +kernel
theorem idxDk : ∀ t : Fin cfgA.N, (cfgA.win 7).index t = ![t.val / 144, nJ (t.val % 144), 0] := by decide +kernel
theorem idxDv : ∀ t : Fin cfgA.N, (cfgA.win 8).index t = ![t.val / 144, nJ (t.val % 144), 0] := by decide +kernel

/-- A key block's gradients are written back at its last point. -/
theorem flushes : ∀ h : Fin 8, ∀ j : Fin 8, ∀ e : 144 * h.val + lastOf j.val < cfgA.N,
    (cfgA.win 7).flushF ⟨144 * h.val + lastOf j.val, e⟩ = true ∧ (cfgA.win 8).flushF ⟨144 * h.val + lastOf j.val, e⟩ = true := by
  decide +kernel

theorem cond3_at : ∀ i : Fin 32, ∀ j : Fin 8, k0_cond3 (BitVec.ofNat 32 i.val) (BitVec.ofNat 32 j.val) = 1#1 → 2048 * j.val + 2047 ≤ 512 * i.val := by
  decide +kernel
theorem condF_at : ∀ i : Fin 32, ∀ j : Fin 8, condF (BitVec.ofNat 32 i.val) (BitVec.ofNat 32 j.val) = 1#1 ↔ i.val = 4 * j.val := by
  decide +kernel
theorem cond5_at : ∀ i : Fin 32, k0_cond5 (BitVec.ofNat 32 i.val) = 1#1 ↔ i.val = 31 := by decide +kernel
theorem off2_at : ∀ i : Fin 32, k0_off2 (BitVec.ofNat 32 i.val) = ![0, 512 * i.val, 0] := by decide +kernel
theorem off3_at : ∀ i : Fin 32, k0_off3 (BitVec.ofNat 32 i.val) = ![0, 512 * i.val, 0] := by decide +kernel

end Cert.KernelIdeal.Attn

end
-- ==== Proof.Attn.Point.lean ====
/-
  What one point adds to the accumulators, over the reals.
-/
module

public import proofs.«01_k».proof.Proof.Attn.Sum

@[expose] public section

set_option maxRecDepth 16384
set_option Elab.async false

noncomputable section

namespace Cert.KernelIdeal.Attn

open Cert.KernelIdeal Cert.KernelIdeal.Gen
open Idealize.ShloMosaic
open Idealize.ShloMosaic.TcCoe

/-- The six arrays the kernel reads, as reals; the log-sum is the same on every lane. -/
structure Arr where
  q : Fin 8 → Fin 16384 → Fin 128 → ℝ
  k : Fin 8 → Fin 16384 → Fin 128 → ℝ
  v : Fin 8 → Fin 16384 → Fin 128 → ℝ
  o : Fin 8 → Fin 16384 → Fin 128 → ℝ
  l : Fin 8 → Fin 16384 → ℝ
  g : Fin 8 → Fin 16384 → Fin 128 → ℝ

/-- The weight of key `j` for query `i`. -/
def Arr.w (A : Arr) (h : Fin 8) (i j : Fin 16384) : ℝ :=
  if j.val ≤ i.val then Real.rpow 2 ((∑ d, A.q h i d * A.k h j d) - A.l h i) else 0

/-- The gradient of the score of key `j` for query `i`. -/
def Arr.ds (A : Arr) (h : Fin 8) (i j : Fin 16384) : ℝ :=
  A.w h i j * ((∑ d, A.g h i d * A.v h j d) - ∑ d, A.g h i d * A.o h i d)

/-- The blocks of query block `i` and key block `j`. -/
def Arr.blk (A : Arr) (h : Fin 8) (i j : ℕ) : RBlk where
  q r d := A.q h (row (512 * i + r.val)) d
  k x d := A.k h (row (2048 * j + x.val)) d
  v x d := A.v h (row (2048 * j + x.val)) d
  o r d := A.o h (row (512 * i + r.val)) d
  l r := A.l h (row (512 * i + r.val))
  g r d := A.g h (row (512 * i + r.val)) d

theorem Arr.w_blk (A : Arr) (h : Fin 8) (i j : ℕ) (hi : i < 32) (hj : j < 8) (r : Fin 512) (x : Fin 2048) :
    A.w h (row (512 * i + r.val)) (row (2048 * j + x.val))
      = if 2048 * j + x.val ≤ 512 * i + r.val then (A.blk h i j).w r x else 0 := by
  unfold Arr.w
  rw [row_val _ (by omega), row_val _ (by omega)]
  rfl

theorem weights_masked (A : Arr) (h : Fin 8) (i j : ℕ) (hi : i < 32) (hj : j < 8) (r : Fin 512) (x : Fin 2048) :
    (if maskW (BitVec.ofNat 32 i) (BitVec.ofNat 32 j) r x = 1#1 then (A.blk h i j).w r x else 0)
      = A.w h (row (512 * i + r.val)) (row (2048 * j + x.val)) := by
  rw [A.w_blk h i j hi hj]
  by_cases q : 2048 * j + x.val ≤ 512 * i + r.val
  · rw [if_pos q, if_pos ((maskW_iff i j hi hj r x).2 q)]
  · rw [if_neg q, if_neg fun e => q ((maskW_iff i j hi hj r x).1 e)]

theorem weights_full (A : Arr) (h : Fin 8) (i j : ℕ) (hi : i < 32) (hj : j < 8) (hf : 2048 * j + 2047 ≤ 512 * i) (r : Fin 512) (x : Fin 2048) :
    (A.blk h i j).w r x = A.w h (row (512 * i + r.val)) (row (2048 * j + x.val)) := by
  rw [A.w_blk h i j hi hj, if_pos (by omega)]

/-- The window of a query block, put and read. -/
theorem put_at (x : S1x16384x128.Idx → EReal) (off : Fin 3 → ℕ) (i : ℕ) (hi : i < 32) (ho : off = ![0, 512 * i, 0])
    (w : S1x512x128.Idx → EReal) (r : Fin 16384) (d : Fin 128) :
    VecWindow.put (s := S1x16384x128) x off S1x512x128.size w (ix3 0 r d)
      = if r.val / 512 = i then w (ix3 0 ⟨r.val % 512, Nat.mod_lt _ (by decide)⟩ d) else x (ix3 0 r d) := by
  subst ho
  unfold VecWindow.put
  by_cases q : r.val / 512 = i
  · rw [if_pos q, dif_pos (fun a => by
      match a with
      | ⟨0, _⟩ => exact ⟨Nat.le_refl 0, Nat.one_pos⟩
      | ⟨1, _⟩ => exact (show 512 * i ≤ r.val ∧ r.val < 512 * i + 512 by omega)
      | ⟨2, _⟩ => exact (show 0 ≤ d.val ∧ d.val < 0 + 128 by omega))]
    refine congrArg w (funext fun a => Fin.ext ?_)
    match a with
    | ⟨0, _⟩ => rfl
    | ⟨1, _⟩ => exact (show r.val - 512 * i = r.val % 512 by omega)
    | ⟨2, _⟩ => exact (show d.val - 0 = d.val by omega)
  · rw [if_neg q, dif_neg (fun all => q (by
      have := all (1 : Fin 3)
      have h : 512 * i ≤ r.val ∧ r.val < 512 * i + 512 := this
      omega))]

theorem window_at (x : S1x16384x128.Idx → EReal) (off : Fin 3 → ℕ) (i : ℕ) (hi : i < 32) (ho : off = ![0, 512 * i, 0])
    (inb : ∀ a, off a + S1x512x128.size a ≤ S1x16384x128.size a) (r : Fin 512) (d : Fin 128) :
    VecWindow.window (s := S1x16384x128) x off S1x512x128.size inb (ix3 0 r d : S1x512x128.Idx) = x (ix3 0 (row (512 * i + r.val)) d) := by
  subst ho
  refine congrArg x (funext fun a => Fin.ext ?_)
  match a with
  | ⟨0, _⟩ => rfl
  | ⟨1, _⟩ => exact (show 512 * i + 1 * r.val = (row (512 * i + r.val)).val by rw [row_val _ (by omega)]; omega)
  | ⟨2, _⟩ => exact (show 0 + 1 * d.val = d.val by omega)

/-- The accumulators hold these reals. -/
structure St (s : Acc) (DQ : Fin 16384 → Fin 128 → ℝ) (DK DV : Fin 2048 → Fin 128 → ℝ) : Prop where
  dq : ∀ r d, s.dq (ix3 0 r d : S1x16384x128.Idx) = ((DQ r d : ℝ) : EReal)
  dk : ∀ x d, s.dk (ix2 x d : S2048x128.Idx) = ((DK x d : ℝ) : EReal)
  dv : ∀ x d, s.dv (ix2 x d : S2048x128.Idx) = ((DV x d : ℝ) : EReal)

/-- The scale of the scores, as the program's constant. -/
def σ : ℝ := (Ideal.ofBits .f32 0x3DD105EC#32).toReal

theorem σ_eq : Ideal.ofBits .f32 0x3DD105EC#32 = ((σ : ℝ) : EReal) := by
  refine (EReal.coe_toReal ?_ ?_).symm
  · simp [Ideal.ofBits, Ideal.ieee, -EReal.coe_mul]
  · simp [Ideal.ofBits, Ideal.ieee, -EReal.coe_mul]

/-- What the tile of query block `i` and key block `j` adds to the gradient of query `r`. -/
def Arr.addq (A : Arr) (h : Fin 8) (j : ℕ) (r : Fin 16384) (d : Fin 128) : ℝ :=
  (∑ x : Fin 2048, A.ds h r (row (2048 * j + x.val)) * A.k h (row (2048 * j + x.val)) d) * σ
/-- … of key `x`. -/
def Arr.addk (A : Arr) (h : Fin 8) (i : ℕ) (x : Fin 16384) (d : Fin 128) : ℝ :=
  ∑ r : Fin 512, A.ds h (row (512 * i + r.val)) x * A.q h (row (512 * i + r.val)) d
/-- … of value `x`. -/
def Arr.addv (A : Arr) (h : Fin 8) (i : ℕ) (x : Fin 16384) (d : Fin 128) : ℝ :=
  ∑ r : Fin 512, A.w h (row (512 * i + r.val)) x * A.g h (row (512 * i + r.val)) d

section
variable {A : Arr} {h : Fin 8} {i j : ℕ} (hi : i < 32) (hj : j < 8) {b : Blk} (H : Holds b (A.blk h i j)) {s : Acc}
  {DQ : Fin 16384 → Fin 128 → ℝ} {DK DV : Fin 2048 → Fin 128 → ℝ} (S : St s DQ DK DV)

include hi hj H S in
theorem addMasked_st (inb) (ho : k0_off3 (BitVec.ofNat 32 i) = ![0, 512 * i, 0]) :
    St (addMasked (BitVec.ofNat 32 i) (BitVec.ofNat 32 j) inb b s)
      (fun r d => DQ r d + if i = r.val / 512 then A.addq h j r d else 0)
      (fun x d => DK x d + A.addk h i (row (2048 * j + x.val)) d)
      (fun x d => DV x d + A.addv h i (row (2048 * j + x.val)) d) := by
  have hp : ∀ r x, k0_pay17 (F := Ideal) (BitVec.ofNat 32 i) (BitVec.ofNat 32 j) b.q b.k b.l (ix2 r x)
      = ((A.w h (row (512 * i + r.val)) (row (2048 * j + x.val)) : ℝ) : EReal) := fun r x => by
    rw [weight_masked _ _ b _ H, weights_masked A h i j hi hj]
  have hd : ∀ r x, k0_pay18 (F := Ideal) (BitVec.ofNat 32 i) (BitVec.ofNat 32 j) b.q b.k b.g b.l b.v b.o (ix2 r x)
      = ((A.ds h (row (512 * i + r.val)) (row (2048 * j + x.val)) : ℝ) : EReal) := fun r x => by
    rw [ds_masked _ _ b _ H, weights_masked A h i j hi hj]; rfl
  refine ⟨fun r d => ?_, fun x d => add_dk _ _ hd b _ H _ _ x d (S.dk x d), fun x d => add_dv _ _ hp b _ H _ _ x d (S.dv x d)⟩
  refine (put_at s.dq _ i hi ho _ r d).trans ?_
  by_cases q : r.val / 512 = i
  · have hr : row (512 * i + (⟨r.val % 512, Nat.mod_lt _ (by decide)⟩ : Fin 512).val) = r :=
      Fin.ext ((row_val _ (by have := r.isLt; show 512 * i + r.val % 512 < 16384; omega)).trans (by show 512 * i + r.val % 512 = r.val; omega))
    rw [if_pos q, if_pos q.symm]
    refine (add_dq _ _ hd b _ H σ σ_eq _ (DQ r d) _ d ((window_at s.dq _ i hi ho inb _ d).trans ?_)).trans ?_
    · rw [hr]; exact S.dq r d
    · rw [hr]; rfl
  · rw [if_neg q, if_neg fun e => q e.symm, add_zero]
    exact S.dq r d

include hi hj H S in
theorem addFull_st (inb) (ho : k0_off2 (BitVec.ofNat 32 i) = ![0, 512 * i, 0]) (hf : 2048 * j + 2047 ≤ 512 * i) :
    St (addFull (BitVec.ofNat 32 i) inb b s)
      (fun r d => DQ r d + if i = r.val / 512 then A.addq h j r d else 0)
      (fun x d => DK x d + A.addk h i (row (2048 * j + x.val)) d)
      (fun x d => DV x d + A.addv h i (row (2048 * j + x.val)) d) := by
  have hp : ∀ r x, k0_pay10 (F := Ideal) b.q b.k b.l (ix2 r x)
      = ((A.w h (row (512 * i + r.val)) (row (2048 * j + x.val)) : ℝ) : EReal) := fun r x => by
    rw [weight b _ H, weights_full A h i j hi hj hf]
  have hd : ∀ r x, k0_pay11 (F := Ideal) b.q b.k b.g b.l b.v b.o (ix2 r x)
      = ((A.ds h (row (512 * i + r.val)) (row (2048 * j + x.val)) : ℝ) : EReal) := fun r x => by
    rw [ds_full b _ H, weights_full A h i j hi hj hf]; rfl
  refine ⟨fun r d => ?_, fun x d => ?_, fun x d => ?_⟩
  · refine (put_at s.dq _ i hi ho _ r d).trans ?_
    by_cases q : r.val / 512 = i
    · have hr : row (512 * i + (⟨r.val % 512, Nat.mod_lt _ (by decide)⟩ : Fin 512).val) = r :=
        Fin.ext ((row_val _ (by have := r.isLt; show 512 * i + r.val % 512 < 16384; omega)).trans (by show 512 * i + r.val % 512 = r.val; omega))
      rw [if_pos q, if_pos q.symm]
      rw [pay23_eq]
      refine (add_dq _ _ hd b _ H σ σ_eq _ (DQ r d) _ d ((window_at s.dq _ i hi ho inb _ d).trans ?_)).trans ?_
      · rw [hr]; exact S.dq r d
      · rw [hr]; rfl
    · rw [if_neg q, if_neg fun e => q e.symm, add_zero]
      exact S.dq r d
  · exact (congrFun (pay22_eq b _ _) _).trans (add_dk _ _ hd b _ H _ _ x d (S.dk x d))
  · exact (congrFun (pay12_eq b _) _).trans (add_dv _ _ hp b _ H _ _ x d (S.dv x d))

end

end Cert.KernelIdeal.Attn

end
-- ==== Proof.Attn.Accum.lean ====
/-
  The accumulators after any number of a head's points.
-/
module

public import proofs.«01_k».proof.Proof.Attn.Index
public import proofs.«01_k».proof.Proof.Attn.Point

@[expose] public section

set_option maxRecDepth 16384
set_option Elab.async false

noncomputable section

namespace Cert.KernelIdeal.Attn

open Cert.KernelIdeal Cert.KernelIdeal.Gen
open Idealize.ShloMosaic
open Idealize.ShloMosaic.TcCoe

theorem zero19 (r : Fin 16384) (d : Fin 128) : k0_pay19 (F := Ideal) (ix3 0 r d) = ((0 : ℝ) : EReal) := by
  pointwise [k0_pay19]
  exact EReal.coe_zero.symm
theorem zero20 (x : Fin 2048) (d : Fin 128) : k0_pay20 (F := Ideal) (ix2 x d) = ((0 : ℝ) : EReal) := by
  pointwise [k0_pay20]
  exact EReal.coe_zero.symm
theorem zero21 (x : Fin 2048) (d : Fin 128) : k0_pay21 (F := Ideal) (ix2 x d) = ((0 : ℝ) : EReal) := by
  pointwise [k0_pay21]
  exact EReal.coe_zero.symm

/-- Point `s` of head `h`. -/
def pt (h : Fin 8) (s : ℕ) (hs : s < 144) : Fin cfgA.N :=
  ⟨144 * h.val + s, lt_of_lt_of_eq (by have := h.isLt; omega : 144 * h.val + s < 1152) N_0.symm⟩

theorem pt_mod (h : Fin 8) (s : ℕ) (hs : s < 144) : (pt h s hs).val % 144 = s := by
  show (144 * h.val + s) % 144 = s; omega
theorem pt_div (h : Fin 8) (s : ℕ) (hs : s < 144) : (pt h s hs).val / 144 = h.val := by
  show (144 * h.val + s) / 144 = h.val; omega

variable {V : Dev nD → Valuation τ sig (Elt Ideal)} {c : Dev nD} {A : Arr}

/-- The gradient of the queries over the first `n` points. -/
def Arr.sumq (A : Arr) (h : Fin 8) (n : ℕ) (r : Fin 16384) (d : Fin 128) : ℝ :=
  ∑ p ∈ Finset.range n, if nI p = r.val / 512 then A.addq h (nJ p) r d else 0
/-- The gradient of key block `j` over the first `n` points. -/
def Arr.sumk (A : Arr) (h : Fin 8) (j n : ℕ) (x : Fin 2048) (d : Fin 128) : ℝ :=
  ∑ p ∈ Finset.range n, if nJ p = j then A.addk h (nI p) (row (2048 * j + x.val)) d else 0
/-- … of its values. -/
def Arr.sumv (A : Arr) (h : Fin 8) (j n : ℕ) (x : Fin 2048) (d : Fin 128) : ℝ :=
  ∑ p ∈ Finset.range n, if nJ p = j then A.addv h (nI p) (row (2048 * j + x.val)) d else 0

theorem Arr.sumq_succ (A : Arr) (h : Fin 8) (n : ℕ) : A.sumq h (n + 1) = fun r d => A.sumq h n r d + if nI n = r.val / 512 then A.addq h (nJ n) r d else 0 :=
  funext fun r => funext fun d => Finset.sum_range_succ _ _
theorem Arr.sumk_succ (A : Arr) (h : Fin 8) (n : ℕ) :
    A.sumk h (nJ n) (n + 1) = fun x d => A.sumk h (nJ n) n x d + A.addk h (nI n) (row (2048 * nJ n + x.val)) d :=
  funext fun x => funext fun d => (Finset.sum_range_succ _ _).trans (by rw [if_pos rfl]; rfl)
theorem Arr.sumv_succ (A : Arr) (h : Fin 8) (n : ℕ) :
    A.sumv h (nJ n) (n + 1) = fun x d => A.sumv h (nJ n) n x d + A.addv h (nI n) (row (2048 * nJ n + x.val)) d :=
  funext fun x => funext fun d => (Finset.sum_range_succ _ _).trans (by rw [if_pos rfl]; rfl)

theorem condF_pt (h : Fin 8) (s : ℕ) (hs : s < 144) : condF (wI (pt h s hs)) (wJ (pt h s hs)) = 1#1 ↔ nI s = 4 * nJ s := by
  have w := words (pt h s hs)
  rw [pt_mod] at w
  rw [w.1, w.2]
  exact condF_at ⟨nI s, nI_lt s hs⟩ ⟨nJ s, nJ_lt s⟩

/-- A point's accumulators, once reset. -/
theorem ready (h : Fin 8) (s : ℕ) (hs : s < 144)
    (ih : ∀ s', s = s' + 1 → St (st V c (pt h s hs).val) (A.sumq h s) (A.sumk h (nJ s') s) (A.sumv h (nJ s') s)) :
    St (reset (pt h s hs) (st V c (pt h s hs).val)) (A.sumq h s) (A.sumk h (nJ s) s) (A.sumv h (nJ s) s) := by
  have h0 : nI s = 4 * nJ s → ∀ p, p < s → nJ p ≠ nJ s := fun e p hp =>
    (first_iff ⟨s, hs⟩).1 e ⟨p, hp.trans hs⟩ hp
  refine ⟨fun r d => ?_, fun x d => ?_, fun x d => ?_⟩
  · show (if k0_cond1 _ = 1#1 then _ else _ : S1x16384x128.Idx → EReal) _ = _
    by_cases q : k0_cond1 (crd (pt h s hs)) = 1#1
    · rw [if_pos q]
      have e : s = 0 := (pt_mod h s hs).symm.trans ((branches (pt h s hs)).2.2.2.2.1 q)
      rw [zero19]; subst e; rfl
    · rw [if_neg q]
      have e : s ≠ 0 := fun e => q ((branches (pt h s hs)).2.2.2.2.2 ((pt_mod h s hs).trans e))
      exact (ih (s - 1) (by omega)).dq r d
  · show (if condF _ _ = 1#1 then _ else _ : S2048x128.Idx → EReal) _ = _
    by_cases q : condF (wI (pt h s hs)) (wJ (pt h s hs)) = 1#1
    · rw [if_pos q, zero20]
      refine congrArg _ (Finset.sum_eq_zero fun p hp => if_neg (h0 ((condF_pt h s hs).1 q) p (Finset.mem_range.1 hp))).symm
    · rw [if_neg q]
      have e := (first_iff ⟨s, hs⟩).2 fun e => q ((condF_pt h s hs).2 e)
      have := (ih (s - 1) (by have := e.1; simp only at this; omega)).dk x d
      rw [e.2] at this
      exact this
  · show (if condF _ _ = 1#1 then _ else _ : S2048x128.Idx → EReal) _ = _
    by_cases q : condF (wI (pt h s hs)) (wJ (pt h s hs)) = 1#1
    · rw [if_pos q, zero21]
      refine congrArg _ (Finset.sum_eq_zero fun p hp => if_neg (h0 ((condF_pt h s hs).1 q) p (Finset.mem_range.1 hp))).symm
    · rw [if_neg q]
      have e := (first_iff ⟨s, hs⟩).2 fun e => q ((condF_pt h s hs).2 e)
      have := (ih (s - 1) (by have := e.1; simp only at this; omega)).dv x d
      rw [e.2] at this
      exact this

theorem masked_of {w1 w3 : BitVec 32} (inb) {h : Fin 8} {i j : ℕ} (h1 : w1 = BitVec.ofNat 32 i) (h3 : w3 = BitVec.ofNat 32 j) (hi : i < 32) (hj : j < 8)
    {b : Blk} (H : Holds b (A.blk h i j)) {s : Acc}
    {DQ : Fin 16384 → Fin 128 → ℝ} {DK DV : Fin 2048 → Fin 128 → ℝ} (S : St s DQ DK DV) :
    St (addMasked w1 w3 inb b s) (fun r d => DQ r d + if i = r.val / 512 then A.addq h j r d else 0)
      (fun x d => DK x d + A.addk h i (row (2048 * j + x.val)) d) (fun x d => DV x d + A.addv h i (row (2048 * j + x.val)) d) := by
  subst h1 h3
  exact addMasked_st hi hj H S inb (off3_at ⟨i, hi⟩)

theorem full_of {w1 w3 : BitVec 32} (inb) {h : Fin 8} {i j : ℕ} (h1 : w1 = BitVec.ofNat 32 i) (h3 : w3 = BitVec.ofNat 32 j) (hi : i < 32) (hj : j < 8)
    (hc : k0_cond3 w1 w3 = 1#1)
    {b : Blk} (H : Holds b (A.blk h i j)) {s : Acc}
    {DQ : Fin 16384 → Fin 128 → ℝ} {DK DV : Fin 2048 → Fin 128 → ℝ} (S : St s DQ DK DV) :
    St (addFull w1 inb b s) (fun r d => DQ r d + if i = r.val / 512 then A.addq h j r d else 0)
      (fun x d => DK x d + A.addk h i (row (2048 * j + x.val)) d) (fun x d => DV x d + A.addv h i (row (2048 * j + x.val)) d) := by
  subst h1 h3
  exact addFull_st hi hj H S inb (off2_at ⟨i, hi⟩) (cond3_at ⟨i, hi⟩ ⟨j, hj⟩ hc)

/-- One point. -/
theorem onePoint (HB : ∀ h s hs, Holds (blkAt V c (pt h s hs)) (A.blk h (nI s) (nJ s))) (h : Fin 8) (s : ℕ) (hs : s < 144)
    (S : St (reset (pt h s hs) (st V c (pt h s hs).val)) (A.sumq h s) (A.sumk h (nJ s) s) (A.sumv h (nJ s) s)) :
    St (st V c ((pt h s hs).val + 1)) (A.sumq h (s + 1)) (A.sumk h (nJ s) (s + 1)) (A.sumv h (nJ s) (s + 1)) := by
  have w := words (pt h s hs)
  rw [pt_mod] at w
  rw [st_succ, A.sumq_succ, A.sumk_succ, A.sumv_succ]
  unfold stepAt
  by_cases q : k0_cond3 (wI (pt h s hs)) (wJ (pt h s hs)) = 1#1
  · rw [dif_pos q]
    exact full_of _ w.1 w.2 (nI_lt s hs) (nJ_lt s) q (HB h s hs) S
  · rw [dif_neg q]
    exact masked_of _ w.1 w.2 (nI_lt s hs) (nJ_lt s) (HB h s hs) S

/-- After point `s` of head `h`. -/
theorem accum (HB : ∀ h s hs, Holds (blkAt V c (pt h s hs)) (A.blk h (nI s) (nJ s))) (h : Fin 8) :
    ∀ s (hs : s < 144), St (st V c ((pt h s hs).val + 1)) (A.sumq h (s + 1)) (A.sumk h (nJ s) (s + 1)) (A.sumv h (nJ s) (s + 1)) := by
  intro s
  induction s with
  | zero =>
    intro hs
    exact onePoint HB h 0 hs (ready h 0 hs fun s' e => absurd e (by omega))
  | succ n ih =>
    intro hs
    refine onePoint HB h (n + 1) hs (ready h (n + 1) hs fun s' e => ?_)
    obtain rfl : n = s' := by omega
    exact ih (by omega)

/-- A query's gradient once its head is done. -/
theorem sumq_all (A : Arr) (h : Fin 8) (r : Fin 16384) (d : Fin 128) :
    A.sumq h 144 r d = (∑ j, A.ds h r j * A.k h j d) * σ := by
  unfold Arr.sumq
  rw [sum_queries (r.val / 512) (by have := r.isLt; omega) fun j => A.addq h j r d, sum_tiles 8 2048 rfl, Finset.sum_mul]
  refine Finset.sum_congr rfl fun j hj => ?_
  by_cases q : 4 * j ≤ r.val / 512
  · rw [if_pos q]; rfl
  · rw [if_neg q]
    have hj' := Finset.mem_range.1 hj
    rw [Finset.sum_eq_zero, zero_mul]
    intro x _
    unfold Arr.ds Arr.w
    rw [if_neg (by rw [row_val _ (by omega)]; omega), zero_mul, zero_mul]

/-- A key's gradient once its block is done, before the last factor. -/
theorem sumk_all (A : Arr) (h : Fin 8) (j : ℕ) (hj : j < 8) (x : Fin 2048) (d : Fin 128) :
    A.sumk h j (lastOf j + 1) x d = ∑ i, A.ds h i (row (2048 * j + x.val)) * A.q h i d := by
  unfold Arr.sumk
  rw [sum_keys j hj fun i => A.addk h i (row (2048 * j + x.val)) d, sum_tiles 32 512 rfl]
  refine Finset.sum_congr rfl fun i hi => ?_
  by_cases q : 4 * j ≤ i
  · rw [if_pos q]; rfl
  · rw [if_neg q]
    have hi' := Finset.mem_range.1 hi
    refine (Finset.sum_eq_zero fun r _ => ?_).symm
    unfold Arr.ds Arr.w
    rw [if_neg (by rw [row_val _ (by omega), row_val _ (by omega)]; omega), zero_mul, zero_mul]

/-- A value's gradient once its block is done. -/
theorem sumv_all (A : Arr) (h : Fin 8) (j : ℕ) (hj : j < 8) (x : Fin 2048) (d : Fin 128) :
    A.sumv h j (lastOf j + 1) x d = ∑ i, A.w h i (row (2048 * j + x.val)) * A.g h i d := by
  unfold Arr.sumv
  rw [sum_keys j hj fun i => A.addv h i (row (2048 * j + x.val)) d, sum_tiles 32 512 rfl]
  refine Finset.sum_congr rfl fun i hi => ?_
  by_cases q : 4 * j ≤ i
  · rw [if_pos q]; rfl
  · rw [if_neg q]
    have hi' := Finset.mem_range.1 hi
    refine (Finset.sum_eq_zero fun r _ => ?_).symm
    unfold Arr.w
    rw [if_neg (by rw [row_val _ (by omega), row_val _ (by omega)]; omega), zero_mul]

end Cert.KernelIdeal.Attn

end
-- ==== Proof.Attn.Arrays.lean ====
/-
  The kernel's three results as arrays of reals.
-/
module

public import proofs.«01_k».proof.Proof.Attn.Accum
public import Idealize.ShloMosaic.Lib.Pipeline.ValueKit

@[expose] public section

set_option maxRecDepth 16384
set_option Elab.async false

noncomputable section

namespace Cert.KernelIdeal.Attn

open Cert.KernelIdeal Cert.KernelIdeal.Gen
open Idealize.ShloMosaic
open Idealize.ShloMosaic.TcCoe
open Idealize.ShloMosaic.Pipeline (Dat Cfg Window)

variable {V : Dev nD → Valuation τ sig (Elt Ideal)} {c : Dev nD} {A : Arr}

theorem readQ (h : Fin 8) (s : ℕ) (hs : s < 144) (r : Fin 512) (d : Fin 128) :
    iblk V c (0 : Fin 9) (pt h s hs) (ix3 0 r d : S1x512x128.Idx) = V c (Proc.devRef .tc main_v4) (ix3 h (row (512 * nI s + r.val)) d : S8x16384x128.Idx) := by
  have e := idxQ (pt h s hs)
  have e0 := row_val (512 * nI s + r.val) (by have := nI_lt s hs; omega)
  rw [pt_mod, pt_div] at e
  blk_ext [iblk, e, e0]

theorem readK (h : Fin 8) (s : ℕ) (hs : s < 144) (r : Fin 2048) (d : Fin 128) :
    iblk V c (1 : Fin 9) (pt h s hs) (ix3 0 r d : S1x2048x128.Idx) = V c (Proc.devRef .tc main_v5) (ix3 h (row (2048 * nJ s + r.val)) d : S8x16384x128.Idx) := by
  have e := idxK (pt h s hs)
  have e0 := row_val (2048 * nJ s + r.val) (by have := nJ_lt s; omega)
  rw [pt_mod, pt_div] at e
  blk_ext [iblk, e, e0]

theorem readV (h : Fin 8) (s : ℕ) (hs : s < 144) (r : Fin 2048) (d : Fin 128) :
    iblk V c (2 : Fin 9) (pt h s hs) (ix3 0 r d : S1x2048x128.Idx) = V c (Proc.devRef .tc main_v6) (ix3 h (row (2048 * nJ s + r.val)) d : S8x16384x128.Idx) := by
  have e := idxV (pt h s hs)
  have e0 := row_val (2048 * nJ s + r.val) (by have := nJ_lt s; omega)
  rw [pt_mod, pt_div] at e
  blk_ext [iblk, e, e0]

theorem readO (h : Fin 8) (s : ℕ) (hs : s < 144) (r : Fin 512) (d : Fin 128) :
    iblk V c (3 : Fin 9) (pt h s hs) (ix3 0 r d : S1x512x128.Idx) = V c (Proc.devRef .tc main_v39) (ix3 h (row (512 * nI s + r.val)) d : S8x16384x128.Idx) := by
  have e := idxO (pt h s hs)
  have e0 := row_val (512 * nI s + r.val) (by have := nI_lt s hs; omega)
  rw [pt_mod, pt_div] at e
  blk_ext [iblk, e, e0]

theorem readL (h : Fin 8) (s : ℕ) (hs : s < 144) (r : Fin 512) (d : Fin 128) :
    iblk V c (4 : Fin 9) (pt h s hs) (ix3 0 r d : S1x512x128.Idx) = V c (Proc.devRef .tc main_v41) (ix3 h (row (512 * nI s + r.val)) d : S8x16384x128.Idx) := by
  have e := idxL (pt h s hs)
  have e0 := row_val (512 * nI s + r.val) (by have := nI_lt s hs; omega)
  rw [pt_mod, pt_div] at e
  blk_ext [iblk, e, e0]

theorem readG (h : Fin 8) (s : ℕ) (hs : s < 144) (r : Fin 512) (d : Fin 128) :
    iblk V c (5 : Fin 9) (pt h s hs) (ix3 0 r d : S1x512x128.Idx) = V c (Proc.devRef .tc main_arg3) (ix3 h (row (512 * nI s + r.val)) d : S8x16384x128.Idx) := by
  have e := idxG (pt h s hs)
  have e0 := row_val (512 * nI s + r.val) (by have := nI_lt s hs; omega)
  rw [pt_mod, pt_div] at e
  blk_ext [iblk, e, e0]

/-- The arrays the kernel reads hold these reals. -/
structure Reads (V : Dev nD → Valuation τ sig (Elt Ideal)) (c : Dev nD) (A : Arr) : Prop where
  q : ∀ (h : Fin 8) (i : Fin 16384) (d : Fin 128), V c (Proc.devRef .tc main_v4) (ix3 h i d : S8x16384x128.Idx) = ((A.q h i d : ℝ) : EReal)
  k : ∀ (h : Fin 8) (i : Fin 16384) (d : Fin 128), V c (Proc.devRef .tc main_v5) (ix3 h i d : S8x16384x128.Idx) = ((A.k h i d : ℝ) : EReal)
  v : ∀ (h : Fin 8) (i : Fin 16384) (d : Fin 128), V c (Proc.devRef .tc main_v6) (ix3 h i d : S8x16384x128.Idx) = ((A.v h i d : ℝ) : EReal)
  o : ∀ (h : Fin 8) (i : Fin 16384) (d : Fin 128), V c (Proc.devRef .tc main_v39) (ix3 h i d : S8x16384x128.Idx) = ((A.o h i d : ℝ) : EReal)
  l : ∀ (h : Fin 8) (i : Fin 16384) (d : Fin 128), V c (Proc.devRef .tc main_v41) (ix3 h i d : S8x16384x128.Idx) = ((A.l h i : ℝ) : EReal)
  g : ∀ (h : Fin 8) (i : Fin 16384) (d : Fin 128), V c (Proc.devRef .tc main_arg3) (ix3 h i d : S8x16384x128.Idx) = ((A.g h i d : ℝ) : EReal)

theorem Reads.blocks (R : Reads V c A) (h : Fin 8) (s : ℕ) (hs : s < 144) : Holds (blkAt V c (pt h s hs)) (A.blk h (nI s) (nJ s)) where
  q r d := (readQ h s hs r d).trans (R.q _ _ _)
  k x d := (readK h s hs x d).trans (R.k _ _ _)
  v x d := (readV h s hs x d).trans (R.v _ _ _)
  o r d := (readO h s hs r d).trans (R.o _ _ _)
  l r d := (readL h s hs r d).trans (R.l _ _ _)
  g r d := (readG h s hs r d).trans (R.g _ _ _)

/-- The gradient of the queries. -/
def Arr.dq (A : Arr) : S8x16384x128.Idx → EReal := fun i => (((∑ j, A.ds (i 0) (i 1) j * A.k (i 0) j (i 2)) * σ : ℝ) : EReal)
/-- The gradient of the keys. -/
def Arr.dk (A : Arr) : S8x16384x128.Idx → EReal := fun i => (((∑ n, A.ds (i 0) n (i 1) * A.q (i 0) n (i 2)) * Real.log 2 : ℝ) : EReal)
/-- The gradient of the values. -/
def Arr.dv (A : Arr) : S8x16384x128.Idx → EReal := fun i => ((∑ n, A.w (i 0) n (i 1) * A.g (i 0) n (i 2) : ℝ) : EReal)

/-- A point is a head's point. -/
theorem is_pt (t : Fin cfgA.N) : ∃ (h : Fin 8) (s : ℕ) (hs : s < 144), t = pt h s hs := by
  have ht : t.val < 1152 := lt_of_lt_of_eq t.isLt N_0
  exact ⟨⟨t.val / 144, by omega⟩, t.val % 144, Nat.mod_lt _ (by decide), Fin.ext (by show t.val = 144 * (t.val / 144) + t.val % 144; omega)⟩

theorem embDq (h : Fin 8) (s : ℕ) (hs : s < 144) (r : Fin 16384) (d : Fin 128) :
    ((cfgA.win 6).blk (pt h s hs)).view.emb (ix3 0 r d : S1x16384x128.Idx) = (ix3 h r d : S8x16384x128.Idx) := by
  have e := idxDq (pt h s hs)
  rw [pt_div] at e
  blk_ext [e]

theorem embDk (h : Fin 8) (s : ℕ) (hs : s < 144) (x : Fin 2048) (d : Fin 128) :
    ((cfgA.win 7).blk (pt h s hs)).view.emb (ix3 0 x d : S1x2048x128.Idx) = (ix3 h (row (2048 * nJ s + x.val)) d : S8x16384x128.Idx) := by
  have e := idxDk (pt h s hs)
  have e0 := row_val (2048 * nJ s + x.val) (by have := nJ_lt s; omega)
  rw [pt_mod, pt_div] at e
  blk_ext [e, e0]

theorem embDv (h : Fin 8) (s : ℕ) (hs : s < 144) (x : Fin 2048) (d : Fin 128) :
    ((cfgA.win 8).blk (pt h s hs)).view.emb (ix3 0 x d : S1x2048x128.Idx) = (ix3 h (row (2048 * nJ s + x.val)) d : S8x16384x128.Idx) := by
  have e := idxDv (pt h s hs)
  have e0 := row_val (2048 * nJ s + x.val) (by have := nJ_lt s; omega)
  rw [pt_mod, pt_div] at e
  blk_ext [e, e0]

/-- A head is written back after its last point only. -/
theorem flushDq (h : Fin 8) (s : ℕ) (hs : s < 144) : (cfgA.win 6).flush (pt h s hs) = true ↔ s = 143 := by
  rw [Pipeline.Window.flush_eq_flushF, ← (stores (pt h s hs)).2.2.2.2, decide_eq_true_iff]
  have := h.isLt
  show (144 * h.val + s + 1) % 144 = 0 ↔ s = 143
  omega

/-- A key block is written back after its last point only. -/
theorem flushed_last (h : Fin 8) (s : ℕ) (hs : s < 144) (hf : (cfgA.win 7).flushF (pt h s hs) = true ∨ (cfgA.win 8).flushF (pt h s hs) = true) :
    s = lastOf (nJ s) := by
  refine last_unique ⟨s, hs⟩ ?_
  by_contra q
  have w := words (pt h s hs)
  rw [pt_mod] at w
  have := (stores (pt h s hs)).2.2.2.1 (fun e => q (by rw [w.1] at e; exact (cond5_at ⟨nI s, nI_lt s hs⟩).1 e))
  rcases hf with f | f
  · exact absurd (this.1.symm.trans f) (by decide)
  · exact absurd (this.2.symm.trans f) (by decide)

end Cert.KernelIdeal.Attn

end
-- ==== Proof.Attn.Final.lean ====
/-
  What the kernel's three result arrays hold at the end.
-/
module

public import proofs.«01_k».proof.Proof.Attn.Arrays

@[expose] public section

set_option maxRecDepth 16384
set_option Elab.async false

noncomputable section

namespace Cert.KernelIdeal.Attn

open Cert.KernelIdeal Cert.KernelIdeal.Gen
open Idealize.ShloMosaic
open Idealize.ShloMosaic.TcCoe
open Idealize.ShloMosaic.Pipeline (Dat Cfg Window)

variable {V : Dev nD → Valuation τ sig (Elt Ideal)} {c : Dev nD} {A : Arr}

/-- The array of the queries' gradient. -/
theorem finalDq (R : Reads V c A) : (dats V 0 c).arrAt (6 : Fin 9) cfgA.N = A.dq := by
  refine (dats V 0 c).arrAt_eq_of_emb (6 : Fin 9) _ (fun t hf y => ?_) fun i => ?_
  · obtain ⟨h, s, hs, rfl⟩ := is_pt t
    obtain rfl := (flushDq h s hs).1 hf
    obtain ⟨r, d, rfl⟩ : ∃ (r : Fin 16384) (d : Fin 128), y = (ix3 0 r d : S1x16384x128.Idx) :=
      ⟨y 1, y 2, (eq_ix3 (y : S1x16384x128.Idx)).trans (congrArg (fun z : Fin 1 => (ix3 z (y 1) (y 2) : S1x16384x128.Idx)) (Subsingleton.elim _ _))⟩
    refine Eq.trans ?_ (congrArg A.dq (embDq h 143 hs r d)).symm
    refine ((accum R.blocks h 143 hs).dq r d).trans (congrArg _ (sumq_all A h r d))
  · have h3 : 143 < 144 := by decide
    refine ⟨pt (i 0) 143 h3, (flushDq (i 0) 143 h3).2 rfl, ?_⟩
    exact Finset.mem_map.2 ⟨(ix3 0 (i 1) (i 2) : S1x16384x128.Idx), Finset.mem_univ _,
      (embDq (i 0) 143 h3 (i 1) (i 2)).trans (eq_ix3 (i : S8x16384x128.Idx)).symm⟩

/-- The array of the keys' gradient. -/
theorem finalDk (R : Reads V c A) : (dats V 0 c).arrAt (7 : Fin 9) cfgA.N = A.dk := by
  refine (dats V 0 c).arrAt_eq_of_emb (7 : Fin 9) _ (fun t hf y => ?_) fun i => ?_
  · obtain ⟨h, s, hs, rfl⟩ := is_pt t
    have hl := flushed_last h s hs (.inl ((Pipeline.Window.flush_eq_flushF _ _).symm.trans hf))
    obtain ⟨x, d, rfl⟩ : ∃ (x : Fin 2048) (d : Fin 128), y = (ix3 0 x d : S1x2048x128.Idx) :=
      ⟨y 1, y 2, (eq_ix3 (y : S1x2048x128.Idx)).trans (congrArg (fun z : Fin 1 => (ix3 z (y 1) (y 2) : S1x2048x128.Idx)) (Subsingleton.elim _ _))⟩
    refine Eq.trans ?_ (congrArg A.dk (embDk h s hs x d)).symm
    refine (pay4_at _ _ x d ((accum R.blocks h s hs).dk x d)).trans ?_
    have e := sumk_all A h (nJ s) (nJ_lt s) x d
    rw [← hl] at e
    rw [e]; rfl
  · have hj : (i 1).val / 2048 < 8 := by have : (i 1).val < 16384 := (i 1).isLt; omega
    have hl := lastOf_spec ⟨(i 1).val / 2048, hj⟩
    refine ⟨pt (i 0) (lastOf ((i 1).val / 2048)) hl.1, (Pipeline.Window.flush_eq_flushF _ _).trans (flushes (i 0) ⟨_, hj⟩ _).1, ?_⟩
    have e : ((cfgA.win 7).blk (pt (i 0) (lastOf ((i 1).val / 2048)) hl.1)).view.emb
        (ix3 0 ⟨(i 1).val % 2048, Nat.mod_lt _ (by decide)⟩ (i 2) : S1x2048x128.Idx) = i := by
      refine (embDk (i 0) _ hl.1 _ (i 2)).trans (Eq.trans ?_ (eq_ix3 (i : S8x16384x128.Idx)).symm)
      refine congrArg (fun z : Fin 16384 => (ix3 (i 0) z (i 2) : S8x16384x128.Idx)) (Fin.ext ?_)
      have hi : (i 1).val < 16384 := (i 1).isLt
      have := hl.2.1
      simp only at this
      rw [this]
      rw [row_val _ (by show 2048 * ((i 1).val / 2048) + (i 1).val % 2048 < 16384; omega)]
      show 2048 * ((i 1).val / 2048) + (i 1).val % 2048 = (i 1).val
      omega
    exact Finset.mem_map.2 ⟨_, Finset.mem_univ _, e⟩

/-- The array of the values' gradient. -/
theorem finalDv (R : Reads V c A) : (dats V 0 c).arrAt (8 : Fin 9) cfgA.N = A.dv := by
  refine (dats V 0 c).arrAt_eq_of_emb (8 : Fin 9) _ (fun t hf y => ?_) fun i => ?_
  · obtain ⟨h, s, hs, rfl⟩ := is_pt t
    have hl := flushed_last h s hs (.inr ((Pipeline.Window.flush_eq_flushF _ _).symm.trans hf))
    obtain ⟨x, d, rfl⟩ : ∃ (x : Fin 2048) (d : Fin 128), y = (ix3 0 x d : S1x2048x128.Idx) :=
      ⟨y 1, y 2, (eq_ix3 (y : S1x2048x128.Idx)).trans (congrArg (fun z : Fin 1 => (ix3 z (y 1) (y 2) : S1x2048x128.Idx)) (Subsingleton.elim _ _))⟩
    refine Eq.trans ?_ (congrArg A.dv (embDv h s hs x d)).symm
    refine ((pay5_at _ x d).trans ((accum R.blocks h s hs).dv x d)).trans ?_
    have e := sumv_all A h (nJ s) (nJ_lt s) x d
    rw [← hl] at e
    rw [e]; rfl
  · have hj : (i 1).val / 2048 < 8 := by have : (i 1).val < 16384 := (i 1).isLt; omega
    have hl := lastOf_spec ⟨(i 1).val / 2048, hj⟩
    refine ⟨pt (i 0) (lastOf ((i 1).val / 2048)) hl.1, (Pipeline.Window.flush_eq_flushF _ _).trans (flushes (i 0) ⟨_, hj⟩ _).2, ?_⟩
    have e : ((cfgA.win 8).blk (pt (i 0) (lastOf ((i 1).val / 2048)) hl.1)).view.emb
        (ix3 0 ⟨(i 1).val % 2048, Nat.mod_lt _ (by decide)⟩ (i 2) : S1x2048x128.Idx) = i := by
      refine (embDv (i 0) _ hl.1 _ (i 2)).trans (Eq.trans ?_ (eq_ix3 (i : S8x16384x128.Idx)).symm)
      refine congrArg (fun z : Fin 16384 => (ix3 (i 0) z (i 2) : S8x16384x128.Idx)) (Fin.ext ?_)
      have hi : (i 1).val < 16384 := (i 1).isLt
      have := hl.2.1
      simp only at this
      rw [this]
      rw [row_val _ (by show 2048 * ((i 1).val / 2048) + (i 1).val % 2048 < 16384; omega)]
      show 2048 * ((i 1).val / 2048) + (i 1).val % 2048 = (i 1).val
      omega
    exact Finset.mem_map.2 ⟨_, Finset.mem_univ _, e⟩

end Cert.KernelIdeal.Attn

end
-- ==== Proof.Attn.Softmax.lean ====
/-
  Causal attention over the reals, with the row maximum subtracted: scores, weights, output and log-sum, and the sums the
  gradient is written with.
-/
module

public import proofs.«01_k».proof.Proof.Attn.Arrays

@[expose] public section

set_option maxRecDepth 16384

noncomputable section

namespace Cert.KernelIdeal.Attn

open Cert.KernelIdeal Cert.KernelIdeal.Gen
open Idealize.ShloMosaic

/-- The mask's comparison of two positions. -/
theorem sle_word (a b : Fin 16384) :
    IntOp.cmpi .sle (BitVec.ofNat 32 a.val) (BitVec.ofNat 32 b.val) = 1#1 ↔ a.val ≤ b.val := by
  have ta : (BitVec.ofNat 32 a.val).toInt = a.val := by
    rw [BitVec.toInt_eq_toNat_of_lt] <;> rw [BitVec.toNat_ofNat] <;> omega
  have tb : (BitVec.ofNat 32 b.val).toInt = b.val := by
    rw [BitVec.toInt_eq_toNat_of_lt] <;> rw [BitVec.toNat_ofNat] <;> omega
  show BitVec.ofBool (BitVec.sle _ _) = 1#1 ↔ _
  rw [BitVec.sle, ta, tb]
  by_cases h : a.val ≤ b.val
  · simp [h]
  · simp [h]

/-- A choice between two values by the mask. -/
theorem select_word (b : BitVec 1) (P : Prop) [Decidable P] (h : b = 1#1 ↔ P) (x y : EReal) :
    Scalar.select b x y = if P then x else y := by
  show (if b = 1#1 then x else y) = _
  simp only [h]

/-- The four arguments as reals: queries, keys, values, and the gradient of the output. -/
structure Real4 where
  q : Fin 8 → Fin 16384 → Fin 128 → ℝ
  k : Fin 8 → Fin 16384 → Fin 128 → ℝ
  v : Fin 8 → Fin 16384 → Fin 128 → ℝ
  g : Fin 8 → Fin 16384 → Fin 128 → ℝ

namespace Real4

variable (X : Real4) (h : Fin 8) (i j : Fin 16384) (d : Fin 128)

/-- The scaled score of query `i` at key `j`. -/
def s : ℝ := (∑ d, X.q h i d * X.k h j d) * σ

/-- The score where the mask keeps it, and `-∞` elsewhere. -/
def x : EReal := if j.val ≤ i.val then ((X.s h i j : ℝ) : EReal) else ⊥

/-- The largest score of a row, -/
def top : EReal := Finset.univ.fold max ⊥ (X.x h i)

/-- as a real. -/
def mx : ℝ := (X.top h i).toReal

/-- The exponential of a score less the row's largest one; zero under the mask. -/
def ex : ℝ := if j.val ≤ i.val then Real.exp (X.s h i j - X.mx h i) else 0

/-- A row's total. -/
def tot : ℝ := ∑ j, X.ex h i j

/-- The attention weight. -/
def p : ℝ := X.ex h i j / X.tot h i

/-- The attention output, -/
def o : ℝ := ∑ j, X.p h i j * X.v h j d

/-- and the logarithm to base two of a row's sum of exponentials. -/
def l : ℝ := (X.mx h i + Real.log (X.tot h i)) / Real.log 2

/-- The gradient of the weights. -/
def dp : ℝ := ∑ d, X.g h i d * X.v h j d

theorem top_eq : X.top h i = ((X.mx h i : ℝ) : EReal) := by
  refine (EReal.coe_toReal (ne_of_lt ?_) (ne_of_gt ?_)).symm
  · refine (Finset.fold_max_lt (c := (⊤ : EReal))).2 ⟨bot_lt_top, fun j _ => ?_⟩
    unfold x
    split
    · exact EReal.coe_lt_top _
    · exact bot_lt_top
  · refine (Finset.lt_fold_max (c := (⊥ : EReal))).2 (Or.inr ⟨i, Finset.mem_univ _, ?_⟩)
    unfold x
    rw [if_pos le_rfl]
    exact EReal.bot_lt_coe _

theorem exp_x : Ideal.exp (X.x h i j - X.top h i) = ((X.ex h i j : ℝ) : EReal) := by
  rw [top_eq]
  unfold x ex
  split
  · rw [← EReal.coe_sub, Ideal.exp_coe]
  · rw [EReal.bot_sub, Ideal.exp_bot, EReal.coe_zero]

theorem ex_nonneg : 0 ≤ X.ex h i j := by
  unfold ex
  split
  · exact (Real.exp_pos _).le
  · exact le_rfl

theorem tot_pos : 0 < X.tot h i := by
  refine Finset.sum_pos' (fun j _ => X.ex_nonneg h i j) ⟨i, Finset.mem_univ _, ?_⟩
  unfold ex
  rw [if_pos le_rfl]
  exact Real.exp_pos _

theorem log2_pos : 0 < Real.log 2 := Real.log_pos (by norm_num)

/-- What the kernel takes: the queries scaled so that exponentials are powers of two, and what the forward pass leaves. -/
def arr : Arr where
  q := fun h i d => X.q h i d * (σ / Real.log 2)
  k := X.k
  v := X.v
  o := X.o
  l := X.l
  g := X.g

theorem arr_o : X.arr.o = X.o := by simp only [arr]
theorem arr_l : X.arr.l = X.l := by simp only [arr]
theorem arr_g : X.arr.g = X.g := by simp only [arr]

/-- The kernel's weight is the attention weight. -/
theorem arr_w : X.arr.w h i j = X.p h i j := by
  unfold Arr.w p ex
  split
  · have hl := log2_pos
    have ht := X.tot_pos h i
    have e : (∑ d, X.arr.q h i d * X.arr.k h j d) - X.arr.l h i
        = (X.s h i j - (X.mx h i + Real.log (X.tot h i))) / Real.log 2 := by
      show (∑ d, X.q h i d * (σ / Real.log 2) * X.k h j d) - (X.mx h i + Real.log (X.tot h i)) / Real.log 2 = _
      have : (∑ d, X.q h i d * (σ / Real.log 2) * X.k h j d) = X.s h i j / Real.log 2 := by
        unfold s
        rw [Finset.sum_mul, Finset.sum_div]
        exact Finset.sum_congr rfl fun d _ => by ring
      rw [this, ← sub_div]
    show (2 : ℝ) ^ ((∑ d, X.arr.q h i d * X.arr.k h j d) - X.arr.l h i) = _
    rw [e, Real.rpow_def_of_pos (by norm_num : (0 : ℝ) < 2), mul_div_cancel₀ _ hl.ne']
    rw [← sub_sub, Real.exp_sub, Real.exp_log ht]
  · rw [zero_div]

/-- The output's gradient against the output is the weights' gradient against the weights. -/
theorem sum_go : ∑ d, X.g h i d * X.o h i d = ∑ j, X.p h i j * X.dp h i j := by
  unfold o dp
  simp only [Finset.mul_sum]
  rw [Finset.sum_comm]
  exact Finset.sum_congr rfl fun j _ => Finset.sum_congr rfl fun d _ => by ring

theorem regroup (E T D S : ℝ) : E / T * (D - S) = (D / T + -(S / T)) * E := by ring

theorem regroup' (E T D : ℝ) (hT : T ≠ 0) : D * (1 / (T * T)) * E = E / T * D / T := by field_simp

/-- The gradient of a score as the reference writes it. -/
theorem arr_ds : X.arr.ds h i j
    = (X.dp h i j / X.tot h i + -(∑ j, X.dp h i j * (1 / (X.tot h i * X.tot h i)) * X.ex h i j)) * X.ex h i j := by
  have ht := (X.tot_pos h i).ne'
  have e : ∑ j, X.dp h i j * (1 / (X.tot h i * X.tot h i)) * X.ex h i j
      = (∑ j, X.p h i j * X.dp h i j) / X.tot h i := by
    rw [Finset.sum_div]
    exact Finset.sum_congr rfl fun j _ => regroup' _ _ _ ht
  have e' : X.arr.ds h i j = X.p h i j * (X.dp h i j - ∑ j, X.p h i j * X.dp h i j) :=
    by
    have e1 := X.arr_w h i j
    have e2 := X.sum_go h i
    have e3 : ∑ d, X.arr.g h i d * X.arr.v h j d = X.dp h i j := rfl
    have e4 : ∑ d, X.arr.g h i d * X.arr.o h i d = ∑ d, X.g h i d * X.o h i d := by
      rw [arr_g, arr_o]
    unfold Arr.ds
    rw [e1, e3, e4, e2]
  exact (e'.trans (regroup _ _ _ _)).trans (congrArg (fun a => (X.dp h i j / X.tot h i + -a) * X.ex h i j) e.symm)

/-- Under the mask the gradient of a score is zero. -/
theorem arr_ds_masked (hm : ¬ j.val ≤ i.val) : X.arr.ds h i j = 0 := by
  show X.arr.w h i j * _ = 0
  unfold Arr.w
  rw [if_neg hm, zero_mul]

end Real4

end Cert.KernelIdeal.Attn
-- ==== Proof.Attn.Forward.lean ====
/- The output and the log-sum, as the host computes them from the masked scores. -/
module

public import proofs.«01_k».proof.Proof.Attn.Softmax
public import Idealize.ShloMosaic.Lib.Pointwise
public import Idealize.ShloMosaic.Lib.IdealHost

@[expose] public section

set_option maxRecDepth 16384
set_option Elab.async false

noncomputable section

namespace Cert.KernelIdeal.Attn

open Cert.KernelIdeal Cert.KernelIdeal.Gen
open Idealize.ShloMosaic Idealize.ShloMosaic.TcCoe Idealize.ShloMosaic.Tactic

theorem ofBits_two : Ideal.ofBits .f32 0x40000000#32 = ((2 : ℝ) : EReal) := by
  simp [Ideal.ofBits, Ideal.ieee, -EReal.coe_mul]
  norm_num

theorem log_two : Ideal.log ((2 : ℝ) : EReal) = ((Real.log 2 : ℝ) : EReal) := by
  rw [Ideal.log_coe, if_neg (by norm_num)]

/-- The row maxima of the scores, -/
def topOf (x : FVec Ideal S8x16384x16384 .f32) : FVec Ideal S8x16384 .f32 :=
  Host.reduce FloatOps.maximumf x (constant S_ .f32 0xFF800000#32) reducesTo_S8x16384x16384_S8x16384_d2 h_S_

/-- the exponentials of the scores less the values `t` of their rows, -/
def exOf (x : FVec Ideal S8x16384x16384 .f32) (t : FVec Ideal S8x16384 .f32) : FVec Ideal S8x16384x16384 .f32 :=
  Host.exp (subf x (broadcastInDim S8x16384x16384 ![0, 1, 2] bcast_S8x16384x1_S8x16384x16384_0_1_2
    (broadcastInDim S8x16384x1 ![0, 1] bcast_S8x16384_S8x16384x1_0_1 t)))

/-- and the totals of rows. -/
def totOf (e : FVec Ideal S8x16384x16384 .f32) : FVec Ideal S8x16384 .f32 :=
  Host.reduceAdd e (constant S_ .f32 0x00000000#32) reducesTo_S8x16384x16384_S8x16384_d2 h_S_

/-- The maxima once more, against `-∞`. -/
def topOf' (t : FVec Ideal S8x16384 .f32) : FVec Ideal S8x16384 .f32 :=
  maximumf (broadcastInDim S8x16384 ![] bcast_S_S8x16384 (constant S_ .f32 0xFF800000#32)) t

/-- The log-sums. -/
def lseOf (t u : FVec Ideal S8x16384 .f32) : FVec Ideal S8x16384x128 .f32 :=
  broadcastInDim S8x16384x128 ![0, 1, 2] bcast_S8x16384x1_S8x16384x128_0_1_2
    (broadcastInDim S8x16384x1 ![0, 1] bcast_S8x16384_S8x16384x1_0_1
      (Host.divf (addf t (Host.log u))
        (broadcastInDim S8x16384 ![] bcast_S_S8x16384 (Host.log (constant S_ .f32 0x40000000#32)))))

/-- The output. -/
def outOf (e : FVec Ideal S8x16384x16384 .f32) (u : FVec Ideal S8x16384 .f32) (v : FVec Ideal S8x16384x128 .f32) : FVec Ideal S8x16384x128 .f32 :=
  Host.dotGeneral dot_S8x16384x16384_S8x16384x128_S8x16384x128_2_1_1_2_0_0 none
    (Host.divf e (broadcastInDim S8x16384x16384 ![0, 1, 2] bcast_S8x16384x1_S8x16384x16384_0_1_2
      (broadcastInDim S8x16384x1 ![0, 1] bcast_S8x16384_S8x16384x1_0_1 u))) v

theorem topOf_at (x : FVec Ideal S8x16384x16384 .f32) (h : Fin 8) (i : Fin 16384) :
    topOf x (ix2 h i : S8x16384.Idx) = Finset.univ.fold max ⊥ (fun j : Fin 16384 => x (ix3 h i j : S8x16384x16384.Idx)) := by
  unfold topOf
  pointwise []
  rw [ofBits_bot]

theorem exOf_at (x : FVec Ideal S8x16384x16384 .f32) (t : FVec Ideal S8x16384 .f32) (h : Fin 8) (i j : Fin 16384) :
    exOf x t (ix3 h i j : S8x16384x16384.Idx) = Ideal.exp (x (ix3 h i j : S8x16384x16384.Idx) - t (ix2 h i : S8x16384.Idx)) := by
  unfold exOf
  pointwise []

theorem totOf_at (e : FVec Ideal S8x16384x16384 .f32) (h : Fin 8) (i : Fin 16384) :
    totOf e (ix2 h i : S8x16384.Idx) = ∑ j : Fin 16384, e (ix3 h i j : S8x16384x16384.Idx) := by
  unfold totOf
  pointwise []

theorem topOf'_at (t : FVec Ideal S8x16384 .f32) (h : Fin 8) (i : Fin 16384) :
    topOf' t (ix2 h i : S8x16384.Idx) = max ⊥ (t (ix2 h i : S8x16384.Idx)) := by
  unfold topOf'
  pointwise []
  rw [ofBits_bot]

theorem lseOf_at (t u : FVec Ideal S8x16384 .f32) (h : Fin 8) (i : Fin 16384) (d : Fin 128) :
    lseOf t u (ix3 h i d : S8x16384x128.Idx)
      = Ideal.div (t (ix2 h i : S8x16384.Idx) + Ideal.log (u (ix2 h i : S8x16384.Idx))) (Ideal.log (Ideal.ofBits .f32 0x40000000#32)) := by
  unfold lseOf
  pointwise []

theorem outOf_at (e : FVec Ideal S8x16384x16384 .f32) (u : FVec Ideal S8x16384 .f32) (v : FVec Ideal S8x16384x128 .f32)
    (h : Fin 8) (i : Fin 16384) (d : Fin 128) :
    outOf e u v (ix3 h i d : S8x16384x128.Idx)
      = ∑ j : Fin 16384, Ideal.div (e (ix3 h i j : S8x16384x16384.Idx)) (u (ix2 h i : S8x16384.Idx)) * v (ix3 h j d : S8x16384x128.Idx) := by
  unfold outOf
  pointwise []

section
variable (X : Real4) (x : FVec Ideal S8x16384x16384 .f32) (hx : ∀ h i j, x (ix3 h i j : S8x16384x16384.Idx) = X.x h i j)
include hx

theorem top_real (h : Fin 8) (i : Fin 16384) : topOf x (ix2 h i : S8x16384.Idx) = ((X.mx h i : ℝ) : EReal) := by
  rw [topOf_at]
  simp only [hx]
  exact X.top_eq h i

theorem top_real' (h : Fin 8) (i : Fin 16384) : topOf' (topOf x) (ix2 h i : S8x16384.Idx) = ((X.mx h i : ℝ) : EReal) := by
  rw [topOf'_at, top_real X x hx]
  exact max_eq_right bot_le

theorem ex_real (t : FVec Ideal S8x16384 .f32) (ht : ∀ h i, t (ix2 h i : S8x16384.Idx) = ((X.mx h i : ℝ) : EReal)) (h : Fin 8) (i j : Fin 16384) :
    exOf x t (ix3 h i j : S8x16384x16384.Idx) = ((X.ex h i j : ℝ) : EReal) := by
  rw [exOf_at, ht, hx, ← X.top_eq]
  exact X.exp_x h i j

theorem tot_real (t : FVec Ideal S8x16384 .f32) (ht : ∀ h i, t (ix2 h i : S8x16384.Idx) = ((X.mx h i : ℝ) : EReal)) (h : Fin 8) (i : Fin 16384) :
    totOf (exOf x t) (ix2 h i : S8x16384.Idx) = ((X.tot h i : ℝ) : EReal) := by
  rw [totOf_at]
  simp only [ex_real X x hx t ht]
  exact coe_sum _ _

theorem lse_real (h : Fin 8) (i : Fin 16384) (d : Fin 128) :
    lseOf (topOf x) (totOf (exOf x (topOf x))) (ix3 h i d : S8x16384x128.Idx) = ((X.l h i : ℝ) : EReal) := by
  rw [lseOf_at, top_real X x hx, tot_real X x hx _ (top_real X x hx), ofBits_two, log_two, Ideal.log_coe,
    if_neg (not_le.2 (X.tot_pos h i)), ← EReal.coe_add, Ideal.div_coe Real4.log2_pos.ne', ← EReal.coe_mul, mul_one_div]
  rfl

theorem out_real (v : FVec Ideal S8x16384x128 .f32) (hv : ∀ h j d, v (ix3 h j d : S8x16384x128.Idx) = ((X.v h j d : ℝ) : EReal))
    (h : Fin 8) (i : Fin 16384) (d : Fin 128) :
    outOf (exOf x (topOf' (topOf x))) (totOf (exOf x (topOf' (topOf x)))) v (ix3 h i d : S8x16384x128.Idx) = ((X.o h i d : ℝ) : EReal) := by
  rw [outOf_at]
  simp only [ex_real X x hx _ (top_real' X x hx), tot_real X x hx _ (top_real' X x hx), hv,
    Ideal.div_coe (X.tot_pos h i).ne', ← EReal.coe_mul, mul_one_div]
  exact coe_sum _ _

end

end Cert.KernelIdeal.Attn
-- ==== Proof.Attn.Body.lean ====
/- What the body leaves at every kind of point, as `addFull` or `addMasked` of what it found. -/
module

public import proofs.«01_k».proof.Proof.Attn.Step
public import Idealize.ShloMosaic.Lib.Pipeline.FrameBody
public import Idealize.ShloMosaic.Lib.Pipeline.TableIdle
public import Idealize.ShloMosaic.Lib.Exec
public import Idealize.ShloMosaic.Lib.Affine
public import Idealize.ShloMosaic.Lib.Tactic
public import Idealize.ShloMosaic.Lib.Tactic.Stretches

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
    (arg4 : Memref sig .tc .vmem S1x512x128 .bf16) (harg4 : arg4.IsWhole)
    (arg5 : Memref sig .tc .vmem S1x2048x128 .bf16) (harg5 : arg5.IsWhole)
    (arg6 : Memref sig .tc .vmem S1x2048x128 .bf16) (harg6 : arg6.IsWhole)
    (arg7 : Memref sig .tc .vmem S1x512x128 .f32) (harg7 : arg7.IsWhole)
    (arg8 : Memref sig .tc .vmem S1x512x128 .f32) (harg8 : arg8.IsWhole)
    (arg9 : Memref sig .tc .vmem S1x512x128 .f32) (harg9 : arg9.IsWhole)
    (arg10 : Memref sig .tc .vmem S1x16384x128 .f32) (harg10 : arg10.IsWhole)
    (arg11 : Memref sig .tc .vmem S1x2048x128 .f32) (harg11 : arg11.IsWhole)
    (arg12 : Memref sig .tc .vmem S1x2048x128 .f32) (harg12 : arg12.IsWhole)
    (arg13 : Memref sig .tc .vmem S2048x128 .f32) (harg13 : arg13.IsWhole)
    (arg14 : Memref sig .tc .vmem S2048x128 .f32) (harg14 : arg14.IsWhole)
    (T0 T1 : S144.Idx → Elt Ideal .i32) (b : Blk) (s : Acc) (yk yv : S1x2048x128.Idx → Elt Ideal .f32)

set_option maxHeartbeats 8000000 in
/-- The first point of a head. -/
theorem runA
    (hw : k0_chk1 (wordI T0 i) (wordJ T1 i))
    (h1 : k0_cond1 i = 1#1) (h2 : condF (wordI T0 i) (wordJ T1 i) = 1#1)
    (h3 : ¬(k0_cond3 (wordI T0 i) (wordJ T1 i) = 1#1)) (h4 : k0_cond4 (wordI T0 i) (wordJ T1 i) = 1#1)
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b ⟨k0_pay19 (F := Ideal), k0_pay20 (F := Ideal), k0_pay21 (F := Ideal)⟩).dq
          ∗ owns (c : Thread nD τ) arg11 fullShare yk
          ∗ owns (c : Thread nD τ) arg12 fullShare yv
          ∗ owns (c : Thread nD τ) arg13 fullShare (addMasked (wordI T0 i) (wordJ T1 i) (hw.2.2.2 h4) b ⟨k0_pay19 (F := Ideal), k0_pay20 (F := Ideal), k0_pay21 (F := Ideal)⟩).dk
          ∗ owns (c : Thread nD τ) arg14 fullShare (addMasked (wordI T0 i) (wordJ T1 i) (hw.2.2.2 h4) b ⟨k0_pay19 (F := Ideal), k0_pay20 (F := Ideal), k0_pay21 (F := Ideal)⟩).dv) -∗ K ⟨⟩))
    ⊢ wp frame (wpE (defs₀ (F := Ideal)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Ideal) (Rect.unit (s := S1x512x128) ![0, 0, 0] ![1, 512, 128] inb).toLoadRect (arg4.view.rep b.q) = b.q := fun inb => View.readAt_rep_full arg4.view b.q inb
  have r1 : ∀ inb, arg5.view.readAt (Elt Ideal) (Rect.unit (s := S1x2048x128) ![0, 0, 0] ![1, 2048, 128] inb).toLoadRect (arg5.view.rep b.k) = b.k := fun inb => View.readAt_rep_full arg5.view b.k inb
  have r2 : ∀ inb, arg6.view.readAt (Elt Ideal) (Rect.unit (s := S1x2048x128) ![0, 0, 0] ![1, 2048, 128] inb).toLoadRect (arg6.view.rep b.v) = b.v := fun inb => View.readAt_rep_full arg6.view b.v inb
  have r3 : ∀ inb, arg7.view.readAt (Elt Ideal) (Rect.unit (s := S1x512x128) ![0, 0, 0] ![1, 512, 128] inb).toLoadRect (arg7.view.rep b.o) = b.o := fun inb => View.readAt_rep_full arg7.view b.o inb
  have r4 : ∀ inb, arg8.view.readAt (Elt Ideal) (Rect.unit (s := S1x512x128) ![0, 0, 0] ![1, 512, 128] inb).toLoadRect (arg8.view.rep b.l) = b.l := fun inb => View.readAt_rep_full arg8.view b.l inb
  have r5 : ∀ inb, arg9.view.readAt (Elt Ideal) (Rect.unit (s := S1x512x128) ![0, 0, 0] ![1, 512, 128] inb).toLoadRect (arg9.view.rep b.g) = b.g := fun inb => View.readAt_rep_full arg9.view b.g inb
  have u0 : ∀ inb, arg13.view.readAt (Elt Ideal) (Rect.unit (s := S2048x128) ![0, 0] ![2048, 128] inb).toLoadRect (arg13.view.rep s.dk) = s.dk := fun inb => View.readAt_rep_full arg13.view s.dk inb
  have v0 : ∀ inb inb' w L, arg13.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Ideal) (Rect.unit (s := S2048x128) ![0, 0] ![2048, 128] inb).toLoadRect (arg14.view.rep s.dv) = s.dv := fun inb => View.readAt_rep_full arg14.view s.dv inb
  have v1 : ∀ inb inb' w L, arg14.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb inb' w, arg10.view.readAt (Elt Ideal) (Rect.unit (s := S1x16384x128) (k0_off3 (wordI T0 i)) ![1, 512, 128] inb').toLoadRect (arg10.view.writes (Elt Ideal) arg10.view.junk [⟨Rect.unit (s := S1x16384x128) ![0, 0, 0] ![1, 16384, 128] inb, w⟩])
      = VecWindow.window w (k0_off3 (wordI T0 i)) ![1, 512, 128] inb' := fun inb inb' w =>
    (View.readAt_unit _ _ _ rfl inb').trans (congrArg (fun x => VecWindow.window x _ _ inb') (View.read_writes_full _ _ _ _ _))
  isplitl [HO6]
  · unfold owns; iexists _; isplitr; swap; · iexact HO6
    ipureintro
    sl_open_run
    refine (View.read_writes_cons_put _ _ _ _ _ rfl).trans ?_
    refine (congrArg (fun x => VecWindow.put x _ _ _) (View.read_writes_full _ _ _ _ _)).trans ?_
    dsimp only [addMasked]
    simp only [r0, r1, r2, r3, r5, u0, v0, u1, v1]
    rw [w0]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Ideal) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- The first point of a block of keys. -/
theorem runE
    (hw : k0_chk1 (wordI T0 i) (wordJ T1 i))
    (h1 : ¬(k0_cond1 i = 1#1)) (h2 : condF (wordI T0 i) (wordJ T1 i) = 1#1)
    (h3 : ¬(k0_cond3 (wordI T0 i) (wordJ T1 i) = 1#1)) (h4 : k0_cond4 (wordI T0 i) (wordJ T1 i) = 1#1)
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b ⟨s.dq, k0_pay20 (F := Ideal), k0_pay21 (F := Ideal)⟩).dq
          ∗ owns (c : Thread nD τ) arg11 fullShare yk
          ∗ owns (c : Thread nD τ) arg12 fullShare yv
          ∗ owns (c : Thread nD τ) arg13 fullShare (addMasked (wordI T0 i) (wordJ T1 i) (hw.2.2.2 h4) b ⟨s.dq, k0_pay20 (F := Ideal), k0_pay21 (F := Ideal)⟩).dk
          ∗ owns (c : Thread nD τ) arg14 fullShare (addMasked (wordI T0 i) (wordJ T1 i) (hw.2.2.2 h4) b ⟨s.dq, k0_pay20 (F := Ideal), k0_pay21 (F := Ideal)⟩).dv) -∗ K ⟨⟩))
    ⊢ wp frame (wpE (defs₀ (F := Ideal)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Ideal) (Rect.unit (s := S1x512x128) ![0, 0, 0] ![1, 512, 128] inb).toLoadRect (arg4.view.rep b.q) = b.q := fun inb => View.readAt_rep_full arg4.view b.q inb
  have r1 : ∀ inb, arg5.view.readAt (Elt Ideal) (Rect.unit (s := S1x2048x128) ![0, 0, 0] ![1, 2048, 128] inb).toLoadRect (arg5.view.rep b.k) = b.k := fun inb => View.readAt_rep_full arg5.view b.k inb
  have r2 : ∀ inb, arg6.view.readAt (Elt Ideal) (Rect.unit (s := S1x2048x128) ![0, 0, 0] ![1, 2048, 128] inb).toLoadRect (arg6.view.rep b.v) = b.v := fun inb => View.readAt_rep_full arg6.view b.v inb
  have r3 : ∀ inb, arg7.view.readAt (Elt Ideal) (Rect.unit (s := S1x512x128) ![0, 0, 0] ![1, 512, 128] inb).toLoadRect (arg7.view.rep b.o) = b.o := fun inb => View.readAt_rep_full arg7.view b.o inb
  have r4 : ∀ inb, arg8.view.readAt (Elt Ideal) (Rect.unit (s := S1x512x128) ![0, 0, 0] ![1, 512, 128] inb).toLoadRect (arg8.view.rep b.l) = b.l := fun inb => View.readAt_rep_full arg8.view b.l inb
  have r5 : ∀ inb, arg9.view.readAt (Elt Ideal) (Rect.unit (s := S1x512x128) ![0, 0, 0] ![1, 512, 128] inb).toLoadRect (arg9.view.rep b.g) = b.g := fun inb => View.readAt_rep_full arg9.view b.g inb
  have u0 : ∀ inb, arg13.view.readAt (Elt Ideal) (Rect.unit (s := S2048x128) ![0, 0] ![2048, 128] inb).toLoadRect (arg13.view.rep s.dk) = s.dk := fun inb => View.readAt_rep_full arg13.view s.dk inb
  have v0 : ∀ inb inb' w L, arg13.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Ideal) (Rect.unit (s := S2048x128) ![0, 0] ![2048, 128] inb).toLoadRect (arg14.view.rep s.dv) = s.dv := fun inb => View.readAt_rep_full arg14.view s.dv inb
  have v1 : ∀ inb inb' w L, arg14.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Ideal) (Rect.unit (s := S1x16384x128) (k0_off3 (wordI T0 i)) ![1, 512, 128] inb).toLoadRect (arg10.view.rep s.dq)
      = VecWindow.window s.dq (k0_off3 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addMasked]
    simp only [r0, r1, r2, r3, r5, u0, v0, u1, v1]
    rw [w0]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Ideal) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- A point below the diagonal. -/
theorem runF
    (hw : k0_chk1 (wordI T0 i) (wordJ T1 i))
    (h1 : ¬(k0_cond1 i = 1#1)) (h2 : ¬(condF (wordI T0 i) (wordJ T1 i) = 1#1))
    (h3 : k0_cond3 (wordI T0 i) (wordJ T1 i) = 1#1) (h4 : ¬(k0_cond4 (wordI T0 i) (wordJ T1 i) = 1#1))
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addFull (wordI T0 i) (hw.2.1 h3) b s).dq
          ∗ owns (c : Thread nD τ) arg11 fullShare yk
          ∗ owns (c : Thread nD τ) arg12 fullShare yv
          ∗ owns (c : Thread nD τ) arg13 fullShare (addFull (wordI T0 i) (hw.2.1 h3) b s).dk
          ∗ owns (c : Thread nD τ) arg14 fullShare (addFull (wordI T0 i) (hw.2.1 h3) b s).dv) -∗ K ⟨⟩))
    ⊢ wp frame (wpE (defs₀ (F := Ideal)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Ideal) (Rect.unit (s := S1x512x128) ![0, 0, 0] ![1, 512, 128] inb).toLoadRect (arg4.view.rep b.q) = b.q := fun inb => View.readAt_rep_full arg4.view b.q inb
  have r1 : ∀ inb, arg5.view.readAt (Elt Ideal) (Rect.unit (s := S1x2048x128) ![0, 0, 0] ![1, 2048, 128] inb).toLoadRect (arg5.view.rep b.k) = b.k := fun inb => View.readAt_rep_full arg5.view b.k inb
  have r2 : ∀ inb, arg6.view.readAt (Elt Ideal) (Rect.unit (s := S1x2048x128) ![0, 0, 0] ![1, 2048, 128] inb).toLoadRect (arg6.view.rep b.v) = b.v := fun inb => View.readAt_rep_full arg6.view b.v inb
  have r3 : ∀ inb, arg7.view.readAt (Elt Ideal) (Rect.unit (s := S1x512x128) ![0, 0, 0] ![1, 512, 128] inb).toLoadRect (arg7.view.rep b.o) = b.o := fun inb => View.readAt_rep_full arg7.view b.o inb
  have r4 : ∀ inb, arg8.view.readAt (Elt Ideal) (Rect.unit (s := S1x512x128) ![0, 0, 0] ![1, 512, 128] inb).toLoadRect (arg8.view.rep b.l) = b.l := fun inb => View.readAt_rep_full arg8.view b.l inb
  have r5 : ∀ inb, arg9.view.readAt (Elt Ideal) (Rect.unit (s := S1x512x128) ![0, 0, 0] ![1, 512, 128] inb).toLoadRect (arg9.view.rep b.g) = b.g := fun inb => View.readAt_rep_full arg9.view b.g inb
  have u0 : ∀ inb, arg13.view.readAt (Elt Ideal) (Rect.unit (s := S2048x128) ![0, 0] ![2048, 128] inb).toLoadRect (arg13.view.rep s.dk) = s.dk := fun inb => View.readAt_rep_full arg13.view s.dk inb
  have v0 : ∀ inb inb' w L, arg13.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Ideal) (Rect.unit (s := S2048x128) ![0, 0] ![2048, 128] inb).toLoadRect (arg14.view.rep s.dv) = s.dv := fun inb => View.readAt_rep_full arg14.view s.dv inb
  have v1 : ∀ inb inb' w L, arg14.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Ideal) (Rect.unit (s := S1x16384x128) (k0_off2 (wordI T0 i)) ![1, 512, 128] inb).toLoadRect (arg10.view.rep s.dq)
      = VecWindow.window s.dq (k0_off2 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addFull]
    simp only [r0, r1, r2, r3, r5, u0, v0, u1, v1]
    rw [w0]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addFull]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addFull]
  simp only [r0, r1, r2, r3, r5, u0, v0, u1, v1]
  sl_open_pay
  generalize hx : View.readAt (Elt Ideal) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- The last point of a block of keys, below the diagonal. -/
theorem runG
    (hw : k0_chk1 (wordI T0 i) (wordJ T1 i))
    (h1 : ¬(k0_cond1 i = 1#1)) (h2 : ¬(condF (wordI T0 i) (wordJ T1 i) = 1#1))
    (h3 : k0_cond3 (wordI T0 i) (wordJ T1 i) = 1#1) (h4 : ¬(k0_cond4 (wordI T0 i) (wordJ T1 i) = 1#1))
    (h5 : k0_cond5 (wordI T0 i) = 1#1) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ (arg11.view.loc (c : Thread nD τ) ↦[arg11.view.set]{fullShare} arg11.view.rep yk)
      ∗ (arg12.view.loc (c : Thread nD τ) ↦[arg12.view.set]{fullShare} arg12.view.rep yv)
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addFull (wordI T0 i) (hw.2.1 h3) b s).dq
          ∗ owns (c : Thread nD τ) arg11 fullShare (k0_pay4 (addFull (wordI T0 i) (hw.2.1 h3) b s).dk)
          ∗ owns (c : Thread nD τ) arg12 fullShare (k0_pay5 (addFull (wordI T0 i) (hw.2.1 h3) b s).dv)
          ∗ owns (c : Thread nD τ) arg13 fullShare (addFull (wordI T0 i) (hw.2.1 h3) b s).dk
          ∗ owns (c : Thread nD τ) arg14 fullShare (addFull (wordI T0 i) (hw.2.1 h3) b s).dv) -∗ K ⟨⟩))
    ⊢ wp frame (wpE (defs₀ (F := Ideal)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Ideal) (Rect.unit (s := S1x512x128) ![0, 0, 0] ![1, 512, 128] inb).toLoadRect (arg4.view.rep b.q) = b.q := fun inb => View.readAt_rep_full arg4.view b.q inb
  have r1 : ∀ inb, arg5.view.readAt (Elt Ideal) (Rect.unit (s := S1x2048x128) ![0, 0, 0] ![1, 2048, 128] inb).toLoadRect (arg5.view.rep b.k) = b.k := fun inb => View.readAt_rep_full arg5.view b.k inb
  have r2 : ∀ inb, arg6.view.readAt (Elt Ideal) (Rect.unit (s := S1x2048x128) ![0, 0, 0] ![1, 2048, 128] inb).toLoadRect (arg6.view.rep b.v) = b.v := fun inb => View.readAt_rep_full arg6.view b.v inb
  have r3 : ∀ inb, arg7.view.readAt (Elt Ideal) (Rect.unit (s := S1x512x128) ![0, 0, 0] ![1, 512, 128] inb).toLoadRect (arg7.view.rep b.o) = b.o := fun inb => View.readAt_rep_full arg7.view b.o inb
  have r4 : ∀ inb, arg8.view.readAt (Elt Ideal) (Rect.unit (s := S1x512x128) ![0, 0, 0] ![1, 512, 128] inb).toLoadRect (arg8.view.rep b.l) = b.l := fun inb => View.readAt_rep_full arg8.view b.l inb
  have r5 : ∀ inb, arg9.view.readAt (Elt Ideal) (Rect.unit (s := S1x512x128) ![0, 0, 0] ![1, 512, 128] inb).toLoadRect (arg9.view.rep b.g) = b.g := fun inb => View.readAt_rep_full arg9.view b.g inb
  have u0 : ∀ inb, arg13.view.readAt (Elt Ideal) (Rect.unit (s := S2048x128) ![0, 0] ![2048, 128] inb).toLoadRect (arg13.view.rep s.dk) = s.dk := fun inb => View.readAt_rep_full arg13.view s.dk inb
  have v0 : ∀ inb inb' w L, arg13.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Ideal) (Rect.unit (s := S2048x128) ![0, 0] ![2048, 128] inb).toLoadRect (arg14.view.rep s.dv) = s.dv := fun inb => View.readAt_rep_full arg14.view s.dv inb
  have v1 : ∀ inb inb' w L, arg14.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Ideal) (Rect.unit (s := S1x16384x128) (k0_off2 (wordI T0 i)) ![1, 512, 128] inb).toLoadRect (arg10.view.rep s.dq)
      = VecWindow.window s.dq (k0_off2 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addFull]
    simp only [r0, r1, r2, r3, r5, u0, v0, u1, v1]
    rw [w0]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]
  · unfold owns; iexists _; isplitr; swap; · iexact HO7
    ipureintro
    sl_open_run
    refine (View.read_writes_full _ _ _ _ _).trans ?_
    dsimp only [addFull]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO8]
  · unfold owns; iexists _; isplitr; swap; · iexact HO8
    ipureintro
    sl_open_run
    refine (View.read_writes_full _ _ _ _ _).trans ?_
    dsimp only [addFull]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HS0]
  · unfold owns; iexists _; isplitr; swap; · iexact HS0
    ipureintro
    sl_open_run
    refine (View.read_writes_full _ _ _ _ _).trans ?_
    dsimp only [addFull]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addFull]
  simp only [r0, r1, r2, r3, r5, u0, v0, u1, v1]
  sl_open_pay
  generalize hx : View.readAt (Elt Ideal) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- A later point on the diagonal. -/
theorem runM
    (hw : k0_chk1 (wordI T0 i) (wordJ T1 i))
    (h1 : ¬(k0_cond1 i = 1#1)) (h2 : ¬(condF (wordI T0 i) (wordJ T1 i) = 1#1))
    (h3 : ¬(k0_cond3 (wordI T0 i) (wordJ T1 i) = 1#1)) (h4 : k0_cond4 (wordI T0 i) (wordJ T1 i) = 1#1)
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b s).dq
          ∗ owns (c : Thread nD τ) arg11 fullShare yk
          ∗ owns (c : Thread nD τ) arg12 fullShare yv
          ∗ owns (c : Thread nD τ) arg13 fullShare (addMasked (wordI T0 i) (wordJ T1 i) (hw.2.2.2 h4) b s).dk
          ∗ owns (c : Thread nD τ) arg14 fullShare (addMasked (wordI T0 i) (wordJ T1 i) (hw.2.2.2 h4) b s).dv) -∗ K ⟨⟩))
    ⊢ wp frame (wpE (defs₀ (F := Ideal)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Ideal) (Rect.unit (s := S1x512x128) ![0, 0, 0] ![1, 512, 128] inb).toLoadRect (arg4.view.rep b.q) = b.q := fun inb => View.readAt_rep_full arg4.view b.q inb
  have r1 : ∀ inb, arg5.view.readAt (Elt Ideal) (Rect.unit (s := S1x2048x128) ![0, 0, 0] ![1, 2048, 128] inb).toLoadRect (arg5.view.rep b.k) = b.k := fun inb => View.readAt_rep_full arg5.view b.k inb
  have r2 : ∀ inb, arg6.view.readAt (Elt Ideal) (Rect.unit (s := S1x2048x128) ![0, 0, 0] ![1, 2048, 128] inb).toLoadRect (arg6.view.rep b.v) = b.v := fun inb => View.readAt_rep_full arg6.view b.v inb
  have r3 : ∀ inb, arg7.view.readAt (Elt Ideal) (Rect.unit (s := S1x512x128) ![0, 0, 0] ![1, 512, 128] inb).toLoadRect (arg7.view.rep b.o) = b.o := fun inb => View.readAt_rep_full arg7.view b.o inb
  have r4 : ∀ inb, arg8.view.readAt (Elt Ideal) (Rect.unit (s := S1x512x128) ![0, 0, 0] ![1, 512, 128] inb).toLoadRect (arg8.view.rep b.l) = b.l := fun inb => View.readAt_rep_full arg8.view b.l inb
  have r5 : ∀ inb, arg9.view.readAt (Elt Ideal) (Rect.unit (s := S1x512x128) ![0, 0, 0] ![1, 512, 128] inb).toLoadRect (arg9.view.rep b.g) = b.g := fun inb => View.readAt_rep_full arg9.view b.g inb
  have u0 : ∀ inb, arg13.view.readAt (Elt Ideal) (Rect.unit (s := S2048x128) ![0, 0] ![2048, 128] inb).toLoadRect (arg13.view.rep s.dk) = s.dk := fun inb => View.readAt_rep_full arg13.view s.dk inb
  have v0 : ∀ inb inb' w L, arg13.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Ideal) (Rect.unit (s := S2048x128) ![0, 0] ![2048, 128] inb).toLoadRect (arg14.view.rep s.dv) = s.dv := fun inb => View.readAt_rep_full arg14.view s.dv inb
  have v1 : ∀ inb inb' w L, arg14.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Ideal) (Rect.unit (s := S1x16384x128) (k0_off3 (wordI T0 i)) ![1, 512, 128] inb).toLoadRect (arg10.view.rep s.dq)
      = VecWindow.window s.dq (k0_off3 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addMasked]
    simp only [r0, r1, r2, r3, r5, u0, v0, u1, v1]
    rw [w0]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Ideal) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- The last point of the last block of keys: on the diagonal. -/
theorem runN
    (hw : k0_chk1 (wordI T0 i) (wordJ T1 i))
    (h1 : ¬(k0_cond1 i = 1#1)) (h2 : ¬(condF (wordI T0 i) (wordJ T1 i) = 1#1))
    (h3 : ¬(k0_cond3 (wordI T0 i) (wordJ T1 i) = 1#1)) (h4 : k0_cond4 (wordI T0 i) (wordJ T1 i) = 1#1)
    (h5 : k0_cond5 (wordI T0 i) = 1#1) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ (arg11.view.loc (c : Thread nD τ) ↦[arg11.view.set]{fullShare} arg11.view.rep yk)
      ∗ (arg12.view.loc (c : Thread nD τ) ↦[arg12.view.set]{fullShare} arg12.view.rep yv)
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b s).dq
          ∗ owns (c : Thread nD τ) arg11 fullShare (k0_pay4 (addMasked (wordI T0 i) (wordJ T1 i) (hw.2.2.2 h4) b s).dk)
          ∗ owns (c : Thread nD τ) arg12 fullShare (k0_pay5 (addMasked (wordI T0 i) (wordJ T1 i) (hw.2.2.2 h4) b s).dv)
          ∗ owns (c : Thread nD τ) arg13 fullShare (addMasked (wordI T0 i) (wordJ T1 i) (hw.2.2.2 h4) b s).dk
          ∗ owns (c : Thread nD τ) arg14 fullShare (addMasked (wordI T0 i) (wordJ T1 i) (hw.2.2.2 h4) b s).dv) -∗ K ⟨⟩))
    ⊢ wp frame (wpE (defs₀ (F := Ideal)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Ideal) (Rect.unit (s := S1x512x128) ![0, 0, 0] ![1, 512, 128] inb).toLoadRect (arg4.view.rep b.q) = b.q := fun inb => View.readAt_rep_full arg4.view b.q inb
  have r1 : ∀ inb, arg5.view.readAt (Elt Ideal) (Rect.unit (s := S1x2048x128) ![0, 0, 0] ![1, 2048, 128] inb).toLoadRect (arg5.view.rep b.k) = b.k := fun inb => View.readAt_rep_full arg5.view b.k inb
  have r2 : ∀ inb, arg6.view.readAt (Elt Ideal) (Rect.unit (s := S1x2048x128) ![0, 0, 0] ![1, 2048, 128] inb).toLoadRect (arg6.view.rep b.v) = b.v := fun inb => View.readAt_rep_full arg6.view b.v inb
  have r3 : ∀ inb, arg7.view.readAt (Elt Ideal) (Rect.unit (s := S1x512x128) ![0, 0, 0] ![1, 512, 128] inb).toLoadRect (arg7.view.rep b.o) = b.o := fun inb => View.readAt_rep_full arg7.view b.o inb
  have r4 : ∀ inb, arg8.view.readAt (Elt Ideal) (Rect.unit (s := S1x512x128) ![0, 0, 0] ![1, 512, 128] inb).toLoadRect (arg8.view.rep b.l) = b.l := fun inb => View.readAt_rep_full arg8.view b.l inb
  have r5 : ∀ inb, arg9.view.readAt (Elt Ideal) (Rect.unit (s := S1x512x128) ![0, 0, 0] ![1, 512, 128] inb).toLoadRect (arg9.view.rep b.g) = b.g := fun inb => View.readAt_rep_full arg9.view b.g inb
  have u0 : ∀ inb, arg13.view.readAt (Elt Ideal) (Rect.unit (s := S2048x128) ![0, 0] ![2048, 128] inb).toLoadRect (arg13.view.rep s.dk) = s.dk := fun inb => View.readAt_rep_full arg13.view s.dk inb
  have v0 : ∀ inb inb' w L, arg13.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Ideal) (Rect.unit (s := S2048x128) ![0, 0] ![2048, 128] inb).toLoadRect (arg14.view.rep s.dv) = s.dv := fun inb => View.readAt_rep_full arg14.view s.dv inb
  have v1 : ∀ inb inb' w L, arg14.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Ideal) (Rect.unit (s := S1x16384x128) (k0_off3 (wordI T0 i)) ![1, 512, 128] inb).toLoadRect (arg10.view.rep s.dq)
      = VecWindow.window s.dq (k0_off3 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addMasked]
    simp only [r0, r1, r2, r3, r5, u0, v0, u1, v1]
    rw [w0]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]
  · unfold owns; iexists _; isplitr; swap; · iexact HO7
    ipureintro
    sl_open_run
    refine (View.read_writes_full _ _ _ _ _).trans ?_
    dsimp only [addMasked]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HO8]
  · unfold owns; iexists _; isplitr; swap; · iexact HO8
    ipureintro
    sl_open_run
    refine (View.read_writes_full _ _ _ _ _).trans ?_
    dsimp only [addMasked]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Ideal) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Ideal) arg8.view (Rect.unit (s := S1x512x128) ![0, 0, 0] ![1, 512, 128] inb_S1x512x128_S1x512x128_0_0_0).toLoadRect (arg8.view.rep b.l) = x
  obtain rfl := (r4 _).symm.trans hx
  rfl

end Cert.KernelIdeal.Attn

end
-- ==== Proof.Attn.Obligation.lean ====
/-
  The kernel's body meets its obligation at every point.
-/
module

public import proofs.«01_k».proof.Proof.Attn.Traj
public import proofs.«01_k».proof.Proof.Attn.Body

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : Dev nD → Valuation τ sig (Elt Ideal))

/-- The body at point `t` on its staging buffers. -/
abbrev bodyAt (t : Fin cfgA.N) : Prog (TpuEff nD τ sig (Elt Ideal) Λ₀ .tc) PUnit :=
  cc0_attn_b (crd t) tabI (Memref.isWhole_whole _) tabJ (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _)

theorem stepA (c : Dev nD) (t : Fin cfgA.N) (q1 : (k0_cond1 (crd t) = 1#1)) (q2 : (condF (wI t) (wJ t) = 1#1)) (q3 : ¬(k0_cond3 (wI t) (wJ t) = 1#1)) (q4 : (k0_cond4 (wI t) (wJ t) = 1#1)) (q5 : ¬(k0_cond5 (wI t) = 1#1)) (s : Acc) :
    stepAt V c t s = addMasked (wI t) (wJ t) ((branches t).1.2.2.2 q4) (blkAt V c t) ⟨k0_pay19 (F := Ideal), k0_pay20 (F := Ideal), k0_pay21 (F := Ideal)⟩ := by
  unfold stepAt reset
  rw [dif_neg q3]; simp only [if_pos q1, if_pos q2]

theorem stepE (c : Dev nD) (t : Fin cfgA.N) (q1 : ¬(k0_cond1 (crd t) = 1#1)) (q2 : (condF (wI t) (wJ t) = 1#1)) (q3 : ¬(k0_cond3 (wI t) (wJ t) = 1#1)) (q4 : (k0_cond4 (wI t) (wJ t) = 1#1)) (q5 : ¬(k0_cond5 (wI t) = 1#1)) (s : Acc) :
    stepAt V c t s = addMasked (wI t) (wJ t) ((branches t).1.2.2.2 q4) (blkAt V c t) ⟨s.dq, k0_pay20 (F := Ideal), k0_pay21 (F := Ideal)⟩ := by
  unfold stepAt reset
  rw [dif_neg q3]; simp only [if_neg q1, if_pos q2]

theorem stepM (c : Dev nD) (t : Fin cfgA.N) (q1 : ¬(k0_cond1 (crd t) = 1#1)) (q2 : ¬(condF (wI t) (wJ t) = 1#1)) (q3 : ¬(k0_cond3 (wI t) (wJ t) = 1#1)) (q4 : (k0_cond4 (wI t) (wJ t) = 1#1)) (q5 : ¬(k0_cond5 (wI t) = 1#1)) (s : Acc) :
    stepAt V c t s = addMasked (wI t) (wJ t) ((branches t).1.2.2.2 q4) (blkAt V c t) s := by
  unfold stepAt reset
  rw [dif_neg q3]; simp only [if_neg q1, if_neg q2]

theorem stepN (c : Dev nD) (t : Fin cfgA.N) (q1 : ¬(k0_cond1 (crd t) = 1#1)) (q2 : ¬(condF (wI t) (wJ t) = 1#1)) (q3 : ¬(k0_cond3 (wI t) (wJ t) = 1#1)) (q4 : (k0_cond4 (wI t) (wJ t) = 1#1)) (q5 : (k0_cond5 (wI t) = 1#1)) (s : Acc) :
    stepAt V c t s = addMasked (wI t) (wJ t) ((branches t).1.2.2.2 q4) (blkAt V c t) s := by
  unfold stepAt reset
  rw [dif_neg q3]; simp only [if_neg q1, if_neg q2]

theorem stepF (c : Dev nD) (t : Fin cfgA.N) (q1 : ¬(k0_cond1 (crd t) = 1#1)) (q2 : ¬(condF (wI t) (wJ t) = 1#1)) (q3 : (k0_cond3 (wI t) (wJ t) = 1#1)) (q4 : ¬(k0_cond4 (wI t) (wJ t) = 1#1)) (q5 : ¬(k0_cond5 (wI t) = 1#1)) (s : Acc) :
    stepAt V c t s = addFull (wI t) ((branches t).1.2.1 q3) (blkAt V c t) s := by
  unfold stepAt reset
  rw [dif_pos q3]; simp only [if_neg q1, if_neg q2]

theorem stepG (c : Dev nD) (t : Fin cfgA.N) (q1 : ¬(k0_cond1 (crd t) = 1#1)) (q2 : ¬(condF (wI t) (wJ t) = 1#1)) (q3 : (k0_cond3 (wI t) (wJ t) = 1#1)) (q4 : ¬(k0_cond4 (wI t) (wJ t) = 1#1)) (q5 : (k0_cond5 (wI t) = 1#1)) (s : Acc) :
    stepAt V c t s = addFull (wI t) ((branches t).1.2.1 q3) (blkAt V c t) s := by
  unfold stepAt reset
  rw [dif_pos q3]; simp only [if_neg q1, if_neg q2]

/-- What is asked of the body at point `t`: from the invariant and the staging buffers as they are found, it leaves the
    invariant of the next point and the buffers as they are to be. -/
def Sound (c : Dev nD) (t : Fin cfgA.N) : Prop :=
    iprop((dats V 0 c).Φ t.castSucc ∗ (dats V 0 c).owesAt () t.castSucc
        ∗ (∃ d, owns (c : Thread nD τ) (ms0 t) fullShare ((dats V 0 c).before (0 : Fin 9) t d))
        ∗ (∃ d, owns (c : Thread nD τ) (ms1 t) fullShare ((dats V 0 c).before (1 : Fin 9) t d))
        ∗ (∃ d, owns (c : Thread nD τ) (ms2 t) fullShare ((dats V 0 c).before (2 : Fin 9) t d))
        ∗ (∃ d, owns (c : Thread nD τ) (ms3 t) fullShare ((dats V 0 c).before (3 : Fin 9) t d))
        ∗ (∃ d, owns (c : Thread nD τ) (ms4 t) fullShare ((dats V 0 c).before (4 : Fin 9) t d))
        ∗ (∃ d, owns (c : Thread nD τ) (ms5 t) fullShare ((dats V 0 c).before (5 : Fin 9) t d))
        ∗ (∃ d, owns (c : Thread nD τ) (ms6 t) fullShare ((dats V 0 c).before (6 : Fin 9) t d))
        ∗ (∃ d, owns (c : Thread nD τ) (ms7 t) fullShare ((dats V 0 c).before (7 : Fin 9) t d))
        ∗ (∃ d, owns (c : Thread nD τ) (ms8 t) fullShare ((dats V 0 c).before (8 : Fin 9) t d)))
      ⊢ wp frame (wpE (defs₀ (F := Ideal)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t))

set_option maxHeartbeats 4000000 in
theorem soundA (c : Dev nD) (t : Fin cfgA.N) (q1 : (k0_cond1 (crd t) = 1#1)) (q2 : (condF (wI t) (wJ t) = 1#1)) (q3 : ¬(k0_cond3 (wI t) (wJ t) = 1#1)) (q4 : (k0_cond4 (wI t) (wJ t) = 1#1)) (q5 : ¬(k0_cond5 (wI t) = 1#1)) : Sound V c t := by
  unfold Sound
  rw [bigSep_W0]
  obtain ⟨i6, i7, i8, ff, -⟩ := stores t
  rw [show (!(k0_cond5 (wI t) == 1#1)) = true from by rw [Bool.not_eq_true', beq_eq_false_iff_ne]; exact q5] at i7 i8
  have f7 : (cfgA.win (7 : Fin 9)).flush t = false := (Pipeline.Window.flush_eq_flushF _ _).trans (ff q5).1
  have f8 : (cfgA.win (8 : Fin 9)).flush t = false := (Pipeline.Window.flush_eq_flushF _ _).trans (ff q5).2
  rewrite [i6, i7]
  simp only [before0, before1, before2, before3, before4, before5, after0, after1, after2, after3, after4, after5, after6, after7, after8, f7, f8]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst : st V c (t.val + 1) = stepAt V c t ⟨(dats V 0 c).before (6 : Fin 9) t d6, a0, a1⟩ := by
    rw [st_succ]; unfold stepAt; rw [reset_of V c t a0 a1 d6 ha0 ha1]
  rewrite [stepA V c t q1 q2 q3 q4 q5] at hst
  rewrite [hst]
  iapply (runA c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _)
    tblI tblJ (blkAt V c t) ⟨(dats V 0 c).before (6 : Fin 9) t d6, a0, a1⟩ ((dats V 0 c).before (7 : Fin 9) t d7) ((dats V 0 c).before (8 : Fin 9) t d8) (branches t).1 q1 q2 q3 q4 q5 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iexact H7
  isplitl [H8]; · iexact H8
  isplitl [HS0]; · iapply rep_of_owns; iexact HS0
  isplitl [HS1]; · iapply rep_of_owns; iexact HS1
  iintro ⟨H0, H1, H2, H3, H4, H5, HT0, HT1, H6, H7, H8, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

set_option maxHeartbeats 4000000 in
theorem soundE (c : Dev nD) (t : Fin cfgA.N) (q1 : ¬(k0_cond1 (crd t) = 1#1)) (q2 : (condF (wI t) (wJ t) = 1#1)) (q3 : ¬(k0_cond3 (wI t) (wJ t) = 1#1)) (q4 : (k0_cond4 (wI t) (wJ t) = 1#1)) (q5 : ¬(k0_cond5 (wI t) = 1#1)) : Sound V c t := by
  unfold Sound
  rw [bigSep_W0]
  obtain ⟨i6, i7, i8, ff, -⟩ := stores t
  rw [show (!(k0_cond5 (wI t) == 1#1)) = true from by rw [Bool.not_eq_true', beq_eq_false_iff_ne]; exact q5] at i7 i8
  have f7 : (cfgA.win (7 : Fin 9)).flush t = false := (Pipeline.Window.flush_eq_flushF _ _).trans (ff q5).1
  have f8 : (cfgA.win (8 : Fin 9)).flush t = false := (Pipeline.Window.flush_eq_flushF _ _).trans (ff q5).2
  rewrite [i6, i7]
  simp only [before0, before1, before2, before3, before4, before5, after0, after1, after2, after3, after4, after5, after6, after7, after8, f7, f8]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst : st V c (t.val + 1) = stepAt V c t ⟨(dats V 0 c).before (6 : Fin 9) t d6, a0, a1⟩ := by
    rw [st_succ]; unfold stepAt; rw [reset_of V c t a0 a1 d6 ha0 ha1]
  rewrite [stepE V c t q1 q2 q3 q4 q5] at hst
  rewrite [hst]
  iapply (runE c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _)
    tblI tblJ (blkAt V c t) ⟨(dats V 0 c).before (6 : Fin 9) t d6, a0, a1⟩ ((dats V 0 c).before (7 : Fin 9) t d7) ((dats V 0 c).before (8 : Fin 9) t d8) (branches t).1 q1 q2 q3 q4 q5 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iexact H7
  isplitl [H8]; · iexact H8
  isplitl [HS0]; · iapply rep_of_owns; iexact HS0
  isplitl [HS1]; · iapply rep_of_owns; iexact HS1
  iintro ⟨H0, H1, H2, H3, H4, H5, HT0, HT1, H6, H7, H8, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

set_option maxHeartbeats 4000000 in
theorem soundM (c : Dev nD) (t : Fin cfgA.N) (q1 : ¬(k0_cond1 (crd t) = 1#1)) (q2 : ¬(condF (wI t) (wJ t) = 1#1)) (q3 : ¬(k0_cond3 (wI t) (wJ t) = 1#1)) (q4 : (k0_cond4 (wI t) (wJ t) = 1#1)) (q5 : ¬(k0_cond5 (wI t) = 1#1)) : Sound V c t := by
  unfold Sound
  rw [bigSep_W0]
  obtain ⟨i6, i7, i8, ff, -⟩ := stores t
  rw [show (!(k0_cond5 (wI t) == 1#1)) = true from by rw [Bool.not_eq_true', beq_eq_false_iff_ne]; exact q5] at i7 i8
  have f7 : (cfgA.win (7 : Fin 9)).flush t = false := (Pipeline.Window.flush_eq_flushF _ _).trans (ff q5).1
  have f8 : (cfgA.win (8 : Fin 9)).flush t = false := (Pipeline.Window.flush_eq_flushF _ _).trans (ff q5).2
  rewrite [i6, i7]
  simp only [before0, before1, before2, before3, before4, before5, after0, after1, after2, after3, after4, after5, after6, after7, after8, f7, f8]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst : st V c (t.val + 1) = stepAt V c t ⟨(dats V 0 c).before (6 : Fin 9) t d6, a0, a1⟩ := by
    rw [st_succ]; unfold stepAt; rw [reset_of V c t a0 a1 d6 ha0 ha1]
  rewrite [stepM V c t q1 q2 q3 q4 q5] at hst
  rewrite [hst]
  iapply (runM c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _)
    tblI tblJ (blkAt V c t) ⟨(dats V 0 c).before (6 : Fin 9) t d6, a0, a1⟩ ((dats V 0 c).before (7 : Fin 9) t d7) ((dats V 0 c).before (8 : Fin 9) t d8) (branches t).1 q1 q2 q3 q4 q5 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iexact H7
  isplitl [H8]; · iexact H8
  isplitl [HS0]; · iapply rep_of_owns; iexact HS0
  isplitl [HS1]; · iapply rep_of_owns; iexact HS1
  iintro ⟨H0, H1, H2, H3, H4, H5, HT0, HT1, H6, H7, H8, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

set_option maxHeartbeats 4000000 in
theorem soundN (c : Dev nD) (t : Fin cfgA.N) (q1 : ¬(k0_cond1 (crd t) = 1#1)) (q2 : ¬(condF (wI t) (wJ t) = 1#1)) (q3 : ¬(k0_cond3 (wI t) (wJ t) = 1#1)) (q4 : (k0_cond4 (wI t) (wJ t) = 1#1)) (q5 : (k0_cond5 (wI t) = 1#1)) : Sound V c t := by
  unfold Sound
  rw [bigSep_W0]
  obtain ⟨i6, i7, i8, ff, -⟩ := stores t
  rw [show (!(k0_cond5 (wI t) == 1#1)) = false from by rw [q5]; rfl] at i7 i8
  rewrite [i6, i7]
  simp only [before0, before1, before2, before3, before4, before5, after0, after1, after2, after3, after4, after5, after6, after7, after8]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst : st V c (t.val + 1) = stepAt V c t ⟨(dats V 0 c).before (6 : Fin 9) t d6, a0, a1⟩ := by
    rw [st_succ]; unfold stepAt; rw [reset_of V c t a0 a1 d6 ha0 ha1]
  rewrite [stepN V c t q1 q2 q3 q4 q5] at hst
  rewrite [hst]
  iapply (runN c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _)
    tblI tblJ (blkAt V c t) ⟨(dats V 0 c).before (6 : Fin 9) t d6, a0, a1⟩ ((dats V 0 c).before (7 : Fin 9) t d7) ((dats V 0 c).before (8 : Fin 9) t d8) (branches t).1 q1 q2 q3 q4 q5 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iapply rep_of_owns; iexact HS0
  isplitl [HS1]; · iapply rep_of_owns; iexact HS1
  iintro ⟨H0, H1, H2, H3, H4, H5, HT0, HT1, H6, H7, H8, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
theorem soundF (c : Dev nD) (t : Fin cfgA.N) (q1 : ¬(k0_cond1 (crd t) = 1#1)) (q2 : ¬(condF (wI t) (wJ t) = 1#1)) (q3 : (k0_cond3 (wI t) (wJ t) = 1#1)) (q4 : ¬(k0_cond4 (wI t) (wJ t) = 1#1)) (q5 : ¬(k0_cond5 (wI t) = 1#1)) : Sound V c t := by
  unfold Sound
  rw [bigSep_W0]
  obtain ⟨i6, i7, i8, ff, -⟩ := stores t
  rw [show (!(k0_cond5 (wI t) == 1#1)) = true from by rw [Bool.not_eq_true', beq_eq_false_iff_ne]; exact q5] at i7 i8
  have f7 : (cfgA.win (7 : Fin 9)).flush t = false := (Pipeline.Window.flush_eq_flushF _ _).trans (ff q5).1
  have f8 : (cfgA.win (8 : Fin 9)).flush t = false := (Pipeline.Window.flush_eq_flushF _ _).trans (ff q5).2
  rewrite [i6, i7]
  simp only [before0, before1, before2, before3, before4, before5, after0, after1, after2, after3, after4, after5, after6, after7, after8, f7, f8]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst : st V c (t.val + 1) = stepAt V c t ⟨(dats V 0 c).before (6 : Fin 9) t d6, a0, a1⟩ := by
    rw [st_succ]; unfold stepAt; rw [reset_of V c t a0 a1 d6 ha0 ha1]
  rewrite [stepF V c t q1 q2 q3 q4 q5] at hst
  rewrite [hst]
  iapply (runF c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _)
    tblI tblJ (blkAt V c t) ⟨(dats V 0 c).before (6 : Fin 9) t d6, a0, a1⟩ ((dats V 0 c).before (7 : Fin 9) t d7) ((dats V 0 c).before (8 : Fin 9) t d8) (branches t).1 q1 q2 q3 q4 q5 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iexact H7
  isplitl [H8]; · iexact H8
  isplitl [HS0]; · iapply rep_of_owns; iexact HS0
  isplitl [HS1]; · iapply rep_of_owns; iexact HS1
  iintro ⟨H0, H1, H2, H3, H4, H5, HT0, HT1, H6, H7, H8, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

set_option maxHeartbeats 4000000 in
theorem soundG (c : Dev nD) (t : Fin cfgA.N) (q1 : ¬(k0_cond1 (crd t) = 1#1)) (q2 : ¬(condF (wI t) (wJ t) = 1#1)) (q3 : (k0_cond3 (wI t) (wJ t) = 1#1)) (q4 : ¬(k0_cond4 (wI t) (wJ t) = 1#1)) (q5 : (k0_cond5 (wI t) = 1#1)) : Sound V c t := by
  unfold Sound
  rw [bigSep_W0]
  obtain ⟨i6, i7, i8, ff, -⟩ := stores t
  rw [show (!(k0_cond5 (wI t) == 1#1)) = false from by rw [q5]; rfl] at i7 i8
  rewrite [i6, i7]
  simp only [before0, before1, before2, before3, before4, before5, after0, after1, after2, after3, after4, after5, after6, after7, after8]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst : st V c (t.val + 1) = stepAt V c t ⟨(dats V 0 c).before (6 : Fin 9) t d6, a0, a1⟩ := by
    rw [st_succ]; unfold stepAt; rw [reset_of V c t a0 a1 d6 ha0 ha1]
  rewrite [stepG V c t q1 q2 q3 q4 q5] at hst
  rewrite [hst]
  iapply (runG c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _)
    tblI tblJ (blkAt V c t) ⟨(dats V 0 c).before (6 : Fin 9) t d6, a0, a1⟩ ((dats V 0 c).before (7 : Fin 9) t d7) ((dats V 0 c).before (8 : Fin 9) t d8) (branches t).1 q1 q2 q3 q4 q5 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iapply rep_of_owns; iexact HS0
  isplitl [HS1]; · iapply rep_of_owns; iexact HS1
  iintro ⟨H0, H1, H2, H3, H4, H5, HT0, HT1, H6, H7, H8, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The obligation at every point. -/
theorem body_obligation (c : Dev nD) : BodyObligation (dats V 0 c) (defs₀ (F := Ideal)) Variants.none () Set.univ := fun t => by
  rw [bigSep_W0]
  obtain ⟨-, b1, b2, b3, -⟩ := branches t
  by_cases q1 : k0_cond1 (crd t) = 1#1
  · have q2 := b1 q1
    obtain ⟨q4, q5⟩ := b2 q2
    exact soundA V c t q1 q2 (fun q3 => b3.mp q3 q4) q4 q5
  by_cases q2 : condF (wI t) (wJ t) = 1#1
  · obtain ⟨q4, q5⟩ := b2 q2
    exact soundE V c t q1 q2 (fun q3 => b3.mp q3 q4) q4 q5
  by_cases q3 : k0_cond3 (wI t) (wJ t) = 1#1
  · by_cases q5 : k0_cond5 (wI t) = 1#1
    · exact soundG V c t q1 q2 q3 (b3.mp q3) q5
    · exact soundF V c t q1 q2 q3 (b3.mp q3) q5
  · by_cases q5 : k0_cond5 (wI t) = 1#1
    · exact soundN V c t q1 q2 q3 (on_diagonal t q3) q5
    · exact soundM V c t q1 q2 q3 (on_diagonal t q3) q5

end Cert.KernelIdeal.Attn

end
-- ==== Proof.Attn.Run.lean ====
/-
  The attention backward program from its launch: the host operations, then the kernel. Every execution terminates, the
  arrays end at what the points compute, the arguments end unchanged and the counters end at zero.
-/
module

public import proofs.«01_k».proof.Proof.Attn.Obligation
public import Idealize.ShloMosaic.Lib.Pipeline.RegionArraysTS
public import Idealize.ShloMosaic.Lib.Pipeline.Regions
public import Idealize.ShloMosaic.Lib.StableHlo.Run

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁
abbrev 𝒱₀ : Variants := Variants.none

/-- The pipeline's copies are recorded on the TensorCore's cells, all at one level. -/
def L (g : GSem nD τ sig) : Finset Unit := if g.1.2 = Proc.tc then {()} else ∅
def lv (_ : GSem nD τ sig) (_ : Unit) : ℕ := 0

variable (m : (ℓ : Loc nD τ sig) → Buf (Elt Ideal) ℓ) (ρ : Dev nD → PrngReg)

/-- The buffers at launch, and after each stretch of host operations. -/
def V₀ (c : Dev nD) : Valuation τ sig (Elt Ideal) := fun b => m (c, b)
def V₁ (c : Dev nD) : Valuation τ sig (Elt Ideal) := StableHlo.after hostOps0 (V₀ m c)
def V₂ (c : Dev nD) : Valuation τ sig (Elt Ideal) := StableHlo.after hostOps0_1 (V₁ m c)
def V₃ (c : Dev nD) : Valuation τ sig (Elt Ideal) := StableHlo.after hostOps0_2 (V₂ m c)

/-- What no host operation writes is at the kernel's entry what it was at launch. -/
theorem kept {r : Ref sig .tc} (c : Dev nD)
    (h0 : ∀ op ∈ (hostOps0 : List (HloOp τ sig (Elt Ideal))), (Proc.devRef .tc r : DevRef τ sig) ∉ op.writes)
    (h1 : ∀ op ∈ (hostOps0_1 : List (HloOp τ sig (Elt Ideal))), (Proc.devRef .tc r : DevRef τ sig) ∉ op.writes)
    (h2 : ∀ op ∈ (hostOps0_2 : List (HloOp τ sig (Elt Ideal))), (Proc.devRef .tc r : DevRef τ sig) ∉ op.writes) :
    V₃ m c (Proc.devRef .tc r) = V₀ m c (Proc.devRef .tc r) :=
  ((StableHlo.after_of_forall_not_mem (b := Proc.devRef .tc r) _ _ h2).trans
    (StableHlo.after_of_forall_not_mem (b := Proc.devRef .tc r) _ _ h1)).trans
    (StableHlo.after_of_forall_not_mem (b := Proc.devRef .tc r) _ _ h0)

theorem V₁_c (c : Dev nD) : V₁ m c (Proc.devRef .tc main_c) = tblI := by
  unfold V₁; after_results; rfl
theorem V₁_c0 (c : Dev nD) : V₁ m c (Proc.devRef .tc main_c_0) = tblJ := by
  unfold V₁; after_results; rfl
theorem V₃_c (c : Dev nD) : V₃ m c (Proc.devRef .tc main_c) = tblI := by
  rw [← V₁_c m c]; unfold V₃ V₂; after_results
theorem V₃_c0 (c : Dev nD) : V₃ m c (Proc.devRef .tc main_c_0) = tblJ := by
  rw [← V₁_c0 m c]; unfold V₃ V₂; after_results
theorem V₃_arg0 (c : Dev nD) : V₃ m c (Proc.devRef .tc main_arg0) = V₀ m c (Proc.devRef .tc main_arg0) := by
  unfold V₃ V₂ V₁; after_results
theorem V₃_arg1 (c : Dev nD) : V₃ m c (Proc.devRef .tc main_arg1) = V₀ m c (Proc.devRef .tc main_arg1) := by
  unfold V₃ V₂ V₁; after_results
theorem V₃_arg2 (c : Dev nD) : V₃ m c (Proc.devRef .tc main_arg2) = V₀ m c (Proc.devRef .tc main_arg2) := by
  unfold V₃ V₂ V₁; after_results
theorem V₃_arg3 (c : Dev nD) : V₃ m c (Proc.devRef .tc main_arg3) = V₀ m c (Proc.devRef .tc main_arg3) := by
  unfold V₃ V₂ V₁; after_results

/-- The tables the kernel is entered at are the ones the host operations left. -/
theorem tables_at (c : Dev nD) (k : Fin 2) : tbl k = V₃ m c (Proc.devRef .tc (pre0.ref k)) := by
  fin_cases k
  · exact (V₃_c m c).symm
  · exact (V₃_c0 m c).symm

/-- The tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem share_eq (c : Dev nD) (w : Fin cfgA.W) : (dats (V₃ m) 0 c).share w = fullShare := by unfold Dat.share; split <;> rfl

/-- The invariant in the buffers' own names. -/
theorem Phi_eq (V : Dev nD → Valuation τ sig (Elt Ideal)) (c : Dev nD) (t : Fin (cfgA.N + 1)) :
    Phi V c t = iprop((∃ a, ⌜t.val ≠ 0 → a = (st V c t.val).dk⌝ ∗ (((c : Thread nD τ).loc cc0_scratch0) ↦{fullShare} a))
      ∗ (∃ a, ⌜t.val ≠ 0 → a = (st V c t.val).dv⌝ ∗ (((c : Thread nD τ).loc cc0_scratch1) ↦{fullShare} a))
      ∗ (((c : Thread nD τ).loc main_c) ↦{fullShare} tblI) ∗ (((c : Thread nD τ).loc main_c_0) ↦{fullShare} tblJ)) := by
  unfold Phi scK scV
  congr 1
  · congr 1; funext a; rw [owns_whole]
  · congr 1
    congr 1; funext a; rw [owns_whole]

theorem tables_eq (c : Dev nD) : (Pipeline.tablesAt pcfgs (fun _ => adm) 0 c : sProp 𝕄)
    = iprop((((c : Thread nD τ).loc main_c) ↦{fullShare} tblI) ∗ (((c : Thread nD τ).loc main_c_0) ↦{fullShare} tblJ)) :=
  prefHeld_eq c (fun _ => fullShare) tbl

/-- The invariant at the first point, from the scratch buffers and the tables. -/
theorem phi_first (c : Dev nD) :
    iprop(iprop(Pipeline.scopedRest spec0 c ∗ BI.emp) ∗ Pipeline.tablesAt pcfgs (fun _ => adm) 0 c) ⊢ (dats (V₃ m) 0 c).Φ 0 := by
  rw [tables_eq, scopedRest0_eq, show (dats (V₃ m) 0 c).Φ 0 = Phi (V₃ m) c 0 from rfl, Phi_eq]
  iintro ⟨⟨⟨⟨%a0, HS0⟩, ⟨%a1, HS1⟩⟩, -⟩, HT0, HT1⟩
  isplitl [HS0]
  · iexists a0; isplitr; swap
    · iexact HS0
    · ipureintro; intro h; exact absurd (Fin.val_zero _) h
  isplitl [HS1]
  · iexists a1; isplitr; swap
    · iexact HS1
    · ipureintro; intro h; exact absurd (Fin.val_zero _) h
  isplitl [HT0]
  · iexact HT0
  iexact HT1

/-- At the last point it gives both back. -/
theorem phi_last (c : Dev nD) :
    (dats (V₃ m) 0 c).Φ (Fin.last cfgA.N) ⊢ iprop(iprop(Pipeline.scopedRest spec0 c ∗ BI.emp) ∗ Pipeline.tablesAt pcfgs (fun _ => adm) 0 c) := by
  rw [tables_eq, scopedRest0_eq, show (dats (V₃ m) 0 c).Φ (Fin.last cfgA.N) = Phi (V₃ m) c (Fin.last _) from rfl, Phi_eq]
  iintro ⟨⟨%a0, -, HS0⟩, ⟨%a1, -, HS1⟩, HT0, HT1⟩
  isplitr [HT0 HT1]
  · isplitl [HS0 HS1]
    · isplitl [HS0]
      · iexists a0; iexact HS0
      iexists a1; iexact HS1
    · iempintro
  isplitl [HT0]
  · iexact HT0
  iexact HT1

theorem levels : Pipeline.LevelCut pcfgs (fun _ => adm) () L lv (0 : Fin 1) (0 : Dev nD → CellTallies nD τ sig Unit) (fun _ => 0) where
  hι c w s := Finset.mem_singleton.mpr rfl
  hιb c w s := le_rfl
  hD c g i h := absurd h (lt_irrefl _)

/-- What a core owes between two items: nothing. -/
def R (c : Dev nD) : sProp 𝕄 := iprop(∃ W, owes (c : Thread nD τ) (0 : CellTallies nD τ sig Unit) W)

theorem all_fresh0 : ∀ op ∈ (hostOps0 : List (HloOp τ sig (Elt Ideal))), op.fresh = ∅ := by
  intro _ h; (repeat (cases h with | head => rfl | tail _ h => ?_)); exact nomatch h
theorem all_fresh1 : ∀ op ∈ (hostOps0_1 : List (HloOp τ sig (Elt Ideal))), op.fresh = ∅ := by
  intro _ h; (repeat (cases h with | head => rfl | tail _ h => ?_)); exact nomatch h
theorem all_fresh2 : ∀ op ∈ (hostOps0_2 : List (HloOp τ sig (Elt Ideal))), op.fresh = ∅ := by
  intro _ h; (repeat (cases h with | head => rfl | tail _ h => ?_)); exact nomatch h

abbrev ucs : Finset (DevRef τ sig) := Pipeline.ucRefs τ sig

def seg0 : Pipeline.HostSeg (Name := ℕ) (U := UR sig nD τ) (pcfgs (F := Ideal)) defs₀ 𝒱₀ L lv :=
  Pipeline.HostSeg.ofOps _ _ _ _ _ ucs hostOps0 (fun op h => Pipeline.sub_ucRefs op ((List.forall_iff_forall_mem.mp hostOps0_sub) op h)) all_fresh0 (V₀ m) R
def seg1 : Pipeline.HostSeg (Name := ℕ) (U := UR sig nD τ) (pcfgs (F := Ideal)) defs₀ 𝒱₀ L lv :=
  Pipeline.HostSeg.ofOps _ _ _ _ _ ucs hostOps0_1 (fun op h => Pipeline.sub_ucRefs op ((List.forall_iff_forall_mem.mp hostOps0_1_sub) op h)) all_fresh1 (V₁ m) R
def seg2 : Pipeline.HostSeg (Name := ℕ) (U := UR sig nD τ) (pcfgs (F := Ideal)) defs₀ 𝒱₀ L lv :=
  Pipeline.HostSeg.ofOps _ _ _ _ _ ucs hostOps0_2 (fun op h => Pipeline.sub_ucRefs op ((List.forall_iff_forall_mem.mp hostOps0_2_sub) op h)) all_fresh2 (V₂ m) R

def reg : Pipeline.RegionSeg (pcfgs (F := Ideal)) (fun _ => adm) (dats (V₃ m)) () defs₀ 𝒱₀ L lv (0 : Fin 1) :=
  Pipeline.RegionSeg.ofHeldInT (pcfgs (F := Ideal)) (fun _ => adm) (dats (V₃ m)) () defs₀ 𝒱₀ L lv (0 : Fin 1) 0 ucs
    (fun _ => iprop(emp)) (fun _ => iprop(emp)) launch0 (fun c => (body_obligation (V₃ m) c).loose) (fun _ _ => rfl) (fun _ => rfl)
    (share_eq m) (phi_first m) (phi_last m) (fun _ => 0) levels (fun _ => iprop(emp)) (V₃ m) (fun _ _ => rfl) (tables_at m)

abbrev segs : List (Pipeline.Seg (pcfgs (F := Ideal)) (fun _ => adm) (dats (V₃ m)) () defs₀ 𝒱₀ L lv) :=
  [.host (seg0 m), .host (seg1 m), .host (seg2 m), .region (reg m)]

theorem sub_arr : Pipeline.arrRefs (τ := τ) (pcfgs (F := Ideal) 0).spec ⊆ ucs := Pipeline.arrRefs_sub_ucRefs spec0 (by decide)
theorem sub_tbl : Pipeline.tblRefs (τ := τ) (pcfgs (F := Ideal) 0).pre ⊆ ucs := Pipeline.tblRefs_sub_ucRefs pre0 (by decide)

/-- The buffers at the end. -/
def V₄ (c : Dev nD) : Valuation τ sig (Elt Ideal) := Pipeline.afterRegion (dats (V₃ m) 0 c) (V₃ m c)

theorem enter (c : Dev nD) : iprop(StableHlo.held (c.tc : Thread nD τ) ucs (V₃ m c) ∗ R c) ⊢ (reg m).pre c :=
  Entails.trans (by unfold R; iintro ⟨Hh, HO⟩; isplitl [Hh]; (· iexact Hh); isplitl [HO]; (· iexact HO); isplitr <;> iempintro)
    (Pipeline.RegionSeg.ofHeldInT_pre (pcs := pcfgs (F := Ideal)) (a := fun _ => adm) (pdats := dats (V₃ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₃ m) c).loose) (howed := fun _ _ => rfl) (hrec := fun _ => rfl)
      (hshare := share_eq m) (hin := phi_first m) (hout := phi_last m) (b := fun _ => 0) (hcut := levels) (R := fun _ => iprop(emp)) (W := V₃ m) (hW := fun _ _ => rfl) (hT := tables_at m) c)

theorem leave (c : Dev nD) : (reg m).post c ⊢ iprop(StableHlo.held (c.tc : Thread nD τ) ucs (V₄ m c) ∗ R c) :=
  (Pipeline.RegionSeg.ofHeldInT_post (pcs := pcfgs (F := Ideal)) (a := fun _ => adm) (pdats := dats (V₃ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₃ m) c).loose) (howed := fun _ _ => rfl) (hrec := fun _ => rfl)
      (hshare := share_eq m) (hin := phi_first m) (hout := phi_last m) (b := fun _ => 0) (hcut := levels) (R := fun _ => iprop(emp)) (W := V₃ m) (hW := fun _ _ => rfl) (hT := tables_at m) c).trans
    (by unfold R V₄; iintro ⟨Hh, HO, -, -⟩; isplitl [Hh]; (· iexact Hh); iexact HO)

def u₀ : UR sig nD τ :=
  initOf (Pipeline.cells pcs (cellOf_inj fun _ => adm)) (Pipeline.launchToks pcs (cellOf_inj fun _ => adm))

theorem launched : (ownU u₀ : sProp 𝕄) ⊢ BI.own (EP (initOf (Pipeline.cells pcs (cellOf_inj fun _ => adm)) (Pipeline.launchToks pcs (cellOf_inj fun _ => adm)))) := .rfl

/-- A buffer that stays allocated reads as it is held. -/
theorem read_ref (c : Dev nD) (W : Valuation τ sig (Elt Ideal)) (s' : Phys nD τ sig (Elt Ideal)) (r : Ref sig .tc)
    (hr : (Proc.devRef .tc r : DevRef τ sig) ∈ ucs) :
    iprop(StableHlo.held (c.tc : Thread nD τ) ucs W ∗ SI s')
      ⊢ (iprop(⌜s'.mem.mem ((c : Thread nD τ).loc r) = W (Proc.devRef .tc r)⌝ ∗ StableHlo.held (c.tc : Thread nD τ) ucs W ∗ SI s') : sProp 𝕄) := by
  rw [StableHlo.held_sub_split (c.tc : Thread nD τ) (Finset.singleton_subset_iff.mpr hr) W]
  unfold StableHlo.held
  rw [bigSep_singleton]
  iintro ⟨⟨H, Hr⟩, HSI⟩
  icombine HSI H gives %h
  isplitr; · ipureintro; exact Buf.eq_of_forall_mem_univ h
  isplitr [HSI]
  · isplitl [H]
    · iexact H
    iexact Hr
  iexact HSI

theorem stays (r : Ref sig .tc) (h : r.isScoped = false) : (Proc.devRef .tc r : DevRef τ sig) ∈ ucs :=
  Finset.mem_filter.mpr ⟨StableHlo.devRef_mem_tcRefs _, fun h' => Bool.false_ne_true (h.symm.trans h')⟩

/-- The buffers the program's claims speak of. -/
def Q (c : Dev nD) (s : MemSt nD τ sig (Elt Ideal)) : Prop :=
  (∀ r ∈ [main_v42_0, main_v42_1, main_v42_2, main_arg0, main_arg1, main_arg2, main_arg3],
    s.mem ((c : Thread nD τ).loc r) = V₄ m c (Proc.devRef .tc r))

theorem read_all (c : Dev nD) (s' : Phys nD τ sig (Elt Ideal)) :
    iprop(iprop(StableHlo.held (c.tc : Thread nD τ) ucs (V₄ m c)) ∗ SI s') ⊢ (|={Set.univ}=> iprop(⌜Q m c s'.mem⌝ ∗ SI s') : sProp 𝕄) := by
  have h0 := read_ref c (V₄ m c) s' main_v42_0 (stays _ rfl)
  have h1 := read_ref c (V₄ m c) s' main_v42_1 (stays _ rfl)
  have h2 := read_ref c (V₄ m c) s' main_v42_2 (stays _ rfl)
  have h3 := read_ref c (V₄ m c) s' main_arg0 (stays _ rfl)
  have h4 := read_ref c (V₄ m c) s' main_arg1 (stays _ rfl)
  have h5 := read_ref c (V₄ m c) s' main_arg2 (stays _ rfl)
  have h6 := read_ref c (V₄ m c) s' main_arg3 (stays _ rfl)
  iintro H
  ihave H := h0 $$ H
  icases H with ⟨%e0, H⟩
  ihave H := h1 $$ H
  icases H with ⟨%e1, H⟩
  ihave H := h2 $$ H
  icases H with ⟨%e2, H⟩
  ihave H := h3 $$ H
  icases H with ⟨%e3, H⟩
  ihave H := h4 $$ H
  icases H with ⟨%e4, H⟩
  ihave H := h5 $$ H
  icases H with ⟨%e5, H⟩
  ihave H := h6 $$ H
  icases H with ⟨%e6, -, HSI⟩
  imodintro
  isplitr
  · ipureintro
    unfold Q
    intro r hr
    simp only [List.mem_cons, List.mem_nil_iff, or_false] at hr
    rcases hr with rfl | rfl | rfl | rfl | rfl | rfl | rfl <;> assumption
  iexact HSI

set_option backward.isDefEq.respectTransparency.types false in
set_option maxHeartbeats 4000000 in
/-- From any memory with zero counters, every weakly fair execution of the program terminates, and every final state has the
    buffers above at what the points compute and every counter at zero. -/
theorem run_main : θ_run (defs (F := Ideal)) (onTc (τ := τ) (main (F := Ideal))) ⟨m, fun _ => 0, ρ⟩ (fun r => (∀ c, Q m c r.2) ∧ r.2.sem = fun _ => 0) :=
  Pipeline.θ_run_regions_kit_sems (pcfgs (F := Ideal)) (fun _ => adm) (dats (V₃ m)) () (cellOf_inj fun _ => adm) EP defs₀ 𝒱₀ L lv m ρ main (segs m)
    (fun c Q => by rw [Pipeline.Seg.run_eq_chain, main_chain c]; exact .rfl)
    (by simp only [Pipeline.Seg.pipes_host, Pipeline.Seg.pipes_region, Pipeline.Seg.pipes_nil]; decide) (O₀ := 0)
    (hL := fun g h => if_neg h) (G := fun _ => iprop(emp)) (u₀ := u₀)
    (hu₀ := by
      iintro Hu
      ihave Hp := launched $$ Hu
      imodintro
      isplitl [Hp]; · iexact Hp
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) ucs (V₀ m c) ∗ R c))
    (Tₙ := fun c => iprop(StableHlo.held (c.tc : Thread nD τ) ucs (V₄ m c)))
    (hch := ⟨fun _ => .rfl, fun _ => .rfl, fun _ => .rfl, enter m, leave m⟩)
    (hinit := by
      refine Pipeline.initEach L lv fun c => ?_
      rw [show unscopedBufs c (fun b => m ((c : Thread nD τ).loc b)) = StableHlo.held (c : Thread nD τ) ucs (V₀ m c) from Pipeline.unscopedBufs_held c (V₀ m c)]
      unfold R
      iintro ⟨⟨Hh, -, HO, -, -, -⟩, -⟩
      imodintro
      isplitl [Hh]; · iexact Hh
      iexists ∅; iexact HO)
    (QY := fun c s => Q m c s)
    (hfin := fun c s' => read_all m c s')
    (hQ := fun _ h hz => ⟨h, funext fun g => hz g (.inr (by revert g; decide))⟩)

theorem V₄_arg0 (c : Dev nD) : V₄ m c (Proc.devRef .tc main_arg0) = m ((c.tc : Thread nD τ).loc main_arg0) :=
  (Pipeline.afterRegion_of_not_arr (dats (V₃ m) 0 c) (V₃ m c) (by decide)).trans (V₃_arg0 m c)
theorem V₄_arg1 (c : Dev nD) : V₄ m c (Proc.devRef .tc main_arg1) = m ((c.tc : Thread nD τ).loc main_arg1) :=
  (Pipeline.afterRegion_of_not_arr (dats (V₃ m) 0 c) (V₃ m c) (by decide)).trans (V₃_arg1 m c)
theorem V₄_arg2 (c : Dev nD) : V₄ m c (Proc.devRef .tc main_arg2) = m ((c.tc : Thread nD τ).loc main_arg2) :=
  (Pipeline.afterRegion_of_not_arr (dats (V₃ m) 0 c) (V₃ m c) (by decide)).trans (V₃_arg2 m c)
theorem V₄_arg3 (c : Dev nD) : V₄ m c (Proc.devRef .tc main_arg3) = m ((c.tc : Thread nD τ).loc main_arg3) :=
  (Pipeline.afterRegion_arr (dats (V₃ m) 0 c) (V₃ m c) (launch0 (F := Ideal)).win.arr_inj (5 : Fin 9)).trans
    (((dats (V₃ m) 0 c).arrAt_in (5 : Fin 9) rfl _).trans (V₃_arg3 m c))

/-- The program runs, its arguments end unchanged and its counters end at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_arg0 (by simp)).trans (V₄_arg0 m c), (h.1 c main_arg1 (by simp)).trans (V₄_arg1 m c),
      (h.1 c main_arg2 (by simp)).trans (V₄_arg2 m c), (h.1 c main_arg3 (by simp)).trans (V₄_arg3 m c)⟩, h.2⟩) (run_main m ρ)

end Cert.KernelIdeal.Attn

end
-- ==== Proof.Attn.Host.lean ====
/- What the host operations before the kernel leave in the arrays it is called on. -/
module

public import proofs.«01_k».proof.Proof.Attn.Forward
public import proofs.«01_k».proof.Proof.Attn.Run
public import Idealize.ShloMosaic.Lib.Pointwise
public import Idealize.ShloMosaic.Lib.IdealHost

@[expose] public section

set_option maxRecDepth 16384
set_option Elab.async false

noncomputable section

namespace Cert.KernelIdeal.Attn

open Cert.KernelIdeal Cert.KernelIdeal.Gen
open Idealize.ShloMosaic Idealize.ShloMosaic.TcCoe Idealize.ShloMosaic.Tactic

variable (m : (ℓ : Loc nD τ sig) → Buf (Elt Ideal) ℓ)

/-- The arguments hold the reals `X` on a device. -/
structure Args (c : Dev nD) (X : Real4) : Prop where
  q : ∀ h i d, m ((c.tc : Thread nD τ).loc main_arg0) (ix3 h i d : S8x16384x128.Idx) = ((X.q h i d : ℝ) : EReal)
  k : ∀ h i d, m ((c.tc : Thread nD τ).loc main_arg1) (ix3 h i d : S8x16384x128.Idx) = ((X.k h i d : ℝ) : EReal)
  v : ∀ h i d, m ((c.tc : Thread nD τ).loc main_arg2) (ix3 h i d : S8x16384x128.Idx) = ((X.v h i d : ℝ) : EReal)
  g : ∀ h i d, m ((c.tc : Thread nD τ).loc main_arg3) (ix3 h i d : S8x16384x128.Idx) = ((X.g h i d : ℝ) : EReal)

/-- The masked scores from the scores and the mask. -/
theorem V₂_v16 (c : Dev nD) : V₂ m c (Proc.devRef .tc main_v16)
    = select (broadcastInDim S8x16384x16384 ![1, 2] bcast_S16384x16384_S8x16384x16384_1_2 (V₁ m c (Proc.devRef .tc main_v12)))
        (V₁ m c (Proc.devRef .tc main_v15))
        (broadcastInDim S8x16384x16384 ![] bcast_S_S8x16384x16384 (V₁ m c (Proc.devRef .tc main_cst_3))) := by
  unfold V₂
  after_results
  rfl

variable {m} {c : Dev nD} {X : Real4} (H : Args m c X)

theorem V₁_mask (i j : Fin 16384) :
    V₁ m c (Proc.devRef .tc main_v12) (ix2 i j : S16384x16384.Idx) = 1#1 ↔ j.val ≤ i.val := by
  unfold V₁
  after_results
  pointwise [V₀]
  exact sle_word j i

theorem V₁_bot : V₁ m c (Proc.devRef .tc main_cst_3) (Idealize.ShloMosaic.ix0 : S_.Idx) = (⊥ : EReal) := by
  unfold V₁
  after_results
  exact ofBits_bot

include H

theorem V₁_q (h : Fin 8) (i : Fin 16384) (d : Fin 128) :
    V₁ m c (Proc.devRef .tc main_v4) (ix3 h i d : S8x16384x128.Idx) = ((X.q h i d * (σ / Real.log 2) : ℝ) : EReal) := by
  unfold V₁
  after_results
  have e : (m (c, Proc.tc.devRef main_arg0) (ix3 h i d : S8x16384x128.Idx) : EReal) = ((X.q h i d : ℝ) : EReal) := H.q h i d
  pointwise [V₀]
  rw [e, ofBits_two, log_two, σ_eq, Ideal.div_coe Real4.log2_pos.ne', ← EReal.coe_mul, ← EReal.coe_mul]
  congr 2
  ring

theorem V₁_s (h : Fin 8) (i j : Fin 16384) :
    V₁ m c (Proc.devRef .tc main_v15) (ix3 h i j : S8x16384x16384.Idx) = ((X.s h i j : ℝ) : EReal) := by
  unfold V₁
  after_results
  have eq : ∀ d, (m (c, Proc.tc.devRef main_arg0) (ix3 h i d : S8x16384x128.Idx) : EReal) = ((X.q h i d : ℝ) : EReal) := H.q h i
  have ek : ∀ d, (m (c, Proc.tc.devRef main_arg1) (ix3 h j d : S8x16384x128.Idx) : EReal) = ((X.k h j d : ℝ) : EReal) := H.k h j
  pointwise [V₀]
  simp only [eq, ek]
  rw [coe_dot, σ_eq, ← EReal.coe_mul]
  rfl

theorem V₂_x (h : Fin 8) (i j : Fin 16384) :
    V₂ m c (Proc.devRef .tc main_v16) (ix3 h i j : S8x16384x16384.Idx) = X.x h i j := by
  have e1 := V₁_s H h i j
  have e2 := V₁_mask (m := m) (c := c) i j
  have e3 := V₁_bot (m := m) (c := c)
  rw [V₂_v16]
  pointwise []
  refine (select_word _ _ e2 _ _).trans ?_
  unfold Real4.x
  exact congrArg₂ (fun a b : EReal => if j.val ≤ i.val then a else b) e1 e3

theorem V₂_v (h : Fin 8) (i : Fin 16384) (d : Fin 128) :
    V₂ m c (Proc.devRef .tc main_arg2) (ix3 h i d : S8x16384x128.Idx) = ((X.v h i d : ℝ) : EReal) := by
  have e : V₂ m c (Proc.devRef .tc main_arg2) = V₀ m c (Proc.devRef .tc main_arg2) := by
    unfold V₂ V₁; after_results
  rw [e]
  exact H.v h i d

omit H in
theorem V₃_v41 (m : (ℓ : Loc nD τ sig) → Buf (Elt Ideal) ℓ) (c : Dev nD) : V₃ m c (Proc.devRef .tc main_v41)
    = lseOf (topOf (V₂ m c (Proc.devRef .tc main_v16)))
        (totOf (exOf (V₂ m c (Proc.devRef .tc main_v16)) (topOf (V₂ m c (Proc.devRef .tc main_v16))))) := by
  unfold V₃ lseOf topOf totOf exOf
  after_results

omit H in
theorem V₃_v39 (m : (ℓ : Loc nD τ sig) → Buf (Elt Ideal) ℓ) (c : Dev nD) : V₃ m c (Proc.devRef .tc main_v39)
    = outOf (exOf (V₂ m c (Proc.devRef .tc main_v16)) (topOf' (topOf (V₂ m c (Proc.devRef .tc main_v16)))))
        (totOf (exOf (V₂ m c (Proc.devRef .tc main_v16)) (topOf' (topOf (V₂ m c (Proc.devRef .tc main_v16))))))
        (V₂ m c (Proc.devRef .tc main_arg2)) := by
  unfold V₃ outOf topOf topOf' totOf exOf
  after_results

/-- The output and the log-sum the kernel takes. -/
theorem V₃_o (h : Fin 8) (i : Fin 16384) (d : Fin 128) :
    V₃ m c (Proc.devRef .tc main_v39) (ix3 h i d : S8x16384x128.Idx) = ((X.o h i d : ℝ) : EReal) := by
  rw [V₃_v39]
  exact out_real X _ (V₂_x H) _ (V₂_v H) h i d

theorem V₃_l (h : Fin 8) (i : Fin 16384) (d : Fin 128) :
    V₃ m c (Proc.devRef .tc main_v41) (ix3 h i d : S8x16384x128.Idx) = ((X.l h i : ℝ) : EReal) := by
  rw [V₃_v41]
  exact lse_real X _ (V₂_x H) h i d

theorem V₃_k (h : Fin 8) (i : Fin 16384) (d : Fin 128) :
    V₃ m c (Proc.devRef .tc main_v5) (ix3 h i d : S8x16384x128.Idx) = ((X.k h i d : ℝ) : EReal) := by
  have e : (m (c, Proc.tc.devRef main_arg1) (ix3 h i d : S8x16384x128.Idx) : EReal) = ((X.k h i d : ℝ) : EReal) := H.k h i d
  unfold V₃ V₂ V₁
  after_results
  pointwise [V₀]
  exact e

theorem V₃_v (h : Fin 8) (i : Fin 16384) (d : Fin 128) :
    V₃ m c (Proc.devRef .tc main_v6) (ix3 h i d : S8x16384x128.Idx) = ((X.v h i d : ℝ) : EReal) := by
  have e : (m (c, Proc.tc.devRef main_arg2) (ix3 h i d : S8x16384x128.Idx) : EReal) = ((X.v h i d : ℝ) : EReal) := H.v h i d
  unfold V₃ V₂ V₁
  after_results
  pointwise [V₀]
  exact e

theorem V₃_q (h : Fin 8) (i : Fin 16384) (d : Fin 128) :
    V₃ m c (Proc.devRef .tc main_v4) (ix3 h i d : S8x16384x128.Idx) = ((X.q h i d * (σ / Real.log 2) : ℝ) : EReal) := by
  have e : V₃ m c (Proc.devRef .tc main_v4) = V₁ m c (Proc.devRef .tc main_v4) := by
    unfold V₃ V₂; after_results
  rw [e]
  exact V₁_q H h i d

theorem V₃_g (h : Fin 8) (i : Fin 16384) (d : Fin 128) :
    V₃ m c (Proc.devRef .tc main_arg3) (ix3 h i d : S8x16384x128.Idx) = ((X.g h i d : ℝ) : EReal) := by
  rw [V₃_arg3]
  exact H.g h i d

/-- The kernel is called on reals. -/
theorem reads : Reads (V₃ m) c X.arr where
  q := V₃_q H
  k := V₃_k H
  v := V₃_v H
  o h i d := by rw [Real4.arr_o]; exact V₃_o H h i d
  l h i d := by rw [Real4.arr_l]; exact V₃_l H h i d
  g := V₃_g H

end Cert.KernelIdeal.Attn
-- ==== Proof.Attn.Reference.lean ====
/- The reference's gradient of causal attention, array by array, on reals. -/
module

public import proofs.«01_k».proof.Proof.Attn.Softmax
public import proofs.«01_k».proof.Proof.Gen.ReferenceIdeal.Read
public import Idealize.ShloMosaic.Lib.Pointwise
public import Idealize.ShloMosaic.Lib.IdealHost

@[expose] public section

set_option maxRecDepth 16384
set_option Elab.async false

noncomputable section

namespace Cert.ReferenceIdeal.Attn

open Cert.ReferenceIdeal Cert.ReferenceIdeal.Gen Cert.ReferenceIdeal.Read
open Cert.KernelIdeal.Attn (Real4 sle_word select_word coe_sum coe_dot ofBits_bot σ σ_eq)
open Idealize.ShloMosaic Idealize.ShloMosaic.TcCoe

/-- The largest of `-∞` and a value is the value. -/
theorem max_at (t : FVec Ideal S8x16384 .f32) (h : Fin 8) (i : Fin 16384) :
    maximumf (broadcastInDim S8x16384 ![] bcast_S_S8x16384 (constant S_ .f32 0xFF800000#32)) t (ix2 h i : S8x16384.Idx)
      = t (ix2 h i : S8x16384.Idx) := by
  pointwise []
  rw [ofBits_bot]
  exact max_eq_right bot_le

/-- The exponential of scores less a value for each row. -/
theorem exp_at (x : FVec Ideal S8x16384x16384 .f32) (t : FVec Ideal S8x16384 .f32) (h : Fin 8) (i j : Fin 16384) :
    Host.exp (subf x (broadcastInDim S8x16384x16384 ![0, 1, 2] bcast_S8x16384x1_S8x16384x16384_0_1_2
      (broadcastInDim S8x16384x1 ![0, 1] bcast_S8x16384_S8x16384x1_0_1 t))) (ix3 h i j : S8x16384x16384.Idx)
      = Ideal.exp (x (ix3 h i j : S8x16384x16384.Idx) - t (ix2 h i : S8x16384.Idx)) := by
  pointwise []

/-- The sums of rows, as a column, negated and summed over the column's one entry. -/
theorem neg_at (x : FVec Ideal S8x16384x16384 .f32) (h : Fin 8) (i : Fin 16384) :
    Host.reduceAdd (Host.negf (shapeCast S8x16384x1 (Host.reduceAdd x (constant S_ .f32 0x00000000#32) reducesTo_S8x16384x16384_S8x16384_d2 h_S_)
      shapeCasts_S8x16384_S8x16384x1)) (constant S_ .f32 0x00000000#32) reducesTo_S8x16384x1_S8x16384_d2 h_S_ (ix2 h i : S8x16384.Idx)
      = -∑ j : Fin 16384, x (ix3 h i j : S8x16384x16384.Idx) := by
  pointwise []
  exact Fin.sum_univ_one _

theorem mask_at (i j : Fin 16384) : val_main_v5 (F := Ideal) (ix2 i j : S16384x16384.Idx) = 1#1 ↔ j.val ≤ i.val := by
  unfold val_main_v5 val_main_v3 val_main_v4 val_main_v1 val_main_v2 val_main_v0
  pointwise []
  exact sle_word j i

variable (X : Real4) (x0 x1 x2 x3 : FVec Ideal S8x16384x128 .f32)

section
variable (h0 : ∀ h i d, x0 (ix3 h i d : S8x16384x128.Idx) = ((X.q h i d : ℝ) : EReal))
  (h1 : ∀ h i d, x1 (ix3 h i d : S8x16384x128.Idx) = ((X.k h i d : ℝ) : EReal))
include h0 h1

theorem v8_at (h : Fin 8) (i j : Fin 16384) :
    val_main_v8 (F := Ideal) x0 x1 (ix3 h i j : S8x16384x16384.Idx) = ((X.s h i j : ℝ) : EReal) := by
  unfold val_main_v8 val_main_v7 val_main_v6 val_main_cst
  pointwise []
  simp only [h0, h1]
  rw [coe_dot, σ_eq, ← EReal.coe_mul]
  rfl

theorem v9_at (h : Fin 8) (i j : Fin 16384) :
    val_main_v9_0 (F := Ideal) x0 x1 (ix3 h i j : S8x16384x16384.Idx) = X.x h i j := by
  have e1 := v8_at X x0 x1 h0 h1 h i j
  have e2 := mask_at i j
  unfold val_main_v9_0 val_main_v9_1 val_main_call0_v2 val_main_call0_v0 val_main_cst_0
  pointwise []
  refine (select_word _ _ e2 _ _).trans ?_
  unfold Real4.x
  exact congrArg₂ (fun a b : EReal => if j.val ≤ i.val then a else b) e1 ofBits_bot

theorem v10_at (h : Fin 8) (i : Fin 16384) :
    val_main_v10 (F := Ideal) x0 x1 (ix2 h i : S8x16384.Idx) = X.top h i := by
  have e1 := v9_at X x0 x1 h0 h1 h i
  unfold val_main_v10 val_main_cst_1
  pointwise []
  rw [ofBits_bot]
  simp only [e1]
  rfl

theorem v17_at (h : Fin 8) (i : Fin 16384) :
    val_main_v17 (F := Ideal) x0 x1 (ix2 h i : S8x16384.Idx) = X.top h i := by
  unfold val_main_v17 val_main_v16 val_main_cst_3
  rw [max_at]
  exact v10_at X x0 x1 h0 h1 h i

theorem v30_at (h : Fin 8) (i j : Fin 16384) :
    val_main_v30 (F := Ideal) x0 x1 (ix3 h i j : S8x16384x16384.Idx) = ((X.ex h i j : ℝ) : EReal) := by
  have e1 := v9_at X x0 x1 h0 h1 h i j
  have e2 := v17_at X x0 x1 h0 h1 h i
  unfold val_main_v30 val_main_v29 val_main_v28 val_main_v27
  rw [exp_at, e1, e2]
  exact X.exp_x h i j

theorem v31_at (h : Fin 8) (i : Fin 16384) :
    val_main_v31 (F := Ideal) x0 x1 (ix2 h i : S8x16384.Idx) = ((X.tot h i : ℝ) : EReal) := by
  have e1 := v30_at X x0 x1 h0 h1 h i
  unfold val_main_v31 val_main_cst_9
  pointwise []
  simp only [e1]
  exact coe_sum _ _

theorem v34_at (h : Fin 8) (i j : Fin 16384) :
    val_main_v34 (F := Ideal) x0 x1 (ix3 h i j : S8x16384x16384.Idx) = ((X.p h i j : ℝ) : EReal) := by
  have e1 := v30_at X x0 x1 h0 h1 h i j
  have e2 := v31_at X x0 x1 h0 h1 h i
  unfold val_main_v34 val_main_v33 val_main_v32
  pointwise []
  rw [e1, e2, Ideal.div_coe (X.tot_pos h i).ne', ← EReal.coe_mul, mul_one_div]
  rfl

theorem v37_at (h : Fin 8) (i : Fin 16384) :
    val_main_v37 (F := Ideal) x0 x1 (ix3 h i (0 : Fin 1) : S8x16384x1.Idx) = ((1 / (X.tot h i * X.tot h i) : ℝ) : EReal) := by
  have e2 := v31_at X x0 x1 h0 h1 h i
  unfold val_main_v37 val_main_v36 val_main_v35 val_main_v32 val_main_cst_10
  pointwise []
  rw [e2, ← EReal.coe_mul, Ideal.div_coe (mul_pos (X.tot_pos h i) (X.tot_pos h i)).ne', one_mul]

end

section
variable (h2 : ∀ h i d, x2 (ix3 h i d : S8x16384x128.Idx) = ((X.v h i d : ℝ) : EReal))
  (h3 : ∀ h i d, x3 (ix3 h i d : S8x16384x128.Idx) = ((X.g h i d : ℝ) : EReal))
include h2 h3

theorem v41_at (h : Fin 8) (i j : Fin 16384) :
    val_main_v41 (F := Ideal) x2 x3 (ix3 h i j : S8x16384x16384.Idx) = ((X.dp h i j : ℝ) : EReal) := by
  unfold val_main_v41
  pointwise []
  simp only [h2, h3]
  exact coe_dot _ _ _

end

section
variable (h0 : ∀ h i d, x0 (ix3 h i d : S8x16384x128.Idx) = ((X.q h i d : ℝ) : EReal))
  (h1 : ∀ h i d, x1 (ix3 h i d : S8x16384x128.Idx) = ((X.k h i d : ℝ) : EReal))
  (h2 : ∀ h i d, x2 (ix3 h i d : S8x16384x128.Idx) = ((X.v h i d : ℝ) : EReal))
  (h3 : ∀ h i d, x3 (ix3 h i d : S8x16384x128.Idx) = ((X.g h i d : ℝ) : EReal))
include h0 h1 h2 h3

theorem v44_at (h : Fin 8) (i j : Fin 16384) :
    val_main_v44 (F := Ideal) x0 x1 x2 x3 (ix3 h i j : S8x16384x16384.Idx)
      = ((X.dp h i j * (1 / (X.tot h i * X.tot h i)) * X.ex h i j : ℝ) : EReal) := by
  have e1 := v30_at X x0 x1 h0 h1 h i j
  have e2 := v41_at X x2 x3 h2 h3 h i j
  have e3 := v37_at X x0 x1 h0 h1 h i
  unfold val_main_v44 val_main_v43 val_main_v42
  pointwise []
  rw [e1, e2, e3, ← EReal.coe_mul, ← EReal.coe_mul]

theorem v50_at (h : Fin 8) (i : Fin 16384) :
    val_main_v50 (F := Ideal) x0 x1 x2 x3 (ix2 h i : S8x16384.Idx)
      = ((-(∑ j, X.dp h i j * (1 / (X.tot h i * X.tot h i)) * X.ex h i j) : ℝ) : EReal) := by
  have e1 := v44_at X x0 x1 x2 x3 h0 h1 h2 h3 h i
  unfold val_main_v50 val_main_v47 val_main_v46 val_main_v45 val_main_cst_11 val_main_cst_12
  rw [neg_at]
  simp only [e1]
  rw [coe_sum, EReal.coe_neg]

theorem v53_at (h : Fin 8) (i j : Fin 16384) :
    val_main_v53 (F := Ideal) x0 x1 x2 x3 (ix3 h i j : S8x16384x16384.Idx) = ((X.arr.ds h i j : ℝ) : EReal) := by
  have e1 := v30_at X x0 x1 h0 h1 h i j
  have e2 := v41_at X x2 x3 h2 h3 h i j
  have e3 := v31_at X x0 x1 h0 h1 h i
  have e4 := v50_at X x0 x1 x2 x3 h0 h1 h2 h3 h i
  unfold val_main_v53 val_main_v52 val_main_v51 val_main_v49 val_main_v48 val_main_v32
  pointwise []
  rw [e1, e2, e3, e4, Ideal.div_coe (X.tot_pos h i).ne', ← EReal.coe_mul, mul_one_div, ← EReal.coe_add, ← EReal.coe_mul, X.arr_ds]

theorem v56_at (h : Fin 8) (i j : Fin 16384) :
    val_main_v56 (F := Ideal) x0 x1 x2 x3 (ix3 h i j : S8x16384x16384.Idx) = ((X.arr.ds h i j * σ : ℝ) : EReal) := by
  have e1 := v53_at X x0 x1 x2 x3 h0 h1 h2 h3 h i j
  have e2 := mask_at i j
  unfold val_main_v56 val_main_v55 val_main_v54 val_main_v9_1 val_main_call1_v0 val_main_call1_cst val_main_cst_13
  pointwise []
  rw [select_word _ _ e2, e1, σ_eq]
  split
  · exact (EReal.coe_mul _ _).symm
  · next hm => rw [X.arr_ds_masked h i j hm, zero_mul]; exact EReal.coe_zero.symm

theorem v58_at (h : Fin 8) (i : Fin 16384) (d : Fin 128) :
    val_main_v58 (F := Ideal) x0 x1 x2 x3 (ix3 h i d : S8x16384x128.Idx)
      = (((∑ j, X.arr.ds h i j * X.k h j d) * σ : ℝ) : EReal) := by
  have e1 := v56_at X x0 x1 x2 x3 h0 h1 h2 h3 h i
  unfold val_main_v58
  pointwise []
  simp only [e1, h1]
  rw [coe_dot, Finset.sum_mul]
  exact congrArg (fun a : ℝ => (a : EReal)) (Finset.sum_congr rfl fun j _ => by ring)

theorem v57_at (h : Fin 8) (j : Fin 16384) (d : Fin 128) :
    val_main_v57 (F := Ideal) x0 x1 x2 x3 (ix3 h j d : S8x16384x128.Idx)
      = (((∑ i, X.arr.ds h i j * X.arr.q h i d) * Real.log 2 : ℝ) : EReal) := by
  have e1 : ∀ i, val_main_v56 (F := Ideal) x0 x1 x2 x3 (ix3 h i j : S8x16384x16384.Idx) = ((X.arr.ds h i j * σ : ℝ) : EReal) :=
    fun i => v56_at X x0 x1 x2 x3 h0 h1 h2 h3 h i j
  unfold val_main_v57
  pointwise []
  simp only [e1, h0]
  rw [coe_dot, Finset.sum_mul]
  refine congrArg (fun a : ℝ => (a : EReal)) (Finset.sum_congr rfl fun i _ => ?_)
  have hl := Real4.log2_pos.ne'
  have eq : X.arr.q h i d = X.q h i d * (σ / Real.log 2) := by simp only [Real4.arr]
  rw [eq]
  field_simp

end

section
variable (h0 : ∀ h i d, x0 (ix3 h i d : S8x16384x128.Idx) = ((X.q h i d : ℝ) : EReal))
  (h1 : ∀ h i d, x1 (ix3 h i d : S8x16384x128.Idx) = ((X.k h i d : ℝ) : EReal))
  (h3 : ∀ h i d, x3 (ix3 h i d : S8x16384x128.Idx) = ((X.g h i d : ℝ) : EReal))
include h0 h1 h3

theorem v40_at (h : Fin 8) (j : Fin 16384) (d : Fin 128) :
    val_main_v40 (F := Ideal) x0 x1 x3 (ix3 h j d : S8x16384x128.Idx) = ((∑ i, X.arr.w h i j * X.g h i d : ℝ) : EReal) := by
  have e1 : ∀ i, val_main_v34 (F := Ideal) x0 x1 (ix3 h i j : S8x16384x16384.Idx) = ((X.p h i j : ℝ) : EReal) :=
    fun i => v34_at X x0 x1 h0 h1 h i j
  unfold val_main_v40 val_main_v39
  pointwise []
  simp only [e1, h3]
  rw [coe_dot]
  exact congrArg (fun a : ℝ => (a : EReal)) (Finset.sum_congr rfl fun i _ => by rw [X.arr_w, mul_comm])

end

end Cert.ReferenceIdeal.Attn
-- ==== Proof.Attn.Finite.lean ====
/- The precondition: every element of the four arguments is a real. -/
module

public import proofs.«01_k».proof.Pre_finite
public import Idealize.ShloMosaic.Lib.Pointwise
public import Idealize.ShloMosaic.Lib.IdealHost
public import Idealize.ShloMosaic.Lib.ReduceAll

@[expose] public section

set_option maxRecDepth 16384
set_option Elab.async false

noncomputable section

namespace Cert.Pre_finite.Attn

open Cert.Pre_finite
open Idealize.ShloMosaic

theorem facts : Cert.Pre_finite.Facts where
  bcast_S_S8x16384x128 := by decide
  reducesTo_S8x16384x128_S_d0_1_2 := by decide
  h_S_ := by decide

attribute [local instance] facts

theorem ofBits_inf : Ideal.ofBits .f32 0x7F800000#32 = (⊤ : EReal) := by
  simp [Ideal.ofBits, Ideal.ieee]

instance : Subsingleton S_.Idx := ⟨fun a b => funext fun i => i.elim0⟩

/-- One array's part of the precondition. -/
def part (x : FVec Ideal S8x16384x128 .f32) : IVec S_ 1 :=
  Host.reduce IntOp.andi (cmpf .olt (Host.absf x) (broadcastInDim S8x16384x128 ![] Facts.bcast_S_S8x16384x128 (constant S_ .f32 0x7F800000#32)))
    (constantI S_ 1 1#1) Facts.reducesTo_S8x16384x128_S_d0_1_2 Facts.h_S_

theorem fn_eq (x0 x1 x2 x3 : FVec Ideal S8x16384x128 .f32) :
    fn (F := Ideal) x0 x1 x2 x3 = andi (andi (andi (part x0) (part x1)) (part x2)) (part x3) := rfl

theorem and_one (a b : BitVec 1) (h : IntOp.andi a b = 1#1) : a = 1#1 ∧ b = 1#1 := by
  revert a b
  decide

theorem of_part (x : FVec Ideal S8x16384x128 .f32) (i0 : S_.Idx) (h : part x i0 = 1#1) (h' : Fin 8) (i : Fin 16384) (d : Fin 128) :
    x (ix3 h' i d : S8x16384x128.Idx) = ((EReal.toReal (x (ix3 h' i d : S8x16384x128.Idx)) : ℝ) : EReal) := by
  have e := Host.reduce_andi_all _ _ _ _ i0 h (ix3 h' i d : S8x16384x128.Idx)
  pointwise [] at e
  rw [ofBits_inf] at e
  have hl' : FloatOps.absf (F := Ideal) (x (ix3 h' i d : S8x16384x128.Idx)) < (⊤ : EReal) := by
    by_contra hn
    rw [decide_eq_false hn] at e
    exact absurd e (by decide)
  have hl : max (x (ix3 h' i d : S8x16384x128.Idx)) (-x (ix3 h' i d : S8x16384x128.Idx)) < (⊤ : EReal) := hl'
  obtain ⟨ht, hb⟩ := max_lt_iff.1 hl
  refine (EReal.coe_toReal ht.ne fun h0 => ?_).symm
  rw [h0, EReal.neg_bot] at hb
  exact lt_irrefl _ hb

theorem finite (x0 x1 x2 x3 : FVec Ideal S8x16384x128 .f32) (h : fn (F := Ideal) x0 x1 x2 x3 = fun _ => 1#1) (a : Fin 8) (i : Fin 16384) (d : Fin 128) :
    x0 (ix3 a i d : S8x16384x128.Idx) = ((EReal.toReal (x0 (ix3 a i d : S8x16384x128.Idx)) : ℝ) : EReal)
    ∧ x1 (ix3 a i d : S8x16384x128.Idx) = ((EReal.toReal (x1 (ix3 a i d : S8x16384x128.Idx)) : ℝ) : EReal)
    ∧ x2 (ix3 a i d : S8x16384x128.Idx) = ((EReal.toReal (x2 (ix3 a i d : S8x16384x128.Idx)) : ℝ) : EReal)
    ∧ x3 (ix3 a i d : S8x16384x128.Idx) = ((EReal.toReal (x3 (ix3 a i d : S8x16384x128.Idx)) : ℝ) : EReal) := by
  have e : IntOp.andi (IntOp.andi (IntOp.andi (part x0 ix0) (part x1 ix0)) (part x2 ix0)) (part x3 ix0) = 1#1 := by
    have := congrFun ((fn_eq x0 x1 x2 x3).symm.trans h) (ix0 : S_.Idx)
    exact this
  obtain ⟨e, h3⟩ := and_one _ _ e
  obtain ⟨e, h2⟩ := and_one _ _ e
  obtain ⟨h0, h1⟩ := and_one _ _ e
  exact ⟨of_part x0 _ h0 a i d, of_part x1 _ h1 a i d, of_part x2 _ h2 a i d, of_part x3 _ h3 a i d⟩

end Cert.Pre_finite.Attn
-- ==== Proof.AttnBits.Step.lean ====
/-
  One grid point of the attention backward kernel as a function of arrays.

  The kernel walks a list of pairs (i, j): rows `512 * i …` of the queries against rows `2048 * j …` of the keys. It keeps
  three arrays from point to point: the gradient of the head's queries (`dq`, the whole head), and the gradients of the
  current keys and values (`dk`, `dv`, one block). `Acc` is the three together, and `stepAt` is what one point makes of them.
-/
module

public import Idealize.ShloMosaic.PureOps.BitExact
public import proofs.«01_k».proof.Proof.Gen.Kernel.Skeleton
public import Idealize.ShloMosaic.Lib.VecWindow
public import Idealize.ShloMosaic.PureOps.Ideal

@[expose] public section

noncomputable section

namespace Cert.Kernel.Attn

open Cert.Kernel Cert.Kernel.Gen
open Idealize.ShloMosaic

/-- The table memrefs and the two scratch buffers, as the pipeline passes them. -/
abbrev tabI : Memref sig .tc .smem S144 .i32 := Memref.whole main_c
abbrev tabJ : Memref sig .tc .smem S144 .i32 := Memref.whole main_c_0
abbrev scK : Memref sig .tc .vmem S2048x128 .f32 := Memref.whole cc0_scratch0
abbrev scV : Memref sig .tc .vmem S2048x128 .f32 := Memref.whole cc0_scratch1

/-- The word of the table of query blocks that the point with coordinates `i` reads. -/
abbrev wordI (T : S144.Idx → Elt Bits .i32) (i : grid0.Coords) : Elt Bits .i32 :=
  View.readAt (Elt Bits) tabI.view (Rect.unit (s := S144) (k0_off1 i) S1.size (k0_off1_inb i)).toLoadRect T (Shape.Idx.first (numel1_S1.symm ▸ Nat.one_pos))
/-- The word of the table of key blocks that the point with coordinates `i` reads. -/
abbrev wordJ (T : S144.Idx → Elt Bits .i32) (i : grid0.Coords) : Elt Bits .i32 :=
  View.readAt (Elt Bits) tabJ.view (Rect.unit (s := S144) (k0_off1 i) S1.size (k0_off1_inb i)).toLoadRect T (Shape.Idx.first (numel1_S1.symm ▸ Nat.one_pos))

/-- The first query block that meets key block `j`, as the kernel computes it. -/
abbrev firstOf (j : BitVec 32) : BitVec 32 :=
  Scalar.select (Scalar.andi (Scalar.cmpi .ne (Scalar.subi (Scalar.extui (Scalar.cmpi .sgt (Scalar.muli j 2048#32) 0#32)) (Scalar.extui (Scalar.cmpi .slt (Scalar.muli j 2048#32) 0#32)))
      (Scalar.subi (Scalar.extui (Scalar.cmpi .sgt 512#32 0#32)) (Scalar.extui (Scalar.cmpi .slt 512#32 0#32)))) (Scalar.cmpi .ne (Scalar.remsi (Scalar.muli j 2048#32) 512#32) 0#32))
    (Scalar.subi (Scalar.divsi (Scalar.muli j 2048#32) 512#32) 1#32) (Scalar.divsi (Scalar.muli j 2048#32) 512#32)

/-- Whether query block `i` is the first that meets key block `j`. -/
abbrev condF (i j : BitVec 32) : BitVec 1 := Scalar.cmpi .ne (Scalar.extui (Scalar.cmpi .eq i (firstOf j))) 0#32

/-- The three accumulators. -/
structure Acc where
  dq : S1x16384x128.Idx → Elt Bits .f32
  dk : S2048x128.Idx → Elt Bits .f32
  dv : S2048x128.Idx → Elt Bits .f32

/-- The six input blocks of a point: queries, keys, values, output, row normalisers, cotangent. -/
structure Blk where
  q : S1x512x128.Idx → Elt Bits .bf16
  k : S1x2048x128.Idx → Elt Bits .bf16
  v : S1x2048x128.Idx → Elt Bits .bf16
  o : S1x512x128.Idx → Elt Bits .f32
  l : S1x512x128.Idx → Elt Bits .f32
  g : S1x512x128.Idx → Elt Bits .f32

/-- What a pair below the diagonal adds. -/
def addFull (i : BitVec 32) (inb : ∀ a, k0_off2 i a + S1x512x128.size a ≤ S1x16384x128.size a) (b : Blk) (s : Acc) : Acc where
  dq := VecWindow.put s.dq (k0_off2 i) S1x512x128.size
    (k0_pay23 (k0_pay7 b.k) (k0_pay11 b.q b.k b.g b.l b.v b.o) (VecWindow.window s.dq (k0_off2 i) S1x512x128.size inb))
  dk := k0_pay22 (k0_pay6 b.q) (k0_pay11 b.q b.k b.g b.l b.v b.o) s.dk
  dv := k0_pay12 b.q b.k b.g b.l s.dv

/-- What a pair on the diagonal adds. -/
def addMasked (i j : BitVec 32) (inb : ∀ a, k0_off3 i a + S1x512x128.size a ≤ S1x16384x128.size a) (b : Blk) (s : Acc) : Acc where
  dq := VecWindow.put s.dq (k0_off3 i) S1x512x128.size
    (k0_pay3 (k0_pay14 b.k) (k0_pay18 i j b.q b.k b.g b.l b.v b.o) (VecWindow.window s.dq (k0_off3 i) S1x512x128.size inb))
  dk := k0_pay2 (k0_pay13 b.q) (k0_pay18 i j b.q b.k b.g b.l b.v b.o) s.dk
  dv := k0_pay1 (k0_pay16 b.g) (k0_pay17 i j b.q b.k b.l) s.dv

end Cert.Kernel.Attn

end
-- ==== Proof.AttnBits.Traj.lean ====
/-
  What the attention backward kernel holds from point to point: the three accumulators after each point (`st`), the
  contents of every staging buffer, and the invariant between two points.
-/
module

public import proofs.«01_k».proof.Proof.AttnBits.Tables
public import Idealize.ShloMosaic.Lib.Pipeline.FrameBody
public import Idealize.ShloMosaic.Lib.Pipeline.TableIdle
public import Idealize.ShloMosaic.Lib.Exec
public import Idealize.ShloMosaic.Lib.Tactic

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/- The buffers when the kernel is entered, one valuation per device. -/
variable (V : Dev nD → Valuation τ sig (Elt Bits))

/-- Window `w`'s block at point `t`, read off its array. -/
def iblk (c : Dev nD) (w : Fin cfgA.W) (t : Fin cfgA.N) : ((cfgA.win w).xblock (crd t)).Idx → Elt Bits (cfgA.win w).elt :=
  ((cfgA.win w).blk t).view.read (Elt Bits) (V c (Proc.devRef .tc (Pipeline.arrRef spec0 w)))

/-- The six input blocks at point `t`. -/
def blkAt (c : Dev nD) (t : Fin cfgA.N) : Blk where
  q := iblk V c (0 : Fin 9) t
  k := iblk V c (1 : Fin 9) t
  v := iblk V c (2 : Fin 9) t
  o := iblk V c (3 : Fin 9) t
  l := iblk V c (4 : Fin 9) t
  g := iblk V c (5 : Fin 9) t

/-- The accumulators as a point resets them: the head's at its first point, the block's at its first. -/
def reset (t : Fin cfgA.N) (s : Acc) : Acc where
  dq := if k0_cond1 (crd t) = 1#1 then k0_pay19 (F := Bits) else s.dq
  dk := if condF (wI t) (wJ t) = 1#1 then k0_pay20 (F := Bits) else s.dk
  dv := if condF (wI t) (wJ t) = 1#1 then k0_pay21 (F := Bits) else s.dv

/-- A point that is not below the diagonal is on it. -/
theorem on_diagonal (t : Fin cfgA.N) (h : ¬ k0_cond3 (wI t) (wJ t) = 1#1) : k0_cond4 (wI t) (wJ t) = 1#1 :=
  not_not.mp fun h4 => h ((branches t).2.2.2.1.mpr h4)

/-- One point. -/
def stepAt (c : Dev nD) (t : Fin cfgA.N) (s : Acc) : Acc :=
  if h : k0_cond3 (wI t) (wJ t) = 1#1 then addFull (wI t) ((branches t).1.2.1 h) (blkAt V c t) (reset t s)
  else addMasked (wI t) (wJ t) ((branches t).1.2.2.2 (on_diagonal t h)) (blkAt V c t) (reset t s)

/-- The accumulators after `n` points. -/
def st (c : Dev nD) : ℕ → Acc
  | 0 => ⟨k0_pay19 (F := Bits), k0_pay20 (F := Bits), k0_pay21 (F := Bits)⟩
  | n + 1 => if h : n < cfgA.N then stepAt V c ⟨n, h⟩ (st c n) else st c n

theorem st_succ (c : Dev nD) (t : Fin cfgA.N) : st V c (t.val + 1) = stepAt V c t (st V c t.val) := by
  rw [st, dif_pos t.isLt]

/-- The invariant before point `t`: the two scratch buffers hold the block's accumulators once a point has run, and the
    tables are held. -/
def Phi (c : Dev nD) (t : Fin (cfgA.N + 1)) : sProp 𝕄 :=
  iprop((∃ a, ⌜t.val ≠ 0 → a = (st V c t.val).dk⌝ ∗ owns (c : Thread nD τ) scK fullShare a)
    ∗ (∃ a, ⌜t.val ≠ 0 → a = (st V c t.val).dv⌝ ∗ owns (c : Thread nD τ) scV fullShare a)
    ∗ (tabI.view.loc (c : Thread nD τ) ↦{fullShare} tblI) ∗ (tabJ.view.loc (c : Thread nD τ) ↦{fullShare} tblJ))

/-- The pipeline's data on core `c`. -/
def dats (_ : Fin 1) (c : Dev nD) : Dat τ (Elt Bits) Unit ℕ (UR sig nD τ) ℕ cfgA c where
  A w := V c (Proc.devRef .tc (Pipeline.arrRef spec0 w))
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (st V c (t.val + 1)).dq
    | ⟨7, _⟩ => k0_pay4 (st V c (t.val + 1)).dk
    | ⟨8, _⟩ => k0_pay5 (st V c (t.val + 1)).dv
  Φ t := Phi V c t
  q _ := fullShare
  owed _ := 0

theorem after0 (c : Dev nD) (t : Fin cfgA.N) : (dats V 0 c).after (0 : Fin 9) t = iblk V c (0 : Fin 9) t := rfl
theorem after1 (c : Dev nD) (t : Fin cfgA.N) : (dats V 0 c).after (1 : Fin 9) t = iblk V c (1 : Fin 9) t := rfl
theorem after2 (c : Dev nD) (t : Fin cfgA.N) : (dats V 0 c).after (2 : Fin 9) t = iblk V c (2 : Fin 9) t := rfl
theorem after3 (c : Dev nD) (t : Fin cfgA.N) : (dats V 0 c).after (3 : Fin 9) t = iblk V c (3 : Fin 9) t := rfl
theorem after4 (c : Dev nD) (t : Fin cfgA.N) : (dats V 0 c).after (4 : Fin 9) t = iblk V c (4 : Fin 9) t := rfl
theorem after5 (c : Dev nD) (t : Fin cfgA.N) : (dats V 0 c).after (5 : Fin 9) t = iblk V c (5 : Fin 9) t := rfl
theorem after6 (c : Dev nD) (t : Fin cfgA.N) : (dats V 0 c).after (6 : Fin 9) t = (st V c (t.val + 1)).dq := rfl
theorem after7 (c : Dev nD) (t : Fin cfgA.N) : (dats V 0 c).after (7 : Fin 9) t = k0_pay4 (st V c (t.val + 1)).dk := rfl
theorem after8 (c : Dev nD) (t : Fin cfgA.N) : (dats V 0 c).after (8 : Fin 9) t = k0_pay5 (st V c (t.val + 1)).dv := rfl

theorem before0 (c : Dev nD) (t : Fin cfgA.N) (d) : (dats V 0 c).before (0 : Fin 9) t d = iblk V c (0 : Fin 9) t :=
  ((dats V 0 c).before_in_eq_fetched (0 : Fin 9) rfl (fun _ => rfl) (fun _ _ _ => rfl) (fun t => by rw [after0]; unfold Dat.blockOf iblk; rfl) t d).trans
    (by unfold Dat.fetched Dat.blockOf iblk; rfl)
theorem before1 (c : Dev nD) (t : Fin cfgA.N) (d) : (dats V 0 c).before (1 : Fin 9) t d = iblk V c (1 : Fin 9) t :=
  ((dats V 0 c).before_in_eq_fetched (1 : Fin 9) rfl (fun _ => rfl) (fun _ _ _ => rfl) (fun t => by rw [after1]; unfold Dat.blockOf iblk; rfl) t d).trans
    (by unfold Dat.fetched Dat.blockOf iblk; rfl)
theorem before2 (c : Dev nD) (t : Fin cfgA.N) (d) : (dats V 0 c).before (2 : Fin 9) t d = iblk V c (2 : Fin 9) t :=
  ((dats V 0 c).before_in_eq_fetched (2 : Fin 9) rfl (fun _ => rfl) (fun _ _ _ => rfl) (fun t => by rw [after2]; unfold Dat.blockOf iblk; rfl) t d).trans
    (by unfold Dat.fetched Dat.blockOf iblk; rfl)
theorem before3 (c : Dev nD) (t : Fin cfgA.N) (d) : (dats V 0 c).before (3 : Fin 9) t d = iblk V c (3 : Fin 9) t :=
  ((dats V 0 c).before_in_eq_fetched (3 : Fin 9) rfl (fun _ => rfl) (fun _ _ _ => rfl) (fun t => by rw [after3]; unfold Dat.blockOf iblk; rfl) t d).trans
    (by unfold Dat.fetched Dat.blockOf iblk; rfl)
theorem before4 (c : Dev nD) (t : Fin cfgA.N) (d) : (dats V 0 c).before (4 : Fin 9) t d = iblk V c (4 : Fin 9) t :=
  ((dats V 0 c).before_in_eq_fetched (4 : Fin 9) rfl (fun _ => rfl) (fun _ _ _ => rfl) (fun t => by rw [after4]; unfold Dat.blockOf iblk; rfl) t d).trans
    (by unfold Dat.fetched Dat.blockOf iblk; rfl)
theorem before5 (c : Dev nD) (t : Fin cfgA.N) (d) : (dats V 0 c).before (5 : Fin 9) t d = iblk V c (5 : Fin 9) t :=
  ((dats V 0 c).before_in_eq_fetched (5 : Fin 9) rfl (fun _ => rfl) (fun _ _ _ => rfl) (fun t => by rw [after5]; unfold Dat.blockOf iblk; rfl) t d).trans
    (by unfold Dat.fetched Dat.blockOf iblk; rfl)

/-- Away from a head's first point the window of the head's queries was not just written back. -/
theorem not_fresh (t : Fin cfgA.N) (h1 : ¬ k0_cond1 (crd t) = 1#1) : cfgA.fresh (6 : Fin 9) t.val = false := by
  have hm : ¬ t.val % 144 = 0 := fun h => h1 ((branches t).2.2.2.2.mpr h)
  obtain ⟨n, hn⟩ := t
  cases n with
  | zero => exact absurd rfl hm
  | succ n =>
    have hl : n < cfgA.N := Nat.lt_of_succ_lt hn
    obtain ⟨i6, -, -, -, f6⟩ := stores ⟨n, hl⟩
    rw [Pipeline.Cfg.fresh_succ cfgA (6 : Fin 9) n hl, Pipeline.Window.flush_eq_flushF, ← f6, i6, Bool.false_and, Bool.or_false]
    exact decide_eq_false hm

/-- There the window holds the head's accumulator. -/
theorem before6 (c : Dev nD) (t : Fin cfgA.N) (d) (h1 : ¬ k0_cond1 (crd t) = 1#1) :
    (dats V 0 c).before (6 : Fin 9) t d = (st V c t.val).dq := by
  rw [(dats V 0 c).before_out_traj (6 : Fin 9) rfl (fun _ _ => rfl)
    (fun t _ hi _ => absurd (hi.symm.trans (stores t).1) (by decide)) t.val t rfl d, not_fresh t h1, if_neg Bool.false_ne_true, after6]
  have h0 : t.val ≠ 0 := fun h => h1 ((branches t).2.2.2.2.mpr (by rw [h]))
  exact congrArg (fun n => (st V c n).dq) (Nat.succ_pred_eq_of_ne_zero h0)

/-- The result of a point does not depend on what it resets. -/
theorem reset_of (c : Dev nD) (t : Fin cfgA.N) (a0 a1 : S2048x128.Idx → Elt Bits .f32) (d)
    (h0 : t.val ≠ 0 → a0 = (st V c t.val).dk) (h1 : t.val ≠ 0 → a1 = (st V c t.val).dv) :
    reset t ⟨(dats V 0 c).before (6 : Fin 9) t d, a0, a1⟩ = reset t (st V c t.val) := by
  have hF : t.val = 0 → condF (wI t) (wJ t) = 1#1 := fun h => (branches t).2.1 ((branches t).2.2.2.2.mpr (by rw [h]))
  unfold reset
  congr 1
  · by_cases q : k0_cond1 (crd t) = 1#1
    · rw [if_pos q, if_pos q]
    · rw [if_neg q, if_neg q]; exact before6 V c t d q
  · by_cases q : condF (wI t) (wJ t) = 1#1
    · rw [if_pos q, if_pos q]
    · rw [if_neg q, if_neg q]; exact h0 fun h => q (hF h)
  · by_cases q : condF (wI t) (wJ t) = 1#1
    · rw [if_pos q, if_pos q]
    · rw [if_neg q, if_neg q]; exact h1 fun h => q (hF h)

end Cert.Kernel.Attn

end
-- ==== Proof.AttnBits.Body.lean ====
/- What the body leaves at every kind of point, as `addFull` or `addMasked` of what it found. -/
module

public import proofs.«01_k».proof.Proof.AttnBits.Step
public import Idealize.ShloMosaic.Lib.Pipeline.FrameBody
public import Idealize.ShloMosaic.Lib.Pipeline.TableIdle
public import Idealize.ShloMosaic.Lib.Exec
public import Idealize.ShloMosaic.Lib.Affine
public import Idealize.ShloMosaic.Lib.Tactic
public import Idealize.ShloMosaic.Lib.Tactic.Stretches

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

variable (c : Dev nD) (i : grid0.Coords)
    (arg4 : Memref sig .tc .vmem S1x512x128 .bf16) (harg4 : arg4.IsWhole)
    (arg5 : Memref sig .tc .vmem S1x2048x128 .bf16) (harg5 : arg5.IsWhole)
    (arg6 : Memref sig .tc .vmem S1x2048x128 .bf16) (harg6 : arg6.IsWhole)
    (arg7 : Memref sig .tc .vmem S1x512x128 .f32) (harg7 : arg7.IsWhole)
    (arg8 : Memref sig .tc .vmem S1x512x128 .f32) (harg8 : arg8.IsWhole)
    (arg9 : Memref sig .tc .vmem S1x512x128 .f32) (harg9 : arg9.IsWhole)
    (arg10 : Memref sig .tc .vmem S1x16384x128 .f32) (harg10 : arg10.IsWhole)
    (arg11 : Memref sig .tc .vmem S1x2048x128 .f32) (harg11 : arg11.IsWhole)
    (arg12 : Memref sig .tc .vmem S1x2048x128 .f32) (harg12 : arg12.IsWhole)
    (arg13 : Memref sig .tc .vmem S2048x128 .f32) (harg13 : arg13.IsWhole)
    (arg14 : Memref sig .tc .vmem S2048x128 .f32) (harg14 : arg14.IsWhole)
    (T0 T1 : S144.Idx → Elt Bits .i32) (b : Blk) (s : Acc) (yk yv : S1x2048x128.Idx → Elt Bits .f32)

set_option maxHeartbeats 8000000 in
/-- The first point of a head. -/
theorem runA
    (hw : k0_chk1 (wordI T0 i) (wordJ T1 i))
    (h1 : k0_cond1 i = 1#1) (h2 : condF (wordI T0 i) (wordJ T1 i) = 1#1)
    (h3 : ¬(k0_cond3 (wordI T0 i) (wordJ T1 i) = 1#1)) (h4 : k0_cond4 (wordI T0 i) (wordJ T1 i) = 1#1)
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b ⟨k0_pay19 (F := Bits), k0_pay20 (F := Bits), k0_pay21 (F := Bits)⟩).dq
          ∗ owns (c : Thread nD τ) arg11 fullShare yk
          ∗ owns (c : Thread nD τ) arg12 fullShare yv
          ∗ owns (c : Thread nD τ) arg13 fullShare (addMasked (wordI T0 i) (wordJ T1 i) (hw.2.2.2 h4) b ⟨k0_pay19 (F := Bits), k0_pay20 (F := Bits), k0_pay21 (F := Bits)⟩).dk
          ∗ owns (c : Thread nD τ) arg14 fullShare (addMasked (wordI T0 i) (wordJ T1 i) (hw.2.2.2 h4) b ⟨k0_pay19 (F := Bits), k0_pay20 (F := Bits), k0_pay21 (F := Bits)⟩).dv) -∗ K ⟨⟩))
    ⊢ wp frame (wpE (defs₀ (F := Bits)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Bits) (Rect.unit (s := S1x512x128) ![0, 0, 0] ![1, 512, 128] inb).toLoadRect (arg4.view.rep b.q) = b.q := fun inb => View.readAt_rep_full arg4.view b.q inb
  have r1 : ∀ inb, arg5.view.readAt (Elt Bits) (Rect.unit (s := S1x2048x128) ![0, 0, 0] ![1, 2048, 128] inb).toLoadRect (arg5.view.rep b.k) = b.k := fun inb => View.readAt_rep_full arg5.view b.k inb
  have r2 : ∀ inb, arg6.view.readAt (Elt Bits) (Rect.unit (s := S1x2048x128) ![0, 0, 0] ![1, 2048, 128] inb).toLoadRect (arg6.view.rep b.v) = b.v := fun inb => View.readAt_rep_full arg6.view b.v inb
  have r3 : ∀ inb, arg7.view.readAt (Elt Bits) (Rect.unit (s := S1x512x128) ![0, 0, 0] ![1, 512, 128] inb).toLoadRect (arg7.view.rep b.o) = b.o := fun inb => View.readAt_rep_full arg7.view b.o inb
  have r4 : ∀ inb, arg8.view.readAt (Elt Bits) (Rect.unit (s := S1x512x128) ![0, 0, 0] ![1, 512, 128] inb).toLoadRect (arg8.view.rep b.l) = b.l := fun inb => View.readAt_rep_full arg8.view b.l inb
  have r5 : ∀ inb, arg9.view.readAt (Elt Bits) (Rect.unit (s := S1x512x128) ![0, 0, 0] ![1, 512, 128] inb).toLoadRect (arg9.view.rep b.g) = b.g := fun inb => View.readAt_rep_full arg9.view b.g inb
  have u0 : ∀ inb, arg13.view.readAt (Elt Bits) (Rect.unit (s := S2048x128) ![0, 0] ![2048, 128] inb).toLoadRect (arg13.view.rep s.dk) = s.dk := fun inb => View.readAt_rep_full arg13.view s.dk inb
  have v0 : ∀ inb inb' w L, arg13.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Bits) (Rect.unit (s := S2048x128) ![0, 0] ![2048, 128] inb).toLoadRect (arg14.view.rep s.dv) = s.dv := fun inb => View.readAt_rep_full arg14.view s.dv inb
  have v1 : ∀ inb inb' w L, arg14.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb inb' w, arg10.view.readAt (Elt Bits) (Rect.unit (s := S1x16384x128) (k0_off3 (wordI T0 i)) ![1, 512, 128] inb').toLoadRect (arg10.view.writes (Elt Bits) arg10.view.junk [⟨Rect.unit (s := S1x16384x128) ![0, 0, 0] ![1, 16384, 128] inb, w⟩])
      = VecWindow.window w (k0_off3 (wordI T0 i)) ![1, 512, 128] inb' := fun inb inb' w =>
    (View.readAt_unit _ _ _ rfl inb').trans (congrArg (fun x => VecWindow.window x _ _ inb') (View.read_writes_full _ _ _ _ _))
  isplitl [HO6]
  · unfold owns; iexists _; isplitr; swap; · iexact HO6
    ipureintro
    sl_open_run
    refine (View.read_writes_cons_put _ _ _ _ _ rfl).trans ?_
    refine (congrArg (fun x => VecWindow.put x _ _ _) (View.read_writes_full _ _ _ _ _)).trans ?_
    dsimp only [addMasked]
    simp only [r0, r1, r2, r3, r5, u0, v0, u1, v1]
    rw [w0]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Bits) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- The first point of a block of keys. -/
theorem runE
    (hw : k0_chk1 (wordI T0 i) (wordJ T1 i))
    (h1 : ¬(k0_cond1 i = 1#1)) (h2 : condF (wordI T0 i) (wordJ T1 i) = 1#1)
    (h3 : ¬(k0_cond3 (wordI T0 i) (wordJ T1 i) = 1#1)) (h4 : k0_cond4 (wordI T0 i) (wordJ T1 i) = 1#1)
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b ⟨s.dq, k0_pay20 (F := Bits), k0_pay21 (F := Bits)⟩).dq
          ∗ owns (c : Thread nD τ) arg11 fullShare yk
          ∗ owns (c : Thread nD τ) arg12 fullShare yv
          ∗ owns (c : Thread nD τ) arg13 fullShare (addMasked (wordI T0 i) (wordJ T1 i) (hw.2.2.2 h4) b ⟨s.dq, k0_pay20 (F := Bits), k0_pay21 (F := Bits)⟩).dk
          ∗ owns (c : Thread nD τ) arg14 fullShare (addMasked (wordI T0 i) (wordJ T1 i) (hw.2.2.2 h4) b ⟨s.dq, k0_pay20 (F := Bits), k0_pay21 (F := Bits)⟩).dv) -∗ K ⟨⟩))
    ⊢ wp frame (wpE (defs₀ (F := Bits)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Bits) (Rect.unit (s := S1x512x128) ![0, 0, 0] ![1, 512, 128] inb).toLoadRect (arg4.view.rep b.q) = b.q := fun inb => View.readAt_rep_full arg4.view b.q inb
  have r1 : ∀ inb, arg5.view.readAt (Elt Bits) (Rect.unit (s := S1x2048x128) ![0, 0, 0] ![1, 2048, 128] inb).toLoadRect (arg5.view.rep b.k) = b.k := fun inb => View.readAt_rep_full arg5.view b.k inb
  have r2 : ∀ inb, arg6.view.readAt (Elt Bits) (Rect.unit (s := S1x2048x128) ![0, 0, 0] ![1, 2048, 128] inb).toLoadRect (arg6.view.rep b.v) = b.v := fun inb => View.readAt_rep_full arg6.view b.v inb
  have r3 : ∀ inb, arg7.view.readAt (Elt Bits) (Rect.unit (s := S1x512x128) ![0, 0, 0] ![1, 512, 128] inb).toLoadRect (arg7.view.rep b.o) = b.o := fun inb => View.readAt_rep_full arg7.view b.o inb
  have r4 : ∀ inb, arg8.view.readAt (Elt Bits) (Rect.unit (s := S1x512x128) ![0, 0, 0] ![1, 512, 128] inb).toLoadRect (arg8.view.rep b.l) = b.l := fun inb => View.readAt_rep_full arg8.view b.l inb
  have r5 : ∀ inb, arg9.view.readAt (Elt Bits) (Rect.unit (s := S1x512x128) ![0, 0, 0] ![1, 512, 128] inb).toLoadRect (arg9.view.rep b.g) = b.g := fun inb => View.readAt_rep_full arg9.view b.g inb
  have u0 : ∀ inb, arg13.view.readAt (Elt Bits) (Rect.unit (s := S2048x128) ![0, 0] ![2048, 128] inb).toLoadRect (arg13.view.rep s.dk) = s.dk := fun inb => View.readAt_rep_full arg13.view s.dk inb
  have v0 : ∀ inb inb' w L, arg13.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Bits) (Rect.unit (s := S2048x128) ![0, 0] ![2048, 128] inb).toLoadRect (arg14.view.rep s.dv) = s.dv := fun inb => View.readAt_rep_full arg14.view s.dv inb
  have v1 : ∀ inb inb' w L, arg14.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Bits) (Rect.unit (s := S1x16384x128) (k0_off3 (wordI T0 i)) ![1, 512, 128] inb).toLoadRect (arg10.view.rep s.dq)
      = VecWindow.window s.dq (k0_off3 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addMasked]
    simp only [r0, r1, r2, r3, r5, u0, v0, u1, v1]
    rw [w0]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Bits) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- A point below the diagonal. -/
theorem runF
    (hw : k0_chk1 (wordI T0 i) (wordJ T1 i))
    (h1 : ¬(k0_cond1 i = 1#1)) (h2 : ¬(condF (wordI T0 i) (wordJ T1 i) = 1#1))
    (h3 : k0_cond3 (wordI T0 i) (wordJ T1 i) = 1#1) (h4 : ¬(k0_cond4 (wordI T0 i) (wordJ T1 i) = 1#1))
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addFull (wordI T0 i) (hw.2.1 h3) b s).dq
          ∗ owns (c : Thread nD τ) arg11 fullShare yk
          ∗ owns (c : Thread nD τ) arg12 fullShare yv
          ∗ owns (c : Thread nD τ) arg13 fullShare (addFull (wordI T0 i) (hw.2.1 h3) b s).dk
          ∗ owns (c : Thread nD τ) arg14 fullShare (addFull (wordI T0 i) (hw.2.1 h3) b s).dv) -∗ K ⟨⟩))
    ⊢ wp frame (wpE (defs₀ (F := Bits)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Bits) (Rect.unit (s := S1x512x128) ![0, 0, 0] ![1, 512, 128] inb).toLoadRect (arg4.view.rep b.q) = b.q := fun inb => View.readAt_rep_full arg4.view b.q inb
  have r1 : ∀ inb, arg5.view.readAt (Elt Bits) (Rect.unit (s := S1x2048x128) ![0, 0, 0] ![1, 2048, 128] inb).toLoadRect (arg5.view.rep b.k) = b.k := fun inb => View.readAt_rep_full arg5.view b.k inb
  have r2 : ∀ inb, arg6.view.readAt (Elt Bits) (Rect.unit (s := S1x2048x128) ![0, 0, 0] ![1, 2048, 128] inb).toLoadRect (arg6.view.rep b.v) = b.v := fun inb => View.readAt_rep_full arg6.view b.v inb
  have r3 : ∀ inb, arg7.view.readAt (Elt Bits) (Rect.unit (s := S1x512x128) ![0, 0, 0] ![1, 512, 128] inb).toLoadRect (arg7.view.rep b.o) = b.o := fun inb => View.readAt_rep_full arg7.view b.o inb
  have r4 : ∀ inb, arg8.view.readAt (Elt Bits) (Rect.unit (s := S1x512x128) ![0, 0, 0] ![1, 512, 128] inb).toLoadRect (arg8.view.rep b.l) = b.l := fun inb => View.readAt_rep_full arg8.view b.l inb
  have r5 : ∀ inb, arg9.view.readAt (Elt Bits) (Rect.unit (s := S1x512x128) ![0, 0, 0] ![1, 512, 128] inb).toLoadRect (arg9.view.rep b.g) = b.g := fun inb => View.readAt_rep_full arg9.view b.g inb
  have u0 : ∀ inb, arg13.view.readAt (Elt Bits) (Rect.unit (s := S2048x128) ![0, 0] ![2048, 128] inb).toLoadRect (arg13.view.rep s.dk) = s.dk := fun inb => View.readAt_rep_full arg13.view s.dk inb
  have v0 : ∀ inb inb' w L, arg13.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Bits) (Rect.unit (s := S2048x128) ![0, 0] ![2048, 128] inb).toLoadRect (arg14.view.rep s.dv) = s.dv := fun inb => View.readAt_rep_full arg14.view s.dv inb
  have v1 : ∀ inb inb' w L, arg14.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Bits) (Rect.unit (s := S1x16384x128) (k0_off2 (wordI T0 i)) ![1, 512, 128] inb).toLoadRect (arg10.view.rep s.dq)
      = VecWindow.window s.dq (k0_off2 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addFull]
    simp only [r0, r1, r2, r3, r5, u0, v0, u1, v1]
    rw [w0]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addFull]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addFull]
  simp only [r0, r1, r2, r3, r5, u0, v0, u1, v1]
  sl_open_pay
  generalize hx : View.readAt (Elt Bits) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- The last point of a block of keys, below the diagonal. -/
theorem runG
    (hw : k0_chk1 (wordI T0 i) (wordJ T1 i))
    (h1 : ¬(k0_cond1 i = 1#1)) (h2 : ¬(condF (wordI T0 i) (wordJ T1 i) = 1#1))
    (h3 : k0_cond3 (wordI T0 i) (wordJ T1 i) = 1#1) (h4 : ¬(k0_cond4 (wordI T0 i) (wordJ T1 i) = 1#1))
    (h5 : k0_cond5 (wordI T0 i) = 1#1) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ (arg11.view.loc (c : Thread nD τ) ↦[arg11.view.set]{fullShare} arg11.view.rep yk)
      ∗ (arg12.view.loc (c : Thread nD τ) ↦[arg12.view.set]{fullShare} arg12.view.rep yv)
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addFull (wordI T0 i) (hw.2.1 h3) b s).dq
          ∗ owns (c : Thread nD τ) arg11 fullShare (k0_pay4 (addFull (wordI T0 i) (hw.2.1 h3) b s).dk)
          ∗ owns (c : Thread nD τ) arg12 fullShare (k0_pay5 (addFull (wordI T0 i) (hw.2.1 h3) b s).dv)
          ∗ owns (c : Thread nD τ) arg13 fullShare (addFull (wordI T0 i) (hw.2.1 h3) b s).dk
          ∗ owns (c : Thread nD τ) arg14 fullShare (addFull (wordI T0 i) (hw.2.1 h3) b s).dv) -∗ K ⟨⟩))
    ⊢ wp frame (wpE (defs₀ (F := Bits)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Bits) (Rect.unit (s := S1x512x128) ![0, 0, 0] ![1, 512, 128] inb).toLoadRect (arg4.view.rep b.q) = b.q := fun inb => View.readAt_rep_full arg4.view b.q inb
  have r1 : ∀ inb, arg5.view.readAt (Elt Bits) (Rect.unit (s := S1x2048x128) ![0, 0, 0] ![1, 2048, 128] inb).toLoadRect (arg5.view.rep b.k) = b.k := fun inb => View.readAt_rep_full arg5.view b.k inb
  have r2 : ∀ inb, arg6.view.readAt (Elt Bits) (Rect.unit (s := S1x2048x128) ![0, 0, 0] ![1, 2048, 128] inb).toLoadRect (arg6.view.rep b.v) = b.v := fun inb => View.readAt_rep_full arg6.view b.v inb
  have r3 : ∀ inb, arg7.view.readAt (Elt Bits) (Rect.unit (s := S1x512x128) ![0, 0, 0] ![1, 512, 128] inb).toLoadRect (arg7.view.rep b.o) = b.o := fun inb => View.readAt_rep_full arg7.view b.o inb
  have r4 : ∀ inb, arg8.view.readAt (Elt Bits) (Rect.unit (s := S1x512x128) ![0, 0, 0] ![1, 512, 128] inb).toLoadRect (arg8.view.rep b.l) = b.l := fun inb => View.readAt_rep_full arg8.view b.l inb
  have r5 : ∀ inb, arg9.view.readAt (Elt Bits) (Rect.unit (s := S1x512x128) ![0, 0, 0] ![1, 512, 128] inb).toLoadRect (arg9.view.rep b.g) = b.g := fun inb => View.readAt_rep_full arg9.view b.g inb
  have u0 : ∀ inb, arg13.view.readAt (Elt Bits) (Rect.unit (s := S2048x128) ![0, 0] ![2048, 128] inb).toLoadRect (arg13.view.rep s.dk) = s.dk := fun inb => View.readAt_rep_full arg13.view s.dk inb
  have v0 : ∀ inb inb' w L, arg13.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Bits) (Rect.unit (s := S2048x128) ![0, 0] ![2048, 128] inb).toLoadRect (arg14.view.rep s.dv) = s.dv := fun inb => View.readAt_rep_full arg14.view s.dv inb
  have v1 : ∀ inb inb' w L, arg14.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Bits) (Rect.unit (s := S1x16384x128) (k0_off2 (wordI T0 i)) ![1, 512, 128] inb).toLoadRect (arg10.view.rep s.dq)
      = VecWindow.window s.dq (k0_off2 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addFull]
    simp only [r0, r1, r2, r3, r5, u0, v0, u1, v1]
    rw [w0]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]
  · unfold owns; iexists _; isplitr; swap; · iexact HO7
    ipureintro
    sl_open_run
    refine (View.read_writes_full _ _ _ _ _).trans ?_
    dsimp only [addFull]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO8]
  · unfold owns; iexists _; isplitr; swap; · iexact HO8
    ipureintro
    sl_open_run
    refine (View.read_writes_full _ _ _ _ _).trans ?_
    dsimp only [addFull]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HS0]
  · unfold owns; iexists _; isplitr; swap; · iexact HS0
    ipureintro
    sl_open_run
    refine (View.read_writes_full _ _ _ _ _).trans ?_
    dsimp only [addFull]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addFull]
  simp only [r0, r1, r2, r3, r5, u0, v0, u1, v1]
  sl_open_pay
  generalize hx : View.readAt (Elt Bits) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- A later point on the diagonal. -/
theorem runM
    (hw : k0_chk1 (wordI T0 i) (wordJ T1 i))
    (h1 : ¬(k0_cond1 i = 1#1)) (h2 : ¬(condF (wordI T0 i) (wordJ T1 i) = 1#1))
    (h3 : ¬(k0_cond3 (wordI T0 i) (wordJ T1 i) = 1#1)) (h4 : k0_cond4 (wordI T0 i) (wordJ T1 i) = 1#1)
    (h5 : ¬(k0_cond5 (wordI T0 i) = 1#1)) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ owns (c : Thread nD τ) arg11 fullShare yk
      ∗ owns (c : Thread nD τ) arg12 fullShare yv
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b s).dq
          ∗ owns (c : Thread nD τ) arg11 fullShare yk
          ∗ owns (c : Thread nD τ) arg12 fullShare yv
          ∗ owns (c : Thread nD τ) arg13 fullShare (addMasked (wordI T0 i) (wordJ T1 i) (hw.2.2.2 h4) b s).dk
          ∗ owns (c : Thread nD τ) arg14 fullShare (addMasked (wordI T0 i) (wordJ T1 i) (hw.2.2.2 h4) b s).dv) -∗ K ⟨⟩))
    ⊢ wp frame (wpE (defs₀ (F := Bits)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Bits) (Rect.unit (s := S1x512x128) ![0, 0, 0] ![1, 512, 128] inb).toLoadRect (arg4.view.rep b.q) = b.q := fun inb => View.readAt_rep_full arg4.view b.q inb
  have r1 : ∀ inb, arg5.view.readAt (Elt Bits) (Rect.unit (s := S1x2048x128) ![0, 0, 0] ![1, 2048, 128] inb).toLoadRect (arg5.view.rep b.k) = b.k := fun inb => View.readAt_rep_full arg5.view b.k inb
  have r2 : ∀ inb, arg6.view.readAt (Elt Bits) (Rect.unit (s := S1x2048x128) ![0, 0, 0] ![1, 2048, 128] inb).toLoadRect (arg6.view.rep b.v) = b.v := fun inb => View.readAt_rep_full arg6.view b.v inb
  have r3 : ∀ inb, arg7.view.readAt (Elt Bits) (Rect.unit (s := S1x512x128) ![0, 0, 0] ![1, 512, 128] inb).toLoadRect (arg7.view.rep b.o) = b.o := fun inb => View.readAt_rep_full arg7.view b.o inb
  have r4 : ∀ inb, arg8.view.readAt (Elt Bits) (Rect.unit (s := S1x512x128) ![0, 0, 0] ![1, 512, 128] inb).toLoadRect (arg8.view.rep b.l) = b.l := fun inb => View.readAt_rep_full arg8.view b.l inb
  have r5 : ∀ inb, arg9.view.readAt (Elt Bits) (Rect.unit (s := S1x512x128) ![0, 0, 0] ![1, 512, 128] inb).toLoadRect (arg9.view.rep b.g) = b.g := fun inb => View.readAt_rep_full arg9.view b.g inb
  have u0 : ∀ inb, arg13.view.readAt (Elt Bits) (Rect.unit (s := S2048x128) ![0, 0] ![2048, 128] inb).toLoadRect (arg13.view.rep s.dk) = s.dk := fun inb => View.readAt_rep_full arg13.view s.dk inb
  have v0 : ∀ inb inb' w L, arg13.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Bits) (Rect.unit (s := S2048x128) ![0, 0] ![2048, 128] inb).toLoadRect (arg14.view.rep s.dv) = s.dv := fun inb => View.readAt_rep_full arg14.view s.dv inb
  have v1 : ∀ inb inb' w L, arg14.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Bits) (Rect.unit (s := S1x16384x128) (k0_off3 (wordI T0 i)) ![1, 512, 128] inb).toLoadRect (arg10.view.rep s.dq)
      = VecWindow.window s.dq (k0_off3 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addMasked]
    simp only [r0, r1, r2, r3, r5, u0, v0, u1, v1]
    rw [w0]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]; · iexact HO7
  isplitl [HO8]; · iexact HO8
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Bits) arg8.view (Rect.unit (s := S1x512x128) ![0, 0, 0] ![1, 512, 128] inb_S1x512x128_S1x512x128_0_0_0).toLoadRect (arg8.view.rep b.l) = x
  obtain rfl := (r4 _).symm.trans hx
  rfl

set_option maxHeartbeats 8000000 in
/-- The last point of the last block of keys: on the diagonal. -/
theorem runN
    (hw : k0_chk1 (wordI T0 i) (wordJ T1 i))
    (h1 : ¬(k0_cond1 i = 1#1)) (h2 : ¬(condF (wordI T0 i) (wordJ T1 i) = 1#1))
    (h3 : ¬(k0_cond3 (wordI T0 i) (wordJ T1 i) = 1#1)) (h4 : k0_cond4 (wordI T0 i) (wordJ T1 i) = 1#1)
    (h5 : k0_cond5 (wordI T0 i) = 1#1) (K : PUnit → sProp 𝕄) :
    iprop((arg4.view.loc (c : Thread nD τ) ↦[arg4.view.set]{fullShare} arg4.view.rep b.q)
      ∗ (arg5.view.loc (c : Thread nD τ) ↦[arg5.view.set]{fullShare} arg5.view.rep b.k)
      ∗ (arg6.view.loc (c : Thread nD τ) ↦[arg6.view.set]{fullShare} arg6.view.rep b.v)
      ∗ (arg7.view.loc (c : Thread nD τ) ↦[arg7.view.set]{fullShare} arg7.view.rep b.o)
      ∗ (arg8.view.loc (c : Thread nD τ) ↦[arg8.view.set]{fullShare} arg8.view.rep b.l)
      ∗ (arg9.view.loc (c : Thread nD τ) ↦[arg9.view.set]{fullShare} arg9.view.rep b.g)
      ∗ (tabI.view.loc (c : Thread nD τ) ↦{fullShare} T0)
      ∗ (tabJ.view.loc (c : Thread nD τ) ↦{fullShare} T1)
      ∗ (arg10.view.loc (c : Thread nD τ) ↦[arg10.view.set]{fullShare} arg10.view.rep s.dq)
      ∗ (arg11.view.loc (c : Thread nD τ) ↦[arg11.view.set]{fullShare} arg11.view.rep yk)
      ∗ (arg12.view.loc (c : Thread nD τ) ↦[arg12.view.set]{fullShare} arg12.view.rep yv)
      ∗ (arg13.view.loc (c : Thread nD τ) ↦[arg13.view.set]{fullShare} arg13.view.rep s.dk)
      ∗ (arg14.view.loc (c : Thread nD τ) ↦[arg14.view.set]{fullShare} arg14.view.rep s.dv)
      ∗ (iprop(owns (c : Thread nD τ) arg4 fullShare b.q
          ∗ owns (c : Thread nD τ) arg5 fullShare b.k
          ∗ owns (c : Thread nD τ) arg6 fullShare b.v
          ∗ owns (c : Thread nD τ) arg7 fullShare b.o
          ∗ owns (c : Thread nD τ) arg8 fullShare b.l
          ∗ owns (c : Thread nD τ) arg9 fullShare b.g
          ∗ (tabI.view.loc (c : Thread nD τ) ↦{fullShare} T0)
          ∗ (tabJ.view.loc (c : Thread nD τ) ↦{fullShare} T1)
          ∗ owns (c : Thread nD τ) arg10 fullShare (addMasked (wordI T0 i) (wordJ T1 i) (hw.2.2.2 h4) b s).dq
          ∗ owns (c : Thread nD τ) arg11 fullShare (k0_pay4 (addMasked (wordI T0 i) (wordJ T1 i) (hw.2.2.2 h4) b s).dk)
          ∗ owns (c : Thread nD τ) arg12 fullShare (k0_pay5 (addMasked (wordI T0 i) (wordJ T1 i) (hw.2.2.2 h4) b s).dv)
          ∗ owns (c : Thread nD τ) arg13 fullShare (addMasked (wordI T0 i) (wordJ T1 i) (hw.2.2.2 h4) b s).dk
          ∗ owns (c : Thread nD τ) arg14 fullShare (addMasked (wordI T0 i) (wordJ T1 i) (hw.2.2.2 h4) b s).dv) -∗ K ⟨⟩))
    ⊢ wp frame (wpE (defs₀ (F := Bits)) Variants.none c none) Set.univ
        (cc0_attn_b i tabI (Memref.isWhole_whole _) tabJ (Memref.isWhole_whole _) arg4 harg4 arg5 harg5 arg6 harg6 arg7 harg7 arg8 harg8 arg9 harg9
          arg10 harg10 arg11 harg11 arg12 harg12 arg13 harg13 arg14 harg14) K := by
  rw [cc0_attn_b_eq_skeleton]; unfold cc0_attn_b_skel
  iintro ⟨H0, H1, H2, H3, H4, H5, HT0, HT1, HO6, HO7, HO8, HS0, HS1, Hk⟩
  have hT0 : tabI.IsWhole := Memref.isWhole_whole _
  have hT1 : tabJ.IsWhole := Memref.isWhole_whole _
  sl_exec! (disch := first | exact hw | exact h1 | exact h2 | exact h3 | exact h4 | exact h5)
  sl_step
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [HT0]; · iexact HT0
  isplitl [HT1]; · iexact HT1
  have r0 : ∀ inb, arg4.view.readAt (Elt Bits) (Rect.unit (s := S1x512x128) ![0, 0, 0] ![1, 512, 128] inb).toLoadRect (arg4.view.rep b.q) = b.q := fun inb => View.readAt_rep_full arg4.view b.q inb
  have r1 : ∀ inb, arg5.view.readAt (Elt Bits) (Rect.unit (s := S1x2048x128) ![0, 0, 0] ![1, 2048, 128] inb).toLoadRect (arg5.view.rep b.k) = b.k := fun inb => View.readAt_rep_full arg5.view b.k inb
  have r2 : ∀ inb, arg6.view.readAt (Elt Bits) (Rect.unit (s := S1x2048x128) ![0, 0, 0] ![1, 2048, 128] inb).toLoadRect (arg6.view.rep b.v) = b.v := fun inb => View.readAt_rep_full arg6.view b.v inb
  have r3 : ∀ inb, arg7.view.readAt (Elt Bits) (Rect.unit (s := S1x512x128) ![0, 0, 0] ![1, 512, 128] inb).toLoadRect (arg7.view.rep b.o) = b.o := fun inb => View.readAt_rep_full arg7.view b.o inb
  have r4 : ∀ inb, arg8.view.readAt (Elt Bits) (Rect.unit (s := S1x512x128) ![0, 0, 0] ![1, 512, 128] inb).toLoadRect (arg8.view.rep b.l) = b.l := fun inb => View.readAt_rep_full arg8.view b.l inb
  have r5 : ∀ inb, arg9.view.readAt (Elt Bits) (Rect.unit (s := S1x512x128) ![0, 0, 0] ![1, 512, 128] inb).toLoadRect (arg9.view.rep b.g) = b.g := fun inb => View.readAt_rep_full arg9.view b.g inb
  have u0 : ∀ inb, arg13.view.readAt (Elt Bits) (Rect.unit (s := S2048x128) ![0, 0] ![2048, 128] inb).toLoadRect (arg13.view.rep s.dk) = s.dk := fun inb => View.readAt_rep_full arg13.view s.dk inb
  have v0 : ∀ inb inb' w L, arg13.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg13.view inb' inb w L
  have u1 : ∀ inb, arg14.view.readAt (Elt Bits) (Rect.unit (s := S2048x128) ![0, 0] ![2048, 128] inb).toLoadRect (arg14.view.rep s.dv) = s.dv := fun inb => View.readAt_rep_full arg14.view s.dv inb
  have v1 : ∀ inb inb' w L, arg14.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg14.view inb' inb w L
  have w0 : ∀ inb, arg10.view.readAt (Elt Bits) (Rect.unit (s := S1x16384x128) (k0_off3 (wordI T0 i)) ![1, 512, 128] inb).toLoadRect (arg10.view.rep s.dq)
      = VecWindow.window s.dq (k0_off3 (wordI T0 i)) ![1, 512, 128] inb := fun inb => View.readAt_rep_unit _ _ _ rfl inb
  isplitl [HO6]
  · unfold owns; iexists _; isplitr; swap; · iexact HO6
    ipureintro
    sl_open_run
    refine (View.read_writes_rep_unit _ _ _ _ rfl).trans ?_
    dsimp only [addMasked]
    simp only [r0, r1, r2, r3, r5, u0, v0, u1, v1]
    rw [w0]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO7]
  · unfold owns; iexists _; isplitr; swap; · iexact HO7
    ipureintro
    sl_open_run
    refine (View.read_writes_full _ _ _ _ _).trans ?_
    dsimp only [addMasked]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HO8]
  · unfold owns; iexists _; isplitr; swap; · iexact HO8
    ipureintro
    sl_open_run
    refine (View.read_writes_full _ _ _ _ _).trans ?_
    dsimp only [addMasked]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  isplitl [HS0]
  · unfold owns; iexists _; isplitr; swap; · iexact HS0
    ipureintro
    sl_open_run
    refine (View.read_writes_full _ _ _ _ _).trans ?_
    dsimp only [addMasked]
    simp only [r0, r1, r2, r3, r5, u0, v0, u1, v1]
    sl_open_pay
    generalize hx : View.readAt (Elt Bits) arg8.view (Rect.unit (s := S1x512x128) ![0, 0, 0] ![1, 512, 128] inb_S1x512x128_S1x512x128_0_0_0).toLoadRect (arg8.view.rep b.l) = x
    obtain rfl := (r4 _).symm.trans hx
    rfl
  unfold owns; iexists _; isplitr; swap; · iexact HS1
  ipureintro
  sl_open_run
  refine (View.read_writes_full _ _ _ _ _).trans ?_
  dsimp only [addMasked]
  simp only [r0, r1, r2, r3, r5, u0, v0, u1, v1]
  sl_open_pay
  generalize hx : View.readAt (Elt Bits) arg8.view (Rect.unit (s := S1x512x128) ![0, 0, 0] ![1, 512, 128] inb_S1x512x128_S1x512x128_0_0_0).toLoadRect (arg8.view.rep b.l) = x
  obtain rfl := (r4 _).symm.trans hx
  rfl

end Cert.Kernel.Attn

end
-- ==== Proof.AttnBits.Run.lean ====
/-
  The attention backward program from its launch: the host operations, then the kernel. Every execution terminates, the
  arrays end at what the points compute, the arguments end unchanged and the counters end at zero.
-/
module

public import proofs.«01_k».proof.Proof.AttnBits.Obligation
public import Idealize.ShloMosaic.Lib.Pipeline.RegionArraysTS
public import Idealize.ShloMosaic.Lib.Pipeline.Regions
public import Idealize.ShloMosaic.Lib.StableHlo.Run

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁
abbrev 𝒱₀ : Variants := Variants.none

/-- The pipeline's copies are recorded on the TensorCore's cells, all at one level. -/
def L (g : GSem nD τ sig) : Finset Unit := if g.1.2 = Proc.tc then {()} else ∅
def lv (_ : GSem nD τ sig) (_ : Unit) : ℕ := 0

variable (m : (ℓ : Loc nD τ sig) → Buf (Elt Bits) ℓ) (ρ : Dev nD → PrngReg)

/-- The buffers at launch, and after each stretch of host operations. -/
def V₀ (c : Dev nD) : Valuation τ sig (Elt Bits) := fun b => m (c, b)
def V₁ (c : Dev nD) : Valuation τ sig (Elt Bits) := StableHlo.after hostOps0 (V₀ m c)
def V₂ (c : Dev nD) : Valuation τ sig (Elt Bits) := StableHlo.after hostOps0_1 (V₁ m c)
def V₃ (c : Dev nD) : Valuation τ sig (Elt Bits) := StableHlo.after hostOps0_2 (V₂ m c)

/-- What no host operation writes is at the kernel's entry what it was at launch. -/
theorem kept {r : Ref sig .tc} (c : Dev nD)
    (h0 : ∀ op ∈ (hostOps0 : List (HloOp τ sig (Elt Bits))), (Proc.devRef .tc r : DevRef τ sig) ∉ op.writes)
    (h1 : ∀ op ∈ (hostOps0_1 : List (HloOp τ sig (Elt Bits))), (Proc.devRef .tc r : DevRef τ sig) ∉ op.writes)
    (h2 : ∀ op ∈ (hostOps0_2 : List (HloOp τ sig (Elt Bits))), (Proc.devRef .tc r : DevRef τ sig) ∉ op.writes) :
    V₃ m c (Proc.devRef .tc r) = V₀ m c (Proc.devRef .tc r) :=
  ((StableHlo.after_of_forall_not_mem (b := Proc.devRef .tc r) _ _ h2).trans
    (StableHlo.after_of_forall_not_mem (b := Proc.devRef .tc r) _ _ h1)).trans
    (StableHlo.after_of_forall_not_mem (b := Proc.devRef .tc r) _ _ h0)

theorem V₁_c (c : Dev nD) : V₁ m c (Proc.devRef .tc main_c) = tblI := by
  unfold V₁; after_results; rfl
theorem V₁_c0 (c : Dev nD) : V₁ m c (Proc.devRef .tc main_c_0) = tblJ := by
  unfold V₁; after_results; rfl
theorem V₃_c (c : Dev nD) : V₃ m c (Proc.devRef .tc main_c) = tblI := by
  rw [← V₁_c m c]; unfold V₃ V₂; after_results
theorem V₃_c0 (c : Dev nD) : V₃ m c (Proc.devRef .tc main_c_0) = tblJ := by
  rw [← V₁_c0 m c]; unfold V₃ V₂; after_results
theorem V₃_arg0 (c : Dev nD) : V₃ m c (Proc.devRef .tc main_arg0) = V₀ m c (Proc.devRef .tc main_arg0) := by
  unfold V₃ V₂ V₁; after_results
theorem V₃_arg1 (c : Dev nD) : V₃ m c (Proc.devRef .tc main_arg1) = V₀ m c (Proc.devRef .tc main_arg1) := by
  unfold V₃ V₂ V₁; after_results
theorem V₃_arg2 (c : Dev nD) : V₃ m c (Proc.devRef .tc main_arg2) = V₀ m c (Proc.devRef .tc main_arg2) := by
  unfold V₃ V₂ V₁; after_results
theorem V₃_arg3 (c : Dev nD) : V₃ m c (Proc.devRef .tc main_arg3) = V₀ m c (Proc.devRef .tc main_arg3) := by
  unfold V₃ V₂ V₁; after_results

/-- The tables the kernel is entered at are the ones the host operations left. -/
theorem tables_at (c : Dev nD) (k : Fin 2) : tbl k = V₃ m c (Proc.devRef .tc (pre0.ref k)) := by
  fin_cases k
  · exact (V₃_c m c).symm
  · exact (V₃_c0 m c).symm

/-- The tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem share_eq (c : Dev nD) (w : Fin cfgA.W) : (dats (V₃ m) 0 c).share w = fullShare := by unfold Dat.share; split <;> rfl

/-- The invariant in the buffers' own names. -/
theorem Phi_eq (V : Dev nD → Valuation τ sig (Elt Bits)) (c : Dev nD) (t : Fin (cfgA.N + 1)) :
    Phi V c t = iprop((∃ a, ⌜t.val ≠ 0 → a = (st V c t.val).dk⌝ ∗ (((c : Thread nD τ).loc cc0_scratch0) ↦{fullShare} a))
      ∗ (∃ a, ⌜t.val ≠ 0 → a = (st V c t.val).dv⌝ ∗ (((c : Thread nD τ).loc cc0_scratch1) ↦{fullShare} a))
      ∗ (((c : Thread nD τ).loc main_c) ↦{fullShare} tblI) ∗ (((c : Thread nD τ).loc main_c_0) ↦{fullShare} tblJ)) := by
  unfold Phi scK scV
  congr 1
  · congr 1; funext a; rw [owns_whole]
  · congr 1
    congr 1; funext a; rw [owns_whole]

theorem tables_eq (c : Dev nD) : (Pipeline.tablesAt pcfgs (fun _ => adm) 0 c : sProp 𝕄)
    = iprop((((c : Thread nD τ).loc main_c) ↦{fullShare} tblI) ∗ (((c : Thread nD τ).loc main_c_0) ↦{fullShare} tblJ)) :=
  prefHeld_eq c (fun _ => fullShare) tbl

/-- The invariant at the first point, from the scratch buffers and the tables. -/
theorem phi_first (c : Dev nD) :
    iprop(iprop(Pipeline.scopedRest spec0 c ∗ BI.emp) ∗ Pipeline.tablesAt pcfgs (fun _ => adm) 0 c) ⊢ (dats (V₃ m) 0 c).Φ 0 := by
  rw [tables_eq, scopedRest0_eq, show (dats (V₃ m) 0 c).Φ 0 = Phi (V₃ m) c 0 from rfl, Phi_eq]
  iintro ⟨⟨⟨⟨%a0, HS0⟩, ⟨%a1, HS1⟩⟩, -⟩, HT0, HT1⟩
  isplitl [HS0]
  · iexists a0; isplitr; swap
    · iexact HS0
    · ipureintro; intro h; exact absurd (Fin.val_zero _) h
  isplitl [HS1]
  · iexists a1; isplitr; swap
    · iexact HS1
    · ipureintro; intro h; exact absurd (Fin.val_zero _) h
  isplitl [HT0]
  · iexact HT0
  iexact HT1

/-- At the last point it gives both back. -/
theorem phi_last (c : Dev nD) :
    (dats (V₃ m) 0 c).Φ (Fin.last cfgA.N) ⊢ iprop(iprop(Pipeline.scopedRest spec0 c ∗ BI.emp) ∗ Pipeline.tablesAt pcfgs (fun _ => adm) 0 c) := by
  rw [tables_eq, scopedRest0_eq, show (dats (V₃ m) 0 c).Φ (Fin.last cfgA.N) = Phi (V₃ m) c (Fin.last _) from rfl, Phi_eq]
  iintro ⟨⟨%a0, -, HS0⟩, ⟨%a1, -, HS1⟩, HT0, HT1⟩
  isplitr [HT0 HT1]
  · isplitl [HS0 HS1]
    · isplitl [HS0]
      · iexists a0; iexact HS0
      iexists a1; iexact HS1
    · iempintro
  isplitl [HT0]
  · iexact HT0
  iexact HT1

theorem levels : Pipeline.LevelCut pcfgs (fun _ => adm) () L lv (0 : Fin 1) (0 : Dev nD → CellTallies nD τ sig Unit) (fun _ => 0) where
  hι c w s := Finset.mem_singleton.mpr rfl
  hιb c w s := le_rfl
  hD c g i h := absurd h (lt_irrefl _)

/-- What a core owes between two items: nothing. -/
def R (c : Dev nD) : sProp 𝕄 := iprop(∃ W, owes (c : Thread nD τ) (0 : CellTallies nD τ sig Unit) W)

theorem all_fresh0 : ∀ op ∈ (hostOps0 : List (HloOp τ sig (Elt Bits))), op.fresh = ∅ := by
  intro _ h; (repeat (cases h with | head => rfl | tail _ h => ?_)); exact nomatch h
theorem all_fresh1 : ∀ op ∈ (hostOps0_1 : List (HloOp τ sig (Elt Bits))), op.fresh = ∅ := by
  intro _ h; (repeat (cases h with | head => rfl | tail _ h => ?_)); exact nomatch h
theorem all_fresh2 : ∀ op ∈ (hostOps0_2 : List (HloOp τ sig (Elt Bits))), op.fresh = ∅ := by
  intro _ h; (repeat (cases h with | head => rfl | tail _ h => ?_)); exact nomatch h

abbrev ucs : Finset (DevRef τ sig) := Pipeline.ucRefs τ sig

def seg0 : Pipeline.HostSeg (Name := ℕ) (U := UR sig nD τ) (pcfgs (F := Bits)) defs₀ 𝒱₀ L lv :=
  Pipeline.HostSeg.ofOps _ _ _ _ _ ucs hostOps0 (fun op h => Pipeline.sub_ucRefs op ((List.forall_iff_forall_mem.mp hostOps0_sub) op h)) all_fresh0 (V₀ m) R
def seg1 : Pipeline.HostSeg (Name := ℕ) (U := UR sig nD τ) (pcfgs (F := Bits)) defs₀ 𝒱₀ L lv :=
  Pipeline.HostSeg.ofOps _ _ _ _ _ ucs hostOps0_1 (fun op h => Pipeline.sub_ucRefs op ((List.forall_iff_forall_mem.mp hostOps0_1_sub) op h)) all_fresh1 (V₁ m) R
def seg2 : Pipeline.HostSeg (Name := ℕ) (U := UR sig nD τ) (pcfgs (F := Bits)) defs₀ 𝒱₀ L lv :=
  Pipeline.HostSeg.ofOps _ _ _ _ _ ucs hostOps0_2 (fun op h => Pipeline.sub_ucRefs op ((List.forall_iff_forall_mem.mp hostOps0_2_sub) op h)) all_fresh2 (V₂ m) R

def reg : Pipeline.RegionSeg (pcfgs (F := Bits)) (fun _ => adm) (dats (V₃ m)) () defs₀ 𝒱₀ L lv (0 : Fin 1) :=
  Pipeline.RegionSeg.ofHeldInT (pcfgs (F := Bits)) (fun _ => adm) (dats (V₃ m)) () defs₀ 𝒱₀ L lv (0 : Fin 1) 0 ucs
    (fun _ => iprop(emp)) (fun _ => iprop(emp)) launch0 (fun c => (body_obligation (V₃ m) c).loose) (fun _ _ => rfl) (fun _ => rfl)
    (share_eq m) (phi_first m) (phi_last m) (fun _ => 0) levels (fun _ => iprop(emp)) (V₃ m) (fun _ _ => rfl) (tables_at m)

abbrev segs : List (Pipeline.Seg (pcfgs (F := Bits)) (fun _ => adm) (dats (V₃ m)) () defs₀ 𝒱₀ L lv) :=
  [.host (seg0 m), .host (seg1 m), .host (seg2 m), .region (reg m)]

theorem sub_arr : Pipeline.arrRefs (τ := τ) (pcfgs (F := Bits) 0).spec ⊆ ucs := Pipeline.arrRefs_sub_ucRefs spec0 (by decide)
theorem sub_tbl : Pipeline.tblRefs (τ := τ) (pcfgs (F := Bits) 0).pre ⊆ ucs := Pipeline.tblRefs_sub_ucRefs pre0 (by decide)

/-- The buffers at the end. -/
def V₄ (c : Dev nD) : Valuation τ sig (Elt Bits) := Pipeline.afterRegion (dats (V₃ m) 0 c) (V₃ m c)

theorem enter (c : Dev nD) : iprop(StableHlo.held (c.tc : Thread nD τ) ucs (V₃ m c) ∗ R c) ⊢ (reg m).pre c :=
  Entails.trans (by unfold R; iintro ⟨Hh, HO⟩; isplitl [Hh]; (· iexact Hh); isplitl [HO]; (· iexact HO); isplitr <;> iempintro)
    (Pipeline.RegionSeg.ofHeldInT_pre (pcs := pcfgs (F := Bits)) (a := fun _ => adm) (pdats := dats (V₃ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₃ m) c).loose) (howed := fun _ _ => rfl) (hrec := fun _ => rfl)
      (hshare := share_eq m) (hin := phi_first m) (hout := phi_last m) (b := fun _ => 0) (hcut := levels) (R := fun _ => iprop(emp)) (W := V₃ m) (hW := fun _ _ => rfl) (hT := tables_at m) c)

theorem leave (c : Dev nD) : (reg m).post c ⊢ iprop(StableHlo.held (c.tc : Thread nD τ) ucs (V₄ m c) ∗ R c) :=
  (Pipeline.RegionSeg.ofHeldInT_post (pcs := pcfgs (F := Bits)) (a := fun _ => adm) (pdats := dats (V₃ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₃ m) c).loose) (howed := fun _ _ => rfl) (hrec := fun _ => rfl)
      (hshare := share_eq m) (hin := phi_first m) (hout := phi_last m) (b := fun _ => 0) (hcut := levels) (R := fun _ => iprop(emp)) (W := V₃ m) (hW := fun _ _ => rfl) (hT := tables_at m) c).trans
    (by unfold R V₄; iintro ⟨Hh, HO, -, -⟩; isplitl [Hh]; (· iexact Hh); iexact HO)

def u₀ : UR sig nD τ :=
  initOf (Pipeline.cells pcs (cellOf_inj fun _ => adm)) (Pipeline.launchToks pcs (cellOf_inj fun _ => adm))

theorem launched : (ownU u₀ : sProp 𝕄) ⊢ BI.own (EP (initOf (Pipeline.cells pcs (cellOf_inj fun _ => adm)) (Pipeline.launchToks pcs (cellOf_inj fun _ => adm)))) := .rfl

/-- A buffer that stays allocated reads as it is held. -/
theorem read_ref (c : Dev nD) (W : Valuation τ sig (Elt Bits)) (s' : Phys nD τ sig (Elt Bits)) (r : Ref sig .tc)
    (hr : (Proc.devRef .tc r : DevRef τ sig) ∈ ucs) :
    iprop(StableHlo.held (c.tc : Thread nD τ) ucs W ∗ SI s')
      ⊢ (iprop(⌜s'.mem.mem ((c : Thread nD τ).loc r) = W (Proc.devRef .tc r)⌝ ∗ StableHlo.held (c.tc : Thread nD τ) ucs W ∗ SI s') : sProp 𝕄) := by
  rw [StableHlo.held_sub_split (c.tc : Thread nD τ) (Finset.singleton_subset_iff.mpr hr) W]
  unfold StableHlo.held
  rw [bigSep_singleton]
  iintro ⟨⟨H, Hr⟩, HSI⟩
  icombine HSI H gives %h
  isplitr; · ipureintro; exact Buf.eq_of_forall_mem_univ h
  isplitr [HSI]
  · isplitl [H]
    · iexact H
    iexact Hr
  iexact HSI

theorem stays (r : Ref sig .tc) (h : r.isScoped = false) : (Proc.devRef .tc r : DevRef τ sig) ∈ ucs :=
  Finset.mem_filter.mpr ⟨StableHlo.devRef_mem_tcRefs _, fun h' => Bool.false_ne_true (h.symm.trans h')⟩

/-- The buffers the program's claims speak of. -/
def Q (c : Dev nD) (s : MemSt nD τ sig (Elt Bits)) : Prop :=
  (∀ r ∈ [main_v42_0, main_v42_1, main_v42_2, main_arg0, main_arg1, main_arg2, main_arg3],
    s.mem ((c : Thread nD τ).loc r) = V₄ m c (Proc.devRef .tc r))

theorem read_all (c : Dev nD) (s' : Phys nD τ sig (Elt Bits)) :
    iprop(iprop(StableHlo.held (c.tc : Thread nD τ) ucs (V₄ m c)) ∗ SI s') ⊢ (|={Set.univ}=> iprop(⌜Q m c s'.mem⌝ ∗ SI s') : sProp 𝕄) := by
  have h0 := read_ref c (V₄ m c) s' main_v42_0 (stays _ rfl)
  have h1 := read_ref c (V₄ m c) s' main_v42_1 (stays _ rfl)
  have h2 := read_ref c (V₄ m c) s' main_v42_2 (stays _ rfl)
  have h3 := read_ref c (V₄ m c) s' main_arg0 (stays _ rfl)
  have h4 := read_ref c (V₄ m c) s' main_arg1 (stays _ rfl)
  have h5 := read_ref c (V₄ m c) s' main_arg2 (stays _ rfl)
  have h6 := read_ref c (V₄ m c) s' main_arg3 (stays _ rfl)
  iintro H
  ihave H := h0 $$ H
  icases H with ⟨%e0, H⟩
  ihave H := h1 $$ H
  icases H with ⟨%e1, H⟩
  ihave H := h2 $$ H
  icases H with ⟨%e2, H⟩
  ihave H := h3 $$ H
  icases H with ⟨%e3, H⟩
  ihave H := h4 $$ H
  icases H with ⟨%e4, H⟩
  ihave H := h5 $$ H
  icases H with ⟨%e5, H⟩
  ihave H := h6 $$ H
  icases H with ⟨%e6, -, HSI⟩
  imodintro
  isplitr
  · ipureintro
    unfold Q
    intro r hr
    simp only [List.mem_cons, List.mem_nil_iff, or_false] at hr
    rcases hr with rfl | rfl | rfl | rfl | rfl | rfl | rfl <;> assumption
  iexact HSI

set_option backward.isDefEq.respectTransparency.types false in
set_option maxHeartbeats 4000000 in
/-- From any memory with zero counters, every weakly fair execution of the program terminates, and every final state has the
    buffers above at what the points compute and every counter at zero. -/
theorem run_main : θ_run (defs (F := Bits)) (onTc (τ := τ) (main (F := Bits))) ⟨m, fun _ => 0, ρ⟩ (fun r => (∀ c, Q m c r.2) ∧ r.2.sem = fun _ => 0) :=
  Pipeline.θ_run_regions_kit_sems (pcfgs (F := Bits)) (fun _ => adm) (dats (V₃ m)) () (cellOf_inj fun _ => adm) EP defs₀ 𝒱₀ L lv m ρ main (segs m)
    (fun c Q => by rw [Pipeline.Seg.run_eq_chain, main_chain c]; exact .rfl)
    (by simp only [Pipeline.Seg.pipes_host, Pipeline.Seg.pipes_region, Pipeline.Seg.pipes_nil]; decide) (O₀ := 0)
    (hL := fun g h => if_neg h) (G := fun _ => iprop(emp)) (u₀ := u₀)
    (hu₀ := by
      iintro Hu
      ihave Hp := launched $$ Hu
      imodintro
      isplitl [Hp]; · iexact Hp
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) ucs (V₀ m c) ∗ R c))
    (Tₙ := fun c => iprop(StableHlo.held (c.tc : Thread nD τ) ucs (V₄ m c)))
    (hch := ⟨fun _ => .rfl, fun _ => .rfl, fun _ => .rfl, enter m, leave m⟩)
    (hinit := by
      refine Pipeline.initEach L lv fun c => ?_
      rw [show unscopedBufs c (fun b => m ((c : Thread nD τ).loc b)) = StableHlo.held (c : Thread nD τ) ucs (V₀ m c) from Pipeline.unscopedBufs_held c (V₀ m c)]
      unfold R
      iintro ⟨⟨Hh, -, HO, -, -, -⟩, -⟩
      imodintro
      isplitl [Hh]; · iexact Hh
      iexists ∅; iexact HO)
    (QY := fun c s => Q m c s)
    (hfin := fun c s' => read_all m c s')
    (hQ := fun _ h hz => ⟨h, funext fun g => hz g (.inr (by revert g; decide))⟩)

theorem V₄_arg0 (c : Dev nD) : V₄ m c (Proc.devRef .tc main_arg0) = m ((c.tc : Thread nD τ).loc main_arg0) :=
  (Pipeline.afterRegion_of_not_arr (dats (V₃ m) 0 c) (V₃ m c) (by decide)).trans (V₃_arg0 m c)
theorem V₄_arg1 (c : Dev nD) : V₄ m c (Proc.devRef .tc main_arg1) = m ((c.tc : Thread nD τ).loc main_arg1) :=
  (Pipeline.afterRegion_of_not_arr (dats (V₃ m) 0 c) (V₃ m c) (by decide)).trans (V₃_arg1 m c)
theorem V₄_arg2 (c : Dev nD) : V₄ m c (Proc.devRef .tc main_arg2) = m ((c.tc : Thread nD τ).loc main_arg2) :=
  (Pipeline.afterRegion_of_not_arr (dats (V₃ m) 0 c) (V₃ m c) (by decide)).trans (V₃_arg2 m c)
theorem V₄_arg3 (c : Dev nD) : V₄ m c (Proc.devRef .tc main_arg3) = m ((c.tc : Thread nD τ).loc main_arg3) :=
  (Pipeline.afterRegion_arr (dats (V₃ m) 0 c) (V₃ m c) (launch0 (F := Bits)).win.arr_inj (5 : Fin 9)).trans
    (((dats (V₃ m) 0 c).arrAt_in (5 : Fin 9) rfl _).trans (V₃_arg3 m c))

/-- The program runs, its arguments end unchanged and its counters end at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_arg0 (by simp)).trans (V₄_arg0 m c), (h.1 c main_arg1 (by simp)).trans (V₄_arg1 m c),
      (h.1 c main_arg2 (by simp)).trans (V₄_arg2 m c), (h.1 c main_arg3 (by simp)).trans (V₄_arg3 m c)⟩, h.2⟩) (run_main m ρ)

end Cert.Kernel.Attn

end
-- ==== Proof.Attn.Claim.lean ====
/- The gradient of causal attention: the frames, the named constant and the value claim. -/
module

public import proofs.«01_k».proof.Defs
public import proofs.«01_k».proof.Proof.Attn.Final
public import proofs.«01_k».proof.Proof.Attn.Host
public import proofs.«01_k».proof.Proof.Attn.Reference
public import proofs.«01_k».proof.Proof.Attn.Finite
public import proofs.«01_k».proof.Proof.AttnBits.Run

@[expose] public section

set_option maxRecDepth 16384

noncomputable section

namespace Cert.AttnProof

open Idealize.ShloMosaic Idealize.ShloMosaic.TcCoe Idealize.SL.Sem
open Cert.KernelIdeal.Attn

attribute [local instance] Cert.Pre_finite.Attn.facts

theorem frame_kernel : Cert.quiescent_Kernel := fun m g _ => Cert.Kernel.Attn.frame m g

theorem frame_kernelIdeal : Cert.quiescent_KernelIdeal := fun m g _ => Cert.KernelIdeal.Attn.frame m g

theorem frame_kernelIdeal' : Cert.quiescent_KernelIdeal_pre_none := fun m g _ => Cert.KernelIdeal.Attn.frame m g

/-- The reference runs, its arguments are unchanged, and it has no semaphore. -/
theorem frame_reference : Cert.quiescent_ReferenceIdeal := fun m g _ =>
  (θ_run Cert.ReferenceIdeal.defs _ _).mono (fun r h => ⟨fun c => (h c).2.2.2, sem_eq_zero_of_no_sems (by decide) r.2⟩) (Cert.ReferenceIdeal.Value.run (F := Ideal) m g)

theorem frame_reference' : Cert.quiescent_ReferenceIdeal_pre_finite := fun m g _ =>
  (θ_run Cert.ReferenceIdeal.defs _ _).mono (fun r h => ⟨fun c => (h c).2.2.2, sem_eq_zero_of_no_sems (by decide) r.2⟩) (Cert.ReferenceIdeal.Value.run (F := Ideal) m g)

/-- The kernel's constant `ln 2` is named. -/
theorem preserves : Cert.preserves_Kernel_KernelIdeal :=
  IdealRules.named_const.statement Cert.KernelIdeal.κ "ln_2" .f32 0x3F317218#32 ((Real.log 2 : ℝ) : EReal) rfl

section
variable (m : (ℓ : Loc Cert.KernelIdeal.nD Cert.KernelIdeal.τ Cert.KernelIdeal.sig) → Buf (Elt Ideal) ℓ)

/-- The arguments of a device, as reals. -/
def X (c : Dev Cert.KernelIdeal.nD) : Real4 where
  q := fun h i d => EReal.toReal (m ((c.tc : Thread Cert.KernelIdeal.nD Cert.KernelIdeal.τ).loc Cert.KernelIdeal.main_arg0) (ix3 h i d : Cert.KernelIdeal.S8x16384x128.Idx))
  k := fun h i d => EReal.toReal (m ((c.tc : Thread Cert.KernelIdeal.nD Cert.KernelIdeal.τ).loc Cert.KernelIdeal.main_arg1) (ix3 h i d : Cert.KernelIdeal.S8x16384x128.Idx))
  v := fun h i d => EReal.toReal (m ((c.tc : Thread Cert.KernelIdeal.nD Cert.KernelIdeal.τ).loc Cert.KernelIdeal.main_arg2) (ix3 h i d : Cert.KernelIdeal.S8x16384x128.Idx))
  g := fun h i d => EReal.toReal (m ((c.tc : Thread Cert.KernelIdeal.nD Cert.KernelIdeal.τ).loc Cert.KernelIdeal.main_arg3) (ix3 h i d : Cert.KernelIdeal.S8x16384x128.Idx))

/-- Under the precondition the arguments are reals. -/
theorem args (hP : Cert.Pre_KernelIdeal m) (c : Dev Cert.KernelIdeal.nD) : Args m c (X m c) where
  q h i d := (Cert.Pre_finite.Attn.finite _ _ _ _ (hP c) h i d).1
  k h i d := (Cert.Pre_finite.Attn.finite _ _ _ _ (hP c) h i d).2.1
  v h i d := (Cert.Pre_finite.Attn.finite _ _ _ _ (hP c) h i d).2.2.1
  g h i d := (Cert.Pre_finite.Attn.finite _ _ _ _ (hP c) h i d).2.2.2

theorem V₄_dq (hP : Cert.Pre_KernelIdeal m) (c : Dev Cert.KernelIdeal.nD) :
    V₄ m c (Proc.devRef .tc Cert.KernelIdeal.main_v42_0) = (X m c).arr.dq :=
  (Pipeline.afterRegion_arr (dats (V₃ m) 0 c) (V₃ m c) (Cert.KernelIdeal.Gen.launch0 (F := Ideal)).win.arr_inj (6 : Fin 9)).trans
    (finalDq (reads (args m hP c)))
theorem V₄_dk (hP : Cert.Pre_KernelIdeal m) (c : Dev Cert.KernelIdeal.nD) :
    V₄ m c (Proc.devRef .tc Cert.KernelIdeal.main_v42_1) = (X m c).arr.dk :=
  (Pipeline.afterRegion_arr (dats (V₃ m) 0 c) (V₃ m c) (Cert.KernelIdeal.Gen.launch0 (F := Ideal)).win.arr_inj (7 : Fin 9)).trans
    (finalDk (reads (args m hP c)))
theorem V₄_dv (hP : Cert.Pre_KernelIdeal m) (c : Dev Cert.KernelIdeal.nD) :
    V₄ m c (Proc.devRef .tc Cert.KernelIdeal.main_v42_2) = (X m c).arr.dv :=
  (Pipeline.afterRegion_arr (dats (V₃ m) 0 c) (V₃ m c) (Cert.KernelIdeal.Gen.launch0 (F := Ideal)).win.arr_inj (8 : Fin 9)).trans
    (finalDv (reads (args m hP c)))

end

section
variable (R : Real4) (x0 x1 x2 x3 : FVec Ideal Cert.ReferenceIdeal.S8x16384x128 .f32)
  (h0 : ∀ h i d, x0 (ix3 h i d : Cert.ReferenceIdeal.S8x16384x128.Idx) = ((R.q h i d : ℝ) : EReal))
  (h1 : ∀ h i d, x1 (ix3 h i d : Cert.ReferenceIdeal.S8x16384x128.Idx) = ((R.k h i d : ℝ) : EReal))
  (h2 : ∀ h i d, x2 (ix3 h i d : Cert.ReferenceIdeal.S8x16384x128.Idx) = ((R.v h i d : ℝ) : EReal))
  (h3 : ∀ h i d, x3 (ix3 h i d : Cert.ReferenceIdeal.S8x16384x128.Idx) = ((R.g h i d : ℝ) : EReal))

include h0 h1 h2 h3 in
theorem ref_dq : Cert.ReferenceIdeal.Read.val_main_v58 (F := Ideal) x0 x1 x2 x3 = R.arr.dq := by
  funext i
  refine (congrArg (Cert.ReferenceIdeal.Read.val_main_v58 (F := Ideal) x0 x1 x2 x3) (eq_ix3 (i : Cert.ReferenceIdeal.S8x16384x128.Idx))).trans ?_
  exact Cert.ReferenceIdeal.Attn.v58_at R x0 x1 x2 x3 h0 h1 h2 h3 (i 0) (i 1) (i 2)

include h0 h1 h2 h3 in
theorem ref_dk : Cert.ReferenceIdeal.Read.val_main_v57 (F := Ideal) x0 x1 x2 x3 = R.arr.dk := by
  funext i
  refine (congrArg (Cert.ReferenceIdeal.Read.val_main_v57 (F := Ideal) x0 x1 x2 x3) (eq_ix3 (i : Cert.ReferenceIdeal.S8x16384x128.Idx))).trans ?_
  exact Cert.ReferenceIdeal.Attn.v57_at R x0 x1 x2 x3 h0 h1 h2 h3 (i 0) (i 1) (i 2)

include h0 h1 h3 in
theorem ref_dv : Cert.ReferenceIdeal.Read.val_main_v40 (F := Ideal) x0 x1 x3 = R.arr.dv := by
  funext i
  refine (congrArg (Cert.ReferenceIdeal.Read.val_main_v40 (F := Ideal) x0 x1 x3) (eq_ix3 (i : Cert.ReferenceIdeal.S8x16384x128.Idx))).trans ?_
  exact Cert.ReferenceIdeal.Attn.v40_at R x0 x1 x3 h0 h1 h3 (i 0) (i 1) (i 2)

end

theorem algebraic : Cert.algebraic_KernelIdeal_ReferenceIdeal := fun m g m' g' hP hargs =>
  ⟨fun c => (X m c).arr.dq, fun c => (X m c).arr.dk, fun c => (X m c).arr.dv,
   (θ_run Cert.KernelIdeal.defs _ _).mono (fun r h c =>
      ⟨(h.1 c Cert.KernelIdeal.main_v42_0 (by simp)).trans (V₄_dq m hP c),
       (h.1 c Cert.KernelIdeal.main_v42_1 (by simp)).trans (V₄_dk m hP c),
       (h.1 c Cert.KernelIdeal.main_v42_2 (by simp)).trans (V₄_dv m hP c),
       (h.1 c Cert.KernelIdeal.main_arg0 (by simp)).trans (Cert.KernelIdeal.Attn.V₄_arg0 m c),
       (h.1 c Cert.KernelIdeal.main_arg1 (by simp)).trans (Cert.KernelIdeal.Attn.V₄_arg1 m c),
       (h.1 c Cert.KernelIdeal.main_arg2 (by simp)).trans (Cert.KernelIdeal.Attn.V₄_arg2 m c),
       (h.1 c Cert.KernelIdeal.main_arg3 (by simp)).trans (Cert.KernelIdeal.Attn.V₄_arg3 m c)⟩)
    (run_main m g),
   (θ_run Cert.ReferenceIdeal.defs _ _).mono (fun r h c => by
      obtain ⟨r0, r1, r2, hk⟩ := h c
      obtain ⟨a0, a1, a2, a3⟩ := hargs c
      have H := args m hP c
      have h0 := H.q
      have h1 := H.k
      have h2 := H.v
      have h3 := H.g
      refine ⟨r0.trans ?_, r1.trans ?_, r2.trans ?_, hk⟩
      · rw [Cert.ReferenceIdeal.Read.val_main_v58_eq, a0, a1, a2, a3]
        exact ref_dq (X m c) _ _ _ _ h0 h1 h2 h3
      · rw [Cert.ReferenceIdeal.Read.val_main_v57_eq, a0, a1, a2, a3]
        exact ref_dk (X m c) _ _ _ _ h0 h1 h2 h3
      · rw [Cert.ReferenceIdeal.Read.val_main_v40_eq, a0, a1, a3]
        exact ref_dv (X m c) _ _ _ h0 h1 h3)
    (Cert.ReferenceIdeal.Value.run (F := Ideal) m' g')⟩

end Cert.AttnProof

end
-- ==== Proof.Fwd.Step.lean ====
/-
  One grid point of the attention forward kernel as a function of arrays.

  The kernel walks a list of pairs (i, j): rows `2048 * i …` of the queries against rows `512 * j …` of the keys. It keeps two
  arrays from point to point: the largest score of each row so far (`m`, in every lane) and the weighted sum of the values
  (`a`), relative to that largest score. `stepOf` is what one point makes of them.
-/
module

public import proofs.«01_k».proof.Proof.Gen.ForwardIdeal.Skeleton
public import Idealize.ShloMosaic.Lib.Pipeline.FrameBody
public import Idealize.ShloMosaic.Lib.Pipeline.TableIdle
public import Idealize.ShloMosaic.Lib.Exec
public import Idealize.ShloMosaic.Lib.Tactic
public import Idealize.ShloMosaic.Lib.VecWindow
public import Idealize.ShloMosaic.PureOps.Ideal

@[expose] public section

noncomputable section

namespace Cert.ForwardIdeal.Fwd

open Cert.ForwardIdeal Cert.ForwardIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The table memrefs and the two scratch buffers, as the pipeline passes them. -/
abbrev tabI : Memref sig .tc .smem S144 .i32 := Memref.whole main_c
abbrev tabJ : Memref sig .tc .smem S144 .i32 := Memref.whole main_c_0
abbrev scM : Memref sig .tc .vmem S2048x128 .f32 := Memref.whole cc0_scratch0
abbrev scA : Memref sig .tc .vmem S2048x128 .f32 := Memref.whole cc0_scratch1

/-- The words of the two tables that the point with coordinates `i` reads. -/
abbrev wordI (T : S144.Idx → Elt Ideal .i32) (i : grid0.Coords) : Elt Ideal .i32 :=
  View.readAt (Elt Ideal) tabI.view (Rect.unit (s := S144) (k0_off1 i) S1.size (k0_off1_inb i)).toLoadRect T (Shape.Idx.first (numel1_S1.symm ▸ Nat.one_pos))
abbrev wordJ (T : S144.Idx → Elt Ideal .i32) (i : grid0.Coords) : Elt Ideal .i32 :=
  View.readAt (Elt Ideal) tabJ.view (Rect.unit (s := S144) (k0_off1 i) S1.size (k0_off1_inb i)).toLoadRect T (Shape.Idx.first (numel1_S1.symm ▸ Nat.one_pos))

/-- Whether key block `j` is the first, -/
abbrev condZ (j : BitVec 32) : BitVec 1 := Scalar.cmpi .ne (Scalar.extui (Scalar.cmpi .eq j 0#32)) 0#32
/-- whether a pair meets the diagonal, -/
abbrev crosses (i j : BitVec 32) : BitVec 1 :=
  Scalar.cmpi .sgt (Scalar.subi (Scalar.addi (Scalar.muli j 512#32) 512#32) 1#32) (Scalar.muli i 2048#32)
/-- and the two branches on it. -/
abbrev condB (i j : BitVec 32) : BitVec 1 := Scalar.cmpi .ne (Scalar.extui (Scalar.xori (crosses i j) 1#1)) 0#32
abbrev condD (i j : BitVec 32) : BitVec 1 := Scalar.cmpi .ne (Scalar.extui (crosses i j)) 0#32

/-- The two arrays kept from point to point. -/
structure Acc where
  m : S2048x128.Idx → Elt Ideal .f32
  a : S2048x128.Idx → Elt Ideal .f32

/-- The three input blocks of a point. -/
structure Blk where
  q : S1x2048x128.Idx → Elt Ideal .bf16
  k : S1x512x128.Idx → Elt Ideal .bf16
  v : S1x512x128.Idx → Elt Ideal .bf16

/-- What a row of pairs begins with. -/
def start : Acc := ⟨k0_pay7 (F := Ideal), k0_pay8 (F := Ideal)⟩

/-- What a pair below the diagonal makes of the two arrays, -/
def addFull (b : Blk) (s : Acc) : Acc := ⟨k0_pay12 b.q b.k s.m, k0_pay11 b.q b.k s.m s.a b.v⟩

/-- and what a pair on it does. -/
def addMasked (i j : BitVec 32) (b : Blk) (s : Acc) : Acc :=
  ⟨k0_pay13 (k0_pay5 i j b.q b.k s.m), k0_pay6 i j b.q b.k s.m s.a b.v⟩

/-- What a point with table words `i`, `j` makes of them. -/
def stepOf (i j : BitVec 32) (b : Blk) (s : Acc) : Acc :=
  let r := if condZ j = 1#1 then start else s
  if condB i j = 1#1 then addFull b r else addMasked i j b r

/-- The buffers a point runs on: the blocks, the tables, the two results and the scratch. -/
abbrev Around (c : Dev nD) (arg4 : Memref sig .tc .vmem S1x2048x128 .bf16) (arg5 arg6 : Memref sig .tc .vmem S1x512x128 .bf16)
    (arg7 arg8 : Memref sig .tc .vmem S1x2048x128 .f32) (arg9 arg10 : Memref sig .tc .vmem S2048x128 .f32)
    (T0 T1 : S144.Idx → Elt Ideal .i32) (b : Blk) (s : Acc) (y z : S1x2048x128.Idx → Elt Ideal .f32) : sProp 𝕄 :=
  iprop(owns (c : Thread nD τ) arg4 fullShare b.q ∗ owns (c : Thread nD τ) arg5 fullShare b.k ∗ owns (c : Thread nD τ) arg6 fullShare b.v
    ∗ (tabI.view.loc (c : Thread nD τ) ↦{fullShare} T0) ∗ (tabJ.view.loc (c : Thread nD τ) ↦{fullShare} T1)
    ∗ owns (c : Thread nD τ) arg7 fullShare y ∗ owns (c : Thread nD τ) arg8 fullShare z
    ∗ owns (c : Thread nD τ) arg9 fullShare s.m ∗ owns (c : Thread nD τ) arg10 fullShare s.a)

/-- The body at coordinates `i` takes the scratch and the results from `s`, `y`, `z` to `s'`, `y'`, `z'`. -/
abbrev Takes (c : Dev nD) (i : grid0.Coords) (T0 T1 : S144.Idx → Elt Ideal .i32) (b : Blk) (s s' : Acc)
    (y z y' z' : S1x2048x128.Idx → Elt Ideal .f32) : Prop :=
  ∀ (arg4 : Memref sig .tc .vmem S1x2048x128 .bf16) (harg4 : arg4.IsWhole)
    (arg5 : Memref sig .tc .vmem S1x512x128 .bf16) (harg5 : arg5.IsWhole)
    (arg6 : Memref sig .tc .vmem S1x512x128 .bf16) (harg6 : arg6.IsWhole)
    (arg7 : Memref sig .tc .vmem S1x2048x128 .f32) (harg7 : arg7.IsWhole)
    (arg8 : Memref sig .tc .vmem S1x2048x128 .f32) (harg8 : arg8.IsWhole)
    (arg9 : Memref sig .tc .vmem S2048x128 .f32) (harg9 : arg9.IsWhole)
    (arg10 : Memref sig .tc .vmem S2048x128 .f32) (harg10 : arg10.IsWhole) (K : PUnit → sProp 𝕄),
    iprop(Around c arg4 arg5 arg6 arg7 arg8 arg9 arg10 T0 T1 b s y z
      ∗ (Around c arg4 arg5 arg6 arg7 arg8 arg9 arg10 T0 T1 b s' y' z' -∗ K ⟨⟩))
    ⊢ wp frame (wpE (defs₀ (F := Ideal)) Variants.none c none) Set.univ
        (cc0_attn_f i tabI (Memref.isWhole_whole _) tabJ (Memref.isWhole_whole _) arg4 harg4 arg5 harg5 arg6 harg6 arg7 harg7 arg8 harg8 arg9 harg9
          arg10 harg10) K

end Cert.ForwardIdeal.Fwd

end
-- ==== Proof.Fwd.Tables.lean ====
/-
  The two tables of the attention forward kernel, and what is decided of them: every block lies inside its array, and at
  each of the 1152 points which of the kernel's branches are taken.
-/
module

public import proofs.«01_k».proof.Proof.Fwd.Step
public import proofs.«01_k».proof.Proof.Gen.ForwardIdeal.Launch
public import Idealize.ShloMosaic.Lib.Pipeline.Kit
public import Idealize.ShloMosaic.Lib.Affine

@[expose] public section

set_option maxRecDepth 16384
set_option Elab.async false

noncomputable section

namespace Cert.ForwardIdeal.Fwd

open Cert.ForwardIdeal Cert.ForwardIdeal.Gen
open Idealize.ShloMosaic

/-- The table of query tiles and the table of key tiles, as the host writes them. -/
def tblI : S144.Idx → BitVec 32 := fun i => lit0 (S144.rowMajor i)
def tblJ : S144.Idx → BitVec 32 := fun i => lit1 (S144.rowMajor i)

set_option backward.proofsInPublic true in
/-- Both tables, as the pipeline takes them. -/
def tbl : pre0.Contents (Elt Ideal) := fun | ⟨0, _⟩ => tblI | ⟨1, _⟩ => tblJ | ⟨_ + 2, h⟩ => absurd h (by simp)

/-! ## Every block lies inside its array -/

theorem inside0 : ∀ i : grid0.Coords, ∀ a, (cc0_transform_0 k0_off1_inb numel1_S1 tbl i a + 1) * S1x2048x128.size a ≤ S8x16384x128.size a := by decide +kernel
theorem inside1 : ∀ i : grid0.Coords, ∀ a, (cc0_transform_1 k0_off1_inb numel1_S1 tbl i a + 1) * S1x512x128.size a ≤ S8x16384x128.size a := by decide +kernel
theorem inside2 : ∀ i : grid0.Coords, ∀ a, (cc0_transform_2 k0_off1_inb numel1_S1 tbl i a + 1) * S1x512x128.size a ≤ S8x16384x128.size a := by decide +kernel
theorem inside3 : ∀ i : grid0.Coords, ∀ a, (cc0_transform_3 k0_off1_inb numel1_S1 tbl i a + 1) * S1x2048x128.size a ≤ S8x16384x128.size a := by decide +kernel
theorem inside4 : ∀ i : grid0.Coords, ∀ a, (cc0_transform_4 k0_off1_inb numel1_S1 tbl i a + 1) * S1x2048x128.size a ≤ S8x16384x128.size a := by decide +kernel

/-- The side condition of the pipeline holds at the tables. -/
theorem tbl_ok : ok0 (F := Ideal) tbl :=
  ⟨fun i => ⟨inside0 i, .inr (Affine.block_words_dvd (s := S8x16384x128) (p := EltTy.packing .bf16) (by decide) (by decide))⟩,
   fun i => ⟨inside1 i, .inr (Affine.block_words_dvd (s := S8x16384x128) (p := EltTy.packing .bf16) (by decide) (by decide))⟩,
   fun i => ⟨inside2 i, .inr (Affine.block_words_dvd (s := S8x16384x128) (p := EltTy.packing .bf16) (by decide) (by decide))⟩,
   fun i => ⟨inside3 i, .inl rfl⟩,
   fun i => ⟨inside4 i, .inl rfl⟩⟩

/-! ## The pipeline at the tables -/

def adm : (pcfg0 (F := Ideal)).Adm := ⟨tbl, tbl_ok⟩
abbrev cfgA : Pipeline.Cfg sig Λ₀ := cfg0 (F := Ideal) adm
abbrev pcs : Fin 1 → Pipeline.Cfg sig Λ₀ := Pipeline.pin (pcfgs (F := Ideal)) fun _ => adm

/-- Point `t`'s coordinates, and the two words it reads. -/
abbrev crd (t : Fin cfgA.N) : cfgA.grid.Coords := cfgA.grid.coords t
abbrev wI (t : Fin cfgA.N) : BitVec 32 := wordI tblI (crd t)
abbrev wJ (t : Fin cfgA.N) : BitVec 32 := wordJ tblJ (crd t)

/-- Each window's staging buffer at point `t`. -/
abbrev ms0 (t : Fin cfgA.N) : Memref sig .tc .vmem S1x2048x128 .bf16 := spec0_0.stage (cfgA.slots t (0 : Fin 5))
abbrev hs0 (t : Fin cfgA.N) : (ms0 t).IsWhole := hstage0_0 ((cfgA.slots t (0 : Fin 5)).cast nbuf0_0)
abbrev ms1 (t : Fin cfgA.N) : Memref sig .tc .vmem S1x512x128 .bf16 := spec0_1.stage (cfgA.slots t (1 : Fin 5))
abbrev hs1 (t : Fin cfgA.N) : (ms1 t).IsWhole := hstage0_1 ((cfgA.slots t (1 : Fin 5)).cast nbuf0_1)
abbrev ms2 (t : Fin cfgA.N) : Memref sig .tc .vmem S1x512x128 .bf16 := spec0_2.stage (cfgA.slots t (2 : Fin 5))
abbrev hs2 (t : Fin cfgA.N) : (ms2 t).IsWhole := hstage0_2 ((cfgA.slots t (2 : Fin 5)).cast nbuf0_2)
abbrev ms3 (t : Fin cfgA.N) : Memref sig .tc .vmem S1x2048x128 .f32 := spec0_3.stage (cfgA.slots t (3 : Fin 5))
abbrev hs3 (t : Fin cfgA.N) : (ms3 t).IsWhole := hstage0_3 ((cfgA.slots t (3 : Fin 5)).cast nbuf0_3)
abbrev ms4 (t : Fin cfgA.N) : Memref sig .tc .vmem S1x2048x128 .f32 := spec0_4.stage (cfgA.slots t (4 : Fin 5))
abbrev hs4 (t : Fin cfgA.N) : (ms4 t).IsWhole := hstage0_4 ((cfgA.slots t (4 : Fin 5)).cast nbuf0_4)

/-! ## What is decided at each point -/

/-- The branches at a point: the first of all begins a row of pairs, a pair is on the diagonal or below it, and the last of a
    row of pairs is on the diagonal and not its first. -/
abbrev Branches (t : Fin cfgA.N) : Prop :=
  (t.val = 0 → condZ (wJ t) = 1#1)
    ∧ (condD (wI t) (wJ t) = 1#1 ↔ ¬ condB (wI t) (wJ t) = 1#1)
    ∧ (k0_cond4 (wI t) (wJ t) = 1#1 → ¬ condB (wI t) (wJ t) = 1#1 ∧ ¬ condZ (wJ t) = 1#1)

/-- Which outputs a point stores, and where a block is written back. -/
abbrev Stores (t : Fin cfgA.N) : Prop :=
  cfgA.idle 3 (crd t) = !(k0_cond4 (wI t) (wJ t) == 1#1)
    ∧ cfgA.idle 4 (crd t) = !(k0_cond4 (wI t) (wJ t) == 1#1)
    ∧ (¬ k0_cond4 (wI t) (wJ t) = 1#1 → (cfgA.win 3).flushF t = false ∧ (cfgA.win 4).flushF t = false)

theorem branches0 : ∀ t : Fin cfgA.N, 0 ≤ t.val → t.val < 144 → Branches t := by decide +kernel
theorem branches1 : ∀ t : Fin cfgA.N, 144 ≤ t.val → t.val < 288 → Branches t := by decide +kernel
theorem branches2 : ∀ t : Fin cfgA.N, 288 ≤ t.val → t.val < 432 → Branches t := by decide +kernel
theorem branches3 : ∀ t : Fin cfgA.N, 432 ≤ t.val → t.val < 576 → Branches t := by decide +kernel
theorem branches4 : ∀ t : Fin cfgA.N, 576 ≤ t.val → t.val < 720 → Branches t := by decide +kernel
theorem branches5 : ∀ t : Fin cfgA.N, 720 ≤ t.val → t.val < 864 → Branches t := by decide +kernel
theorem branches6 : ∀ t : Fin cfgA.N, 864 ≤ t.val → t.val < 1008 → Branches t := by decide +kernel
theorem branches7 : ∀ t : Fin cfgA.N, 1008 ≤ t.val → t.val < 1152 → Branches t := by decide +kernel
theorem stores0 : ∀ t : Fin cfgA.N, 0 ≤ t.val → t.val < 144 → Stores t := by decide +kernel
theorem stores1 : ∀ t : Fin cfgA.N, 144 ≤ t.val → t.val < 288 → Stores t := by decide +kernel
theorem stores2 : ∀ t : Fin cfgA.N, 288 ≤ t.val → t.val < 432 → Stores t := by decide +kernel
theorem stores3 : ∀ t : Fin cfgA.N, 432 ≤ t.val → t.val < 576 → Stores t := by decide +kernel
theorem stores4 : ∀ t : Fin cfgA.N, 576 ≤ t.val → t.val < 720 → Stores t := by decide +kernel
theorem stores5 : ∀ t : Fin cfgA.N, 720 ≤ t.val → t.val < 864 → Stores t := by decide +kernel
theorem stores6 : ∀ t : Fin cfgA.N, 864 ≤ t.val → t.val < 1008 → Stores t := by decide +kernel
theorem stores7 : ∀ t : Fin cfgA.N, 1008 ≤ t.val → t.val < 1152 → Stores t := by decide +kernel

theorem branches (t : Fin cfgA.N) : Branches t := by
  rcases Nat.lt_or_ge t.val 144 with h1 | h1
  · exact branches0 t (Nat.zero_le _) h1
  rcases Nat.lt_or_ge t.val 288 with h2 | h2
  · exact branches1 t h1 h2
  rcases Nat.lt_or_ge t.val 432 with h3 | h3
  · exact branches2 t h2 h3
  rcases Nat.lt_or_ge t.val 576 with h4 | h4
  · exact branches3 t h3 h4
  rcases Nat.lt_or_ge t.val 720 with h5 | h5
  · exact branches4 t h4 h5
  rcases Nat.lt_or_ge t.val 864 with h6 | h6
  · exact branches5 t h5 h6
  rcases Nat.lt_or_ge t.val 1008 with h7 | h7
  · exact branches6 t h6 h7
  exact branches7 t h7 (show t.val < 1152 from lt_of_lt_of_eq t.isLt N_0)

theorem stores (t : Fin cfgA.N) : Stores t := by
  rcases Nat.lt_or_ge t.val 144 with h1 | h1
  · exact stores0 t (Nat.zero_le _) h1
  rcases Nat.lt_or_ge t.val 288 with h2 | h2
  · exact stores1 t h1 h2
  rcases Nat.lt_or_ge t.val 432 with h3 | h3
  · exact stores2 t h2 h3
  rcases Nat.lt_or_ge t.val 576 with h4 | h4
  · exact stores3 t h3 h4
  rcases Nat.lt_or_ge t.val 720 with h5 | h5
  · exact stores4 t h4 h5
  rcases Nat.lt_or_ge t.val 864 with h6 | h6
  · exact stores5 t h5 h6
  rcases Nat.lt_or_ge t.val 1008 with h7 | h7
  · exact stores6 t h6 h7
  exact stores7 t h7 (show t.val < 1152 from lt_of_lt_of_eq t.isLt N_0)

end Cert.ForwardIdeal.Fwd

end
-- ==== Proof.Fwd.Body.lean ====
/- What the body leaves at every kind of point. -/
module

public import proofs.«01_k».proof.Proof.Fwd.Step
public import Idealize.ShloMosaic.Lib.Affine
public import Idealize.ShloMosaic.Lib.Tactic.Stretches

@[expose] public section

set_option maxRecDepth 16384
set_option Elab.async false

noncomputable section

namespace Cert.ForwardIdeal.Fwd

open Cert.ForwardIdeal Cert.ForwardIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 800000 in
/-- The first point of a row of pairs, on the diagonal. -/
theorem runA (c : Dev nD) (i : grid0.Coords) (T0 T1 : S144.Idx → Elt Ideal .i32) (b : Blk) (s : Acc)
    (y z : S1x2048x128.Idx → Elt Ideal .f32) (h1 : condZ (wordJ T1 i) = 1#1)
    (h2 : ¬(condB (wordI T0 i) (wordJ T1 i) = 1#1)) (h3 : condD (wordI T0 i) (wordJ T1 i) = 1#1)
    (h4 : ¬(k0_cond4 (wordI T0 i) (wordJ T1 i) = 1#1)) :
    Takes c i T0 T1 b s (addMasked (wordI T0 i) (wordJ T1 i) b start) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Ideal) (Rect.unit (s := S1x2048x128) ![0, 0, 0] ![1, 2048, 128] inb).toLoadRect (arg4.view.rep b.q) = b.q := fun inb => View.readAt_rep_full arg4.view b.q inb
  have r1 : ∀ inb, arg5.view.readAt (Elt Ideal) (Rect.unit (s := S1x512x128) ![0, 0, 0] ![1, 512, 128] inb).toLoadRect (arg5.view.rep b.k) = b.k := fun inb => View.readAt_rep_full arg5.view b.k inb
  have r2 : ∀ inb, arg6.view.readAt (Elt Ideal) (Rect.unit (s := S1x512x128) ![0, 0, 0] ![1, 512, 128] inb).toLoadRect (arg6.view.rep b.v) = b.v := fun inb => View.readAt_rep_full arg6.view b.v inb
  have u0 : ∀ inb, arg9.view.readAt (Elt Ideal) (Rect.unit (s := S2048x128) ![0, 0] ![2048, 128] inb).toLoadRect (arg9.view.rep s.m) = s.m := fun inb => View.readAt_rep_full arg9.view s.m inb
  have v0 : ∀ inb inb' w L, arg9.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Ideal) (Rect.unit (s := S2048x128) ![0, 0] ![2048, 128] inb).toLoadRect (arg10.view.rep s.a) = s.a := fun inb => View.readAt_rep_full arg10.view s.a inb
  have v1 : ∀ inb inb' w L, arg10.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
    sl_open_pay
    rfl
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]
  sl_open_pay
  rfl

set_option maxHeartbeats 800000 in
/-- The first point of a row of pairs, below the diagonal. -/
theorem runF (c : Dev nD) (i : grid0.Coords) (T0 T1 : S144.Idx → Elt Ideal .i32) (b : Blk) (s : Acc)
    (y z : S1x2048x128.Idx → Elt Ideal .f32) (h1 : condZ (wordJ T1 i) = 1#1)
    (h2 : condB (wordI T0 i) (wordJ T1 i) = 1#1) (h3 : ¬(condD (wordI T0 i) (wordJ T1 i) = 1#1))
    (h4 : ¬(k0_cond4 (wordI T0 i) (wordJ T1 i) = 1#1)) :
    Takes c i T0 T1 b s (addFull b start) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Ideal) (Rect.unit (s := S1x2048x128) ![0, 0, 0] ![1, 2048, 128] inb).toLoadRect (arg4.view.rep b.q) = b.q := fun inb => View.readAt_rep_full arg4.view b.q inb
  have r1 : ∀ inb, arg5.view.readAt (Elt Ideal) (Rect.unit (s := S1x512x128) ![0, 0, 0] ![1, 512, 128] inb).toLoadRect (arg5.view.rep b.k) = b.k := fun inb => View.readAt_rep_full arg5.view b.k inb
  have r2 : ∀ inb, arg6.view.readAt (Elt Ideal) (Rect.unit (s := S1x512x128) ![0, 0, 0] ![1, 512, 128] inb).toLoadRect (arg6.view.rep b.v) = b.v := fun inb => View.readAt_rep_full arg6.view b.v inb
  have u0 : ∀ inb, arg9.view.readAt (Elt Ideal) (Rect.unit (s := S2048x128) ![0, 0] ![2048, 128] inb).toLoadRect (arg9.view.rep s.m) = s.m := fun inb => View.readAt_rep_full arg9.view s.m inb
  have v0 : ∀ inb inb' w L, arg9.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Ideal) (Rect.unit (s := S2048x128) ![0, 0] ![2048, 128] inb).toLoadRect (arg10.view.rep s.a) = s.a := fun inb => View.readAt_rep_full arg10.view s.a inb
  have v1 : ∀ inb inb' w L, arg10.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
    sl_open_pay
    rfl
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]
  sl_open_pay
  rfl

set_option maxHeartbeats 800000 in
/-- A later point below the diagonal. -/
theorem runB (c : Dev nD) (i : grid0.Coords) (T0 T1 : S144.Idx → Elt Ideal .i32) (b : Blk) (s : Acc)
    (y z : S1x2048x128.Idx → Elt Ideal .f32) (h1 : ¬(condZ (wordJ T1 i) = 1#1))
    (h2 : condB (wordI T0 i) (wordJ T1 i) = 1#1) (h3 : ¬(condD (wordI T0 i) (wordJ T1 i) = 1#1))
    (h4 : ¬(k0_cond4 (wordI T0 i) (wordJ T1 i) = 1#1)) :
    Takes c i T0 T1 b s (addFull b s) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Ideal) (Rect.unit (s := S1x2048x128) ![0, 0, 0] ![1, 2048, 128] inb).toLoadRect (arg4.view.rep b.q) = b.q := fun inb => View.readAt_rep_full arg4.view b.q inb
  have r1 : ∀ inb, arg5.view.readAt (Elt Ideal) (Rect.unit (s := S1x512x128) ![0, 0, 0] ![1, 512, 128] inb).toLoadRect (arg5.view.rep b.k) = b.k := fun inb => View.readAt_rep_full arg5.view b.k inb
  have r2 : ∀ inb, arg6.view.readAt (Elt Ideal) (Rect.unit (s := S1x512x128) ![0, 0, 0] ![1, 512, 128] inb).toLoadRect (arg6.view.rep b.v) = b.v := fun inb => View.readAt_rep_full arg6.view b.v inb
  have u0 : ∀ inb, arg9.view.readAt (Elt Ideal) (Rect.unit (s := S2048x128) ![0, 0] ![2048, 128] inb).toLoadRect (arg9.view.rep s.m) = s.m := fun inb => View.readAt_rep_full arg9.view s.m inb
  have v0 : ∀ inb inb' w L, arg9.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Ideal) (Rect.unit (s := S2048x128) ![0, 0] ![2048, 128] inb).toLoadRect (arg10.view.rep s.a) = s.a := fun inb => View.readAt_rep_full arg10.view s.a inb
  have v1 : ∀ inb inb' w L, arg10.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
    sl_open_pay
    rfl
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]
  sl_open_pay
  rfl

set_option maxHeartbeats 800000 in
/-- A later point on the diagonal. -/
theorem runD (c : Dev nD) (i : grid0.Coords) (T0 T1 : S144.Idx → Elt Ideal .i32) (b : Blk) (s : Acc)
    (y z : S1x2048x128.Idx → Elt Ideal .f32) (h1 : ¬(condZ (wordJ T1 i) = 1#1))
    (h2 : ¬(condB (wordI T0 i) (wordJ T1 i) = 1#1)) (h3 : condD (wordI T0 i) (wordJ T1 i) = 1#1)
    (h4 : ¬(k0_cond4 (wordI T0 i) (wordJ T1 i) = 1#1)) :
    Takes c i T0 T1 b s (addMasked (wordI T0 i) (wordJ T1 i) b s) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Ideal) (Rect.unit (s := S1x2048x128) ![0, 0, 0] ![1, 2048, 128] inb).toLoadRect (arg4.view.rep b.q) = b.q := fun inb => View.readAt_rep_full arg4.view b.q inb
  have r1 : ∀ inb, arg5.view.readAt (Elt Ideal) (Rect.unit (s := S1x512x128) ![0, 0, 0] ![1, 512, 128] inb).toLoadRect (arg5.view.rep b.k) = b.k := fun inb => View.readAt_rep_full arg5.view b.k inb
  have r2 : ∀ inb, arg6.view.readAt (Elt Ideal) (Rect.unit (s := S1x512x128) ![0, 0, 0] ![1, 512, 128] inb).toLoadRect (arg6.view.rep b.v) = b.v := fun inb => View.readAt_rep_full arg6.view b.v inb
  have u0 : ∀ inb, arg9.view.readAt (Elt Ideal) (Rect.unit (s := S2048x128) ![0, 0] ![2048, 128] inb).toLoadRect (arg9.view.rep s.m) = s.m := fun inb => View.readAt_rep_full arg9.view s.m inb
  have v0 : ∀ inb inb' w L, arg9.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Ideal) (Rect.unit (s := S2048x128) ![0, 0] ![2048, 128] inb).toLoadRect (arg10.view.rep s.a) = s.a := fun inb => View.readAt_rep_full arg10.view s.a inb
  have v1 : ∀ inb inb' w L, arg10.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
    sl_open_pay
    rfl
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]
  sl_open_pay
  rfl

set_option maxHeartbeats 800000 in
/-- The last point of a row of pairs. -/
theorem runL (c : Dev nD) (i : grid0.Coords) (T0 T1 : S144.Idx → Elt Ideal .i32) (b : Blk) (s : Acc)
    (y z : S1x2048x128.Idx → Elt Ideal .f32) (h1 : ¬(condZ (wordJ T1 i) = 1#1))
    (h2 : ¬(condB (wordI T0 i) (wordJ T1 i) = 1#1)) (h3 : condD (wordI T0 i) (wordJ T1 i) = 1#1)
    (h4 : k0_cond4 (wordI T0 i) (wordJ T1 i) = 1#1) :
    Takes c i T0 T1 b s (addMasked (wordI T0 i) (wordJ T1 i) b s) y z (k0_pay2 (addMasked (wordI T0 i) (wordJ T1 i) b s).a) (k0_pay3 (addMasked (wordI T0 i) (wordJ T1 i) b s).a (addMasked (wordI T0 i) (wordJ T1 i) b s).m) := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Ideal) (Rect.unit (s := S1x2048x128) ![0, 0, 0] ![1, 2048, 128] inb).toLoadRect (arg4.view.rep b.q) = b.q := fun inb => View.readAt_rep_full arg4.view b.q inb
  have r1 : ∀ inb, arg5.view.readAt (Elt Ideal) (Rect.unit (s := S1x512x128) ![0, 0, 0] ![1, 512, 128] inb).toLoadRect (arg5.view.rep b.k) = b.k := fun inb => View.readAt_rep_full arg5.view b.k inb
  have r2 : ∀ inb, arg6.view.readAt (Elt Ideal) (Rect.unit (s := S1x512x128) ![0, 0, 0] ![1, 512, 128] inb).toLoadRect (arg6.view.rep b.v) = b.v := fun inb => View.readAt_rep_full arg6.view b.v inb
  have u0 : ∀ inb, arg9.view.readAt (Elt Ideal) (Rect.unit (s := S2048x128) ![0, 0] ![2048, 128] inb).toLoadRect (arg9.view.rep s.m) = s.m := fun inb => View.readAt_rep_full arg9.view s.m inb
  have v0 : ∀ inb inb' w L, arg9.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Ideal) (Rect.unit (s := S2048x128) ![0, 0] ![2048, 128] inb).toLoadRect (arg10.view.rep s.a) = s.a := fun inb => View.readAt_rep_full arg10.view s.a inb
  have v1 : ∀ inb inb' w L, arg10.view.readCov (Val := Elt Ideal) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]
  · unfold owns; iexists _; isplitr; swap; · iexact HO7
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
    sl_open_pay
    rfl
  isplitl [HO8]
  · unfold owns; iexists _; isplitr; swap; · iexact HO8
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
    sl_open_pay
    rfl
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
    sl_open_pay
    rfl
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]
  sl_open_pay
  rfl

end Cert.ForwardIdeal.Fwd

end
-- ==== Proof.Fwd.Obligation.lean ====
/-
  What the attention forward kernel holds from point to point, and that its body meets its obligation at every point.
-/
module

public import proofs.«01_k».proof.Proof.Fwd.Tables
public import proofs.«01_k».proof.Proof.Fwd.Body

@[expose] public section

set_option maxRecDepth 16384
set_option Elab.async false

noncomputable section

namespace Cert.ForwardIdeal.Fwd

open Cert.ForwardIdeal Cert.ForwardIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/- The buffers when the kernel is entered, one valuation per device. -/
variable (V : Dev nD → Valuation τ sig (Elt Ideal))

/-- Window `w`'s block at point `t`, read off its array. -/
def iblk (c : Dev nD) (w : Fin cfgA.W) (t : Fin cfgA.N) : ((cfgA.win w).xblock (crd t)).Idx → Elt Ideal (cfgA.win w).elt :=
  ((cfgA.win w).blk t).view.read (Elt Ideal) (V c (Proc.devRef .tc (Pipeline.arrRef spec0 w)))

/-- The three input blocks at point `t`. -/
def blkAt (c : Dev nD) (t : Fin cfgA.N) : Blk := ⟨iblk V c (0 : Fin 5) t, iblk V c (1 : Fin 5) t, iblk V c (2 : Fin 5) t⟩

/-- One point, and the two arrays after `n` points. -/
def stepAt (c : Dev nD) (t : Fin cfgA.N) (s : Acc) : Acc := stepOf (wI t) (wJ t) (blkAt V c t) s
def st (c : Dev nD) : ℕ → Acc
  | 0 => start
  | n + 1 => if h : n < cfgA.N then stepAt V c ⟨n, h⟩ (st c n) else st c n

theorem st_succ (c : Dev nD) (t : Fin cfgA.N) : st V c (t.val + 1) = stepAt V c t (st V c t.val) := by
  rw [st, dif_pos t.isLt]

/-- The invariant before point `t`: the two scratch buffers hold the two arrays once a point has run, and the tables are held. -/
def Phi (c : Dev nD) (t : Fin (cfgA.N + 1)) : sProp 𝕄 :=
  iprop((∃ a, ⌜t.val ≠ 0 → a = (st V c t.val).m⌝ ∗ owns (c : Thread nD τ) scM fullShare a)
    ∗ (∃ a, ⌜t.val ≠ 0 → a = (st V c t.val).a⌝ ∗ owns (c : Thread nD τ) scA fullShare a)
    ∗ (tabI.view.loc (c : Thread nD τ) ↦{fullShare} tblI) ∗ (tabJ.view.loc (c : Thread nD τ) ↦{fullShare} tblJ))

/-- The pipeline's data on core `c`. -/
def dats (_ : Fin 1) (c : Dev nD) : Dat τ (Elt Ideal) Unit ℕ (UR sig nD τ) ℕ cfgA c where
  A w := V c (Proc.devRef .tc (Pipeline.arrRef spec0 w))
  after w t := match w with
    | ⟨0, _⟩ => iblk V c (0 : Fin 5) t
    | ⟨1, _⟩ => iblk V c (1 : Fin 5) t
    | ⟨2, _⟩ => iblk V c (2 : Fin 5) t
    | ⟨3, _⟩ => k0_pay2 (st V c (t.val + 1)).a
    | ⟨4, _⟩ => k0_pay3 (st V c (t.val + 1)).a (st V c (t.val + 1)).m
  Φ t := Phi V c t
  q _ := fullShare
  owed _ := 0

theorem after0 (c : Dev nD) (t : Fin cfgA.N) : (dats V 0 c).after (0 : Fin 5) t = iblk V c (0 : Fin 5) t := rfl
theorem after1 (c : Dev nD) (t : Fin cfgA.N) : (dats V 0 c).after (1 : Fin 5) t = iblk V c (1 : Fin 5) t := rfl
theorem after2 (c : Dev nD) (t : Fin cfgA.N) : (dats V 0 c).after (2 : Fin 5) t = iblk V c (2 : Fin 5) t := rfl
theorem after3 (c : Dev nD) (t : Fin cfgA.N) : (dats V 0 c).after (3 : Fin 5) t = k0_pay2 (st V c (t.val + 1)).a := rfl
theorem after4 (c : Dev nD) (t : Fin cfgA.N) : (dats V 0 c).after (4 : Fin 5) t = k0_pay3 (st V c (t.val + 1)).a (st V c (t.val + 1)).m := rfl

theorem before0 (c : Dev nD) (t : Fin cfgA.N) (d) : (dats V 0 c).before (0 : Fin 5) t d = iblk V c (0 : Fin 5) t :=
  ((dats V 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin cfgA.N) (d) : (dats V 0 c).before (1 : Fin 5) t d = iblk V c (1 : Fin 5) t :=
  ((dats V 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin cfgA.N) (d) : (dats V 0 c).before (2 : Fin 5) t d = iblk V c (2 : Fin 5) t :=
  ((dats V 0 c).before_in_eq_fetched (2 : Fin 5) rfl (fun _ => rfl) (fun _ _ _ => rfl) (fun t => by rw [after2]; unfold Dat.blockOf iblk; rfl) t d).trans
    (by unfold Dat.fetched Dat.blockOf iblk; rfl)

/-- The first point does not depend on what it finds. -/
theorem step_any (c : Dev nD) (t : Fin cfgA.N) (a0 a1 : S2048x128.Idx → Elt Ideal .f32)
    (h0 : t.val ≠ 0 → a0 = (st V c t.val).m) (h1 : t.val ≠ 0 → a1 = (st V c t.val).a) :
    stepAt V c t ⟨a0, a1⟩ = st V c (t.val + 1) := by
  rw [st_succ]
  by_cases h : t.val = 0
  · unfold stepAt stepOf
    simp only [if_pos ((branches t).1 h)]
  · rw [h0 h, h1 h]

/-- What a point leaves, in each of its cases. -/
theorem takes (c : Dev nD) (t : Fin cfgA.N) (s : Acc) (y z : S1x2048x128.Idx → Elt Ideal .f32) :
    Takes c (crd t) tblI tblJ (blkAt V c t) s (stepAt V c t s) y z
      (if k0_cond4 (wI t) (wJ t) = 1#1 then k0_pay2 (stepAt V c t s).a else y)
      (if k0_cond4 (wI t) (wJ t) = 1#1 then k0_pay3 (stepAt V c t s).a (stepAt V c t s).m else z) := by
  obtain ⟨-, b2, b3⟩ := branches t
  by_cases q4 : k0_cond4 (wI t) (wJ t) = 1#1
  · obtain ⟨q2, q1⟩ := b3 q4
    have e : stepAt V c t s = addMasked (wI t) (wJ t) (blkAt V c t) s := by
      unfold stepAt stepOf; simp only [if_neg q1, if_neg q2]
    rw [if_pos q4, if_pos q4, e]
    exact runL c (crd t) tblI tblJ (blkAt V c t) s y z q1 q2 (b2.mpr q2) q4
  rw [if_neg q4, if_neg q4]
  by_cases q2 : condB (wI t) (wJ t) = 1#1
  · by_cases q1 : condZ (wJ t) = 1#1
    · have e : stepAt V c t s = addFull (blkAt V c t) start := by
        unfold stepAt stepOf; simp only [if_pos q1, if_pos q2]
      rw [e]
      exact runF c (crd t) tblI tblJ (blkAt V c t) s y z q1 q2 (fun q3 => b2.mp q3 q2) q4
    · have e : stepAt V c t s = addFull (blkAt V c t) s := by
        unfold stepAt stepOf; simp only [if_neg q1, if_pos q2]
      rw [e]
      exact runB c (crd t) tblI tblJ (blkAt V c t) s y z q1 q2 (fun q3 => b2.mp q3 q2) q4
  · by_cases q1 : condZ (wJ t) = 1#1
    · have e : stepAt V c t s = addMasked (wI t) (wJ t) (blkAt V c t) start := by
        unfold stepAt stepOf; simp only [if_pos q1, if_neg q2]
      rw [e]
      exact runA c (crd t) tblI tblJ (blkAt V c t) s y z q1 q2 (b2.mpr q2) q4
    · have e : stepAt V c t s = addMasked (wI t) (wJ t) (blkAt V c t) s := by
        unfold stepAt stepOf; simp only [if_neg q1, if_neg q2]
      rw [e]
      exact runD c (crd t) tblI tblJ (blkAt V c t) s y z q1 q2 (b2.mpr q2) q4

/-- The body at point `t` on its staging buffers. -/
abbrev bodyAt (t : Fin cfgA.N) : Prog (TpuEff nD τ sig (Elt Ideal) Λ₀ .tc) PUnit :=
  cc0_attn_f (crd t) tabI (Memref.isWhole_whole _) tabJ (Memref.isWhole_whole _) (ms0 t) (hs0 t) (ms1 t) (hs1 t) (ms2 t) (hs2 t) (ms3 t) (hs3 t) (ms4 t) (hs4 t) scM (Memref.isWhole_whole _) scA (Memref.isWhole_whole _)

/-- What is asked of the body at point `t`: from the invariant and the staging buffers as they are found, it leaves the
    invariant of the next point and the buffers as they are to be. -/
def Sound (c : Dev nD) (t : Fin cfgA.N) : Prop :=
    iprop((dats V 0 c).Φ t.castSucc ∗ (dats V 0 c).owesAt () t.castSucc
        ∗ (∃ d, owns (c : Thread nD τ) (ms0 t) fullShare ((dats V 0 c).before (0 : Fin 5) t d))
        ∗ (∃ d, owns (c : Thread nD τ) (ms1 t) fullShare ((dats V 0 c).before (1 : Fin 5) t d))
        ∗ (∃ d, owns (c : Thread nD τ) (ms2 t) fullShare ((dats V 0 c).before (2 : Fin 5) t d))
        ∗ (∃ d, owns (c : Thread nD τ) (ms3 t) fullShare ((dats V 0 c).before (3 : Fin 5) t d))
        ∗ (∃ d, owns (c : Thread nD τ) (ms4 t) fullShare ((dats V 0 c).before (4 : Fin 5) t d)))
      ⊢ wp frame (wpE (defs₀ (F := Ideal)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t))

set_option maxHeartbeats 1000000 in
/-- A point that stores its row of pairs. -/
theorem soundLast (c : Dev nD) (t : Fin cfgA.N) (q4 : k0_cond4 (wI t) (wJ t) = 1#1) : Sound V c t := by
  unfold Sound
  rw [bigSep_W0]
  obtain ⟨i3, i4, ff⟩ := stores t
  rw [show (!(k0_cond4 (wI t) (wJ t) == 1#1)) = false from by rw [q4]; rfl] at i3 i4
  rewrite [i3]
  simp only [before0, before1, before2, after0, after1, after2, after3, after4]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
  have hst := step_any V c t a0 a1 ha0 ha1
  have ht := takes V c t ⟨a0, a1⟩ ((dats V 0 c).before (3 : Fin 5) t d3) ((dats V 0 c).before (4 : Fin 5) t d4)
  rewrite [if_pos q4, if_pos q4, hst] at ht
  iapply (ht (ms0 t) (hs0 t) (ms1 t) (hs1 t) (ms2 t) (hs2 t) (ms3 t) (hs3 t) (ms4 t) (hs4 t) scM (Memref.isWhole_whole _) scA (Memref.isWhole_whole _) _)
  isplitl [H0 H1 H2 HT0 HT1 H3 H4 HS0 HS1]
  · isplitl [H0]; · iexact H0
    isplitl [H1]; · iexact H1
    isplitl [H2]; · iexact H2
    isplitl [HT0]; · iexact HT0
    isplitl [HT1]; · iexact HT1
    isplitl [H3]; · iexact H3
    isplitl [H4]; · iexact H4
    isplitl [HS0]; · iexact HS0
    iexact HS1
  iintro ⟨H0, H1, H2, HT0, HT1, H3, H4, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexact H3
  iexact H4

set_option maxHeartbeats 1000000 in
/-- Any other point. -/
theorem soundMid (c : Dev nD) (t : Fin cfgA.N) (q4 : ¬ k0_cond4 (wI t) (wJ t) = 1#1) : Sound V c t := by
  unfold Sound
  rw [bigSep_W0]
  obtain ⟨i3, i4, ff⟩ := stores t
  rw [show (!(k0_cond4 (wI t) (wJ t) == 1#1)) = true from by rw [Bool.not_eq_true', beq_eq_false_iff_ne]; exact q4] at i3 i4
  have f3 := (Pipeline.Window.flush_eq_flushF (cfgA.win 3) t).trans (ff q4).1
  have f4 := (Pipeline.Window.flush_eq_flushF (cfgA.win 4) t).trans (ff q4).2
  rewrite [i3, f3, f4]
  simp only [before0, before1, before2, after0, after1, after2, after3, after4]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
  have hst := step_any V c t a0 a1 ha0 ha1
  have ht := takes V c t ⟨a0, a1⟩ ((dats V 0 c).before (3 : Fin 5) t d3) ((dats V 0 c).before (4 : Fin 5) t d4)
  rewrite [if_neg q4, if_neg q4, hst] at ht
  iapply (ht (ms0 t) (hs0 t) (ms1 t) (hs1 t) (ms2 t) (hs2 t) (ms3 t) (hs3 t) (ms4 t) (hs4 t) scM (Memref.isWhole_whole _) scA (Memref.isWhole_whole _) _)
  isplitl [H0 H1 H2 HT0 HT1 H3 H4 HS0 HS1]
  · isplitl [H0]; · iexact H0
    isplitl [H1]; · iexact H1
    isplitl [H2]; · iexact H2
    isplitl [HT0]; · iexact HT0
    isplitl [HT1]; · iexact HT1
    isplitl [H3]; · iexact H3
    isplitl [H4]; · iexact H4
    isplitl [HS0]; · iexact HS0
    iexact HS1
  iintro ⟨H0, H1, H2, HT0, HT1, H3, H4, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]; · iexact H0
  isplitl [H1]; · iexact H1
  isplitl [H2]; · iexact H2
  isplitl [H3]; · iexists _; iexact H3
  iexists _; iexact H4

/-- The body meets its obligation. -/
theorem body_obligation (c : Dev nD) : BodyObligation (dats V 0 c) (defs₀ (F := Ideal)) Variants.none () Set.univ := fun t => by
  rw [bigSep_W0]
  by_cases q4 : k0_cond4 (wI t) (wJ t) = 1#1
  · exact soundLast V c t q4
  · exact soundMid V c t q4

end Cert.ForwardIdeal.Fwd

end
-- ==== Proof.Fwd.Tile.lean ====
/- What one tile makes of the two arrays, at an index and over the reals. -/
module

public import proofs.«01_k».proof.Proof.Fwd.Step
public import proofs.«01_k».proof.Proof.Attn.Tile
public import Idealize.ShloMosaic.Lib.Pointwise
public import Idealize.ShloMosaic.Lib.IdealHost

@[expose] public section

set_option maxRecDepth 16384
set_option Elab.async false

noncomputable section

namespace Cert.ForwardIdeal.Fwd

open Cert.ForwardIdeal Cert.ForwardIdeal.Gen
open Cert.KernelIdeal.Attn (coe_sum coe_dot ofBits_bot)
open Idealize.ShloMosaic
open Idealize.ShloMosaic.TcCoe

/-- The three blocks of a point as reals. -/
structure RBlk where
  q : Fin 2048 → Fin 128 → ℝ
  k : Fin 512 → Fin 128 → ℝ
  v : Fin 512 → Fin 128 → ℝ

/-- The blocks `b` hold the reals `R`. -/
structure Holds (b : Blk) (R : RBlk) : Prop where
  q : ∀ (r : Fin 2048) (d : Fin 128), b.q (ix3 0 r d : S1x2048x128.Idx) = ((R.q r d : ℝ) : EReal)
  k : ∀ (x : Fin 512) (d : Fin 128), b.k (ix3 0 x d : S1x512x128.Idx) = ((R.k x d : ℝ) : EReal)
  v : ∀ (x : Fin 512) (d : Fin 128), b.v (ix3 0 x d : S1x512x128.Idx) = ((R.v x d : ℝ) : EReal)

/-- The score of query `r` at key `x`, to base two. -/
def RBlk.z (R : RBlk) (r : Fin 2048) (x : Fin 512) : ℝ := ∑ d, R.q r d * R.k x d

/-- The row maxima of the scores `y` together with `m`, -/
def maxOf (y : FVec Ideal S2048x512 .f32) (m : FVec Ideal S2048x128 .f32) : FVec Ideal S2048x128 .f32 :=
  maximumf m (broadcastTo S2048x128 (shapeCast S2048x1
    (multiReduction .maximumf [1] S2048 y 0xFF800000#32 reduces_S2048x512_S2048 (.inl rfl) rfl) shapeCasts_S2048_S2048x1) broadcasts_S2048x1_S2048x128)

/-- and the weighted sum of values, from the scores, the new maxima and the old ones. -/
def accOf (y : FVec Ideal S2048x512 .f32) (M m a : FVec Ideal S2048x128 .f32) (v : FVec Ideal S1x512x128 .bf16) : FVec Ideal S2048x128 .f32 :=
  shapeCast S2048x128 (addf (mulf (exp2 (subf m M)) a)
    (matmul dot_S2048x512_S512x128_S2048x128_1_0_0_1_n_n none
      (truncf .bf16 (exp2 (subf y (concatenate S2048x512 1 [⟨S2048x128, M⟩, ⟨S2048x128, M⟩, ⟨S2048x128, M⟩, ⟨S2048x128, M⟩]
        concatenates_S2048x128_S2048x128_S2048x128_S2048x128_S2048x512_d1))) bitsLt_bf16_f32)
      (shapeCast S512x128 v shapeCasts_S1x512x128_S512x128) (constant S2048x128 .f32 0x00000000#32))) shapeCasts_S2048x128_S2048x128

theorem pay10_eq (b : Blk) (m : FVec Ideal S2048x128 .f32) : k0_pay10 (F := Ideal) b.q b.k m = maxOf (k0_pay9 b.q b.k) m := rfl
theorem pay5_eq (i j : BitVec 32) (b : Blk) (m : FVec Ideal S2048x128 .f32) :
    k0_pay5 (F := Ideal) i j b.q b.k m = maxOf (k0_pay4 i j b.q b.k) m := rfl
theorem pay11_eq (b : Blk) (m a : FVec Ideal S2048x128 .f32) :
    k0_pay11 (F := Ideal) b.q b.k m a b.v = accOf (k0_pay9 b.q b.k) (k0_pay10 b.q b.k m) m a b.v := rfl
theorem pay6_eq (i j : BitVec 32) (b : Blk) (m a : FVec Ideal S2048x128 .f32) :
    k0_pay6 (F := Ideal) i j b.q b.k m a b.v = accOf (k0_pay4 i j b.q b.k) (k0_pay5 i j b.q b.k m) m a b.v := rfl

theorem maxOf_at (y : FVec Ideal S2048x512 .f32) (m : FVec Ideal S2048x128 .f32) (r : Fin 2048) (d : Fin 128) :
    maxOf y m (ix2 r d) = max (m (ix2 r d)) (Finset.univ.fold max ⊥ fun x : Fin 512 => y (ix2 r x : S2048x512.Idx)) := by
  unfold maxOf
  pointwise []
  rw [ofBits_bot]

theorem lanes (M : FVec Ideal S2048x128 .f32) (a : EReal) (r : Fin 2048) (h : ∀ d, M (ix2 r d) = a) (x : Fin 512) (hc) :
    concatenate S2048x512 1 (List.ofFn fun _ : Fin 4 => (⟨S2048x128, M⟩ : (s : Shape) × (s.Idx → EReal))) hc (ix2 r x : S2048x512.Idx) = a :=
  (concatenate_ofFn_apply (t := S2048x512) (s₁ := S2048x128) (1 : Fin 2) (fun _ : Fin 4 => M) hc rfl 128 rfl (ix2 r x : S2048x512.Idx) ⟨x.val / 128, by omega⟩ rfl
    (ix2 r ⟨x.val % 128, by omega⟩ : S2048x128.Idx) rfl (fun b hb => by
      match b with
      | ⟨0, _⟩ => rfl
      | ⟨1, _⟩ => exact absurd rfl hb)).trans (h _)

/-- The weights of a tile. -/
def wOf (y : FVec Ideal S2048x512 .f32) (M : FVec Ideal S2048x128 .f32) : FVec Ideal S2048x512 .f32 :=
  exp2 (subf y (concatenate S2048x512 1 [⟨S2048x128, M⟩, ⟨S2048x128, M⟩, ⟨S2048x128, M⟩, ⟨S2048x128, M⟩]
        concatenates_S2048x128_S2048x128_S2048x128_S2048x128_S2048x512_d1))

theorem wOf_at (y : FVec Ideal S2048x512 .f32) (M : FVec Ideal S2048x128 .f32) (t : EReal) (r : Fin 2048) (h : ∀ d, M (ix2 r d) = t) (x : Fin 512) :
    wOf y M (ix2 r x) = Ideal.exp2 (y (ix2 r x) - t) :=
  congrArg (fun a : EReal => Ideal.exp2 (y (ix2 r x) - a)) (lanes M t r h x _)

theorem accOf_at (y : FVec Ideal S2048x512 .f32) (M m a : FVec Ideal S2048x128 .f32) (v : FVec Ideal S1x512x128 .bf16)
    (r : Fin 2048) (d : Fin 128) :
    accOf y M m a v (ix2 r d) = Ideal.exp2 (m (ix2 r d) - M (ix2 r d)) * a (ix2 r d)
      + ∑ x : Fin 512, wOf y M (ix2 r x : S2048x512.Idx) * v (ix3 0 x d : S1x512x128.Idx) := by
  have e : accOf y M m a v = shapeCast S2048x128 (addf (mulf (exp2 (subf m M)) a)
    (matmul dot_S2048x512_S512x128_S2048x128_1_0_0_1_n_n none (truncf .bf16 (wOf y M) bitsLt_bf16_f32)
      (shapeCast S512x128 v shapeCasts_S1x512x128_S512x128) (constant S2048x128 .f32 0x00000000#32))) shapeCasts_S2048x128_S2048x128 := rfl
  rw [e]
  generalize wOf y M = w
  pointwise []
  rfl

/-- The scores of a tile. -/
theorem scores (b : Blk) (R : RBlk) (H : Holds b R) (r : Fin 2048) (x : Fin 512) :
    k0_pay9 (F := Ideal) b.q b.k (ix2 r x) = ((R.z r x : ℝ) : EReal) := by
  pointwise [k0_pay9, H.q, H.k]
  exact coe_dot _ _ _

/-- The mask's word: the key is not after the query. -/
def maskW (i j : BitVec 32) (r : Fin 2048) (x : Fin 512) : BitVec 1 :=
  IntOp.cmpi .sle (IntOp.addi (Scalar.muli j 512#32) (BitVec.ofNat 32 x.val)) (IntOp.addi (Scalar.muli i 2048#32) (BitVec.ofNat 32 r.val))

theorem scores_masked (i j : BitVec 32) (b : Blk) (R : RBlk) (H : Holds b R) (r : Fin 2048) (x : Fin 512) :
    k0_pay4 (F := Ideal) i j b.q b.k (ix2 r x) = if maskW i j r x = 1#1 then ((R.z r x : ℝ) : EReal) else ⊥ := by
  have e : k0_pay4 (F := Ideal) i j b.q b.k (ix2 r x)
      = (Scalar.select (maskW i j r x) (k0_pay9 (F := Ideal) b.q b.k (ix2 r x)) (Ideal.ofBits .f32 0xFF800000#32) : EReal) := by
    pointwise [k0_pay4, k0_pay9, maskW]
  rw [e, scores b R H, ofBits_bot]
  unfold Scalar.select
  rfl

/-- The two arrays as stored. -/
theorem pay12_at (b : Blk) (m : FVec Ideal S2048x128 .f32) (r : Fin 2048) (d : Fin 128) :
    k0_pay12 (F := Ideal) b.q b.k m (ix2 r d) = k0_pay10 (F := Ideal) b.q b.k m (ix2 r d) := by
  unfold k0_pay12
  generalize k0_pay10 (F := Ideal) b.q b.k m = x
  pointwise []
theorem pay13_at (x : FVec Ideal S2048x128 .f32) (r : Fin 2048) (d : Fin 128) : k0_pay13 (F := Ideal) x (ix2 r d) = x (ix2 r d) := by
  pointwise [k0_pay13]
theorem pay7_at (r : Fin 2048) (d : Fin 128) : k0_pay7 (F := Ideal) (ix2 r d) = (⊥ : EReal) := by
  pointwise [k0_pay7]
  exact ofBits_bot
theorem pay8_at (r : Fin 2048) (d : Fin 128) : k0_pay8 (F := Ideal) (ix2 r d) = ((0 : ℝ) : EReal) := by
  pointwise [k0_pay8]
  exact EReal.coe_zero.symm

/-- The lane that holds the denominators, -/
def dl : Fin 128 := 64

theorem pay1_at (a : FVec Ideal S2048x128 .f32) (r : Fin 2048) :
    k0_pay1 (F := Ideal) a (ix2 r (0 : Fin 1)) = a (ix2 r dl) := by
  have e : k0_pay1 (F := Ideal) a (ix2 r (0 : Fin 1))
      = ∑ d : Fin 128, (Scalar.select (IntOp.cmpi .eq (BitVec.ofNat 32 d.val) 64#32) (a (ix2 r d)) (Ideal.ofBits .f32 0x00000000#32) : EReal) := by
    pointwise [k0_pay1]
  rw [e]
  have hz : Ideal.ofBits .f32 0x00000000#32 = 0 := by simp [Ideal.ofBits, Ideal.ieee]
  have h0 : ∀ d : Fin 128, d ≠ dl → IntOp.cmpi .eq (BitVec.ofNat 32 d.val) 64#32 ≠ 1#1 := by decide
  have h1 : IntOp.cmpi .eq (BitVec.ofNat 32 dl.val) 64#32 = 1#1 := by decide
  have hs : ∀ (b : BitVec 1) (x y : EReal), Scalar.select b x y = if b = 1#1 then x else y := fun _ _ _ => rfl
  rw [Finset.sum_eq_single dl (fun d _ hd => by rw [hs, if_neg (h0 d hd), hz]) (fun h => absurd (Finset.mem_univ _) h), hs, if_pos h1]

/-- the output, and the log-sum. -/
theorem pay2_at (a : FVec Ideal S2048x128 .f32) (r : Fin 2048) (d : Fin 128) :
    k0_pay2 (F := Ideal) a (ix3 0 r d) = Ideal.div (a (ix2 r d)) (a (ix2 r dl)) := by
  rw [← pay1_at a r]
  unfold k0_pay2
  generalize k0_pay1 (F := Ideal) a = y
  pointwise []
theorem pay3_at (a m : FVec Ideal S2048x128 .f32) (r : Fin 2048) (d : Fin 128) :
    k0_pay3 (F := Ideal) a m (ix3 0 r d) = m (ix2 r d) + Ideal.log (a (ix2 r dl)) * (((Real.log 2)⁻¹ : ℝ) : EReal) := by
  rw [← pay1_at a r]
  unfold k0_pay3
  generalize k0_pay1 (F := Ideal) a = y
  pointwise []
  rw [IdealRules.named_const.ideal_named_scalar _ _ _ _ rfl]

end Cert.ForwardIdeal.Fwd

end
-- ==== Proof.Fwd.Online.lean ====
/-
  The running softmax over the reals: however a row's base-two scores are shifted from one block of keys to the next, the
  weighted sum kept is the sum over the keys met so far, relative to the present shift.
-/
module

public import proofs.«01_k».proof.Proof.Fwd.Tile
public import proofs.«01_k».proof.Proof.Attn.Sum

@[expose] public section

set_option maxRecDepth 16384
set_option Elab.async false

noncomputable section

namespace Cert.ForwardIdeal.Fwd

open Cert.ForwardIdeal Cert.ForwardIdeal.Gen
open Cert.KernelIdeal.Attn (coe_sum row row_val)
open Idealize.ShloMosaic
open Idealize.ShloMosaic.TcCoe

/-- A maximum of reals and `-∞` with a real among them is a real. -/
theorem max_real {ι : Type} [Fintype ι] (μ : EReal) (y : ι → EReal) (hμ : μ < ⊤) (hy : ∀ x, y x < ⊤) (h : ⊥ < μ ∨ ∃ x, ⊥ < y x) :
    ∃ t : ℝ, max μ (Finset.univ.fold max ⊥ y) = (t : EReal) := by
  refine ⟨(max μ (Finset.univ.fold max ⊥ y)).toReal, (EReal.coe_toReal (ne_of_lt ?_) (ne_of_gt ?_)).symm⟩
  · exact max_lt hμ ((Finset.fold_max_lt (c := (⊤ : EReal))).2 ⟨bot_lt_top, fun x _ => hy x⟩)
  · rcases h with h | ⟨x, hx⟩
    · exact lt_max_of_lt_left h
    · exact lt_max_of_lt_right ((Finset.lt_fold_max (c := (⊥ : EReal))).2 (Or.inr ⟨x, Finset.mem_univ _, hx⟩))

/-- A block's weights against its values. -/
theorem block_real {ι : Type} [Fintype ι] (P : ι → Prop) [DecidablePred P] (z v : ι → ℝ) (t : ℝ) :
    ∑ x, Ideal.exp2 ((if P x then ((z x : ℝ) : EReal) else ⊥) - (t : EReal)) * ((v x : ℝ) : EReal)
      = ((∑ x, (if P x then (2 : ℝ) ^ (z x - t) * v x else 0) : ℝ) : EReal) := by
  rw [← coe_sum]
  refine Finset.sum_congr rfl fun x _ => ?_
  split
  · rw [← EReal.coe_sub, Ideal.exp2_coe, ← EReal.coe_mul]
    rfl
  · rw [EReal.bot_sub, Ideal.exp2_bot, zero_mul, EReal.coe_zero]

/-- The arrays the kernel reads, as reals. -/
structure Arr where
  q : Fin 8 → Fin 16384 → Fin 128 → ℝ
  k : Fin 8 → Fin 16384 → Fin 128 → ℝ
  v : Fin 8 → Fin 16384 → Fin 128 → ℝ

/-- The base-two score of query `i` at key `j`. -/
def Arr.z (A : Arr) (h : Fin 8) (i j : Fin 16384) : ℝ := ∑ d, A.q h i d * A.k h j d

/-- The weighted sum of values of query `i` over the first `n` keys, relative to `t`. -/
def Arr.acc (A : Arr) (h : Fin 8) (i : ℕ) (d : Fin 128) (t : ℝ) (n : ℕ) : ℝ :=
  ∑ x ∈ Finset.range n, if x ≤ i then (2 : ℝ) ^ (A.z h (row i) (row x) - t) * A.v h (row x) d else 0

/-- The blocks of query block `i` and key block `j`. -/
def Arr.blk (A : Arr) (h : Fin 8) (i j : ℕ) : RBlk where
  q r d := A.q h (row (2048 * i + r.val)) d
  k x d := A.k h (row (512 * j + x.val)) d
  v x d := A.v h (row (512 * j + x.val)) d

theorem Arr.acc_shift (A : Arr) (h : Fin 8) (i : ℕ) (d : Fin 128) (t t' : ℝ) (n : ℕ) :
    (2 : ℝ) ^ (t - t') * A.acc h i d t n = A.acc h i d t' n := by
  unfold Arr.acc
  rw [Finset.mul_sum]
  refine Finset.sum_congr rfl fun x _ => ?_
  split
  · rw [← mul_assoc, ← Real.rpow_add (by norm_num : (0 : ℝ) < 2)]
    congr 2
    ring
  · rw [mul_zero]

theorem Arr.acc_add (A : Arr) (h : Fin 8) (i : ℕ) (d : Fin 128) (t : ℝ) (n : ℕ) :
    A.acc h i d t (n + 512) = A.acc h i d t n
      + ∑ x : Fin 512, if n + x.val ≤ i then (2 : ℝ) ^ (A.z h (row i) (row (n + x.val)) - t) * A.v h (row (n + x.val)) d else 0 := by
  unfold Arr.acc
  rw [Finset.sum_range_add, Finset.sum_range (fun x => if n + x ≤ i then (2 : ℝ) ^ (A.z h (row i) (row (n + x)) - t) * A.v h (row (n + x)) d else 0)]

/-- The two arrays hold the rows of query block `I` after `n` keys: a shift, the same on every lane, and the sum relative to it. -/
def Inv (s : Acc) (A : Arr) (h : Fin 8) (I n : ℕ) : Prop :=
  ∀ r : Fin 2048, ∃ t : ℝ, (∀ d : Fin 128, s.m (ix2 r d : S2048x128.Idx) = ((t : ℝ) : EReal))
    ∧ ∀ d : Fin 128, s.a (ix2 r d : S2048x128.Idx) = ((A.acc h (2048 * I + r.val) d t n : ℝ) : EReal)

/-- The arrays before a point: those a row begins with, or those of the keys met so far. -/
def Pre (s : Acc) (A : Arr) (h : Fin 8) (I n : ℕ) : Prop := (n = 0 ∧ s = start) ∨ Inv s A h I n

theorem push (A : Arr) (h : Fin 8) (I J : ℕ) (y : FVec Ideal S2048x512 .f32) (v : FVec Ideal S1x512x128 .bf16) (s s' : Acc)
    (hy : ∀ r x, y (ix2 r x : S2048x512.Idx) = if 512 * J + x.val ≤ 2048 * I + r.val then (((A.blk h I J).z r x : ℝ) : EReal) else ⊥)
    (hv : ∀ (x : Fin 512) (d : Fin 128), v (ix3 0 x d : S1x512x128.Idx) = (((A.blk h I J).v x d : ℝ) : EReal))
    (hm : ∀ r d, s'.m (ix2 r d : S2048x128.Idx) = maxOf y s.m (ix2 r d : S2048x128.Idx))
    (ha : s'.a = accOf y (maxOf y s.m) s.m s.a v)
    (hs : Pre s A h I (512 * J)) : Inv s' A h I (512 * (J + 1)) := by
  intro r
  have key : ∃ μ : EReal, (∀ d : Fin 128, s.m (ix2 r d : S2048x128.Idx) = μ) ∧ μ < ⊤ ∧ (⊥ < μ ∨ J = 0)
      ∧ ∀ (d : Fin 128) (t' : ℝ), Ideal.exp2 (μ - (t' : EReal)) * s.a (ix2 r d : S2048x128.Idx)
          = ((A.acc h (2048 * I + r.val) d t' (512 * J) : ℝ) : EReal) := by
    rcases hs with ⟨hn, rfl⟩ | hs
    · refine ⟨⊥, fun d => pay7_at r d, bot_lt_top, Or.inr (by omega), fun d t' => ?_⟩
      rw [hn, EReal.bot_sub, Ideal.exp2_bot, zero_mul]
      exact (congrArg (fun a : ℝ => (a : EReal)) (Finset.sum_range_zero _)).symm
    · obtain ⟨t, h1, h2⟩ := hs r
      refine ⟨t, h1, EReal.coe_lt_top _, Or.inl (EReal.bot_lt_coe _), fun d t' => ?_⟩
      rw [h2, ← EReal.coe_sub, Ideal.exp2_coe, ← EReal.coe_mul]
      exact congrArg (fun a : ℝ => (a : EReal)) (A.acc_shift h _ d t t' _)
  obtain ⟨μ, hμ, hlt, hgt, hacc⟩ := key
  obtain ⟨t, ht⟩ := max_real μ (fun x : Fin 512 => y (ix2 r x : S2048x512.Idx)) hlt
    (fun x => by
      show y (ix2 r x : S2048x512.Idx) < ⊤
      rw [hy]; split
      · exact EReal.coe_lt_top _
      · exact bot_lt_top)
    (hgt.imp id fun hJ => ⟨0, by
      show ⊥ < y (ix2 r 0 : S2048x512.Idx)
      rw [hy, if_pos (by subst hJ; exact Nat.zero_le _)]; exact EReal.bot_lt_coe _⟩)
  have hM : ∀ d : Fin 128, maxOf y s.m (ix2 r d : S2048x128.Idx) = ((t : ℝ) : EReal) := fun d => by
    rw [maxOf_at, hμ]; exact ht
  refine ⟨t, fun d => (hm r d).trans (hM d), fun d => ?_⟩
  rw [ha, accOf_at, hM, hμ, hacc]
  have e : ∑ x : Fin 512, wOf y (maxOf y s.m) (ix2 r x : S2048x512.Idx) * v (ix3 0 x d : S1x512x128.Idx)
      = ((∑ x : Fin 512, (if 512 * J + x.val ≤ 2048 * I + r.val then (2 : ℝ) ^ ((A.blk h I J).z r x - t) * (A.blk h I J).v x d else 0) : ℝ) : EReal) := by
    rw [← block_real]
    exact Finset.sum_congr rfl fun x _ => by rw [wOf_at y _ _ r hM, hy, hv]
  rw [e, ← EReal.coe_add, show 512 * (J + 1) = 512 * J + 512 by ring, A.acc_add]
  rfl

end Cert.ForwardIdeal.Fwd

end
-- ==== Proof.Fwd.Accum.lean ====
/-
  The grid's points: the query block and the key block of each, and what the two arrays hold after every point.
-/
module

public import proofs.«01_k».proof.Proof.Fwd.Obligation
public import proofs.«01_k».proof.Proof.Fwd.Online
public import Idealize.ShloMosaic.Lib.Pipeline.ValueKit

@[expose] public section

set_option maxRecDepth 16384
set_option Elab.async false

noncomputable section

namespace Cert.ForwardIdeal.Fwd

open Cert.ForwardIdeal Cert.ForwardIdeal.Gen
open Cert.KernelIdeal.Attn (row row_val)
open Idealize.ShloMosaic
open Idealize.ShloMosaic.TcCoe
open Idealize.ShloMosaic.Pipeline (Dat Cfg Window)

/-- The query block of the `s`-th point of a head, and the key block. -/
def nI (s : ℕ) : ℕ :=
  if s < 4 then 0 else if s < 12 then 1 else if s < 24 then 2 else if s < 40 then 3 else if s < 60 then 4 else if s < 84 then 5
  else if s < 112 then 6 else 7
def nJ (s : ℕ) : ℕ := s - 2 * nI s * (nI s + 1)
/-- The last point of a query block. -/
def lastOf (i : ℕ) : ℕ := 2 * i * (i + 1) + 4 * i + 3

theorem order : ∀ s : Fin 144, nI s < 8 ∧ nJ s ≤ 4 * nI s + 3 ∧ (nJ s ≠ 0 → 0 < s.val ∧ nI (s.val - 1) = nI s ∧ nJ (s.val - 1) + 1 = nJ s) := by
  decide +kernel
theorem lastOf_spec : ∀ i : Fin 8, lastOf i < 144 ∧ nI (lastOf i) = i ∧ nJ (lastOf i) = 4 * i + 3 := by decide +kernel

theorem words : ∀ t : Fin cfgA.N, wI t = BitVec.ofNat 32 (nI (t.val % 144)) ∧ wJ t = BitVec.ofNat 32 (nJ (t.val % 144)) := by decide +kernel
theorem N_0' : cfgA.N = 1152 := by decide +kernel

/-- The block of each window at a point. -/
theorem idxQ : ∀ t : Fin cfgA.N, (cfgA.win 0).index t = ![t.val / 144, nI (t.val % 144), 0] := by decide +kernel
theorem idxK : ∀ t : Fin cfgA.N, (cfgA.win 1).index t = ![t.val / 144, nJ (t.val % 144), 0] := by decide +kernel
theorem idxV : ∀ t : Fin cfgA.N, (cfgA.win 2).index t = ![t.val / 144, nJ (t.val % 144), 0] := by decide +kernel
theorem idxO : ∀ t : Fin cfgA.N, (cfgA.win 3).index t = ![t.val / 144, nI (t.val % 144), 0] := by decide +kernel
theorem idxL : ∀ t : Fin cfgA.N, (cfgA.win 4).index t = ![t.val / 144, nI (t.val % 144), 0] := by decide +kernel

/-- A query block is written back at its last point. -/
theorem flushes : ∀ h : Fin 8, ∀ i : Fin 8, ∀ e : 144 * h.val + lastOf i.val < cfgA.N,
    (cfgA.win 3).flushF ⟨144 * h.val + lastOf i.val, e⟩ = true ∧ (cfgA.win 4).flushF ⟨144 * h.val + lastOf i.val, e⟩ = true := by
  decide +kernel

theorem condZ_at : ∀ j : Fin 32, condZ (BitVec.ofNat 32 j.val) = 1#1 ↔ j.val = 0 := by decide +kernel
theorem condB_at : ∀ i : Fin 8, ∀ j : Fin 32, condB (BitVec.ofNat 32 i.val) (BitVec.ofNat 32 j.val) = 1#1 → 512 * j.val + 511 ≤ 2048 * i.val := by
  decide +kernel
theorem cond4_at : ∀ i : Fin 8, ∀ j : Fin 32, k0_cond4 (BitVec.ofNat 32 i.val) (BitVec.ofNat 32 j.val) = 1#1 → j.val = 4 * i.val + 3 := by
  decide +kernel

/-- Point `s` of head `h`. -/
def pt (h : Fin 8) (s : ℕ) (hs : s < 144) : Fin cfgA.N :=
  ⟨144 * h.val + s, lt_of_lt_of_eq (by have := h.isLt; omega : 144 * h.val + s < 1152) N_0'.symm⟩

theorem pt_mod (h : Fin 8) (s : ℕ) (hs : s < 144) : (pt h s hs).val % 144 = s := by
  show (144 * h.val + s) % 144 = s; omega
theorem pt_div (h : Fin 8) (s : ℕ) (hs : s < 144) : (pt h s hs).val / 144 = h.val := by
  show (144 * h.val + s) / 144 = h.val; omega
theorem is_pt (t : Fin cfgA.N) : ∃ (h : Fin 8) (s : ℕ) (hs : s < 144), t = pt h s hs := by
  have ht : t.val < 1152 := lt_of_lt_of_eq t.isLt N_0'
  exact ⟨⟨t.val / 144, by omega⟩, t.val % 144, Nat.mod_lt _ (by decide), Fin.ext (by show t.val = 144 * (t.val / 144) + t.val % 144; omega)⟩

/-- The mask's comparison of two positions. -/
theorem sle_word (a b : ℕ) (ha : a < 16384) (hb : b < 16384) :
    IntOp.cmpi .sle (BitVec.ofNat 32 a) (BitVec.ofNat 32 b) = 1#1 ↔ a ≤ b := by
  have ta : (BitVec.ofNat 32 a).toInt = a := by
    rw [BitVec.toInt_eq_toNat_of_lt] <;> rw [BitVec.toNat_ofNat] <;> omega
  have tb : (BitVec.ofNat 32 b).toInt = b := by
    rw [BitVec.toInt_eq_toNat_of_lt] <;> rw [BitVec.toNat_ofNat] <;> omega
  show BitVec.ofBool (BitVec.sle _ _) = 1#1 ↔ _
  rw [BitVec.sle, ta, tb]
  by_cases h : a ≤ b
  · simp [h]
  · simp [h]

theorem maskW_iff (i j : ℕ) (hi : i < 8) (hj : j < 32) (r : Fin 2048) (x : Fin 512) :
    maskW (BitVec.ofNat 32 i) (BitVec.ofNat 32 j) r x = 1#1 ↔ 512 * j + x.val ≤ 2048 * i + r.val := by
  have ej : IntOp.addi (Scalar.muli (BitVec.ofNat 32 j) 512#32) (BitVec.ofNat 32 x.val) = BitVec.ofNat 32 (j * 512 + x.val) := by
    show BitVec.ofNat 32 j * BitVec.ofNat 32 512 + BitVec.ofNat 32 x.val = _
    rw [BitVec.ofNat_add, BitVec.ofNat_mul]
  have ei : IntOp.addi (Scalar.muli (BitVec.ofNat 32 i) 2048#32) (BitVec.ofNat 32 r.val) = BitVec.ofNat 32 (i * 2048 + r.val) := by
    show BitVec.ofNat 32 i * BitVec.ofNat 32 2048 + BitVec.ofNat 32 r.val = _
    rw [BitVec.ofNat_add, BitVec.ofNat_mul]
  rw [maskW, ej, ei]
  exact (sle_word _ _ (by omega) (by omega)).trans (by omega)

/-- One point on reals. -/
theorem stepOf_inv (A : Arr) (h : Fin 8) (I J : ℕ) (hI : I < 8) (hJ : J < 32) (b : Blk) (H : Holds b (A.blk h I J)) (s : Acc)
    (hs : J = 0 ∨ Inv s A h I (512 * J)) : Inv (stepOf (BitVec.ofNat 32 I) (BitVec.ofNat 32 J) b s) A h I (512 * (J + 1)) := by
  have hp : Pre (if condZ (BitVec.ofNat 32 J) = 1#1 then start else s) A h I (512 * J) := by
    have e := condZ_at ⟨J, hJ⟩
    by_cases q : J = 0
    · rw [if_pos (e.2 q)]; exact Or.inl ⟨by omega, rfl⟩
    · rw [if_neg fun q' => q (e.1 q')]; exact Or.inr (hs.resolve_left q)
  unfold stepOf
  generalize (if condZ (BitVec.ofNat 32 J) = 1#1 then start else s) = s₀ at hp ⊢
  dsimp only
  split
  · rename_i q
    have hq := condB_at ⟨I, hI⟩ ⟨J, hJ⟩ q
    refine push A h I J (k0_pay9 b.q b.k) b.v s₀ _ (fun r x => ?_) H.v (fun r d => ?_) (pay11_eq b s₀.m s₀.a) hp
    · rw [scores b _ H, if_pos]
      have : 512 * J + 511 ≤ 2048 * I := hq
      omega
    · exact (pay12_at b s₀.m r d).trans (congrFun (pay10_eq b s₀.m) _)
  · refine push A h I J (k0_pay4 (BitVec.ofNat 32 I) (BitVec.ofNat 32 J) b.q b.k) b.v s₀ _ (fun r x => ?_) H.v (fun r d => ?_)
      (pay6_eq _ _ b s₀.m s₀.a) hp
    · rw [scores_masked _ _ b _ H]
      simp only [maskW_iff I J hI hJ]
    · exact (pay13_at _ r d).trans (congrFun (pay5_eq _ _ b s₀.m) _)

variable {V : Dev nD → Valuation τ sig (Elt Ideal)} {c : Dev nD} {A : Arr}

/-- The two arrays after every point. -/
theorem accum (HB : ∀ h s hs, Holds (blkAt V c (pt h s hs)) (A.blk h (nI s) (nJ s))) (h : Fin 8) :
    ∀ s, ∀ hs : s < 144, Inv (st V c ((pt h s hs).val + 1)) A h (nI s) (512 * (nJ s + 1)) := by
  intro s
  induction s with
  | zero =>
    intro hs
    obtain ⟨w0, w1⟩ := words (pt h 0 hs)
    rw [pt_mod] at w0 w1
    rw [st_succ, stepAt, w0, w1]
    exact stepOf_inv A h _ _ (by decide) (by decide) _ (HB h 0 hs) _ (Or.inl (by decide))
  | succ s ih =>
    intro hs
    obtain ⟨o1, o2, o3⟩ := order ⟨s + 1, hs⟩
    obtain ⟨w0, w1⟩ := words (pt h (s + 1) hs)
    rw [pt_mod] at w0 w1
    rw [st_succ, stepAt, w0, w1]
    refine stepOf_inv A h _ _ o1 (by simp only at o1 o2; omega) _ (HB h (s + 1) hs) _ ?_
    by_cases q : nJ (s + 1) = 0
    · exact Or.inl q
    · obtain ⟨-, e1, e2⟩ := o3 q
      have := ih (by omega)
      simp only [Nat.add_sub_cancel] at e1 e2
      rw [e1, e2] at this
      exact Or.inr this

end Cert.ForwardIdeal.Fwd

end
-- ==== Proof.Fwd.Final.lean ====
/-
  What the kernel's two result arrays hold at the end: the attention output and the log-sum.
-/
module

public import proofs.«01_k».proof.Proof.Fwd.Accum
public import proofs.«01_k».proof.Proof.Attn.Softmax

@[expose] public section

set_option maxRecDepth 16384
set_option Elab.async false

noncomputable section

namespace Cert.ForwardIdeal.Fwd

open Cert.ForwardIdeal Cert.ForwardIdeal.Gen
open Cert.KernelIdeal.Attn (Real4 row row_val row_self σ)
open Idealize.ShloMosaic
open Idealize.ShloMosaic.TcCoe
open Idealize.ShloMosaic.Pipeline (Dat Cfg Window)

/-- What the kernel takes: the queries scaled so that exponentials are powers of two. -/
def takes4 (X : Real4) : Arr where
  q := fun h i d => X.q h i d * (σ / Real.log 2)
  k := X.k
  v := X.v

theorem z_eq (X : Real4) (h : Fin 8) (i j : Fin 16384) : (takes4 X).z h i j = X.s h i j / Real.log 2 := by
  show ∑ d, X.q h i d * (σ / Real.log 2) * X.k h j d = (∑ d, X.q h i d * X.k h j d) * σ / Real.log 2
  rw [Finset.sum_mul, Finset.sum_div]
  exact Finset.sum_congr rfl fun d _ => by ring

/-- Once every key of the row is met, the sum is the softmax's up to a factor that does not depend on the lane. -/
theorem acc_all (X : Real4) (h : Fin 8) (i : Fin 16384) (d : Fin 128) (t : ℝ) (n : ℕ) (hn : i.val < n) (hn' : n ≤ 16384) :
    (takes4 X).acc h i.val d t n = Real.exp (X.mx h i - t * Real.log 2) * ∑ j, X.ex h i j * X.v h j d := by
  have hl := Real4.log2_pos
  have e : (takes4 X).acc h i.val d t n = (takes4 X).acc h i.val d t 16384 := by
    unfold Arr.acc
    refine Finset.sum_subset (Finset.range_mono hn') fun x _ hx => if_neg ?_
    have hx' : ¬ x < n := fun q => hx (Finset.mem_range.2 q)
    omega
  rw [e]
  unfold Arr.acc
  rw [Finset.sum_range (fun x => if x ≤ i.val then (2 : ℝ) ^ ((takes4 X).z h (row i.val) (row x) - t) * (takes4 X).v h (row x) d else 0), Finset.mul_sum]
  refine Finset.sum_congr rfl fun j _ => ?_
  rw [row_self, row_self, z_eq]
  unfold Real4.ex
  split
  · rw [Real.rpow_def_of_pos (by norm_num : (0 : ℝ) < 2), ← mul_assoc, ← Real.exp_add]
    show _ * X.v h j d = _ * X.v h j d
    congr 2
    field_simp
    ring
  · rw [zero_mul, mul_zero]

theorem out_all (X : Real4) (h : Fin 8) (i : Fin 16384) (d : Fin 128) : (∑ j, X.ex h i j * X.v h j d) / X.tot h i = X.o h i d := by
  unfold Real4.o Real4.p
  rw [Finset.sum_div]
  exact Finset.sum_congr rfl fun j _ => by ring

variable {V : Dev nD → Valuation τ sig (Elt Ideal)} {c : Dev nD} {X : Real4}

/-- The arrays the kernel reads hold these reals, and the values' padding. -/
structure Reads (V : Dev nD → Valuation τ sig (Elt Ideal)) (c : Dev nD) (X : Real4) : Prop where
  q : ∀ (h : Fin 8) (i : Fin 16384) (d : Fin 128), V c (Proc.devRef .tc main_v7) (ix3 h i d : S8x16384x128.Idx) = ((X.q h i d * (σ / Real.log 2) : ℝ) : EReal)
  k : ∀ (h : Fin 8) (i : Fin 16384) (d : Fin 128), V c (Proc.devRef .tc main_v8) (ix3 h i d : S8x16384x128.Idx) = ((X.k h i d : ℝ) : EReal)
  v : ∀ (h : Fin 8) (i : Fin 16384) (d : Fin 128), V c (Proc.devRef .tc main_v9) (ix3 h i d : S8x16384x128.Idx) = ((X.v h i d : ℝ) : EReal)
  one : ∀ (h : Fin 8) (i : Fin 16384), X.v h i dl = 1

theorem readQ (h : Fin 8) (s : ℕ) (hs : s < 144) (r : Fin 2048) (d : Fin 128) :
    iblk V c (0 : Fin 5) (pt h s hs) (ix3 0 r d : S1x2048x128.Idx) = V c (Proc.devRef .tc main_v7) (ix3 h (row (2048 * nI s + r.val)) d : S8x16384x128.Idx) := by
  have e := idxQ (pt h s hs)
  have e0 := row_val (2048 * nI s + r.val) (by have := (order ⟨s, hs⟩).1; simp only at this; omega)
  rw [pt_mod, pt_div] at e
  blk_ext [iblk, e, e0]

theorem readK (h : Fin 8) (s : ℕ) (hs : s < 144) (r : Fin 512) (d : Fin 128) :
    iblk V c (1 : Fin 5) (pt h s hs) (ix3 0 r d : S1x512x128.Idx) = V c (Proc.devRef .tc main_v8) (ix3 h (row (512 * nJ s + r.val)) d : S8x16384x128.Idx) := by
  have e := idxK (pt h s hs)
  have e0 := row_val (512 * nJ s + r.val) (by have := order ⟨s, hs⟩; simp only at this; omega)
  rw [pt_mod, pt_div] at e
  blk_ext [iblk, e, e0]

theorem readV (h : Fin 8) (s : ℕ) (hs : s < 144) (r : Fin 512) (d : Fin 128) :
    iblk V c (2 : Fin 5) (pt h s hs) (ix3 0 r d : S1x512x128.Idx) = V c (Proc.devRef .tc main_v9) (ix3 h (row (512 * nJ s + r.val)) d : S8x16384x128.Idx) := by
  have e := idxV (pt h s hs)
  have e0 := row_val (512 * nJ s + r.val) (by have := order ⟨s, hs⟩; simp only at this; omega)
  rw [pt_mod, pt_div] at e
  blk_ext [iblk, e, e0]

theorem Reads.blocks (R : Reads V c X) (h : Fin 8) (s : ℕ) (hs : s < 144) : Holds (blkAt V c (pt h s hs)) ((takes4 X).blk h (nI s) (nJ s)) where
  q r d := (readQ h s hs r d).trans (R.q _ _ _)
  k x d := (readK h s hs x d).trans (R.k _ _ _)
  v x d := (readV h s hs x d).trans (R.v _ _ _)

theorem embO (h : Fin 8) (s : ℕ) (hs : s < 144) (x : Fin 2048) (d : Fin 128) :
    ((cfgA.win 3).blk (pt h s hs)).view.emb (ix3 0 x d : S1x2048x128.Idx) = (ix3 h (row (2048 * nI s + x.val)) d : S8x16384x128.Idx) := by
  have e := idxO (pt h s hs)
  have e0 := row_val (2048 * nI s + x.val) (by have := (order ⟨s, hs⟩).1; simp only at this; omega)
  rw [pt_mod, pt_div] at e
  blk_ext [e, e0]

theorem embL (h : Fin 8) (s : ℕ) (hs : s < 144) (x : Fin 2048) (d : Fin 128) :
    ((cfgA.win 4).blk (pt h s hs)).view.emb (ix3 0 x d : S1x2048x128.Idx) = (ix3 h (row (2048 * nI s + x.val)) d : S8x16384x128.Idx) := by
  have e := idxL (pt h s hs)
  have e0 := row_val (2048 * nI s + x.val) (by have := (order ⟨s, hs⟩).1; simp only at this; omega)
  rw [pt_mod, pt_div] at e
  blk_ext [e, e0]

/-- A query block is written back at its last point only. -/
theorem flushed_last (h : Fin 8) (s : ℕ) (hs : s < 144)
    (hf : (cfgA.win 3).flushF (pt h s hs) = true ∨ (cfgA.win 4).flushF (pt h s hs) = true) : nJ s = 4 * nI s + 3 := by
  obtain ⟨o1, o2, -⟩ := order ⟨s, hs⟩
  simp only at o1 o2
  by_contra q
  obtain ⟨w0, w1⟩ := words (pt h s hs)
  rw [pt_mod] at w0 w1
  have hn : ¬ k0_cond4 (wI (pt h s hs)) (wJ (pt h s hs)) = 1#1 := by
    rw [w0, w1]
    exact fun q' => q (cond4_at ⟨nI s, o1⟩ ⟨nJ s, by omega⟩ q')
  obtain ⟨f3, f4⟩ := (stores (pt h s hs)).2.2 hn
  rcases hf with hf | hf
  · rw [f3] at hf; exact Bool.noConfusion hf
  · rw [f4] at hf; exact Bool.noConfusion hf

/-- At a row's last point: a shift, the weighted values and the denominators. -/
theorem last_row (R : Reads V c X) (h : Fin 8) (s : ℕ) (hs : s < 144) (hl : nJ s = 4 * nI s + 3) (r : Fin 2048) :
    ∃ t : ℝ, (∀ d : Fin 128, (st V c ((pt h s hs).val + 1)).m (ix2 r d : S2048x128.Idx) = ((t : ℝ) : EReal))
      ∧ (∀ d : Fin 128, (st V c ((pt h s hs).val + 1)).a (ix2 r d : S2048x128.Idx)
          = ((Real.exp (X.mx h (row (2048 * nI s + r.val)) - t * Real.log 2)
              * ∑ j, X.ex h (row (2048 * nI s + r.val)) j * X.v h j d : ℝ) : EReal))
      ∧ (st V c ((pt h s hs).val + 1)).a (ix2 r dl : S2048x128.Idx)
          = ((Real.exp (X.mx h (row (2048 * nI s + r.val)) - t * Real.log 2) * X.tot h (row (2048 * nI s + r.val)) : ℝ) : EReal) := by
  have o1 := (order ⟨s, hs⟩).1
  simp only at o1
  obtain ⟨t, h1, h2⟩ := accum R.blocks h s hs r
  have e0 := row_val (2048 * nI s + r.val) (by omega)
  have h2' : ∀ d : Fin 128, (st V c ((pt h s hs).val + 1)).a (ix2 r d : S2048x128.Idx)
          = ((Real.exp (X.mx h (row (2048 * nI s + r.val)) - t * Real.log 2)
              * ∑ j, X.ex h (row (2048 * nI s + r.val)) j * X.v h j d : ℝ) : EReal) := fun d => by
    rw [h2, ← acc_all X h (row (2048 * nI s + r.val)) d t (512 * (nJ s + 1)) (by rw [e0, hl]; omega) (by omega), e0]
  refine ⟨t, h1, h2', (h2' dl).trans ?_⟩
  have e : ∑ j, X.ex h (row (2048 * nI s + r.val)) j * X.v h j dl = X.tot h (row (2048 * nI s + r.val)) := by
    unfold Real4.tot
    exact Finset.sum_congr rfl fun j _ => by rw [R.one, mul_one]
  rw [e]

theorem cover (i : S8x16384x128.Idx) : ∃ (hl : lastOf ((i 1).val / 2048) < 144),
    (ix3 (i 0) (row (2048 * nI (lastOf ((i 1).val / 2048)) + (i 1).val % 2048)) (i 2) : S8x16384x128.Idx) = i ∧ (i 1).val / 2048 < 8 := by
  have hi : (i 1).val < 16384 := (i 1).isLt
  have hj : (i 1).val / 2048 < 8 := by omega
  have hl := lastOf_spec ⟨(i 1).val / 2048, hj⟩
  refine ⟨hl.1, Eq.trans ?_ (eq_ix3 i).symm, hj⟩
  refine congrArg (fun z : Fin 16384 => (ix3 (i 0) z (i 2) : S8x16384x128.Idx)) (Fin.ext ?_)
  have := hl.2.1
  simp only at this
  rw [this]
  rw [row_val _ (by omega)]
  show 2048 * ((i 1).val / 2048) + (i 1).val % 2048 = (i 1).val
  omega

/-- The array of the output. -/
theorem finalO (R : Reads V c X) : (dats V 0 c).arrAt (3 : Fin 5) cfgA.N = fun i : S8x16384x128.Idx => ((X.o (i 0) (i 1) (i 2) : ℝ) : EReal) := by
  refine (dats V 0 c).arrAt_eq_of_emb (3 : Fin 5) _ (fun t hf y => ?_) fun i => ?_
  · obtain ⟨h, s, hs, rfl⟩ := is_pt t
    have hl := flushed_last h s hs (.inl ((Pipeline.Window.flush_eq_flushF _ _).symm.trans hf))
    obtain ⟨x, d, rfl⟩ : ∃ (x : Fin 2048) (d : Fin 128), y = (ix3 0 x d : S1x2048x128.Idx) :=
      ⟨y 1, y 2, (eq_ix3 (y : S1x2048x128.Idx)).trans (congrArg (fun z : Fin 1 => (ix3 z (y 1) (y 2) : S1x2048x128.Idx)) (Subsingleton.elim _ _))⟩
    refine Eq.trans ?_ (congrArg (fun i : S8x16384x128.Idx => ((X.o (i 0) (i 1) (i 2) : ℝ) : EReal)) (embO h s hs x d)).symm
    obtain ⟨t, h1, h2, h3⟩ := last_row R h s hs hl x
    refine (pay2_at _ x d).trans ?_
    have hc := (Real.exp_pos (X.mx h (row (2048 * nI s + x.val)) - t * Real.log 2)).ne'
    have ht := (X.tot_pos h (row (2048 * nI s + x.val))).ne'
    rw [h2, h3, Ideal.div_coe (mul_ne_zero hc ht), ← EReal.coe_mul, mul_one_div, mul_div_mul_left _ _ hc, out_all]
    rfl
  · obtain ⟨hl, e, hj⟩ := cover i
    refine ⟨pt (i 0) (lastOf ((i 1).val / 2048)) hl, (Pipeline.Window.flush_eq_flushF _ _).trans (flushes (i 0) ⟨_, hj⟩ _).1, ?_⟩
    exact Finset.mem_map.2 ⟨(ix3 0 ⟨(i 1).val % 2048, Nat.mod_lt _ (by decide)⟩ (i 2) : S1x2048x128.Idx), Finset.mem_univ _, (embO (i 0) _ hl _ (i 2)).trans e⟩

/-- The array of the log-sum. -/
theorem finalL (R : Reads V c X) : (dats V 0 c).arrAt (4 : Fin 5) cfgA.N = fun i : S8x16384x128.Idx => ((X.l (i 0) (i 1) : ℝ) : EReal) := by
  refine (dats V 0 c).arrAt_eq_of_emb (4 : Fin 5) _ (fun t hf y => ?_) fun i => ?_
  · obtain ⟨h, s, hs, rfl⟩ := is_pt t
    have hl := flushed_last h s hs (.inr ((Pipeline.Window.flush_eq_flushF _ _).symm.trans hf))
    obtain ⟨x, d, rfl⟩ : ∃ (x : Fin 2048) (d : Fin 128), y = (ix3 0 x d : S1x2048x128.Idx) :=
      ⟨y 1, y 2, (eq_ix3 (y : S1x2048x128.Idx)).trans (congrArg (fun z : Fin 1 => (ix3 z (y 1) (y 2) : S1x2048x128.Idx)) (Subsingleton.elim _ _))⟩
    refine Eq.trans ?_ (congrArg (fun i : S8x16384x128.Idx => ((X.l (i 0) (i 1) : ℝ) : EReal)) (embL h s hs x d)).symm
    obtain ⟨t, h1, h2, h3⟩ := last_row R h s hs hl x
    refine (pay3_at _ _ x d).trans ?_
    have hc := Real.exp_pos (X.mx h (row (2048 * nI s + x.val)) - t * Real.log 2)
    have ht := X.tot_pos h (row (2048 * nI s + x.val))
    have hlog := Real4.log2_pos
    rw [h1, h3, Ideal.log_coe, if_neg (not_le.2 (mul_pos hc ht)), ← EReal.coe_mul, ← EReal.coe_add, Real.log_mul hc.ne' ht.ne', Real.log_exp]
    refine congrArg (fun a : ℝ => (a : EReal)) ?_
    show _ = (X.mx h (row (2048 * nI s + x.val)) + Real.log (X.tot h (row (2048 * nI s + x.val)))) / Real.log 2
    field_simp
    ring
  · obtain ⟨hl, e, hj⟩ := cover i
    refine ⟨pt (i 0) (lastOf ((i 1).val / 2048)) hl, (Pipeline.Window.flush_eq_flushF _ _).trans (flushes (i 0) ⟨_, hj⟩ _).2, ?_⟩
    exact Finset.mem_map.2 ⟨(ix3 0 ⟨(i 1).val % 2048, Nat.mod_lt _ (by decide)⟩ (i 2) : S1x2048x128.Idx), Finset.mem_univ _, (embL (i 0) _ hl _ (i 2)).trans e⟩

end Cert.ForwardIdeal.Fwd

end
-- ==== Proof.Fwd.Run.lean ====
/-
  The attention forward program from its launch: the host operations, the kernel, and the host operation after it. Every execution terminates, the
  arrays end at what the points compute, the arguments end unchanged and the counters end at zero.
-/
module

public import proofs.«01_k».proof.Proof.Fwd.Obligation
public import Idealize.ShloMosaic.Lib.Pipeline.RegionArraysTS
public import Idealize.ShloMosaic.Lib.Pipeline.Regions
public import Idealize.ShloMosaic.Lib.StableHlo.Run

@[expose] public section

set_option maxRecDepth 16384
set_option Elab.async false

noncomputable section

namespace Cert.ForwardIdeal.Fwd

open Cert.ForwardIdeal Cert.ForwardIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁
abbrev 𝒱₀ : Variants := Variants.none

/-- The pipeline's copies are recorded on the TensorCore's cells, all at one level. -/
def L (g : GSem nD τ sig) : Finset Unit := if g.1.2 = Proc.tc then {()} else ∅
def lv (_ : GSem nD τ sig) (_ : Unit) : ℕ := 0

variable (m : (ℓ : Loc nD τ sig) → Buf (Elt Ideal) ℓ) (ρ : Dev nD → PrngReg)

/-- The buffers at launch, when the kernel is entered, after it, and at the end. -/
def V₀ (c : Dev nD) : Valuation τ sig (Elt Ideal) := fun b => m (c, b)
def V₁ (c : Dev nD) : Valuation τ sig (Elt Ideal) := StableHlo.after hostOps0 (V₀ m c)
def V₂ (c : Dev nD) : Valuation τ sig (Elt Ideal) := Pipeline.afterRegion (dats (V₁ m) 0 c) (V₁ m c)
def V₃ (c : Dev nD) : Valuation τ sig (Elt Ideal) := StableHlo.after hostOps1 (V₂ m c)

theorem V₁_c (c : Dev nD) : V₁ m c (Proc.devRef .tc main_c) = tblI := by
  unfold V₁; after_results; rfl
theorem V₁_c0 (c : Dev nD) : V₁ m c (Proc.devRef .tc main_c_0) = tblJ := by
  unfold V₁; after_results; rfl

/-- The tables the kernel is entered at are the ones the host operations left. -/
theorem tables_at (c : Dev nD) (k : Fin 2) : tbl k = V₁ m c (Proc.devRef .tc (pre0.ref k)) := by
  fin_cases k
  · exact (V₁_c m c).symm
  · exact (V₁_c0 m c).symm

/-- The tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem share_eq (c : Dev nD) (w : Fin cfgA.W) : (dats (V₁ m) 0 c).share w = fullShare := by unfold Dat.share; split <;> rfl

/-- The invariant in the buffers' own names. -/
theorem Phi_eq (V : Dev nD → Valuation τ sig (Elt Ideal)) (c : Dev nD) (t : Fin (cfgA.N + 1)) :
    Phi V c t = iprop((∃ a, ⌜t.val ≠ 0 → a = (st V c t.val).m⌝ ∗ (((c : Thread nD τ).loc cc0_scratch0) ↦{fullShare} a))
      ∗ (∃ a, ⌜t.val ≠ 0 → a = (st V c t.val).a⌝ ∗ (((c : Thread nD τ).loc cc0_scratch1) ↦{fullShare} a))
      ∗ (((c : Thread nD τ).loc main_c) ↦{fullShare} tblI) ∗ (((c : Thread nD τ).loc main_c_0) ↦{fullShare} tblJ)) := by
  unfold Phi scM scA
  congr 1
  · congr 1; funext a; rw [owns_whole]
  · congr 1
    congr 1; funext a; rw [owns_whole]

theorem tables_eq (c : Dev nD) : (Pipeline.tablesAt pcfgs (fun _ => adm) 0 c : sProp 𝕄)
    = iprop((((c : Thread nD τ).loc main_c) ↦{fullShare} tblI) ∗ (((c : Thread nD τ).loc main_c_0) ↦{fullShare} tblJ)) :=
  prefHeld_eq c (fun _ => fullShare) tbl

/-- The invariant at the first point, from the scratch buffers and the tables. -/
theorem phi_first (c : Dev nD) :
    iprop(iprop(Pipeline.scopedRest spec0 c ∗ BI.emp) ∗ Pipeline.tablesAt pcfgs (fun _ => adm) 0 c) ⊢ (dats (V₁ m) 0 c).Φ 0 := by
  rw [tables_eq, scopedRest0_eq, show (dats (V₁ m) 0 c).Φ 0 = Phi (V₁ m) c 0 from rfl, Phi_eq]
  iintro ⟨⟨⟨⟨%a0, HS0⟩, ⟨%a1, HS1⟩⟩, -⟩, HT0, HT1⟩
  isplitl [HS0]
  · iexists a0; isplitr; swap
    · iexact HS0
    · ipureintro; intro h; exact absurd (Fin.val_zero _) h
  isplitl [HS1]
  · iexists a1; isplitr; swap
    · iexact HS1
    · ipureintro; intro h; exact absurd (Fin.val_zero _) h
  isplitl [HT0]
  · iexact HT0
  iexact HT1

/-- At the last point it gives both back. -/
theorem phi_last (c : Dev nD) :
    (dats (V₁ m) 0 c).Φ (Fin.last cfgA.N) ⊢ iprop(iprop(Pipeline.scopedRest spec0 c ∗ BI.emp) ∗ Pipeline.tablesAt pcfgs (fun _ => adm) 0 c) := by
  rw [tables_eq, scopedRest0_eq, show (dats (V₁ m) 0 c).Φ (Fin.last cfgA.N) = Phi (V₁ m) c (Fin.last _) from rfl, Phi_eq]
  iintro ⟨⟨%a0, -, HS0⟩, ⟨%a1, -, HS1⟩, HT0, HT1⟩
  isplitr [HT0 HT1]
  · isplitl [HS0 HS1]
    · isplitl [HS0]
      · iexists a0; iexact HS0
      iexists a1; iexact HS1
    · iempintro
  isplitl [HT0]
  · iexact HT0
  iexact HT1

theorem levels : Pipeline.LevelCut pcfgs (fun _ => adm) () L lv (0 : Fin 1) (0 : Dev nD → CellTallies nD τ sig Unit) (fun _ => 0) where
  hι c w s := Finset.mem_singleton.mpr rfl
  hιb c w s := le_rfl
  hD c g i h := absurd h (lt_irrefl _)

/-- What a core owes between two items: nothing. -/
def R (c : Dev nD) : sProp 𝕄 := iprop(∃ W, owes (c : Thread nD τ) (0 : CellTallies nD τ sig Unit) W)

theorem all_fresh0 : ∀ op ∈ (hostOps0 : List (HloOp τ sig (Elt Ideal))), op.fresh = ∅ := by
  intro _ h; (repeat (cases h with | head => rfl | tail _ h => ?_)); exact nomatch h
theorem all_fresh1 : ∀ op ∈ (hostOps1 : List (HloOp τ sig (Elt Ideal))), op.fresh = ∅ := by
  intro _ h; (repeat (cases h with | head => rfl | tail _ h => ?_)); exact nomatch h

abbrev ucs : Finset (DevRef τ sig) := Pipeline.ucRefs τ sig

def seg0 : Pipeline.HostSeg (Name := ℕ) (U := UR sig nD τ) (pcfgs (F := Ideal)) defs₀ 𝒱₀ L lv :=
  Pipeline.HostSeg.ofOps _ _ _ _ _ ucs hostOps0 (fun op h => Pipeline.sub_ucRefs op ((List.forall_iff_forall_mem.mp hostOps0_sub) op h)) all_fresh0 (V₀ m) R
def seg1 : Pipeline.HostSeg (Name := ℕ) (U := UR sig nD τ) (pcfgs (F := Ideal)) defs₀ 𝒱₀ L lv :=
  Pipeline.HostSeg.ofOps _ _ _ _ _ ucs hostOps1 (fun op h => Pipeline.sub_ucRefs op ((List.forall_iff_forall_mem.mp hostOps1_sub) op h)) all_fresh1 (V₂ m) R

def reg : Pipeline.RegionSeg (pcfgs (F := Ideal)) (fun _ => adm) (dats (V₁ m)) () defs₀ 𝒱₀ L lv (0 : Fin 1) :=
  Pipeline.RegionSeg.ofHeldInT (pcfgs (F := Ideal)) (fun _ => adm) (dats (V₁ m)) () defs₀ 𝒱₀ L lv (0 : Fin 1) 0 ucs
    (fun _ => iprop(emp)) (fun _ => iprop(emp)) launch0 (fun c => (body_obligation (V₁ m) c).loose) (fun _ _ => rfl) (fun _ => rfl)
    (share_eq m) (phi_first m) (phi_last m) (fun _ => 0) levels (fun _ => iprop(emp)) (V₁ m) (fun _ _ => rfl) (tables_at m)

abbrev segs : List (Pipeline.Seg (pcfgs (F := Ideal)) (fun _ => adm) (dats (V₁ m)) () defs₀ 𝒱₀ L lv) :=
  [.host (seg0 m), .region (reg m), .host (seg1 m)]

theorem sub_arr : Pipeline.arrRefs (τ := τ) (pcfgs (F := Ideal) 0).spec ⊆ ucs := Pipeline.arrRefs_sub_ucRefs spec0 (by decide)
theorem sub_tbl : Pipeline.tblRefs (τ := τ) (pcfgs (F := Ideal) 0).pre ⊆ ucs := Pipeline.tblRefs_sub_ucRefs pre0 (by decide)

theorem enter (c : Dev nD) : iprop(StableHlo.held (c.tc : Thread nD τ) ucs (V₁ m c) ∗ R c) ⊢ (reg m).pre c :=
  Entails.trans (by unfold R; iintro ⟨Hh, HO⟩; isplitl [Hh]; (· iexact Hh); isplitl [HO]; (· iexact HO); isplitr <;> iempintro)
    (Pipeline.RegionSeg.ofHeldInT_pre (pcs := pcfgs (F := Ideal)) (a := fun _ => adm) (pdats := dats (V₁ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₁ m) c).loose) (howed := fun _ _ => rfl) (hrec := fun _ => rfl)
      (hshare := share_eq m) (hin := phi_first m) (hout := phi_last m) (b := fun _ => 0) (hcut := levels) (R := fun _ => iprop(emp)) (W := V₁ m) (hW := fun _ _ => rfl) (hT := tables_at m) c)

theorem leave (c : Dev nD) : (reg m).post c ⊢ iprop(StableHlo.held (c.tc : Thread nD τ) ucs (V₂ m c) ∗ R c) :=
  (Pipeline.RegionSeg.ofHeldInT_post (pcs := pcfgs (F := Ideal)) (a := fun _ => adm) (pdats := dats (V₁ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₁ m) c).loose) (howed := fun _ _ => rfl) (hrec := fun _ => rfl)
      (hshare := share_eq m) (hin := phi_first m) (hout := phi_last m) (b := fun _ => 0) (hcut := levels) (R := fun _ => iprop(emp)) (W := V₁ m) (hW := fun _ _ => rfl) (hT := tables_at m) c).trans
    (by unfold R V₂; iintro ⟨Hh, HO, -, -⟩; isplitl [Hh]; (· iexact Hh); iexact HO)

def u₀ : UR sig nD τ :=
  initOf (Pipeline.cells pcs (cellOf_inj fun _ => adm)) (Pipeline.launchToks pcs (cellOf_inj fun _ => adm))

theorem launched : (ownU u₀ : sProp 𝕄) ⊢ BI.own (EP (initOf (Pipeline.cells pcs (cellOf_inj fun _ => adm)) (Pipeline.launchToks pcs (cellOf_inj fun _ => adm)))) := .rfl

/-- A buffer that stays allocated reads as it is held. -/
theorem read_ref (c : Dev nD) (W : Valuation τ sig (Elt Ideal)) (s' : Phys nD τ sig (Elt Ideal)) (r : Ref sig .tc)
    (hr : (Proc.devRef .tc r : DevRef τ sig) ∈ ucs) :
    iprop(StableHlo.held (c.tc : Thread nD τ) ucs W ∗ SI s')
      ⊢ (iprop(⌜s'.mem.mem ((c : Thread nD τ).loc r) = W (Proc.devRef .tc r)⌝ ∗ StableHlo.held (c.tc : Thread nD τ) ucs W ∗ SI s') : sProp 𝕄) := by
  rw [StableHlo.held_sub_split (c.tc : Thread nD τ) (Finset.singleton_subset_iff.mpr hr) W]
  unfold StableHlo.held
  rw [bigSep_singleton]
  iintro ⟨⟨H, Hr⟩, HSI⟩
  icombine HSI H gives %h
  isplitr; · ipureintro; exact Buf.eq_of_forall_mem_univ h
  isplitr [HSI]
  · isplitl [H]
    · iexact H
    iexact Hr
  iexact HSI

theorem stays (r : Ref sig .tc) (h : r.isScoped = false) : (Proc.devRef .tc r : DevRef τ sig) ∈ ucs :=
  Finset.mem_filter.mpr ⟨StableHlo.devRef_mem_tcRefs _, fun h' => Bool.false_ne_true (h.symm.trans h')⟩

/-- The buffers the program's claims speak of. -/
def Q (c : Dev nD) (s : MemSt nD τ sig (Elt Ideal)) : Prop :=
  (∀ r ∈ [main_v11, main_v10_1, main_arg0, main_arg1, main_arg2],
    s.mem ((c : Thread nD τ).loc r) = V₃ m c (Proc.devRef .tc r))

theorem read_all (c : Dev nD) (s' : Phys nD τ sig (Elt Ideal)) :
    iprop(iprop(StableHlo.held (c.tc : Thread nD τ) ucs (V₃ m c)) ∗ SI s') ⊢ (|={Set.univ}=> iprop(⌜Q m c s'.mem⌝ ∗ SI s') : sProp 𝕄) := by
  have h0 := read_ref c (V₃ m c) s' main_v11 (stays _ rfl)
  have h1 := read_ref c (V₃ m c) s' main_v10_1 (stays _ rfl)
  have h2 := read_ref c (V₃ m c) s' main_arg0 (stays _ rfl)
  have h3 := read_ref c (V₃ m c) s' main_arg1 (stays _ rfl)
  have h4 := read_ref c (V₃ m c) s' main_arg2 (stays _ rfl)
  iintro H
  ihave H := h0 $$ H
  icases H with ⟨%e0, H⟩
  ihave H := h1 $$ H
  icases H with ⟨%e1, H⟩
  ihave H := h2 $$ H
  icases H with ⟨%e2, H⟩
  ihave H := h3 $$ H
  icases H with ⟨%e3, H⟩
  ihave H := h4 $$ H
  icases H with ⟨%e4, -, HSI⟩
  imodintro
  isplitr
  · ipureintro
    unfold Q
    intro r hr
    simp only [List.mem_cons, List.mem_nil_iff, or_false] at hr
    rcases hr with rfl | rfl | rfl | rfl | rfl <;> assumption
  iexact HSI

set_option backward.isDefEq.respectTransparency.types false in
set_option maxHeartbeats 4000000 in
/-- From any memory with zero counters, every weakly fair execution of the program terminates, and every final state has the
    buffers above at what the points compute and every counter at zero. -/
theorem run_main : θ_run (defs (F := Ideal)) (onTc (τ := τ) (main (F := Ideal))) ⟨m, fun _ => 0, ρ⟩ (fun r => (∀ c, Q m c r.2) ∧ r.2.sem = fun _ => 0) :=
  Pipeline.θ_run_regions_kit_sems (pcfgs (F := Ideal)) (fun _ => adm) (dats (V₁ m)) () (cellOf_inj fun _ => adm) EP defs₀ 𝒱₀ L lv m ρ main (segs m)
    (fun c Q => by rw [Pipeline.Seg.run_eq_chain, main_chain c]; exact .rfl)
    (by simp only [Pipeline.Seg.pipes_host, Pipeline.Seg.pipes_region, Pipeline.Seg.pipes_nil]; decide) (O₀ := 0)
    (hL := fun g h => if_neg h) (G := fun _ => iprop(emp)) (u₀ := u₀)
    (hu₀ := by
      iintro Hu
      ihave Hp := launched $$ Hu
      imodintro
      isplitl [Hp]; · iexact Hp
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) ucs (V₀ m c) ∗ R c))
    (Tₙ := fun c => iprop(StableHlo.held (c.tc : Thread nD τ) ucs (V₃ m c)))
    (hch := ⟨fun _ => .rfl, enter m, leave m, fun _ => .rfl⟩)
    (hinit := by
      refine Pipeline.initEach L lv fun c => ?_
      rw [show unscopedBufs c (fun b => m ((c : Thread nD τ).loc b)) = StableHlo.held (c : Thread nD τ) ucs (V₀ m c) from Pipeline.unscopedBufs_held c (V₀ m c)]
      unfold R
      iintro ⟨⟨Hh, -, HO, -, -, -⟩, -⟩
      imodintro
      isplitl [Hh]; · iexact Hh
      iexists ∅; iexact HO)
    (QY := fun c s => Q m c s)
    (hfin := fun c s' => read_all m c s')
    (hQ := fun _ h hz => ⟨h, funext fun g => hz g (.inr (by revert g; decide))⟩)

theorem V₃_arg0 (c : Dev nD) : V₃ m c (Proc.devRef .tc main_arg0) = m ((c.tc : Thread nD τ).loc main_arg0) := by
  have e : V₃ m c (Proc.devRef .tc main_arg0) = V₂ m c (Proc.devRef .tc main_arg0) := by unfold V₃; after_results
  have e' : V₁ m c (Proc.devRef .tc main_arg0) = V₀ m c (Proc.devRef .tc main_arg0) := by unfold V₁; after_results
  exact (e.trans (Pipeline.afterRegion_of_not_arr (dats (V₁ m) 0 c) (V₁ m c) (by decide))).trans e'
theorem V₃_arg1 (c : Dev nD) : V₃ m c (Proc.devRef .tc main_arg1) = m ((c.tc : Thread nD τ).loc main_arg1) := by
  have e : V₃ m c (Proc.devRef .tc main_arg1) = V₂ m c (Proc.devRef .tc main_arg1) := by unfold V₃; after_results
  have e' : V₁ m c (Proc.devRef .tc main_arg1) = V₀ m c (Proc.devRef .tc main_arg1) := by unfold V₁; after_results
  exact (e.trans (Pipeline.afterRegion_of_not_arr (dats (V₁ m) 0 c) (V₁ m c) (by decide))).trans e'
theorem V₃_arg2 (c : Dev nD) : V₃ m c (Proc.devRef .tc main_arg2) = m ((c.tc : Thread nD τ).loc main_arg2) := by
  have e : V₃ m c (Proc.devRef .tc main_arg2) = V₂ m c (Proc.devRef .tc main_arg2) := by unfold V₃; after_results
  have e' : V₁ m c (Proc.devRef .tc main_arg2) = V₀ m c (Proc.devRef .tc main_arg2) := by unfold V₁; after_results
  exact (e.trans (Pipeline.afterRegion_of_not_arr (dats (V₁ m) 0 c) (V₁ m c) (by decide))).trans e'

/-- The program runs, its arguments end unchanged and its counters end at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_arg0 (by simp)).trans (V₃_arg0 m c), (h.1 c main_arg1 (by simp)).trans (V₃_arg1 m c),
      (h.1 c main_arg2 (by simp)).trans (V₃_arg2 m c)⟩, h.2⟩) (run_main m ρ)

end Cert.ForwardIdeal.Fwd

end
-- ==== Proof.Fwd.Host.lean ====
/- What the host operations before the kernel leave in the arrays it is called on, and what the one after it returns. -/
module

public import proofs.«01_k».proof.Proof.Fwd.Final
public import proofs.«01_k».proof.Proof.Fwd.Run
public import proofs.«01_k».proof.Proof.Attn.Forward
public import Idealize.ShloMosaic.Lib.Pointwise
public import Idealize.ShloMosaic.Lib.IdealHost

@[expose] public section

set_option maxRecDepth 16384
set_option Elab.async false

noncomputable section

namespace Cert.ForwardIdeal.Fwd

open Cert.ForwardIdeal Cert.ForwardIdeal.Gen
open Cert.KernelIdeal.Attn (Real4 σ σ_eq ofBits_two log_two)
open Idealize.ShloMosaic Idealize.ShloMosaic.TcCoe Idealize.ShloMosaic.Tactic

/-- Queries, keys and values of 64 lanes as the softmax takes them: the values padded by a lane of ones and 63 of zeros. -/
def pad (q k : Fin 8 → Fin 16384 → Fin 128 → ℝ) (v : Fin 8 → Fin 16384 → Fin 64 → ℝ) : Real4 where
  q := q
  k := k
  v := fun h j d => if hd : d.val < 64 then v h j ⟨d.val, hd⟩ else if d.val < 65 then 1 else 0
  g := fun _ _ _ => 0

/-- A lane of the output. -/
def lane (d : Fin 64) : Fin 128 := ⟨d.val, by omega⟩

variable (m : (ℓ : Loc nD τ sig) → Buf (Elt Ideal) ℓ) {q k : Fin 8 → Fin 16384 → Fin 128 → ℝ} {v : Fin 8 → Fin 16384 → Fin 64 → ℝ}

/-- The arguments hold these reals on a device. -/
structure Args (c : Dev nD) (q k : Fin 8 → Fin 16384 → Fin 128 → ℝ) (v : Fin 8 → Fin 16384 → Fin 64 → ℝ) : Prop where
  q : ∀ h i d, m ((c.tc : Thread nD τ).loc main_arg0) (ix3 h i d : S8x16384x128.Idx) = ((q h i d : ℝ) : EReal)
  k : ∀ h i d, m ((c.tc : Thread nD τ).loc main_arg1) (ix3 h i d : S8x16384x128.Idx) = ((k h i d : ℝ) : EReal)
  v : ∀ h i d, m ((c.tc : Thread nD τ).loc main_arg2) (ix3 h i d : S8x16384x64.Idx) = ((v h i d : ℝ) : EReal)

/-- The padded values at an index. -/
theorem padded (x : FVec Ideal S8x16384x64 .f32) (h : Fin 8) (i : Fin 16384) (d : Fin 128) :
    concatenate S8x16384x128 2 [⟨S8x16384x64, x⟩, ⟨S8x16384x1, broadcastInDim S8x16384x1 ![] bcast_S_S8x16384x1 (constant (F := Ideal) S_ .f32 0x3F800000#32)⟩,
      ⟨S8x16384x63, broadcastInDim S8x16384x63 ![] bcast_S_S8x16384x63 (constant (F := Ideal) S_ .f32 0x00000000#32)⟩]
      concatenates_S8x16384x64_S8x16384x1_S8x16384x63_S8x16384x128_d2 (ix3 h i d : S8x16384x128.Idx)
    = (if hd : d.val < 64 then x (ix3 h i ⟨d.val, hd⟩ : S8x16384x64.Idx) else if d.val < 65 then ((1 : ℝ) : EReal) else ((0 : ℝ) : EReal) : EReal) := by
  pointwise []
  by_cases h1 : d.val < 64
  · simp only [dif_pos h1, if_pos h1]
  · by_cases h2 : d.val < 65
    · have h3 : d.val - 64 < 1 := by omega
      simp only [dif_neg h1, if_neg h1, if_pos h2, dif_pos h3, if_pos h3]
      exact EReal.coe_one.symm
    · have h3 : ¬ d.val - 64 < 1 := by omega
      simp only [dif_neg h1, if_neg h1, if_neg h2, dif_neg h3, if_neg h3]
      exact EReal.coe_zero.symm

theorem V₁_v9 (c : Dev nD) : V₁ m c (Proc.devRef .tc main_v9)
    = truncf .bf16 (concatenate S8x16384x128 2 [⟨S8x16384x64, (m ((c.tc : Thread nD τ).loc main_arg2) : FVec Ideal S8x16384x64 .f32)⟩,
        ⟨S8x16384x1, broadcastInDim S8x16384x1 ![] bcast_S_S8x16384x1 (constant (F := Ideal) S_ .f32 0x3F800000#32)⟩,
        ⟨S8x16384x63, broadcastInDim S8x16384x63 ![] bcast_S_S8x16384x63 (constant (F := Ideal) S_ .f32 0x00000000#32)⟩]
        concatenates_S8x16384x64_S8x16384x1_S8x16384x63_S8x16384x128_d2) bitsLt_bf16_f32 := by
  unfold V₁
  after_results
  rfl

variable {m} {c : Dev nD} (H : Args m c q k v)
include H

theorem V₁_q (h : Fin 8) (i : Fin 16384) (d : Fin 128) :
    V₁ m c (Proc.devRef .tc main_v7) (ix3 h i d : S8x16384x128.Idx) = ((q h i d * (σ / Real.log 2) : ℝ) : EReal) := by
  unfold V₁
  after_results
  have e : (m (c, Proc.tc.devRef main_arg0) (ix3 h i d : S8x16384x128.Idx) : EReal) = ((q h i d : ℝ) : EReal) := H.q h i d
  pointwise [V₀]
  rw [e, ofBits_two, log_two, σ_eq, Ideal.div_coe Real4.log2_pos.ne', ← EReal.coe_mul, ← EReal.coe_mul]
  congr 2
  ring

theorem V₁_k (h : Fin 8) (i : Fin 16384) (d : Fin 128) :
    V₁ m c (Proc.devRef .tc main_v8) (ix3 h i d : S8x16384x128.Idx) = ((k h i d : ℝ) : EReal) := by
  unfold V₁
  after_results
  have e : (m (c, Proc.tc.devRef main_arg1) (ix3 h i d : S8x16384x128.Idx) : EReal) = ((k h i d : ℝ) : EReal) := H.k h i d
  pointwise [V₀]
  exact e

theorem V₁_v (h : Fin 8) (i : Fin 16384) (d : Fin 128) :
    V₁ m c (Proc.devRef .tc main_v9) (ix3 h i d : S8x16384x128.Idx) = (((pad q k v).v h i d : ℝ) : EReal) := by
  rw [V₁_v9]
  refine (padded (m ((c.tc : Thread nD τ).loc main_arg2)) h i d).trans ?_
  show _ = ((if hd : d.val < 64 then v h i ⟨d.val, hd⟩ else if d.val < 65 then 1 else 0 : ℝ) : EReal)
  split
  · exact H.v h i _
  · split <;> rfl

/-- The kernel is called on reals. -/
theorem reads : Reads (V₁ m) c (pad q k v) where
  q := V₁_q H
  k := V₁_k H
  v := V₁_v H
  one h i := by
    show (if hd : (dl : Fin 128).val < 64 then v h i ⟨(dl : Fin 128).val, hd⟩ else if (dl : Fin 128).val < 65 then 1 else 0 : ℝ) = 1
    rw [dif_neg (by decide), if_pos (by decide)]

/-- The output. -/
theorem V₃_o : V₃ m c (Proc.devRef .tc main_v11) = fun i : S8x16384x64.Idx => (((pad q k v).o (i 0) (i 1) (lane (i 2)) : ℝ) : EReal) := by
  have e : V₃ m c (Proc.devRef .tc main_v11)
      = extractStridedSlice S8x16384x64 ![0, 0, 0] (V₂ m c (Proc.devRef .tc main_v10_0) : FVec Ideal S8x16384x128 .f32) slices_S8x16384x128_S8x16384x64_0_0_0 := by
    unfold V₃
    after_results
  have e2 : V₂ m c (Proc.devRef .tc main_v10_0) = fun i : S8x16384x128.Idx => (((pad q k v).o (i 0) (i 1) (i 2) : ℝ) : EReal) :=
    (Pipeline.afterRegion_arr (dats (V₁ m) 0 c) (V₁ m c) (launch0 (F := Ideal)).win.arr_inj (3 : Fin 5)).trans (finalO (reads H))
  rw [e, e2]
  funext i
  obtain ⟨a, b, d, rfl⟩ : ∃ (a : Fin 8) (b : Fin 16384) (d : Fin 64), i = (ix3 a b d : S8x16384x64.Idx) := ⟨i 0, i 1, i 2, eq_ix3 i⟩
  generalize hX : (pad q k v).o = o
  pointwise []
  rfl

/-- The log-sum. -/
theorem V₃_l : V₃ m c (Proc.devRef .tc main_v10_1) = fun i : S8x16384x128.Idx => (((pad q k v).l (i 0) (i 1) : ℝ) : EReal) := by
  have e : V₃ m c (Proc.devRef .tc main_v10_1) = V₂ m c (Proc.devRef .tc main_v10_1) := by unfold V₃; after_results
  rw [e]
  exact (Pipeline.afterRegion_arr (dats (V₁ m) 0 c) (V₁ m c) (launch0 (F := Ideal)).win.arr_inj (4 : Fin 5)).trans (finalL (reads H))

end Cert.ForwardIdeal.Fwd

end
-- ==== Proof.Fwd.Reference.lean ====
/- The reference's output and log-sum of causal attention, array by array, on reals. -/
module

public import proofs.«01_k».proof.Proof.Fwd.Host
public import proofs.«01_k».proof.Proof.Gen.ForwardReferenceIdeal.Read
public import Idealize.ShloMosaic.Lib.Pointwise
public import Idealize.ShloMosaic.Lib.IdealHost

@[expose] public section

set_option maxRecDepth 16384
set_option Elab.async false

noncomputable section

namespace Cert.ForwardReferenceIdeal.Fwd

open Cert.ForwardReferenceIdeal Cert.ForwardReferenceIdeal.Gen Cert.ForwardReferenceIdeal.Read
open Cert.KernelIdeal.Attn (Real4 sle_word select_word coe_sum coe_dot ofBits_bot σ σ_eq topOf exOf totOf topOf' lseOf top_real' ex_real tot_real lse_real)
open Cert.ForwardIdeal.Fwd (pad lane)
open Idealize.ShloMosaic Idealize.ShloMosaic.TcCoe

theorem mask_at (i j : Fin 16384) : val_main_v5 (F := Ideal) (ix2 i j : S16384x16384.Idx) = 1#1 ↔ j.val ≤ i.val := by
  unfold val_main_v5 val_main_v3 val_main_v4 val_main_v1 val_main_v2 val_main_v0
  pointwise []
  exact sle_word j i

/-- The output from the exponentials, the totals and the values. -/
def outOf (e : FVec Ideal S8x16384x16384 .f32) (u : FVec Ideal S8x16384 .f32) (v : FVec Ideal S8x16384x64 .f32) : FVec Ideal S8x16384x64 .f32 :=
  Host.dotGeneral dot_S8x16384x16384_S8x16384x64_S8x16384x64_2_1_1_2_0_0 none
    (Host.divf e (broadcastInDim S8x16384x16384 ![0, 1, 2] bcast_S8x16384x1_S8x16384x16384_0_1_2
      (broadcastInDim S8x16384x1 ![0, 1] bcast_S8x16384_S8x16384x1_0_1 u))) v

theorem outOf_at (e : FVec Ideal S8x16384x16384 .f32) (u : FVec Ideal S8x16384 .f32) (v : FVec Ideal S8x16384x64 .f32)
    (h : Fin 8) (i : Fin 16384) (d : Fin 64) :
    outOf e u v (ix3 h i d : S8x16384x64.Idx)
      = ∑ j : Fin 16384, Ideal.div (e (ix3 h i j : S8x16384x16384.Idx)) (u (ix2 h i : S8x16384.Idx)) * v (ix3 h j d : S8x16384x64.Idx) := by
  unfold outOf
  pointwise []

variable (q k : Fin 8 → Fin 16384 → Fin 128 → ℝ) (v : Fin 8 → Fin 16384 → Fin 64 → ℝ)
  (x0 x1 : FVec Ideal S8x16384x128 .f32) (x2 : FVec Ideal S8x16384x64 .f32)
  (h0 : ∀ h i d, x0 (ix3 h i d : S8x16384x128.Idx) = ((q h i d : ℝ) : EReal))
  (h1 : ∀ h i d, x1 (ix3 h i d : S8x16384x128.Idx) = ((k h i d : ℝ) : EReal))
  (h2 : ∀ h i d, x2 (ix3 h i d : S8x16384x64.Idx) = ((v h i d : ℝ) : EReal))

include h0 h1 in
theorem v8_at (h : Fin 8) (i j : Fin 16384) :
    val_main_v8 (F := Ideal) x0 x1 (ix3 h i j : S8x16384x16384.Idx) = (((pad q k v).s h i j : ℝ) : EReal) := by
  unfold val_main_v8 val_main_v7 val_main_v6 val_main_cst
  pointwise []
  simp only [h0, h1]
  rw [coe_dot, σ_eq, ← EReal.coe_mul]
  rfl

include h0 h1 in
theorem v9_at (h : Fin 8) (i j : Fin 16384) :
    val_main_v9 (F := Ideal) x0 x1 (ix3 h i j : S8x16384x16384.Idx) = (pad q k v).x h i j := by
  have e1 := v8_at q k v x0 x1 h0 h1 h i j
  have e2 := mask_at i j
  unfold val_main_v9 val_main_call0_v1 val_main_call0_v2 val_main_call0_v0 val_main_cst_0
  pointwise []
  refine (select_word _ _ e2 _ _).trans ?_
  unfold Real4.x
  exact congrArg₂ (fun a b : EReal => if j.val ≤ i.val then a else b) e1 ofBits_bot

theorem v34_eq : val_main_v34 (F := Ideal) x0 x1
    = lseOf (topOf (val_main_v9 (F := Ideal) x0 x1)) (totOf (exOf (val_main_v9 (F := Ideal) x0 x1) (topOf (val_main_v9 (F := Ideal) x0 x1)))) := by
  unfold val_main_v34 val_main_v33 val_main_v20 val_main_v19 val_main_v18 val_main_cst_3 val_main_v17 val_main_v16 val_main_v15 val_main_cst_2
    val_main_v14 val_main_v13 val_main_v12 val_main_v11 val_main_v10 val_main_cst_1
  rfl

theorem v32_eq : val_main_v32 (F := Ideal) x0 x1 x2
    = outOf (exOf (val_main_v9 (F := Ideal) x0 x1) (topOf' (topOf (val_main_v9 (F := Ideal) x0 x1))))
        (totOf (exOf (val_main_v9 (F := Ideal) x0 x1) (topOf' (topOf (val_main_v9 (F := Ideal) x0 x1))))) x2 := by
  unfold val_main_v32 val_main_v31 val_main_v30 val_main_v29 val_main_v28 val_main_cst_6 val_main_v27 val_main_v26 val_main_v25 val_main_v24
    val_main_v23 val_main_v22 val_main_cst_5 val_main_v21 val_main_cst_4
  rfl

include h0 h1 in
theorem ref_l : val_main_v34 (F := Ideal) x0 x1 = fun i : S8x16384x128.Idx => (((pad q k v).l (i 0) (i 1) : ℝ) : EReal) := by
  rw [v34_eq]
  funext i
  refine (congrArg _ (eq_ix3 (i : S8x16384x128.Idx))).trans ?_
  exact lse_real (pad q k v) _ (v9_at q k v x0 x1 h0 h1) (i 0) (i 1) (i 2)

include h0 h1 h2 in
theorem ref_o : val_main_v32 (F := Ideal) x0 x1 x2 = fun i : S8x16384x64.Idx => (((pad q k v).o (i 0) (i 1) (lane (i 2)) : ℝ) : EReal) := by
  rw [v32_eq]
  funext i
  refine (congrArg _ (eq_ix3 (i : S8x16384x64.Idx))).trans ?_
  have hx := v9_at q k v x0 x1 h0 h1
  have e1 := fun h i => top_real' (pad q k v) _ hx h i
  have e2 := ex_real (pad q k v) _ hx _ e1 (i 0) (i 1)
  have e3 := tot_real (pad q k v) _ hx _ e1 (i 0) (i 1)
  refine (outOf_at _ _ _ (i 0) (i 1) (i 2)).trans ?_
  have hv : ∀ j, (pad q k v).v (i 0) j (lane (i 2)) = v (i 0) j (i 2) := fun j => dif_pos (show (lane (i 2)).val < 64 from (i 2).isLt)
  show _ = ((∑ j, (pad q k v).ex (i 0) (i 1) j / (pad q k v).tot (i 0) (i 1) * (pad q k v).v (i 0) j (lane (i 2)) : ℝ) : EReal)
  rw [← coe_sum]
  refine Finset.sum_congr rfl fun j _ => ?_
  refine (congrArg₂ (fun a b : EReal => a * b) (congrArg₂ Ideal.div (e2 j) e3) (h2 (i 0) j (i 2))).trans ?_
  show Ideal.div _ _ * _ = _
  rw [Ideal.div_coe ((pad q k v).tot_pos (i 0) (i 1)).ne', ← EReal.coe_mul, mul_one_div, ← EReal.coe_mul, hv]

end Cert.ForwardReferenceIdeal.Fwd

end
-- ==== Proof.Fwd.Finite.lean ====
/- The precondition: every element of the three arguments is a real. -/
module

public import proofs.«01_k».proof.Pre_finite_forward
public import Idealize.ShloMosaic.Lib.Pointwise
public import Idealize.ShloMosaic.Lib.IdealHost
public import Idealize.ShloMosaic.Lib.ReduceAll

@[expose] public section

set_option maxRecDepth 16384
set_option Elab.async false

noncomputable section

namespace Cert.Pre_finite_forward.Fwd

open Cert.Pre_finite_forward
open Idealize.ShloMosaic

theorem facts : Cert.Pre_finite_forward.Facts where
  bcast_S_S8x16384x128 := by decide
  reducesTo_S8x16384x128_S_d0_1_2 := by decide
  bcast_S_S8x16384x64 := by decide
  reducesTo_S8x16384x64_S_d0_1_2 := by decide
  h_S_ := by decide

attribute [local instance] facts

theorem ofBits_inf : Ideal.ofBits .f32 0x7F800000#32 = (⊤ : EReal) := by
  simp [Ideal.ofBits, Ideal.ieee]

instance : Subsingleton S_.Idx := ⟨fun a b => funext fun i => i.elim0⟩

/-- One array's part of the precondition. -/
def part (x : FVec Ideal S8x16384x128 .f32) : IVec S_ 1 :=
  Host.reduce IntOp.andi (cmpf .olt (Host.absf x) (broadcastInDim S8x16384x128 ![] Facts.bcast_S_S8x16384x128 (constant S_ .f32 0x7F800000#32)))
    (constantI S_ 1 1#1) Facts.reducesTo_S8x16384x128_S_d0_1_2 Facts.h_S_

/-- The values' part. -/
def part' (x : FVec Ideal S8x16384x64 .f32) : IVec S_ 1 :=
  Host.reduce IntOp.andi (cmpf .olt (Host.absf x) (broadcastInDim S8x16384x64 ![] Facts.bcast_S_S8x16384x64 (constant S_ .f32 0x7F800000#32)))
    (constantI S_ 1 1#1) Facts.reducesTo_S8x16384x64_S_d0_1_2 Facts.h_S_

theorem fn_eq (x0 x1 : FVec Ideal S8x16384x128 .f32) (x2 : FVec Ideal S8x16384x64 .f32) :
    fn (F := Ideal) x0 x1 x2 = andi (andi (part x0) (part x1)) (part' x2) := rfl

theorem and_one (a b : BitVec 1) (h : IntOp.andi a b = 1#1) : a = 1#1 ∧ b = 1#1 := by
  revert a b
  decide

theorem of_part (x : FVec Ideal S8x16384x128 .f32) (i0 : S_.Idx) (h : part x i0 = 1#1) (h' : Fin 8) (i : Fin 16384) (d : Fin 128) :
    x (ix3 h' i d : S8x16384x128.Idx) = ((EReal.toReal (x (ix3 h' i d : S8x16384x128.Idx)) : ℝ) : EReal) := by
  have e := Host.reduce_andi_all _ _ _ _ i0 h (ix3 h' i d : S8x16384x128.Idx)
  pointwise [] at e
  rw [ofBits_inf] at e
  have hl' : FloatOps.absf (F := Ideal) (x (ix3 h' i d : S8x16384x128.Idx)) < (⊤ : EReal) := by
    by_contra hn
    rw [decide_eq_false hn] at e
    exact absurd e (by decide)
  have hl : max (x (ix3 h' i d : S8x16384x128.Idx)) (-x (ix3 h' i d : S8x16384x128.Idx)) < (⊤ : EReal) := hl'
  obtain ⟨ht, hb⟩ := max_lt_iff.1 hl
  refine (EReal.coe_toReal ht.ne fun h0 => ?_).symm
  rw [h0, EReal.neg_bot] at hb
  exact lt_irrefl _ hb

theorem of_part' (x : FVec Ideal S8x16384x64 .f32) (i0 : S_.Idx) (h : part' x i0 = 1#1) (h' : Fin 8) (i : Fin 16384) (d : Fin 64) :
    x (ix3 h' i d : S8x16384x64.Idx) = ((EReal.toReal (x (ix3 h' i d : S8x16384x64.Idx)) : ℝ) : EReal) := by
  have e := Host.reduce_andi_all _ _ _ _ i0 h (ix3 h' i d : S8x16384x64.Idx)
  pointwise [] at e
  rw [ofBits_inf] at e
  have hl' : FloatOps.absf (F := Ideal) (x (ix3 h' i d : S8x16384x64.Idx)) < (⊤ : EReal) := by
    by_contra hn
    rw [decide_eq_false hn] at e
    exact absurd e (by decide)
  have hl : max (x (ix3 h' i d : S8x16384x64.Idx)) (-x (ix3 h' i d : S8x16384x64.Idx)) < (⊤ : EReal) := hl'
  obtain ⟨ht, hb⟩ := max_lt_iff.1 hl
  refine (EReal.coe_toReal ht.ne fun h0 => ?_).symm
  rw [h0, EReal.neg_bot] at hb
  exact lt_irrefl _ hb

theorem finite (x0 x1 : FVec Ideal S8x16384x128 .f32) (x2 : FVec Ideal S8x16384x64 .f32) (h : fn (F := Ideal) x0 x1 x2 = fun _ => 1#1) (a : Fin 8) (i : Fin 16384) :
    (∀ d : Fin 128, x0 (ix3 a i d : S8x16384x128.Idx) = ((EReal.toReal (x0 (ix3 a i d : S8x16384x128.Idx)) : ℝ) : EReal))
    ∧ (∀ d : Fin 128, x1 (ix3 a i d : S8x16384x128.Idx) = ((EReal.toReal (x1 (ix3 a i d : S8x16384x128.Idx)) : ℝ) : EReal))
    ∧ ∀ d : Fin 64, x2 (ix3 a i d : S8x16384x64.Idx) = ((EReal.toReal (x2 (ix3 a i d : S8x16384x64.Idx)) : ℝ) : EReal) := by
  have e : IntOp.andi (IntOp.andi (part x0 ix0) (part x1 ix0)) (part' x2 ix0) = 1#1 := by
    have := congrFun ((fn_eq x0 x1 x2).symm.trans h) (ix0 : S_.Idx)
    exact this
  obtain ⟨e, h2⟩ := and_one _ _ e
  obtain ⟨h0, h1⟩ := and_one _ _ e
  exact ⟨of_part x0 _ h0 a i, of_part x1 _ h1 a i, of_part' x2 _ h2 a i⟩

end Cert.Pre_finite_forward.Fwd
-- ==== Proof.FwdBits.Step.lean ====
/-
  One grid point of the attention forward kernel as a function of arrays.

  The kernel walks a list of pairs (i, j): rows `2048 * i …` of the queries against rows `512 * j …` of the keys. It keeps two
  arrays from point to point: the largest score of each row so far (`m`, in every lane) and the weighted sum of the values
  (`a`), relative to that largest score. `stepOf` is what one point makes of them.
-/
module

public import Idealize.ShloMosaic.PureOps.BitExact
public import proofs.«01_k».proof.Proof.Gen.Forward.Skeleton
public import Idealize.ShloMosaic.Lib.Pipeline.FrameBody
public import Idealize.ShloMosaic.Lib.Pipeline.TableIdle
public import Idealize.ShloMosaic.Lib.Exec
public import Idealize.ShloMosaic.Lib.Tactic
public import Idealize.ShloMosaic.Lib.VecWindow
public import Idealize.ShloMosaic.PureOps.Ideal

@[expose] public section

noncomputable section

namespace Cert.Forward.Fwd

open Cert.Forward Cert.Forward.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The table memrefs and the two scratch buffers, as the pipeline passes them. -/
abbrev tabI : Memref sig .tc .smem S144 .i32 := Memref.whole main_c
abbrev tabJ : Memref sig .tc .smem S144 .i32 := Memref.whole main_c_0
abbrev scM : Memref sig .tc .vmem S2048x128 .f32 := Memref.whole cc0_scratch0
abbrev scA : Memref sig .tc .vmem S2048x128 .f32 := Memref.whole cc0_scratch1

/-- The words of the two tables that the point with coordinates `i` reads. -/
abbrev wordI (T : S144.Idx → Elt Bits .i32) (i : grid0.Coords) : Elt Bits .i32 :=
  View.readAt (Elt Bits) tabI.view (Rect.unit (s := S144) (k0_off1 i) S1.size (k0_off1_inb i)).toLoadRect T (Shape.Idx.first (numel1_S1.symm ▸ Nat.one_pos))
abbrev wordJ (T : S144.Idx → Elt Bits .i32) (i : grid0.Coords) : Elt Bits .i32 :=
  View.readAt (Elt Bits) tabJ.view (Rect.unit (s := S144) (k0_off1 i) S1.size (k0_off1_inb i)).toLoadRect T (Shape.Idx.first (numel1_S1.symm ▸ Nat.one_pos))

/-- Whether key block `j` is the first, -/
abbrev condZ (j : BitVec 32) : BitVec 1 := Scalar.cmpi .ne (Scalar.extui (Scalar.cmpi .eq j 0#32)) 0#32
/-- whether a pair meets the diagonal, -/
abbrev crosses (i j : BitVec 32) : BitVec 1 :=
  Scalar.cmpi .sgt (Scalar.subi (Scalar.addi (Scalar.muli j 512#32) 512#32) 1#32) (Scalar.muli i 2048#32)
/-- and the two branches on it. -/
abbrev condB (i j : BitVec 32) : BitVec 1 := Scalar.cmpi .ne (Scalar.extui (Scalar.xori (crosses i j) 1#1)) 0#32
abbrev condD (i j : BitVec 32) : BitVec 1 := Scalar.cmpi .ne (Scalar.extui (crosses i j)) 0#32

/-- The two arrays kept from point to point. -/
structure Acc where
  m : S2048x128.Idx → Elt Bits .f32
  a : S2048x128.Idx → Elt Bits .f32

/-- The three input blocks of a point. -/
structure Blk where
  q : S1x2048x128.Idx → Elt Bits .bf16
  k : S1x512x128.Idx → Elt Bits .bf16
  v : S1x512x128.Idx → Elt Bits .bf16

/-- What a row of pairs begins with. -/
def start : Acc := ⟨k0_pay7 (F := Bits), k0_pay8 (F := Bits)⟩

/-- What a pair below the diagonal makes of the two arrays, -/
def addFull (b : Blk) (s : Acc) : Acc := ⟨k0_pay12 b.q b.k s.m, k0_pay11 b.q b.k s.m s.a b.v⟩

/-- and what a pair on it does. -/
def addMasked (i j : BitVec 32) (b : Blk) (s : Acc) : Acc :=
  ⟨k0_pay13 (k0_pay5 i j b.q b.k s.m), k0_pay6 i j b.q b.k s.m s.a b.v⟩

/-- What a point with table words `i`, `j` makes of them. -/
def stepOf (i j : BitVec 32) (b : Blk) (s : Acc) : Acc :=
  let r := if condZ j = 1#1 then start else s
  if condB i j = 1#1 then addFull b r else addMasked i j b r

/-- The buffers a point runs on: the blocks, the tables, the two results and the scratch. -/
abbrev Around (c : Dev nD) (arg4 : Memref sig .tc .vmem S1x2048x128 .bf16) (arg5 arg6 : Memref sig .tc .vmem S1x512x128 .bf16)
    (arg7 arg8 : Memref sig .tc .vmem S1x2048x128 .f32) (arg9 arg10 : Memref sig .tc .vmem S2048x128 .f32)
    (T0 T1 : S144.Idx → Elt Bits .i32) (b : Blk) (s : Acc) (y z : S1x2048x128.Idx → Elt Bits .f32) : sProp 𝕄 :=
  iprop(owns (c : Thread nD τ) arg4 fullShare b.q ∗ owns (c : Thread nD τ) arg5 fullShare b.k ∗ owns (c : Thread nD τ) arg6 fullShare b.v
    ∗ (tabI.view.loc (c : Thread nD τ) ↦{fullShare} T0) ∗ (tabJ.view.loc (c : Thread nD τ) ↦{fullShare} T1)
    ∗ owns (c : Thread nD τ) arg7 fullShare y ∗ owns (c : Thread nD τ) arg8 fullShare z
    ∗ owns (c : Thread nD τ) arg9 fullShare s.m ∗ owns (c : Thread nD τ) arg10 fullShare s.a)

/-- The body at coordinates `i` takes the scratch and the results from `s`, `y`, `z` to `s'`, `y'`, `z'`. -/
abbrev Takes (c : Dev nD) (i : grid0.Coords) (T0 T1 : S144.Idx → Elt Bits .i32) (b : Blk) (s s' : Acc)
    (y z y' z' : S1x2048x128.Idx → Elt Bits .f32) : Prop :=
  ∀ (arg4 : Memref sig .tc .vmem S1x2048x128 .bf16) (harg4 : arg4.IsWhole)
    (arg5 : Memref sig .tc .vmem S1x512x128 .bf16) (harg5 : arg5.IsWhole)
    (arg6 : Memref sig .tc .vmem S1x512x128 .bf16) (harg6 : arg6.IsWhole)
    (arg7 : Memref sig .tc .vmem S1x2048x128 .f32) (harg7 : arg7.IsWhole)
    (arg8 : Memref sig .tc .vmem S1x2048x128 .f32) (harg8 : arg8.IsWhole)
    (arg9 : Memref sig .tc .vmem S2048x128 .f32) (harg9 : arg9.IsWhole)
    (arg10 : Memref sig .tc .vmem S2048x128 .f32) (harg10 : arg10.IsWhole) (K : PUnit → sProp 𝕄),
    iprop(Around c arg4 arg5 arg6 arg7 arg8 arg9 arg10 T0 T1 b s y z
      ∗ (Around c arg4 arg5 arg6 arg7 arg8 arg9 arg10 T0 T1 b s' y' z' -∗ K ⟨⟩))
    ⊢ wp frame (wpE (defs₀ (F := Bits)) Variants.none c none) Set.univ
        (cc0_attn_f i tabI (Memref.isWhole_whole _) tabJ (Memref.isWhole_whole _) arg4 harg4 arg5 harg5 arg6 harg6 arg7 harg7 arg8 harg8 arg9 harg9
          arg10 harg10) K

end Cert.Forward.Fwd

end
-- ==== Proof.FwdBits.Body.lean ====
/- What the body leaves at every kind of point. -/
module

public import proofs.«01_k».proof.Proof.FwdBits.Step
public import Idealize.ShloMosaic.Lib.Affine
public import Idealize.ShloMosaic.Lib.Tactic.Stretches

@[expose] public section

set_option maxRecDepth 16384
set_option Elab.async false

noncomputable section

namespace Cert.Forward.Fwd

open Cert.Forward Cert.Forward.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 800000 in
/-- The first point of a row of pairs, on the diagonal. -/
theorem runA (c : Dev nD) (i : grid0.Coords) (T0 T1 : S144.Idx → Elt Bits .i32) (b : Blk) (s : Acc)
    (y z : S1x2048x128.Idx → Elt Bits .f32) (h1 : condZ (wordJ T1 i) = 1#1)
    (h2 : ¬(condB (wordI T0 i) (wordJ T1 i) = 1#1)) (h3 : condD (wordI T0 i) (wordJ T1 i) = 1#1)
    (h4 : ¬(k0_cond4 (wordI T0 i) (wordJ T1 i) = 1#1)) :
    Takes c i T0 T1 b s (addMasked (wordI T0 i) (wordJ T1 i) b start) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Bits) (Rect.unit (s := S1x2048x128) ![0, 0, 0] ![1, 2048, 128] inb).toLoadRect (arg4.view.rep b.q) = b.q := fun inb => View.readAt_rep_full arg4.view b.q inb
  have r1 : ∀ inb, arg5.view.readAt (Elt Bits) (Rect.unit (s := S1x512x128) ![0, 0, 0] ![1, 512, 128] inb).toLoadRect (arg5.view.rep b.k) = b.k := fun inb => View.readAt_rep_full arg5.view b.k inb
  have r2 : ∀ inb, arg6.view.readAt (Elt Bits) (Rect.unit (s := S1x512x128) ![0, 0, 0] ![1, 512, 128] inb).toLoadRect (arg6.view.rep b.v) = b.v := fun inb => View.readAt_rep_full arg6.view b.v inb
  have u0 : ∀ inb, arg9.view.readAt (Elt Bits) (Rect.unit (s := S2048x128) ![0, 0] ![2048, 128] inb).toLoadRect (arg9.view.rep s.m) = s.m := fun inb => View.readAt_rep_full arg9.view s.m inb
  have v0 : ∀ inb inb' w L, arg9.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Bits) (Rect.unit (s := S2048x128) ![0, 0] ![2048, 128] inb).toLoadRect (arg10.view.rep s.a) = s.a := fun inb => View.readAt_rep_full arg10.view s.a inb
  have v1 : ∀ inb inb' w L, arg10.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]

set_option maxHeartbeats 800000 in
/-- The first point of a row of pairs, below the diagonal. -/
theorem runF (c : Dev nD) (i : grid0.Coords) (T0 T1 : S144.Idx → Elt Bits .i32) (b : Blk) (s : Acc)
    (y z : S1x2048x128.Idx → Elt Bits .f32) (h1 : condZ (wordJ T1 i) = 1#1)
    (h2 : condB (wordI T0 i) (wordJ T1 i) = 1#1) (h3 : ¬(condD (wordI T0 i) (wordJ T1 i) = 1#1))
    (h4 : ¬(k0_cond4 (wordI T0 i) (wordJ T1 i) = 1#1)) :
    Takes c i T0 T1 b s (addFull b start) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Bits) (Rect.unit (s := S1x2048x128) ![0, 0, 0] ![1, 2048, 128] inb).toLoadRect (arg4.view.rep b.q) = b.q := fun inb => View.readAt_rep_full arg4.view b.q inb
  have r1 : ∀ inb, arg5.view.readAt (Elt Bits) (Rect.unit (s := S1x512x128) ![0, 0, 0] ![1, 512, 128] inb).toLoadRect (arg5.view.rep b.k) = b.k := fun inb => View.readAt_rep_full arg5.view b.k inb
  have r2 : ∀ inb, arg6.view.readAt (Elt Bits) (Rect.unit (s := S1x512x128) ![0, 0, 0] ![1, 512, 128] inb).toLoadRect (arg6.view.rep b.v) = b.v := fun inb => View.readAt_rep_full arg6.view b.v inb
  have u0 : ∀ inb, arg9.view.readAt (Elt Bits) (Rect.unit (s := S2048x128) ![0, 0] ![2048, 128] inb).toLoadRect (arg9.view.rep s.m) = s.m := fun inb => View.readAt_rep_full arg9.view s.m inb
  have v0 : ∀ inb inb' w L, arg9.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Bits) (Rect.unit (s := S2048x128) ![0, 0] ![2048, 128] inb).toLoadRect (arg10.view.rep s.a) = s.a := fun inb => View.readAt_rep_full arg10.view s.a inb
  have v1 : ∀ inb inb' w L, arg10.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]

set_option maxHeartbeats 800000 in
/-- A later point below the diagonal. -/
theorem runB (c : Dev nD) (i : grid0.Coords) (T0 T1 : S144.Idx → Elt Bits .i32) (b : Blk) (s : Acc)
    (y z : S1x2048x128.Idx → Elt Bits .f32) (h1 : ¬(condZ (wordJ T1 i) = 1#1))
    (h2 : condB (wordI T0 i) (wordJ T1 i) = 1#1) (h3 : ¬(condD (wordI T0 i) (wordJ T1 i) = 1#1))
    (h4 : ¬(k0_cond4 (wordI T0 i) (wordJ T1 i) = 1#1)) :
    Takes c i T0 T1 b s (addFull b s) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Bits) (Rect.unit (s := S1x2048x128) ![0, 0, 0] ![1, 2048, 128] inb).toLoadRect (arg4.view.rep b.q) = b.q := fun inb => View.readAt_rep_full arg4.view b.q inb
  have r1 : ∀ inb, arg5.view.readAt (Elt Bits) (Rect.unit (s := S1x512x128) ![0, 0, 0] ![1, 512, 128] inb).toLoadRect (arg5.view.rep b.k) = b.k := fun inb => View.readAt_rep_full arg5.view b.k inb
  have r2 : ∀ inb, arg6.view.readAt (Elt Bits) (Rect.unit (s := S1x512x128) ![0, 0, 0] ![1, 512, 128] inb).toLoadRect (arg6.view.rep b.v) = b.v := fun inb => View.readAt_rep_full arg6.view b.v inb
  have u0 : ∀ inb, arg9.view.readAt (Elt Bits) (Rect.unit (s := S2048x128) ![0, 0] ![2048, 128] inb).toLoadRect (arg9.view.rep s.m) = s.m := fun inb => View.readAt_rep_full arg9.view s.m inb
  have v0 : ∀ inb inb' w L, arg9.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Bits) (Rect.unit (s := S2048x128) ![0, 0] ![2048, 128] inb).toLoadRect (arg10.view.rep s.a) = s.a := fun inb => View.readAt_rep_full arg10.view s.a inb
  have v1 : ∀ inb inb' w L, arg10.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]

set_option maxHeartbeats 800000 in
/-- A later point on the diagonal. -/
theorem runD (c : Dev nD) (i : grid0.Coords) (T0 T1 : S144.Idx → Elt Bits .i32) (b : Blk) (s : Acc)
    (y z : S1x2048x128.Idx → Elt Bits .f32) (h1 : ¬(condZ (wordJ T1 i) = 1#1))
    (h2 : ¬(condB (wordI T0 i) (wordJ T1 i) = 1#1)) (h3 : condD (wordI T0 i) (wordJ T1 i) = 1#1)
    (h4 : ¬(k0_cond4 (wordI T0 i) (wordJ T1 i) = 1#1)) :
    Takes c i T0 T1 b s (addMasked (wordI T0 i) (wordJ T1 i) b s) y z y z := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Bits) (Rect.unit (s := S1x2048x128) ![0, 0, 0] ![1, 2048, 128] inb).toLoadRect (arg4.view.rep b.q) = b.q := fun inb => View.readAt_rep_full arg4.view b.q inb
  have r1 : ∀ inb, arg5.view.readAt (Elt Bits) (Rect.unit (s := S1x512x128) ![0, 0, 0] ![1, 512, 128] inb).toLoadRect (arg5.view.rep b.k) = b.k := fun inb => View.readAt_rep_full arg5.view b.k inb
  have r2 : ∀ inb, arg6.view.readAt (Elt Bits) (Rect.unit (s := S1x512x128) ![0, 0, 0] ![1, 512, 128] inb).toLoadRect (arg6.view.rep b.v) = b.v := fun inb => View.readAt_rep_full arg6.view b.v inb
  have u0 : ∀ inb, arg9.view.readAt (Elt Bits) (Rect.unit (s := S2048x128) ![0, 0] ![2048, 128] inb).toLoadRect (arg9.view.rep s.m) = s.m := fun inb => View.readAt_rep_full arg9.view s.m inb
  have v0 : ∀ inb inb' w L, arg9.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Bits) (Rect.unit (s := S2048x128) ![0, 0] ![2048, 128] inb).toLoadRect (arg10.view.rep s.a) = s.a := fun inb => View.readAt_rep_full arg10.view s.a inb
  have v1 : ∀ inb inb' w L, arg10.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]; · iapply owns_of_rep; iexact HO7
  isplitl [HO8]; · iapply owns_of_rep; iexact HO8
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]

set_option maxHeartbeats 800000 in
/-- The last point of a row of pairs. -/
theorem runL (c : Dev nD) (i : grid0.Coords) (T0 T1 : S144.Idx → Elt Bits .i32) (b : Blk) (s : Acc)
    (y z : S1x2048x128.Idx → Elt Bits .f32) (h1 : ¬(condZ (wordJ T1 i) = 1#1))
    (h2 : ¬(condB (wordI T0 i) (wordJ T1 i) = 1#1)) (h3 : condD (wordI T0 i) (wordJ T1 i) = 1#1)
    (h4 : k0_cond4 (wordI T0 i) (wordJ T1 i) = 1#1) :
    Takes c i T0 T1 b s (addMasked (wordI T0 i) (wordJ T1 i) b s) y z (k0_pay2 (addMasked (wordI T0 i) (wordJ T1 i) b s).a) (k0_pay3 (addMasked (wordI T0 i) (wordJ T1 i) b s).a (addMasked (wordI T0 i) (wordJ T1 i) b s).m) := by
  intro arg4 harg4 arg5 harg5 arg6 harg6 arg7 harg7 arg8 harg8 arg9 harg9 arg10 harg10 K
  rw [cc0_attn_f_eq_skeleton]; unfold cc0_attn_f_skel
  iintro ⟨⟨H0, H1, H2, HT0, HT1, HO7, HO8, HS0, HS1⟩, Hk⟩
  ihave H0 := (rep_of_owns _ _ _ _) $$ H0
  ihave H1 := (rep_of_owns _ _ _ _) $$ H1
  ihave H2 := (rep_of_owns _ _ _ _) $$ H2
  ihave HO7 := (rep_of_owns _ _ _ _) $$ HO7
  ihave HO8 := (rep_of_owns _ _ _ _) $$ HO8
  ihave HS0 := (rep_of_owns _ _ _ _) $$ HS0
  ihave HS1 := (rep_of_owns _ _ _ _) $$ HS1
  have hT0 : tabI.IsWhole := Memref.isWhole_whole _
  have hT1 : tabJ.IsWhole := Memref.isWhole_whole _
  sl_exec! (disch := first | exact h1 | exact h2 | exact h3 | exact h4)
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  have r0 : ∀ inb, arg4.view.readAt (Elt Bits) (Rect.unit (s := S1x2048x128) ![0, 0, 0] ![1, 2048, 128] inb).toLoadRect (arg4.view.rep b.q) = b.q := fun inb => View.readAt_rep_full arg4.view b.q inb
  have r1 : ∀ inb, arg5.view.readAt (Elt Bits) (Rect.unit (s := S1x512x128) ![0, 0, 0] ![1, 512, 128] inb).toLoadRect (arg5.view.rep b.k) = b.k := fun inb => View.readAt_rep_full arg5.view b.k inb
  have r2 : ∀ inb, arg6.view.readAt (Elt Bits) (Rect.unit (s := S1x512x128) ![0, 0, 0] ![1, 512, 128] inb).toLoadRect (arg6.view.rep b.v) = b.v := fun inb => View.readAt_rep_full arg6.view b.v inb
  have u0 : ∀ inb, arg9.view.readAt (Elt Bits) (Rect.unit (s := S2048x128) ![0, 0] ![2048, 128] inb).toLoadRect (arg9.view.rep s.m) = s.m := fun inb => View.readAt_rep_full arg9.view s.m inb
  have v0 : ∀ inb inb' w L, arg9.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg9.view inb' inb w L
  have u1 : ∀ inb, arg10.view.readAt (Elt Bits) (Rect.unit (s := S2048x128) ![0, 0] ![2048, 128] inb).toLoadRect (arg10.view.rep s.a) = s.a := fun inb => View.readAt_rep_full arg10.view s.a inb
  have v1 : ∀ inb inb' w L, arg10.view.readCov (Val := Elt Bits) (⟨Rect.unit (s := S2048x128) ![0, 0] ![2048, 128] inb, w⟩ :: L) (Rect.unit (s := S2048x128) ![0, 0] ![2048, 128] inb').toLoadRect = w := fun inb inb' w L => View.readCov_full arg10.view inb' inb w L
  isplitl [HO7]
  · unfold owns; iexists _; isplitr; swap; · iexact HO7
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
  isplitl [HO8]
  · unfold owns; iexists _; isplitr; swap; · iexact HO8
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
  isplitl [HS0]
  · unfold owns; iexists _; isplitr; swap; · iexact HS0
    ipureintro
    sl_open_run
    refine (View.read_writes_full _ _ _ _ _).trans ?_
    dsimp only [addFull, addMasked, start]
    try simp only [v0, v1]
    try rw [v0]
    try rw [r0]
    try rw [r1]
    try rw [r2]
    try rw [u0]
    try rw [u1]
  unfold owns; iexists _; isplitr; swap; · iexact HS1
  ipureintro
  sl_open_run
  refine (View.read_writes_full _ _ _ _ _).trans ?_
  dsimp only [addFull, addMasked, start]
  try simp only [v0, v1]
  try rw [v0]
  try rw [r0]
  try rw [r1]
  try rw [r2]
  try rw [u0]
  try rw [u1]

end Cert.Forward.Fwd

end
-- ==== Proof.FwdBits.Run.lean ====
/-
  The attention forward program from its launch: the host operations, the kernel, and the host operation after it. Every execution terminates, the
  arrays end at what the points compute, the arguments end unchanged and the counters end at zero.
-/
module

public import proofs.«01_k».proof.Proof.FwdBits.Obligation
public import Idealize.ShloMosaic.Lib.Pipeline.RegionArraysTS
public import Idealize.ShloMosaic.Lib.Pipeline.Regions
public import Idealize.ShloMosaic.Lib.StableHlo.Run

@[expose] public section

set_option maxRecDepth 16384
set_option Elab.async false

noncomputable section

namespace Cert.Forward.Fwd

open Cert.Forward Cert.Forward.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁
abbrev 𝒱₀ : Variants := Variants.none

/-- The pipeline's copies are recorded on the TensorCore's cells, all at one level. -/
def L (g : GSem nD τ sig) : Finset Unit := if g.1.2 = Proc.tc then {()} else ∅
def lv (_ : GSem nD τ sig) (_ : Unit) : ℕ := 0

variable (m : (ℓ : Loc nD τ sig) → Buf (Elt Bits) ℓ) (ρ : Dev nD → PrngReg)

/-- The buffers at launch, when the kernel is entered, after it, and at the end. -/
def V₀ (c : Dev nD) : Valuation τ sig (Elt Bits) := fun b => m (c, b)
def V₁ (c : Dev nD) : Valuation τ sig (Elt Bits) := StableHlo.after hostOps0 (V₀ m c)
def V₂ (c : Dev nD) : Valuation τ sig (Elt Bits) := Pipeline.afterRegion (dats (V₁ m) 0 c) (V₁ m c)
def V₃ (c : Dev nD) : Valuation τ sig (Elt Bits) := StableHlo.after hostOps1 (V₂ m c)

theorem V₁_c (c : Dev nD) : V₁ m c (Proc.devRef .tc main_c) = tblI := by
  unfold V₁; after_results; rfl
theorem V₁_c0 (c : Dev nD) : V₁ m c (Proc.devRef .tc main_c_0) = tblJ := by
  unfold V₁; after_results; rfl

/-- The tables the kernel is entered at are the ones the host operations left. -/
theorem tables_at (c : Dev nD) (k : Fin 2) : tbl k = V₁ m c (Proc.devRef .tc (pre0.ref k)) := by
  fin_cases k
  · exact (V₁_c m c).symm
  · exact (V₁_c0 m c).symm

/-- The tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem share_eq (c : Dev nD) (w : Fin cfgA.W) : (dats (V₁ m) 0 c).share w = fullShare := by unfold Dat.share; split <;> rfl

/-- The invariant in the buffers' own names. -/
theorem Phi_eq (V : Dev nD → Valuation τ sig (Elt Bits)) (c : Dev nD) (t : Fin (cfgA.N + 1)) :
    Phi V c t = iprop((∃ a, ⌜t.val ≠ 0 → a = (st V c t.val).m⌝ ∗ (((c : Thread nD τ).loc cc0_scratch0) ↦{fullShare} a))
      ∗ (∃ a, ⌜t.val ≠ 0 → a = (st V c t.val).a⌝ ∗ (((c : Thread nD τ).loc cc0_scratch1) ↦{fullShare} a))
      ∗ (((c : Thread nD τ).loc main_c) ↦{fullShare} tblI) ∗ (((c : Thread nD τ).loc main_c_0) ↦{fullShare} tblJ)) := by
  unfold Phi scM scA
  congr 1
  · congr 1; funext a; rw [owns_whole]
  · congr 1
    congr 1; funext a; rw [owns_whole]

theorem tables_eq (c : Dev nD) : (Pipeline.tablesAt pcfgs (fun _ => adm) 0 c : sProp 𝕄)
    = iprop((((c : Thread nD τ).loc main_c) ↦{fullShare} tblI) ∗ (((c : Thread nD τ).loc main_c_0) ↦{fullShare} tblJ)) :=
  prefHeld_eq c (fun _ => fullShare) tbl

/-- The invariant at the first point, from the scratch buffers and the tables. -/
theorem phi_first (c : Dev nD) :
    iprop(iprop(Pipeline.scopedRest spec0 c ∗ BI.emp) ∗ Pipeline.tablesAt pcfgs (fun _ => adm) 0 c) ⊢ (dats (V₁ m) 0 c).Φ 0 := by
  rw [tables_eq, scopedRest0_eq, show (dats (V₁ m) 0 c).Φ 0 = Phi (V₁ m) c 0 from rfl, Phi_eq]
  iintro ⟨⟨⟨⟨%a0, HS0⟩, ⟨%a1, HS1⟩⟩, -⟩, HT0, HT1⟩
  isplitl [HS0]
  · iexists a0; isplitr; swap
    · iexact HS0
    · ipureintro; intro h; exact absurd (Fin.val_zero _) h
  isplitl [HS1]
  · iexists a1; isplitr; swap
    · iexact HS1
    · ipureintro; intro h; exact absurd (Fin.val_zero _) h
  isplitl [HT0]
  · iexact HT0
  iexact HT1

/-- At the last point it gives both back. -/
theorem phi_last (c : Dev nD) :
    (dats (V₁ m) 0 c).Φ (Fin.last cfgA.N) ⊢ iprop(iprop(Pipeline.scopedRest spec0 c ∗ BI.emp) ∗ Pipeline.tablesAt pcfgs (fun _ => adm) 0 c) := by
  rw [tables_eq, scopedRest0_eq, show (dats (V₁ m) 0 c).Φ (Fin.last cfgA.N) = Phi (V₁ m) c (Fin.last _) from rfl, Phi_eq]
  iintro ⟨⟨%a0, -, HS0⟩, ⟨%a1, -, HS1⟩, HT0, HT1⟩
  isplitr [HT0 HT1]
  · isplitl [HS0 HS1]
    · isplitl [HS0]
      · iexists a0; iexact HS0
      iexists a1; iexact HS1
    · iempintro
  isplitl [HT0]
  · iexact HT0
  iexact HT1

theorem levels : Pipeline.LevelCut pcfgs (fun _ => adm) () L lv (0 : Fin 1) (0 : Dev nD → CellTallies nD τ sig Unit) (fun _ => 0) where
  hι c w s := Finset.mem_singleton.mpr rfl
  hιb c w s := le_rfl
  hD c g i h := absurd h (lt_irrefl _)

/-- What a core owes between two items: nothing. -/
def R (c : Dev nD) : sProp 𝕄 := iprop(∃ W, owes (c : Thread nD τ) (0 : CellTallies nD τ sig Unit) W)

theorem all_fresh0 : ∀ op ∈ (hostOps0 : List (HloOp τ sig (Elt Bits))), op.fresh = ∅ := by
  intro _ h; (repeat (cases h with | head => rfl | tail _ h => ?_)); exact nomatch h
theorem all_fresh1 : ∀ op ∈ (hostOps1 : List (HloOp τ sig (Elt Bits))), op.fresh = ∅ := by
  intro _ h; (repeat (cases h with | head => rfl | tail _ h => ?_)); exact nomatch h

abbrev ucs : Finset (DevRef τ sig) := Pipeline.ucRefs τ sig

def seg0 : Pipeline.HostSeg (Name := ℕ) (U := UR sig nD τ) (pcfgs (F := Bits)) defs₀ 𝒱₀ L lv :=
  Pipeline.HostSeg.ofOps _ _ _ _ _ ucs hostOps0 (fun op h => Pipeline.sub_ucRefs op ((List.forall_iff_forall_mem.mp hostOps0_sub) op h)) all_fresh0 (V₀ m) R
def seg1 : Pipeline.HostSeg (Name := ℕ) (U := UR sig nD τ) (pcfgs (F := Bits)) defs₀ 𝒱₀ L lv :=
  Pipeline.HostSeg.ofOps _ _ _ _ _ ucs hostOps1 (fun op h => Pipeline.sub_ucRefs op ((List.forall_iff_forall_mem.mp hostOps1_sub) op h)) all_fresh1 (V₂ m) R

def reg : Pipeline.RegionSeg (pcfgs (F := Bits)) (fun _ => adm) (dats (V₁ m)) () defs₀ 𝒱₀ L lv (0 : Fin 1) :=
  Pipeline.RegionSeg.ofHeldInT (pcfgs (F := Bits)) (fun _ => adm) (dats (V₁ m)) () defs₀ 𝒱₀ L lv (0 : Fin 1) 0 ucs
    (fun _ => iprop(emp)) (fun _ => iprop(emp)) launch0 (fun c => (body_obligation (V₁ m) c).loose) (fun _ _ => rfl) (fun _ => rfl)
    (share_eq m) (phi_first m) (phi_last m) (fun _ => 0) levels (fun _ => iprop(emp)) (V₁ m) (fun _ _ => rfl) (tables_at m)

abbrev segs : List (Pipeline.Seg (pcfgs (F := Bits)) (fun _ => adm) (dats (V₁ m)) () defs₀ 𝒱₀ L lv) :=
  [.host (seg0 m), .region (reg m), .host (seg1 m)]

theorem sub_arr : Pipeline.arrRefs (τ := τ) (pcfgs (F := Bits) 0).spec ⊆ ucs := Pipeline.arrRefs_sub_ucRefs spec0 (by decide)
theorem sub_tbl : Pipeline.tblRefs (τ := τ) (pcfgs (F := Bits) 0).pre ⊆ ucs := Pipeline.tblRefs_sub_ucRefs pre0 (by decide)

theorem enter (c : Dev nD) : iprop(StableHlo.held (c.tc : Thread nD τ) ucs (V₁ m c) ∗ R c) ⊢ (reg m).pre c :=
  Entails.trans (by unfold R; iintro ⟨Hh, HO⟩; isplitl [Hh]; (· iexact Hh); isplitl [HO]; (· iexact HO); isplitr <;> iempintro)
    (Pipeline.RegionSeg.ofHeldInT_pre (pcs := pcfgs (F := Bits)) (a := fun _ => adm) (pdats := dats (V₁ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₁ m) c).loose) (howed := fun _ _ => rfl) (hrec := fun _ => rfl)
      (hshare := share_eq m) (hin := phi_first m) (hout := phi_last m) (b := fun _ => 0) (hcut := levels) (R := fun _ => iprop(emp)) (W := V₁ m) (hW := fun _ _ => rfl) (hT := tables_at m) c)

theorem leave (c : Dev nD) : (reg m).post c ⊢ iprop(StableHlo.held (c.tc : Thread nD τ) ucs (V₂ m c) ∗ R c) :=
  (Pipeline.RegionSeg.ofHeldInT_post (pcs := pcfgs (F := Bits)) (a := fun _ => adm) (pdats := dats (V₁ m)) (ι := ()) (defs₀ := defs₀) (𝒱₀ := 𝒱₀) (L := L) (lv := lv) (p := (0 : Fin 1)) (D := 0) (S := ucs)
      (hS := sub_arr) (hS' := sub_tbl) (X := fun _ => iprop(emp)) (Y := fun _ => iprop(emp)) (kit := launch0) (hbody := fun c => (body_obligation (V₁ m) c).loose) (howed := fun _ _ => rfl) (hrec := fun _ => rfl)
      (hshare := share_eq m) (hin := phi_first m) (hout := phi_last m) (b := fun _ => 0) (hcut := levels) (R := fun _ => iprop(emp)) (W := V₁ m) (hW := fun _ _ => rfl) (hT := tables_at m) c).trans
    (by unfold R V₂; iintro ⟨Hh, HO, -, -⟩; isplitl [Hh]; (· iexact Hh); iexact HO)

def u₀ : UR sig nD τ :=
  initOf (Pipeline.cells pcs (cellOf_inj fun _ => adm)) (Pipeline.launchToks pcs (cellOf_inj fun _ => adm))

theorem launched : (ownU u₀ : sProp 𝕄) ⊢ BI.own (EP (initOf (Pipeline.cells pcs (cellOf_inj fun _ => adm)) (Pipeline.launchToks pcs (cellOf_inj fun _ => adm)))) := .rfl

/-- A buffer that stays allocated reads as it is held. -/
theorem read_ref (c : Dev nD) (W : Valuation τ sig (Elt Bits)) (s' : Phys nD τ sig (Elt Bits)) (r : Ref sig .tc)
    (hr : (Proc.devRef .tc r : DevRef τ sig) ∈ ucs) :
    iprop(StableHlo.held (c.tc : Thread nD τ) ucs W ∗ SI s')
      ⊢ (iprop(⌜s'.mem.mem ((c : Thread nD τ).loc r) = W (Proc.devRef .tc r)⌝ ∗ StableHlo.held (c.tc : Thread nD τ) ucs W ∗ SI s') : sProp 𝕄) := by
  rw [StableHlo.held_sub_split (c.tc : Thread nD τ) (Finset.singleton_subset_iff.mpr hr) W]
  unfold StableHlo.held
  rw [bigSep_singleton]
  iintro ⟨⟨H, Hr⟩, HSI⟩
  icombine HSI H gives %h
  isplitr; · ipureintro; exact Buf.eq_of_forall_mem_univ h
  isplitr [HSI]
  · isplitl [H]
    · iexact H
    iexact Hr
  iexact HSI

theorem stays (r : Ref sig .tc) (h : r.isScoped = false) : (Proc.devRef .tc r : DevRef τ sig) ∈ ucs :=
  Finset.mem_filter.mpr ⟨StableHlo.devRef_mem_tcRefs _, fun h' => Bool.false_ne_true (h.symm.trans h')⟩

/-- The buffers the program's claims speak of. -/
def Q (c : Dev nD) (s : MemSt nD τ sig (Elt Bits)) : Prop :=
  (∀ r ∈ [main_v11, main_v10_1, main_arg0, main_arg1, main_arg2],
    s.mem ((c : Thread nD τ).loc r) = V₃ m c (Proc.devRef .tc r))

theorem read_all (c : Dev nD) (s' : Phys nD τ sig (Elt Bits)) :
    iprop(iprop(StableHlo.held (c.tc : Thread nD τ) ucs (V₃ m c)) ∗ SI s') ⊢ (|={Set.univ}=> iprop(⌜Q m c s'.mem⌝ ∗ SI s') : sProp 𝕄) := by
  have h0 := read_ref c (V₃ m c) s' main_v11 (stays _ rfl)
  have h1 := read_ref c (V₃ m c) s' main_v10_1 (stays _ rfl)
  have h2 := read_ref c (V₃ m c) s' main_arg0 (stays _ rfl)
  have h3 := read_ref c (V₃ m c) s' main_arg1 (stays _ rfl)
  have h4 := read_ref c (V₃ m c) s' main_arg2 (stays _ rfl)
  iintro H
  ihave H := h0 $$ H
  icases H with ⟨%e0, H⟩
  ihave H := h1 $$ H
  icases H with ⟨%e1, H⟩
  ihave H := h2 $$ H
  icases H with ⟨%e2, H⟩
  ihave H := h3 $$ H
  icases H with ⟨%e3, H⟩
  ihave H := h4 $$ H
  icases H with ⟨%e4, -, HSI⟩
  imodintro
  isplitr
  · ipureintro
    unfold Q
    intro r hr
    simp only [List.mem_cons, List.mem_nil_iff, or_false] at hr
    rcases hr with rfl | rfl | rfl | rfl | rfl <;> assumption
  iexact HSI

set_option backward.isDefEq.respectTransparency.types false in
set_option maxHeartbeats 4000000 in
/-- From any memory with zero counters, every weakly fair execution of the program terminates, and every final state has the
    buffers above at what the points compute and every counter at zero. -/
theorem run_main : θ_run (defs (F := Bits)) (onTc (τ := τ) (main (F := Bits))) ⟨m, fun _ => 0, ρ⟩ (fun r => (∀ c, Q m c r.2) ∧ r.2.sem = fun _ => 0) :=
  Pipeline.θ_run_regions_kit_sems (pcfgs (F := Bits)) (fun _ => adm) (dats (V₁ m)) () (cellOf_inj fun _ => adm) EP defs₀ 𝒱₀ L lv m ρ main (segs m)
    (fun c Q => by rw [Pipeline.Seg.run_eq_chain, main_chain c]; exact .rfl)
    (by simp only [Pipeline.Seg.pipes_host, Pipeline.Seg.pipes_region, Pipeline.Seg.pipes_nil]; decide) (O₀ := 0)
    (hL := fun g h => if_neg h) (G := fun _ => iprop(emp)) (u₀ := u₀)
    (hu₀ := by
      iintro Hu
      ihave Hp := launched $$ Hu
      imodintro
      isplitl [Hp]; · iexact Hp
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) ucs (V₀ m c) ∗ R c))
    (Tₙ := fun c => iprop(StableHlo.held (c.tc : Thread nD τ) ucs (V₃ m c)))
    (hch := ⟨fun _ => .rfl, enter m, leave m, fun _ => .rfl⟩)
    (hinit := by
      refine Pipeline.initEach L lv fun c => ?_
      rw [show unscopedBufs c (fun b => m ((c : Thread nD τ).loc b)) = StableHlo.held (c : Thread nD τ) ucs (V₀ m c) from Pipeline.unscopedBufs_held c (V₀ m c)]
      unfold R
      iintro ⟨⟨Hh, -, HO, -, -, -⟩, -⟩
      imodintro
      isplitl [Hh]; · iexact Hh
      iexists ∅; iexact HO)
    (QY := fun c s => Q m c s)
    (hfin := fun c s' => read_all m c s')
    (hQ := fun _ h hz => ⟨h, funext fun g => hz g (.inr (by revert g; decide))⟩)

theorem V₃_arg0 (c : Dev nD) : V₃ m c (Proc.devRef .tc main_arg0) = m ((c.tc : Thread nD τ).loc main_arg0) := by
  have e : V₃ m c (Proc.devRef .tc main_arg0) = V₂ m c (Proc.devRef .tc main_arg0) := by unfold V₃; after_results
  have e' : V₁ m c (Proc.devRef .tc main_arg0) = V₀ m c (Proc.devRef .tc main_arg0) := by unfold V₁; after_results
  exact (e.trans (Pipeline.afterRegion_of_not_arr (dats (V₁ m) 0 c) (V₁ m c) (by decide))).trans e'
theorem V₃_arg1 (c : Dev nD) : V₃ m c (Proc.devRef .tc main_arg1) = m ((c.tc : Thread nD τ).loc main_arg1) := by
  have e : V₃ m c (Proc.devRef .tc main_arg1) = V₂ m c (Proc.devRef .tc main_arg1) := by unfold V₃; after_results
  have e' : V₁ m c (Proc.devRef .tc main_arg1) = V₀ m c (Proc.devRef .tc main_arg1) := by unfold V₁; after_results
  exact (e.trans (Pipeline.afterRegion_of_not_arr (dats (V₁ m) 0 c) (V₁ m c) (by decide))).trans e'
theorem V₃_arg2 (c : Dev nD) : V₃ m c (Proc.devRef .tc main_arg2) = m ((c.tc : Thread nD τ).loc main_arg2) := by
  have e : V₃ m c (Proc.devRef .tc main_arg2) = V₂ m c (Proc.devRef .tc main_arg2) := by unfold V₃; after_results
  have e' : V₁ m c (Proc.devRef .tc main_arg2) = V₀ m c (Proc.devRef .tc main_arg2) := by unfold V₁; after_results
  exact (e.trans (Pipeline.afterRegion_of_not_arr (dats (V₁ m) 0 c) (V₁ m c) (by decide))).trans e'

/-- The program runs, its arguments end unchanged and its counters end at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_arg0 (by simp)).trans (V₃_arg0 m c), (h.1 c main_arg1 (by simp)).trans (V₃_arg1 m c),
      (h.1 c main_arg2 (by simp)).trans (V₃_arg2 m c)⟩, h.2⟩) (run_main m ρ)

end Cert.Forward.Fwd

end
-- ==== Proof.Fwd.Claim.lean ====
/- Causal attention: the frames, the named constant and the value claim. -/
module

public import proofs.«01_k».proof.Defs
public import proofs.«01_k».proof.Proof.Fwd.Host
public import proofs.«01_k».proof.Proof.Fwd.Reference
public import proofs.«01_k».proof.Proof.Fwd.Finite
public import proofs.«01_k».proof.Proof.FwdBits.Run
public import proofs.«01_k».proof.Proof.Gen.ForwardReferenceIdeal.Run

@[expose] public section

set_option maxRecDepth 16384

noncomputable section

namespace Cert.FwdProof

open Idealize.ShloMosaic Idealize.ShloMosaic.TcCoe Idealize.SL.Sem
open Cert.ForwardIdeal.Fwd

attribute [local instance] Cert.Pre_finite_forward.Fwd.facts

theorem frame_kernel : Cert.quiescent_Forward := fun m g _ => Cert.Forward.Fwd.frame m g

theorem frame_kernelIdeal : Cert.quiescent_ForwardIdeal := fun m g _ => Cert.ForwardIdeal.Fwd.frame m g

theorem frame_kernelIdeal' : Cert.quiescent_ForwardIdeal_pre_none := fun m g _ => Cert.ForwardIdeal.Fwd.frame m g

/-- The reference runs, its arguments are unchanged, and it has no semaphore. -/
theorem frame_reference : Cert.quiescent_ForwardReferenceIdeal := fun m g _ =>
  (θ_run Cert.ForwardReferenceIdeal.defs _ _).mono (fun r h => ⟨fun c => (h c).2.2, sem_eq_zero_of_no_sems (by decide) r.2⟩) (Cert.ForwardReferenceIdeal.Value.run (F := Ideal) m g)

theorem frame_reference' : Cert.quiescent_ForwardReferenceIdeal_pre_finite_forward := fun m g _ =>
  (θ_run Cert.ForwardReferenceIdeal.defs _ _).mono (fun r h => ⟨fun c => (h c).2.2, sem_eq_zero_of_no_sems (by decide) r.2⟩) (Cert.ForwardReferenceIdeal.Value.run (F := Ideal) m g)

/-- The kernel's constant `1 / ln 2` is named. -/
theorem preserves : Cert.preserves_Forward_ForwardIdeal :=
  IdealRules.named_const.statement Cert.ForwardIdeal.κ "log2_e" .f32 0x3FB8AA3B#32 (((Real.log 2)⁻¹ : ℝ) : EReal) rfl

section
variable (m : (ℓ : Loc Cert.ForwardIdeal.nD Cert.ForwardIdeal.τ Cert.ForwardIdeal.sig) → Buf (Elt Ideal) ℓ)

/-- The arguments of a device, as reals. -/
def argQ (c : Dev Cert.ForwardIdeal.nD) : Fin 8 → Fin 16384 → Fin 128 → ℝ :=
  fun h i d => EReal.toReal (m ((c.tc : Thread Cert.ForwardIdeal.nD Cert.ForwardIdeal.τ).loc Cert.ForwardIdeal.main_arg0) (ix3 h i d : Cert.ForwardIdeal.S8x16384x128.Idx))
def argK (c : Dev Cert.ForwardIdeal.nD) : Fin 8 → Fin 16384 → Fin 128 → ℝ :=
  fun h i d => EReal.toReal (m ((c.tc : Thread Cert.ForwardIdeal.nD Cert.ForwardIdeal.τ).loc Cert.ForwardIdeal.main_arg1) (ix3 h i d : Cert.ForwardIdeal.S8x16384x128.Idx))
def argV (c : Dev Cert.ForwardIdeal.nD) : Fin 8 → Fin 16384 → Fin 64 → ℝ :=
  fun h i d => EReal.toReal (m ((c.tc : Thread Cert.ForwardIdeal.nD Cert.ForwardIdeal.τ).loc Cert.ForwardIdeal.main_arg2) (ix3 h i d : Cert.ForwardIdeal.S8x16384x64.Idx))

/-- Under the precondition the arguments are reals. -/
theorem args (hP : Cert.Pre_ForwardIdeal m) (c : Dev Cert.ForwardIdeal.nD) : Args m c (argQ m c) (argK m c) (argV m c) where
  q h i d := (Cert.Pre_finite_forward.Fwd.finite _ _ _ (hP c) h i).1 d
  k h i d := (Cert.Pre_finite_forward.Fwd.finite _ _ _ (hP c) h i).2.1 d
  v h i d := (Cert.Pre_finite_forward.Fwd.finite _ _ _ (hP c) h i).2.2 d

end

theorem algebraic : Cert.algebraic_ForwardIdeal_ForwardReferenceIdeal := fun m g m' g' hP hargs =>
  ⟨fun c => fun i : Cert.ForwardIdeal.S8x16384x64.Idx => (((pad (argQ m c) (argK m c) (argV m c)).o (i 0) (i 1) (lane (i 2)) : ℝ) : EReal),
   fun c => fun i : Cert.ForwardIdeal.S8x16384x128.Idx => (((pad (argQ m c) (argK m c) (argV m c)).l (i 0) (i 1) : ℝ) : EReal),
   (θ_run Cert.ForwardIdeal.defs _ _).mono (fun r h c =>
      ⟨(h.1 c Cert.ForwardIdeal.main_v11 (by simp)).trans (V₃_o (args m hP c)),
       (h.1 c Cert.ForwardIdeal.main_v10_1 (by simp)).trans (V₃_l (args m hP c)),
       (h.1 c Cert.ForwardIdeal.main_arg0 (by simp)).trans (V₃_arg0 m c),
       (h.1 c Cert.ForwardIdeal.main_arg1 (by simp)).trans (V₃_arg1 m c),
       (h.1 c Cert.ForwardIdeal.main_arg2 (by simp)).trans (V₃_arg2 m c)⟩)
    (run_main m g),
   (θ_run Cert.ForwardReferenceIdeal.defs _ _).mono (fun r h c => by
      obtain ⟨r0, r1, hk⟩ := h c
      obtain ⟨a0, a1, a2⟩ := hargs c
      have H := args m hP c
      have h0 := H.q
      have h1 := H.k
      have h2 := H.v
      refine ⟨r0.trans ?_, r1.trans ?_, hk⟩
      · rw [Cert.ForwardReferenceIdeal.Read.val_main_v32_eq, a0, a1, a2]
        exact Cert.ForwardReferenceIdeal.Fwd.ref_o _ _ _ _ _ _ h0 h1 h2
      · rw [Cert.ForwardReferenceIdeal.Read.val_main_v34_eq, a0, a1]
        exact Cert.ForwardReferenceIdeal.Fwd.ref_l _ _ (argV m c) _ _ h0 h1)
    (Cert.ForwardReferenceIdeal.Value.run (F := Ideal) m' g')⟩

end Cert.FwdProof

end
-- ==== Proof.lean ====
/- The proof of the claim: the gradient of causal attention (Proof/Attn, and Proof/AttnBits for the frame at machine
   words), the gradient of the gated merge (Proof/Merge), the attention's forward pass (Proof/Fwd, and Proof/FwdBits for
   the frame at machine words), the gated merge itself (Proof/Blend) and the
   projections (Proof/Down, Proof/Up, Proof/Input, Proof/Output). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Merge
public import proofs.«01_k».proof.Proof.Gen.MergeIdeal
public import proofs.«01_k».proof.Proof.Gen.MergeReferenceIdeal
public import proofs.«01_k».proof.Proof.Gen.Forward
public import proofs.«01_k».proof.Proof.Gen.ForwardIdeal
public import proofs.«01_k».proof.Proof.Gen.ForwardReferenceIdeal
public import proofs.«01_k».proof.Proof.Gen.Blend
public import proofs.«01_k».proof.Proof.Gen.BlendIdeal
public import proofs.«01_k».proof.Proof.Gen.BlendReferenceIdeal
public import proofs.«01_k».proof.Proof.Gen.Down
public import proofs.«01_k».proof.Proof.Gen.DownIdeal
public import proofs.«01_k».proof.Proof.Gen.DownReferenceIdeal
public import proofs.«01_k».proof.Proof.Gen.Up
public import proofs.«01_k».proof.Proof.Gen.UpIdeal
public import proofs.«01_k».proof.Proof.Gen.UpReferenceIdeal
public import proofs.«01_k».proof.Proof.Gen.Proj
public import proofs.«01_k».proof.Proof.Gen.ProjIdeal
public import proofs.«01_k».proof.Proof.Gen.ProjReferenceIdeal
public import proofs.«01_k».proof.Proof.Gen.Gates
public import proofs.«01_k».proof.Proof.Gen.GatesIdeal
public import proofs.«01_k».proof.Proof.Gen.GatesReferenceIdeal
public import proofs.«01_k».proof.Proof.Gen.BranchDx
public import proofs.«01_k».proof.Proof.Gen.BranchDxIdeal
public import proofs.«01_k».proof.Proof.Gen.BranchDxReferenceIdeal
public import proofs.«01_k».proof.Proof.Gen.ODx
public import proofs.«01_k».proof.Proof.Gen.ODxIdeal
public import proofs.«01_k».proof.Proof.Gen.ODxReferenceIdeal
public import proofs.«01_k».proof.Proof.Gen.Branch
public import proofs.«01_k».proof.Proof.Gen.BranchIdeal
public import proofs.«01_k».proof.Proof.Gen.BranchReferenceIdeal
public import proofs.«01_k».proof.Proof.Gen.O
public import proofs.«01_k».proof.Proof.Gen.OIdeal
public import proofs.«01_k».proof.Proof.Gen.OReferenceIdeal
public import proofs.«01_k».proof.Proof.Merge.Claim
public import proofs.«01_k».proof.Proof.Blend
public import proofs.«01_k».proof.Proof.Up
public import proofs.«01_k».proof.Proof.Input
public import proofs.«01_k».proof.Proof.Output
public import proofs.«01_k».proof.Proof.Down
public import proofs.«01_k».proof.Proof.Attn.Claim
public import proofs.«01_k».proof.Proof.Fwd.Claim
public import Idealize.ShloMosaic.Adequacy
public import Idealize.ShloMosaic.Init

@[expose] public section

noncomputable section

-- The frames also say that every semaphore counter ends at zero.

namespace Cert.Proof

open Idealize.ShloMosaic Idealize.SL.Sem

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Forward.Gen.facts, Cert.ForwardIdeal.Gen.facts, Cert.ForwardReferenceIdeal.Gen.facts,
  Cert.Blend.Gen.facts, Cert.BlendIdeal.Gen.facts, Cert.BlendReferenceIdeal.Gen.facts,
  Cert.Down.Gen.facts, Cert.DownIdeal.Gen.facts, Cert.DownReferenceIdeal.Gen.facts,
  Cert.Up.Gen.facts, Cert.UpIdeal.Gen.facts, Cert.UpReferenceIdeal.Gen.facts,
  Cert.Proj.Gen.facts, Cert.ProjIdeal.Gen.facts, Cert.ProjReferenceIdeal.Gen.facts,
  Cert.Gates.Gen.facts, Cert.GatesIdeal.Gen.facts, Cert.GatesReferenceIdeal.Gen.facts,
  Cert.BranchDx.Gen.facts, Cert.BranchDxIdeal.Gen.facts, Cert.BranchDxReferenceIdeal.Gen.facts,
  Cert.ODx.Gen.facts, Cert.ODxIdeal.Gen.facts, Cert.ODxReferenceIdeal.Gen.facts,
  Cert.Branch.Gen.facts, Cert.BranchIdeal.Gen.facts, Cert.BranchReferenceIdeal.Gen.facts,
  Cert.O.Gen.facts, Cert.OIdeal.Gen.facts, Cert.OReferenceIdeal.Gen.facts,
  Cert.Pre_finite.Attn.facts, Cert.Pre_finite_forward.Fwd.facts,
  Cert.AttnProof.frame_kernel, Cert.AttnProof.frame_kernelIdeal, Cert.AttnProof.frame_kernelIdeal',
  Cert.AttnProof.frame_reference, Cert.AttnProof.frame_reference',
  Cert.MergeProof.frame_kernel, Cert.MergeProof.frame_kernelIdeal, Cert.MergeProof.frame_reference,
  Cert.FwdProof.frame_kernel, Cert.FwdProof.frame_kernelIdeal, Cert.FwdProof.frame_kernelIdeal',
  Cert.FwdProof.frame_reference, Cert.FwdProof.frame_reference',
  Cert.BlendProof.frame_kernel, Cert.BlendProof.frame_kernelIdeal, Cert.BlendProof.frame_reference,
  Cert.DownProof.frame_kernel, Cert.DownProof.frame_kernelIdeal, Cert.DownProof.frame_reference,
  Cert.UpProof.frame_kernel, Cert.UpProof.frame_kernelIdeal, Cert.UpProof.frame_reference,
  Cert.ProjProof.frame_kernel, Cert.ProjProof.frame_kernelIdeal, Cert.ProjProof.frame_reference,
  Cert.GatesProof.frame_kernel, Cert.GatesProof.frame_kernelIdeal, Cert.GatesProof.frame_reference,
  Cert.BranchDxProof.frame_kernel, Cert.BranchDxProof.frame_kernelIdeal, Cert.BranchDxProof.frame_reference,
  Cert.ODxProof.frame_kernel, Cert.ODxProof.frame_kernelIdeal, Cert.ODxProof.frame_reference,
  Cert.BranchProof.frame_kernel, Cert.BranchProof.frame_kernelIdeal, Cert.BranchProof.frame_reference,
  Cert.OProof.frame_kernel, Cert.OProof.frame_kernelIdeal, Cert.OProof.frame_reference,
  Cert.AttnProof.preserves, Cert.AttnProof.algebraic, trivial, Cert.MergeProof.algebraic,
  Cert.FwdProof.preserves, Cert.FwdProof.algebraic, trivial, Cert.BlendProof.algebraic,
  trivial, Cert.DownProof.algebraic, trivial, Cert.UpProof.algebraic,
  trivial, Cert.ProjProof.algebraic, trivial, Cert.GatesProof.algebraic,
  trivial, Cert.BranchDxProof.algebraic, trivial, Cert.ODxProof.algebraic, trivial, Cert.BranchProof.algebraic, trivial, Cert.OProof.algebraic⟩

end Cert.Proof

end
